-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ones [hPre_finite_ones : Cert.Pre_finite_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ones [hPre_finite_ones : Cert.Pre_finite_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_PostOdd (m : (ℓ : Loc Cert.PostOdd.nD Cert.PostOdd.τ Cert.PostOdd.sig) → Buf (Elt Bits) ℓ) : Prop :=
  True

def Pre_PostOddIdeal (m : (ℓ : Loc Cert.PostOddIdeal.nD Cert.PostOddIdeal.τ Cert.PostOddIdeal.sig) → Buf (Elt Ideal) ℓ) : Prop :=
  True

def Pre_ReferenceOddIdeal (m : (ℓ : Loc Cert.ReferenceOddIdeal.nD Cert.ReferenceOddIdeal.τ Cert.ReferenceOddIdeal.sig) → Buf (Elt Ideal) ℓ) : Prop :=
  True

def Pre_PostEven (m : (ℓ : Loc Cert.PostEven.nD Cert.PostEven.τ Cert.PostEven.sig) → Buf (Elt Bits) ℓ) : Prop :=
  True

def Pre_PostEvenIdeal (m : (ℓ : Loc Cert.PostEvenIdeal.nD Cert.PostEvenIdeal.τ Cert.PostEvenIdeal.sig) → Buf (Elt Ideal) ℓ) : Prop :=
  True

def Pre_ReferenceEvenIdeal (m : (ℓ : Loc Cert.ReferenceEvenIdeal.nD Cert.ReferenceEvenIdeal.τ Cert.ReferenceEvenIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_ReferenceInOddIdeal (m : (ℓ : Loc Cert.ReferenceInOddIdeal.nD Cert.ReferenceInOddIdeal.τ Cert.ReferenceInOddIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_ReferenceInEvenIdeal (m : (ℓ : Loc Cert.ReferenceInEvenIdeal.nD Cert.ReferenceInEvenIdeal.τ Cert.ReferenceInEvenIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_ReferenceSbIdeal (m : (ℓ : Loc Cert.ReferenceSbIdeal.nD Cert.ReferenceSbIdeal.τ Cert.ReferenceSbIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_ones [hKernelIdeal : Cert.KernelIdeal.Facts] [hPre_finite_ones : Cert.Pre_finite_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ones [hReferenceIdeal : Cert.ReferenceIdeal.Facts] [hPre_finite_ones : Cert.Pre_finite_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_PostOdd [hPostOdd : Cert.PostOdd.Facts] : Prop :=
  ∀ (m : (ℓ : Loc Cert.PostOdd.nD Cert.PostOdd.τ Cert.PostOdd.sig) → Buf (Elt Bits) ℓ) (g : Dev Cert.PostOdd.nD → PrngReg), Pre_PostOdd m →
    θ_run (Cert.PostOdd.defs (F := Bits)) (onTc (τ := Cert.PostOdd.τ) (Cert.PostOdd.main (F := Bits))) ⟨m, fun _ => 0, g⟩ (fun r => (∀ c : Dev Cert.PostOdd.nD,
      r.2.mem ((c.tc : Thread Cert.PostOdd.nD Cert.PostOdd.τ).loc Cert.PostOdd.main_arg0) = m ((c.tc : Thread Cert.PostOdd.nD Cert.PostOdd.τ).loc Cert.PostOdd.main_arg0)
      ∧ r.2.mem ((c.tc : Thread Cert.PostOdd.nD Cert.PostOdd.τ).loc Cert.PostOdd.main_arg1) = m ((c.tc : Thread Cert.PostOdd.nD Cert.PostOdd.τ).loc Cert.PostOdd.main_arg1)
      ∧ r.2.mem ((c.tc : Thread Cert.PostOdd.nD Cert.PostOdd.τ).loc Cert.PostOdd.main_arg2) = m ((c.tc : Thread Cert.PostOdd.nD Cert.PostOdd.τ).loc Cert.PostOdd.main_arg2)
      ∧ r.2.mem ((c.tc : Thread Cert.PostOdd.nD Cert.PostOdd.τ).loc Cert.PostOdd.main_arg3) = m ((c.tc : Thread Cert.PostOdd.nD Cert.PostOdd.τ).loc Cert.PostOdd.main_arg3)
      ∧ r.2.mem ((c.tc : Thread Cert.PostOdd.nD Cert.PostOdd.τ).loc Cert.PostOdd.main_arg4) = m ((c.tc : Thread Cert.PostOdd.nD Cert.PostOdd.τ).loc Cert.PostOdd.main_arg4)
      ∧ r.2.mem ((c.tc : Thread Cert.PostOdd.nD Cert.PostOdd.τ).loc Cert.PostOdd.main_arg5) = m ((c.tc : Thread Cert.PostOdd.nD Cert.PostOdd.τ).loc Cert.PostOdd.main_arg5)
      ∧ r.2.mem ((c.tc : Thread Cert.PostOdd.nD Cert.PostOdd.τ).loc Cert.PostOdd.main_arg6) = m ((c.tc : Thread Cert.PostOdd.nD Cert.PostOdd.τ).loc Cert.PostOdd.main_arg6)
      ∧ r.2.mem ((c.tc : Thread Cert.PostOdd.nD Cert.PostOdd.τ).loc Cert.PostOdd.main_arg7) = m ((c.tc : Thread Cert.PostOdd.nD Cert.PostOdd.τ).loc Cert.PostOdd.main_arg7)
      ∧ r.2.mem ((c.tc : Thread Cert.PostOdd.nD Cert.PostOdd.τ).loc Cert.PostOdd.main_arg8) = m ((c.tc : Thread Cert.PostOdd.nD Cert.PostOdd.τ).loc Cert.PostOdd.main_arg8)
      ∧ r.2.mem ((c.tc : Thread Cert.PostOdd.nD Cert.PostOdd.τ).loc Cert.PostOdd.main_arg9) = m ((c.tc : Thread Cert.PostOdd.nD Cert.PostOdd.τ).loc Cert.PostOdd.main_arg9)
      ∧ r.2.mem ((c.tc : Thread Cert.PostOdd.nD Cert.PostOdd.τ).loc Cert.PostOdd.main_arg10) = m ((c.tc : Thread Cert.PostOdd.nD Cert.PostOdd.τ).loc Cert.PostOdd.main_arg10))
      ∧ r.2.sem = fun _ => 0)

def quiescent_PostOddIdeal [hPostOddIdeal : Cert.PostOddIdeal.Facts] : Prop :=
  ∀ (m : (ℓ : Loc Cert.PostOddIdeal.nD Cert.PostOddIdeal.τ Cert.PostOddIdeal.sig) → Buf (Elt Ideal) ℓ) (g : Dev Cert.PostOddIdeal.nD → PrngReg), Pre_PostOddIdeal m →
    θ_run (Cert.PostOddIdeal.defs (F := Ideal)) (onTc (τ := Cert.PostOddIdeal.τ) (Cert.PostOddIdeal.main (F := Ideal))) ⟨m, fun _ => 0, g⟩ (fun r => (∀ c : Dev Cert.PostOddIdeal.nD,
      r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
      ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
      ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
      ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
      ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
      ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
      ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
      ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
      ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8)
      ∧ r.2.mem ((c.tc : Thread Cert.PostOddIdeal.nD Cert.PostOddIdeal.τ).loc Cert.PostOddIdeal.main_arg9) = m ((c.tc : Thread Cert.PostOddIdeal.nD Cert.PostOddIdeal.τ).loc Cert.PostOddIdeal.main_arg9)
      ∧ r.2.mem ((c.tc : Thread Cert.PostOddIdeal.nD Cert.PostOddIdeal.τ).loc Cert.PostOddIdeal.main_arg10) = m ((c.tc : Thread Cert.PostOddIdeal.nD Cert.PostOddIdeal.τ).loc Cert.PostOddIdeal.main_arg10))
      ∧ r.2.sem = fun _ => 0)

def quiescent_ReferenceOddIdeal [hReferenceOddIdeal : Cert.ReferenceOddIdeal.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2)
      ∧ r.2.mem ((c.tc : Thread Cert.ReferenceOddIdeal.nD Cert.ReferenceOddIdeal.τ).loc Cert.ReferenceOddIdeal.main_arg3) = m ((c.tc : Thread Cert.ReferenceOddIdeal.nD Cert.ReferenceOddIdeal.τ).loc Cert.ReferenceOddIdeal.main_arg3)
      ∧ r.2.mem ((c.tc : Thread Cert.ReferenceOddIdeal.nD Cert.ReferenceOddIdeal.τ).loc Cert.ReferenceOddIdeal.main_arg4) = m ((c.tc : Thread Cert.ReferenceOddIdeal.nD Cert.ReferenceOddIdeal.τ).loc Cert.ReferenceOddIdeal.main_arg4)
      ∧ r.2.mem ((c.tc : Thread Cert.ReferenceOddIdeal.nD Cert.ReferenceOddIdeal.τ).loc Cert.ReferenceOddIdeal.main_arg5) = m ((c.tc : Thread Cert.ReferenceOddIdeal.nD Cert.ReferenceOddIdeal.τ).loc Cert.ReferenceOddIdeal.main_arg5)
      ∧ r.2.mem ((c.tc : Thread Cert.ReferenceOddIdeal.nD Cert.ReferenceOddIdeal.τ).loc Cert.ReferenceOddIdeal.main_arg6) = m ((c.tc : Thread Cert.ReferenceOddIdeal.nD Cert.ReferenceOddIdeal.τ).loc Cert.ReferenceOddIdeal.main_arg6)
      ∧ r.2.mem ((c.tc : Thread Cert.ReferenceOddIdeal.nD Cert.ReferenceOddIdeal.τ).loc Cert.ReferenceOddIdeal.main_arg7) = m ((c.tc : Thread Cert.ReferenceOddIdeal.nD Cert.ReferenceOddIdeal.τ).loc Cert.ReferenceOddIdeal.main_arg7)
      ∧ r.2.mem ((c.tc : Thread Cert.ReferenceOddIdeal.nD Cert.ReferenceOddIdeal.τ).loc Cert.ReferenceOddIdeal.main_arg8) = m ((c.tc : Thread Cert.ReferenceOddIdeal.nD Cert.ReferenceOddIdeal.τ).loc Cert.ReferenceOddIdeal.main_arg8)
      ∧ r.2.mem ((c.tc : Thread Cert.ReferenceOddIdeal.nD Cert.ReferenceOddIdeal.τ).loc Cert.ReferenceOddIdeal.main_arg9) = m ((c.tc : Thread Cert.ReferenceOddIdeal.nD Cert.ReferenceOddIdeal.τ).loc Cert.ReferenceOddIdeal.main_arg9)
      ∧ r.2.mem ((c.tc : Thread Cert.ReferenceOddIdeal.nD Cert.ReferenceOddIdeal.τ).loc Cert.ReferenceOddIdeal.main_arg10) = m ((c.tc : Thread Cert.ReferenceOddIdeal.nD Cert.ReferenceOddIdeal.τ).loc Cert.ReferenceOddIdeal.main_arg10))
      ∧ r.2.sem = fun _ => 0)

def quiescent_PostEven [hPostEven : Cert.PostEven.Facts] : Prop :=
  ∀ (m : (ℓ : Loc Cert.PostEven.nD Cert.PostEven.τ Cert.PostEven.sig) → Buf (Elt Bits) ℓ) (g : Dev Cert.PostEven.nD → PrngReg), Pre_PostEven m →
    θ_run (Cert.PostEven.defs (F := Bits)) (onTc (τ := Cert.PostEven.τ) (Cert.PostEven.main (F := Bits))) ⟨m, fun _ => 0, g⟩ (fun r => (∀ c : Dev Cert.PostEven.nD,
      r.2.mem ((c.tc : Thread Cert.PostEven.nD Cert.PostEven.τ).loc Cert.PostEven.main_arg0) = m ((c.tc : Thread Cert.PostEven.nD Cert.PostEven.τ).loc Cert.PostEven.main_arg0)
      ∧ r.2.mem ((c.tc : Thread Cert.PostEven.nD Cert.PostEven.τ).loc Cert.PostEven.main_arg1) = m ((c.tc : Thread Cert.PostEven.nD Cert.PostEven.τ).loc Cert.PostEven.main_arg1)
      ∧ r.2.mem ((c.tc : Thread Cert.PostEven.nD Cert.PostEven.τ).loc Cert.PostEven.main_arg2) = m ((c.tc : Thread Cert.PostEven.nD Cert.PostEven.τ).loc Cert.PostEven.main_arg2)
      ∧ r.2.mem ((c.tc : Thread Cert.PostEven.nD Cert.PostEven.τ).loc Cert.PostEven.main_arg3) = m ((c.tc : Thread Cert.PostEven.nD Cert.PostEven.τ).loc Cert.PostEven.main_arg3)
      ∧ r.2.mem ((c.tc : Thread Cert.PostEven.nD Cert.PostEven.τ).loc Cert.PostEven.main_arg4) = m ((c.tc : Thread Cert.PostEven.nD Cert.PostEven.τ).loc Cert.PostEven.main_arg4)
      ∧ r.2.mem ((c.tc : Thread Cert.PostEven.nD Cert.PostEven.τ).loc Cert.PostEven.main_arg5) = m ((c.tc : Thread Cert.PostEven.nD Cert.PostEven.τ).loc Cert.PostEven.main_arg5)
      ∧ r.2.mem ((c.tc : Thread Cert.PostEven.nD Cert.PostEven.τ).loc Cert.PostEven.main_arg6) = m ((c.tc : Thread Cert.PostEven.nD Cert.PostEven.τ).loc Cert.PostEven.main_arg6)
      ∧ r.2.mem ((c.tc : Thread Cert.PostEven.nD Cert.PostEven.τ).loc Cert.PostEven.main_arg7) = m ((c.tc : Thread Cert.PostEven.nD Cert.PostEven.τ).loc Cert.PostEven.main_arg7)
      ∧ r.2.mem ((c.tc : Thread Cert.PostEven.nD Cert.PostEven.τ).loc Cert.PostEven.main_arg8) = m ((c.tc : Thread Cert.PostEven.nD Cert.PostEven.τ).loc Cert.PostEven.main_arg8)
      ∧ r.2.mem ((c.tc : Thread Cert.PostEven.nD Cert.PostEven.τ).loc Cert.PostEven.main_arg9) = m ((c.tc : Thread Cert.PostEven.nD Cert.PostEven.τ).loc Cert.PostEven.main_arg9)
      ∧ r.2.mem ((c.tc : Thread Cert.PostEven.nD Cert.PostEven.τ).loc Cert.PostEven.main_arg10) = m ((c.tc : Thread Cert.PostEven.nD Cert.PostEven.τ).loc Cert.PostEven.main_arg10)
      ∧ r.2.mem ((c.tc : Thread Cert.PostEven.nD Cert.PostEven.τ).loc Cert.PostEven.main_arg11) = m ((c.tc : Thread Cert.PostEven.nD Cert.PostEven.τ).loc Cert.PostEven.main_arg11))
      ∧ r.2.sem = fun _ => 0)

def quiescent_PostEvenIdeal [hPostEvenIdeal : Cert.PostEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg), Pre_PostEvenIdeal m →
    θ_run (Cert.PostEvenIdeal.defs (F := Ideal)) (onTc (τ := Cert.PostEvenIdeal.τ) (Cert.PostEvenIdeal.main (F := Ideal))) ⟨m, fun _ => 0, g⟩ (fun r => (∀ c : Dev Cert.PostEvenIdeal.nD,
      r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
      ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
      ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
      ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
      ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
      ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
      ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
      ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
      ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
      ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
      ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10)
      ∧ r.2.mem ((c.tc : Thread Cert.PostEvenIdeal.nD Cert.PostEvenIdeal.τ).loc Cert.PostEvenIdeal.main_arg11) = m ((c.tc : Thread Cert.PostEvenIdeal.nD Cert.PostEvenIdeal.τ).loc Cert.PostEvenIdeal.main_arg11))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3)
      ∧ r.2.mem ((c.tc : Thread Cert.ReferenceEvenIdeal.nD Cert.ReferenceEvenIdeal.τ).loc Cert.ReferenceEvenIdeal.main_arg4) = m ((c.tc : Thread Cert.ReferenceEvenIdeal.nD Cert.ReferenceEvenIdeal.τ).loc Cert.ReferenceEvenIdeal.main_arg4)
      ∧ r.2.mem ((c.tc : Thread Cert.ReferenceEvenIdeal.nD Cert.ReferenceEvenIdeal.τ).loc Cert.ReferenceEvenIdeal.main_arg5) = m ((c.tc : Thread Cert.ReferenceEvenIdeal.nD Cert.ReferenceEvenIdeal.τ).loc Cert.ReferenceEvenIdeal.main_arg5)
      ∧ r.2.mem ((c.tc : Thread Cert.ReferenceEvenIdeal.nD Cert.ReferenceEvenIdeal.τ).loc Cert.ReferenceEvenIdeal.main_arg6) = m ((c.tc : Thread Cert.ReferenceEvenIdeal.nD Cert.ReferenceEvenIdeal.τ).loc Cert.ReferenceEvenIdeal.main_arg6)
      ∧ r.2.mem ((c.tc : Thread Cert.ReferenceEvenIdeal.nD Cert.ReferenceEvenIdeal.τ).loc Cert.ReferenceEvenIdeal.main_arg7) = m ((c.tc : Thread Cert.ReferenceEvenIdeal.nD Cert.ReferenceEvenIdeal.τ).loc Cert.ReferenceEvenIdeal.main_arg7)
      ∧ r.2.mem ((c.tc : Thread Cert.ReferenceEvenIdeal.nD Cert.ReferenceEvenIdeal.τ).loc Cert.ReferenceEvenIdeal.main_arg8) = m ((c.tc : Thread Cert.ReferenceEvenIdeal.nD Cert.ReferenceEvenIdeal.τ).loc Cert.ReferenceEvenIdeal.main_arg8)
      ∧ r.2.mem ((c.tc : Thread Cert.ReferenceEvenIdeal.nD Cert.ReferenceEvenIdeal.τ).loc Cert.ReferenceEvenIdeal.main_arg9) = m ((c.tc : Thread Cert.ReferenceEvenIdeal.nD Cert.ReferenceEvenIdeal.τ).loc Cert.ReferenceEvenIdeal.main_arg9)
      ∧ r.2.mem ((c.tc : Thread Cert.ReferenceEvenIdeal.nD Cert.ReferenceEvenIdeal.τ).loc Cert.ReferenceEvenIdeal.main_arg10) = m ((c.tc : Thread Cert.ReferenceEvenIdeal.nD Cert.ReferenceEvenIdeal.τ).loc Cert.ReferenceEvenIdeal.main_arg10)
      ∧ r.2.mem ((c.tc : Thread Cert.ReferenceEvenIdeal.nD Cert.ReferenceEvenIdeal.τ).loc Cert.ReferenceEvenIdeal.main_arg11) = m ((c.tc : Thread Cert.ReferenceEvenIdeal.nD Cert.ReferenceEvenIdeal.τ).loc Cert.ReferenceEvenIdeal.main_arg11))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3)
      ∧ r.2.mem ((c.tc : Thread Cert.InOdd.nD Cert.InOdd.τ).loc Cert.InOdd.main_arg4) = m ((c.tc : Thread Cert.InOdd.nD Cert.InOdd.τ).loc Cert.InOdd.main_arg4))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ r.2.sem = fun _ => 0)

def quiescent_ReferenceInOddIdeal [hReferenceInOddIdeal : Cert.ReferenceInOddIdeal.Facts] : Prop :=
  ∀ (m : (ℓ : Loc Cert.ReferenceInOddIdeal.nD Cert.ReferenceInOddIdeal.τ Cert.ReferenceInOddIdeal.sig) → Buf (Elt Ideal) ℓ) (g : Dev Cert.ReferenceInOddIdeal.nD → PrngReg), Pre_ReferenceInOddIdeal m →
    θ_run (Cert.ReferenceInOddIdeal.defs (F := Ideal)) (onTc (τ := Cert.ReferenceInOddIdeal.τ) (Cert.ReferenceInOddIdeal.main (F := Ideal))) ⟨m, fun _ => 0, g⟩ (fun r => (∀ c : Dev Cert.ReferenceInOddIdeal.nD,
      r.2.mem ((c.tc : Thread Cert.ReferenceInOddIdeal.nD Cert.ReferenceInOddIdeal.τ).loc Cert.ReferenceInOddIdeal.main_arg0) = m ((c.tc : Thread Cert.ReferenceInOddIdeal.nD Cert.ReferenceInOddIdeal.τ).loc Cert.ReferenceInOddIdeal.main_arg0)
      ∧ r.2.mem ((c.tc : Thread Cert.ReferenceInOddIdeal.nD Cert.ReferenceInOddIdeal.τ).loc Cert.ReferenceInOddIdeal.main_arg1) = m ((c.tc : Thread Cert.ReferenceInOddIdeal.nD Cert.ReferenceInOddIdeal.τ).loc Cert.ReferenceInOddIdeal.main_arg1)
      ∧ r.2.mem ((c.tc : Thread Cert.ReferenceInOddIdeal.nD Cert.ReferenceInOddIdeal.τ).loc Cert.ReferenceInOddIdeal.main_arg2) = m ((c.tc : Thread Cert.ReferenceInOddIdeal.nD Cert.ReferenceInOddIdeal.τ).loc Cert.ReferenceInOddIdeal.main_arg2)
      ∧ r.2.mem ((c.tc : Thread Cert.ReferenceInOddIdeal.nD Cert.ReferenceInOddIdeal.τ).loc Cert.ReferenceInOddIdeal.main_arg3) = m ((c.tc : Thread Cert.ReferenceInOddIdeal.nD Cert.ReferenceInOddIdeal.τ).loc Cert.ReferenceInOddIdeal.main_arg3)
      ∧ r.2.mem ((c.tc : Thread Cert.ReferenceInOddIdeal.nD Cert.ReferenceInOddIdeal.τ).loc Cert.ReferenceInOddIdeal.main_arg4) = m ((c.tc : Thread Cert.ReferenceInOddIdeal.nD Cert.ReferenceInOddIdeal.τ).loc Cert.ReferenceInOddIdeal.main_arg4))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ r.2.sem = fun _ => 0)

def quiescent_ReferenceInEvenIdeal [hReferenceInEvenIdeal : Cert.ReferenceInEvenIdeal.Facts] : Prop :=
  ∀ (m : (ℓ : Loc Cert.ReferenceInEvenIdeal.nD Cert.ReferenceInEvenIdeal.τ Cert.ReferenceInEvenIdeal.sig) → Buf (Elt Ideal) ℓ) (g : Dev Cert.ReferenceInEvenIdeal.nD → PrngReg), Pre_ReferenceInEvenIdeal m →
    θ_run (Cert.ReferenceInEvenIdeal.defs (F := Ideal)) (onTc (τ := Cert.ReferenceInEvenIdeal.τ) (Cert.ReferenceInEvenIdeal.main (F := Ideal))) ⟨m, fun _ => 0, g⟩ (fun r => (∀ c : Dev Cert.ReferenceInEvenIdeal.nD,
      r.2.mem ((c.tc : Thread Cert.ReferenceInEvenIdeal.nD Cert.ReferenceInEvenIdeal.τ).loc Cert.ReferenceInEvenIdeal.main_arg0) = m ((c.tc : Thread Cert.ReferenceInEvenIdeal.nD Cert.ReferenceInEvenIdeal.τ).loc Cert.ReferenceInEvenIdeal.main_arg0)
      ∧ r.2.mem ((c.tc : Thread Cert.ReferenceInEvenIdeal.nD Cert.ReferenceInEvenIdeal.τ).loc Cert.ReferenceInEvenIdeal.main_arg1) = m ((c.tc : Thread Cert.ReferenceInEvenIdeal.nD Cert.ReferenceInEvenIdeal.τ).loc Cert.ReferenceInEvenIdeal.main_arg1)
      ∧ r.2.mem ((c.tc : Thread Cert.ReferenceInEvenIdeal.nD Cert.ReferenceInEvenIdeal.τ).loc Cert.ReferenceInEvenIdeal.main_arg2) = m ((c.tc : Thread Cert.ReferenceInEvenIdeal.nD Cert.ReferenceInEvenIdeal.τ).loc Cert.ReferenceInEvenIdeal.main_arg2)
      ∧ r.2.mem ((c.tc : Thread Cert.ReferenceInEvenIdeal.nD Cert.ReferenceInEvenIdeal.τ).loc Cert.ReferenceInEvenIdeal.main_arg3) = m ((c.tc : Thread Cert.ReferenceInEvenIdeal.nD Cert.ReferenceInEvenIdeal.τ).loc Cert.ReferenceInEvenIdeal.main_arg3)
      ∧ r.2.mem ((c.tc : Thread Cert.ReferenceInEvenIdeal.nD Cert.ReferenceInEvenIdeal.τ).loc Cert.ReferenceInEvenIdeal.main_arg4) = m ((c.tc : Thread Cert.ReferenceInEvenIdeal.nD Cert.ReferenceInEvenIdeal.τ).loc Cert.ReferenceInEvenIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_ones [hKernelIdeal : Cert.KernelIdeal.Facts] [hReferenceIdeal : Cert.ReferenceIdeal.Facts] [hPre_finite_ones : Cert.Pre_finite_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_PostOdd_PostOddIdeal : Prop :=
  True

def algebraic_PostOddIdeal_ReferenceOddIdeal [hPostOddIdeal : Cert.PostOddIdeal.Facts] [hReferenceOddIdeal : Cert.ReferenceOddIdeal.Facts] : Prop :=
  ∀ (m : (ℓ : Loc Cert.PostOddIdeal.nD Cert.PostOddIdeal.τ Cert.PostOddIdeal.sig) → Buf (Elt Ideal) ℓ) (g : Dev Cert.PostOddIdeal.nD → PrngReg)
    (m' : (ℓ : Loc Cert.ReferenceOddIdeal.nD Cert.ReferenceOddIdeal.τ Cert.ReferenceOddIdeal.sig) → Buf (Elt Ideal) ℓ) (g' : Dev Cert.ReferenceOddIdeal.nD → PrngReg), Pre_PostOddIdeal m →
    (∀ c : Dev Cert.PostOddIdeal.nD,
      m' ((c.tc : Thread Cert.ReferenceOddIdeal.nD Cert.ReferenceOddIdeal.τ).loc Cert.ReferenceOddIdeal.main_arg0) = m ((c.tc : Thread Cert.PostOddIdeal.nD Cert.PostOddIdeal.τ).loc Cert.PostOddIdeal.main_arg0)
      ∧ m' ((c.tc : Thread Cert.ReferenceOddIdeal.nD Cert.ReferenceOddIdeal.τ).loc Cert.ReferenceOddIdeal.main_arg1) = m ((c.tc : Thread Cert.PostOddIdeal.nD Cert.PostOddIdeal.τ).loc Cert.PostOddIdeal.main_arg1)
      ∧ m' ((c.tc : Thread Cert.ReferenceOddIdeal.nD Cert.ReferenceOddIdeal.τ).loc Cert.ReferenceOddIdeal.main_arg2) = m ((c.tc : Thread Cert.PostOddIdeal.nD Cert.PostOddIdeal.τ).loc Cert.PostOddIdeal.main_arg2)
      ∧ m' ((c.tc : Thread Cert.ReferenceOddIdeal.nD Cert.ReferenceOddIdeal.τ).loc Cert.ReferenceOddIdeal.main_arg3) = m ((c.tc : Thread Cert.PostOddIdeal.nD Cert.PostOddIdeal.τ).loc Cert.PostOddIdeal.main_arg3)
      ∧ m' ((c.tc : Thread Cert.ReferenceOddIdeal.nD Cert.ReferenceOddIdeal.τ).loc Cert.ReferenceOddIdeal.main_arg4) = m ((c.tc : Thread Cert.PostOddIdeal.nD Cert.PostOddIdeal.τ).loc Cert.PostOddIdeal.main_arg4)
      ∧ m' ((c.tc : Thread Cert.ReferenceOddIdeal.nD Cert.ReferenceOddIdeal.τ).loc Cert.ReferenceOddIdeal.main_arg5) = m ((c.tc : Thread Cert.PostOddIdeal.nD Cert.PostOddIdeal.τ).loc Cert.PostOddIdeal.main_arg5)
      ∧ m' ((c.tc : Thread Cert.ReferenceOddIdeal.nD Cert.ReferenceOddIdeal.τ).loc Cert.ReferenceOddIdeal.main_arg6) = m ((c.tc : Thread Cert.PostOddIdeal.nD Cert.PostOddIdeal.τ).loc Cert.PostOddIdeal.main_arg6)
      ∧ m' ((c.tc : Thread Cert.ReferenceOddIdeal.nD Cert.ReferenceOddIdeal.τ).loc Cert.ReferenceOddIdeal.main_arg7) = m ((c.tc : Thread Cert.PostOddIdeal.nD Cert.PostOddIdeal.τ).loc Cert.PostOddIdeal.main_arg7)
      ∧ m' ((c.tc : Thread Cert.ReferenceOddIdeal.nD Cert.ReferenceOddIdeal.τ).loc Cert.ReferenceOddIdeal.main_arg8) = m ((c.tc : Thread Cert.PostOddIdeal.nD Cert.PostOddIdeal.τ).loc Cert.PostOddIdeal.main_arg8)
      ∧ m' ((c.tc : Thread Cert.ReferenceOddIdeal.nD Cert.ReferenceOddIdeal.τ).loc Cert.ReferenceOddIdeal.main_arg9) = m ((c.tc : Thread Cert.PostOddIdeal.nD Cert.PostOddIdeal.τ).loc Cert.PostOddIdeal.main_arg9)
      ∧ m' ((c.tc : Thread Cert.ReferenceOddIdeal.nD Cert.ReferenceOddIdeal.τ).loc Cert.ReferenceOddIdeal.main_arg10) = m ((c.tc : Thread Cert.PostOddIdeal.nD Cert.PostOddIdeal.τ).loc Cert.PostOddIdeal.main_arg10)) →
    ∃ (v0 : (c : Dev Cert.PostOddIdeal.nD) → Buf (Elt Ideal) ((c.tc : Thread Cert.PostOddIdeal.nD Cert.PostOddIdeal.τ).loc Cert.PostOddIdeal.main_v4)),
      θ_run (Cert.PostOddIdeal.defs (F := Ideal)) (onTc (τ := Cert.PostOddIdeal.τ) (Cert.PostOddIdeal.main (F := Ideal))) ⟨m, fun _ => 0, g⟩ (fun r => ∀ c : Dev Cert.PostOddIdeal.nD,
          r.2.mem ((c.tc : Thread Cert.PostOddIdeal.nD Cert.PostOddIdeal.τ).loc Cert.PostOddIdeal.main_v4) = v0 c
          ∧ r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
          ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
          ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
          ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
          ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
          ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
          ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
          ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
          ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8)
          ∧ r.2.mem ((c.tc : Thread Cert.PostOddIdeal.nD Cert.PostOddIdeal.τ).loc Cert.PostOddIdeal.main_arg9) = m ((c.tc : Thread Cert.PostOddIdeal.nD Cert.PostOddIdeal.τ).loc Cert.PostOddIdeal.main_arg9)
          ∧ r.2.mem ((c.tc : Thread Cert.PostOddIdeal.nD Cert.PostOddIdeal.τ).loc Cert.PostOddIdeal.main_arg10) = m ((c.tc : Thread Cert.PostOddIdeal.nD Cert.PostOddIdeal.τ).loc Cert.PostOddIdeal.main_arg10))
      ∧ θ_run (Cert.ReferenceOddIdeal.defs (F := Ideal)) (onTc (τ := Cert.ReferenceOddIdeal.τ) (Cert.ReferenceOddIdeal.main (F := Ideal))) ⟨m', fun _ => 0, g'⟩ (fun r => ∀ c : Dev Cert.ReferenceOddIdeal.nD,
          r.2.mem ((c.tc : Thread Cert.ReferenceOddIdeal.nD Cert.ReferenceOddIdeal.τ).loc Cert.ReferenceOddIdeal.main_v93) = v0 c
          ∧ r.2.mem ((c.tc : Thread Cert.ReferenceOddIdeal.nD Cert.ReferenceOddIdeal.τ).loc Cert.ReferenceOddIdeal.main_arg0) = m' ((c.tc : Thread Cert.ReferenceOddIdeal.nD Cert.ReferenceOddIdeal.τ).loc Cert.ReferenceOddIdeal.main_arg0)
          ∧ r.2.mem ((c.tc : Thread Cert.ReferenceOddIdeal.nD Cert.ReferenceOddIdeal.τ).loc Cert.ReferenceOddIdeal.main_arg1) = m' ((c.tc : Thread Cert.ReferenceOddIdeal.nD Cert.ReferenceOddIdeal.τ).loc Cert.ReferenceOddIdeal.main_arg1)
          ∧ r.2.mem ((c.tc : Thread Cert.ReferenceOddIdeal.nD Cert.ReferenceOddIdeal.τ).loc Cert.ReferenceOddIdeal.main_arg2) = m' ((c.tc : Thread Cert.ReferenceOddIdeal.nD Cert.ReferenceOddIdeal.τ).loc Cert.ReferenceOddIdeal.main_arg2)
          ∧ r.2.mem ((c.tc : Thread Cert.ReferenceOddIdeal.nD Cert.ReferenceOddIdeal.τ).loc Cert.ReferenceOddIdeal.main_arg3) = m' ((c.tc : Thread Cert.ReferenceOddIdeal.nD Cert.ReferenceOddIdeal.τ).loc Cert.ReferenceOddIdeal.main_arg3)
          ∧ r.2.mem ((c.tc : Thread Cert.ReferenceOddIdeal.nD Cert.ReferenceOddIdeal.τ).loc Cert.ReferenceOddIdeal.main_arg4) = m' ((c.tc : Thread Cert.ReferenceOddIdeal.nD Cert.ReferenceOddIdeal.τ).loc Cert.ReferenceOddIdeal.main_arg4)
          ∧ r.2.mem ((c.tc : Thread Cert.ReferenceOddIdeal.nD Cert.ReferenceOddIdeal.τ).loc Cert.ReferenceOddIdeal.main_arg5) = m' ((c.tc : Thread Cert.ReferenceOddIdeal.nD Cert.ReferenceOddIdeal.τ).loc Cert.ReferenceOddIdeal.main_arg5)
          ∧ r.2.mem ((c.tc : Thread Cert.ReferenceOddIdeal.nD Cert.ReferenceOddIdeal.τ).loc Cert.ReferenceOddIdeal.main_arg6) = m' ((c.tc : Thread Cert.ReferenceOddIdeal.nD Cert.ReferenceOddIdeal.τ).loc Cert.ReferenceOddIdeal.main_arg6)
          ∧ r.2.mem ((c.tc : Thread Cert.ReferenceOddIdeal.nD Cert.ReferenceOddIdeal.τ).loc Cert.ReferenceOddIdeal.main_arg7) = m' ((c.tc : Thread Cert.ReferenceOddIdeal.nD Cert.ReferenceOddIdeal.τ).loc Cert.ReferenceOddIdeal.main_arg7)
          ∧ r.2.mem ((c.tc : Thread Cert.ReferenceOddIdeal.nD Cert.ReferenceOddIdeal.τ).loc Cert.ReferenceOddIdeal.main_arg8) = m' ((c.tc : Thread Cert.ReferenceOddIdeal.nD Cert.ReferenceOddIdeal.τ).loc Cert.ReferenceOddIdeal.main_arg8)
          ∧ r.2.mem ((c.tc : Thread Cert.ReferenceOddIdeal.nD Cert.ReferenceOddIdeal.τ).loc Cert.ReferenceOddIdeal.main_arg9) = m' ((c.tc : Thread Cert.ReferenceOddIdeal.nD Cert.ReferenceOddIdeal.τ).loc Cert.ReferenceOddIdeal.main_arg9)
          ∧ r.2.mem ((c.tc : Thread Cert.ReferenceOddIdeal.nD Cert.ReferenceOddIdeal.τ).loc Cert.ReferenceOddIdeal.main_arg10) = m' ((c.tc : Thread Cert.ReferenceOddIdeal.nD Cert.ReferenceOddIdeal.τ).loc Cert.ReferenceOddIdeal.main_arg10))

def preserves_PostEven_PostEvenIdeal : Prop :=
  True

def algebraic_PostEvenIdeal_ReferenceEvenIdeal [hPostEvenIdeal : Cert.PostEvenIdeal.Facts] [hReferenceEvenIdeal : Cert.ReferenceEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_PostEvenIdeal m →
    (∀ c : Dev Cert.PostEvenIdeal.nD,
      m' ((c.tc : Thread Cert.ReferenceEvenIdeal.nD Cert.ReferenceEvenIdeal.τ).loc Cert.ReferenceEvenIdeal.main_arg0) = m ((c.tc : Thread Cert.PostEvenIdeal.nD Cert.PostEvenIdeal.τ).loc Cert.PostEvenIdeal.main_arg0)
      ∧ m' ((c.tc : Thread Cert.ReferenceEvenIdeal.nD Cert.ReferenceEvenIdeal.τ).loc Cert.ReferenceEvenIdeal.main_arg1) = m ((c.tc : Thread Cert.PostEvenIdeal.nD Cert.PostEvenIdeal.τ).loc Cert.PostEvenIdeal.main_arg1)
      ∧ m' ((c.tc : Thread Cert.ReferenceEvenIdeal.nD Cert.ReferenceEvenIdeal.τ).loc Cert.ReferenceEvenIdeal.main_arg2) = m ((c.tc : Thread Cert.PostEvenIdeal.nD Cert.PostEvenIdeal.τ).loc Cert.PostEvenIdeal.main_arg2)
      ∧ m' ((c.tc : Thread Cert.ReferenceEvenIdeal.nD Cert.ReferenceEvenIdeal.τ).loc Cert.ReferenceEvenIdeal.main_arg3) = m ((c.tc : Thread Cert.PostEvenIdeal.nD Cert.PostEvenIdeal.τ).loc Cert.PostEvenIdeal.main_arg3)
      ∧ m' ((c.tc : Thread Cert.ReferenceEvenIdeal.nD Cert.ReferenceEvenIdeal.τ).loc Cert.ReferenceEvenIdeal.main_arg4) = m ((c.tc : Thread Cert.PostEvenIdeal.nD Cert.PostEvenIdeal.τ).loc Cert.PostEvenIdeal.main_arg4)
      ∧ m' ((c.tc : Thread Cert.ReferenceEvenIdeal.nD Cert.ReferenceEvenIdeal.τ).loc Cert.ReferenceEvenIdeal.main_arg5) = m ((c.tc : Thread Cert.PostEvenIdeal.nD Cert.PostEvenIdeal.τ).loc Cert.PostEvenIdeal.main_arg5)
      ∧ m' ((c.tc : Thread Cert.ReferenceEvenIdeal.nD Cert.ReferenceEvenIdeal.τ).loc Cert.ReferenceEvenIdeal.main_arg6) = m ((c.tc : Thread Cert.PostEvenIdeal.nD Cert.PostEvenIdeal.τ).loc Cert.PostEvenIdeal.main_arg6)
      ∧ m' ((c.tc : Thread Cert.ReferenceEvenIdeal.nD Cert.ReferenceEvenIdeal.τ).loc Cert.ReferenceEvenIdeal.main_arg7) = m ((c.tc : Thread Cert.PostEvenIdeal.nD Cert.PostEvenIdeal.τ).loc Cert.PostEvenIdeal.main_arg7)
      ∧ m' ((c.tc : Thread Cert.ReferenceEvenIdeal.nD Cert.ReferenceEvenIdeal.τ).loc Cert.ReferenceEvenIdeal.main_arg8) = m ((c.tc : Thread Cert.PostEvenIdeal.nD Cert.PostEvenIdeal.τ).loc Cert.PostEvenIdeal.main_arg8)
      ∧ m' ((c.tc : Thread Cert.ReferenceEvenIdeal.nD Cert.ReferenceEvenIdeal.τ).loc Cert.ReferenceEvenIdeal.main_arg9) = m ((c.tc : Thread Cert.PostEvenIdeal.nD Cert.PostEvenIdeal.τ).loc Cert.PostEvenIdeal.main_arg9)
      ∧ m' ((c.tc : Thread Cert.ReferenceEvenIdeal.nD Cert.ReferenceEvenIdeal.τ).loc Cert.ReferenceEvenIdeal.main_arg10) = m ((c.tc : Thread Cert.PostEvenIdeal.nD Cert.PostEvenIdeal.τ).loc Cert.PostEvenIdeal.main_arg10)
      ∧ m' ((c.tc : Thread Cert.ReferenceEvenIdeal.nD Cert.ReferenceEvenIdeal.τ).loc Cert.ReferenceEvenIdeal.main_arg11) = m ((c.tc : Thread Cert.PostEvenIdeal.nD Cert.PostEvenIdeal.τ).loc Cert.PostEvenIdeal.main_arg11)) →
    ∃ (v0 : (c : Dev Cert.PostEvenIdeal.nD) → Buf (Elt Ideal) ((c.tc : Thread Cert.PostEvenIdeal.nD Cert.PostEvenIdeal.τ).loc Cert.PostEvenIdeal.main_v6)),
      θ_run (Cert.PostEvenIdeal.defs (F := Ideal)) (onTc (τ := Cert.PostEvenIdeal.τ) (Cert.PostEvenIdeal.main (F := Ideal))) ⟨m, fun _ => 0, g⟩ (fun r => ∀ c : Dev Cert.PostEvenIdeal.nD,
          r.2.mem ((c.tc : Thread Cert.PostEvenIdeal.nD Cert.PostEvenIdeal.τ).loc Cert.PostEvenIdeal.main_v6) = v0 c
          ∧ r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
          ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
          ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
          ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
          ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
          ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
          ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
          ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
          ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
          ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
          ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10)
          ∧ r.2.mem ((c.tc : Thread Cert.PostEvenIdeal.nD Cert.PostEvenIdeal.τ).loc Cert.PostEvenIdeal.main_arg11) = m ((c.tc : Thread Cert.PostEvenIdeal.nD Cert.PostEvenIdeal.τ).loc Cert.PostEvenIdeal.main_arg11))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v94) = v0 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2)
          ∧ r.2.mem ((c.tc : Thread Cert.ReferenceEvenIdeal.nD Cert.ReferenceEvenIdeal.τ).loc Cert.ReferenceEvenIdeal.main_arg3) = m' ((c.tc : Thread Cert.ReferenceEvenIdeal.nD Cert.ReferenceEvenIdeal.τ).loc Cert.ReferenceEvenIdeal.main_arg3)
          ∧ r.2.mem ((c.tc : Thread Cert.ReferenceEvenIdeal.nD Cert.ReferenceEvenIdeal.τ).loc Cert.ReferenceEvenIdeal.main_arg4) = m' ((c.tc : Thread Cert.ReferenceEvenIdeal.nD Cert.ReferenceEvenIdeal.τ).loc Cert.ReferenceEvenIdeal.main_arg4)
          ∧ r.2.mem ((c.tc : Thread Cert.ReferenceEvenIdeal.nD Cert.ReferenceEvenIdeal.τ).loc Cert.ReferenceEvenIdeal.main_arg5) = m' ((c.tc : Thread Cert.ReferenceEvenIdeal.nD Cert.ReferenceEvenIdeal.τ).loc Cert.ReferenceEvenIdeal.main_arg5)
          ∧ r.2.mem ((c.tc : Thread Cert.ReferenceEvenIdeal.nD Cert.ReferenceEvenIdeal.τ).loc Cert.ReferenceEvenIdeal.main_arg6) = m' ((c.tc : Thread Cert.ReferenceEvenIdeal.nD Cert.ReferenceEvenIdeal.τ).loc Cert.ReferenceEvenIdeal.main_arg6)
          ∧ r.2.mem ((c.tc : Thread Cert.ReferenceEvenIdeal.nD Cert.ReferenceEvenIdeal.τ).loc Cert.ReferenceEvenIdeal.main_arg7) = m' ((c.tc : Thread Cert.ReferenceEvenIdeal.nD Cert.ReferenceEvenIdeal.τ).loc Cert.ReferenceEvenIdeal.main_arg7)
          ∧ r.2.mem ((c.tc : Thread Cert.ReferenceEvenIdeal.nD Cert.ReferenceEvenIdeal.τ).loc Cert.ReferenceEvenIdeal.main_arg8) = m' ((c.tc : Thread Cert.ReferenceEvenIdeal.nD Cert.ReferenceEvenIdeal.τ).loc Cert.ReferenceEvenIdeal.main_arg8)
          ∧ r.2.mem ((c.tc : Thread Cert.ReferenceEvenIdeal.nD Cert.ReferenceEvenIdeal.τ).loc Cert.ReferenceEvenIdeal.main_arg9) = m' ((c.tc : Thread Cert.ReferenceEvenIdeal.nD Cert.ReferenceEvenIdeal.τ).loc Cert.ReferenceEvenIdeal.main_arg9)
          ∧ r.2.mem ((c.tc : Thread Cert.ReferenceEvenIdeal.nD Cert.ReferenceEvenIdeal.τ).loc Cert.ReferenceEvenIdeal.main_arg10) = m' ((c.tc : Thread Cert.ReferenceEvenIdeal.nD Cert.ReferenceEvenIdeal.τ).loc Cert.ReferenceEvenIdeal.main_arg10)
          ∧ r.2.mem ((c.tc : Thread Cert.ReferenceEvenIdeal.nD Cert.ReferenceEvenIdeal.τ).loc Cert.ReferenceEvenIdeal.main_arg11) = m' ((c.tc : Thread Cert.ReferenceEvenIdeal.nD Cert.ReferenceEvenIdeal.τ).loc Cert.ReferenceEvenIdeal.main_arg11))

def preserves_InOdd_InOddIdeal : Prop :=
  True

def algebraic_InOddIdeal_ReferenceInOddIdeal [hInOddIdeal : Cert.InOddIdeal.Facts] [hReferenceInOddIdeal : Cert.ReferenceInOddIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.ReferenceInOddIdeal.nD Cert.ReferenceInOddIdeal.τ Cert.ReferenceInOddIdeal.sig) → Buf (Elt Ideal) ℓ) (g' : Dev Cert.ReferenceInOddIdeal.nD → PrngReg), Pre_InOddIdeal m →
    (∀ c : Dev Cert.InOddIdeal.nD,
      m' ((c.tc : Thread Cert.ReferenceInOddIdeal.nD Cert.ReferenceInOddIdeal.τ).loc Cert.ReferenceInOddIdeal.main_arg0) = m ((c.tc : Thread Cert.InOddIdeal.nD Cert.InOddIdeal.τ).loc Cert.InOddIdeal.main_arg0)
      ∧ m' ((c.tc : Thread Cert.ReferenceInOddIdeal.nD Cert.ReferenceInOddIdeal.τ).loc Cert.ReferenceInOddIdeal.main_arg1) = m ((c.tc : Thread Cert.InOddIdeal.nD Cert.InOddIdeal.τ).loc Cert.InOddIdeal.main_arg1)
      ∧ m' ((c.tc : Thread Cert.ReferenceInOddIdeal.nD Cert.ReferenceInOddIdeal.τ).loc Cert.ReferenceInOddIdeal.main_arg2) = m ((c.tc : Thread Cert.InOddIdeal.nD Cert.InOddIdeal.τ).loc Cert.InOddIdeal.main_arg2)
      ∧ m' ((c.tc : Thread Cert.ReferenceInOddIdeal.nD Cert.ReferenceInOddIdeal.τ).loc Cert.ReferenceInOddIdeal.main_arg3) = m ((c.tc : Thread Cert.InOddIdeal.nD Cert.InOddIdeal.τ).loc Cert.InOddIdeal.main_arg3)
      ∧ m' ((c.tc : Thread Cert.ReferenceInOddIdeal.nD Cert.ReferenceInOddIdeal.τ).loc Cert.ReferenceInOddIdeal.main_arg4) = m ((c.tc : Thread Cert.InOddIdeal.nD Cert.InOddIdeal.τ).loc Cert.InOddIdeal.main_arg4)) →
    ∃ (v0 : (c : Dev Cert.InOddIdeal.nD) → Buf (Elt Ideal) ((c.tc : Thread Cert.InOddIdeal.nD Cert.InOddIdeal.τ).loc Cert.InOddIdeal.main_v8_0)) (v1 : (c : Dev Cert.InOddIdeal.nD) → Buf (Elt Ideal) ((c.tc : Thread Cert.InOddIdeal.nD Cert.InOddIdeal.τ).loc Cert.InOddIdeal.main_v8_1)) (v2 : (c : Dev Cert.InOddIdeal.nD) → Buf (Elt Ideal) ((c.tc : Thread Cert.InOddIdeal.nD Cert.InOddIdeal.τ).loc Cert.InOddIdeal.main_v8_2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v8_0) = v0 c
          ∧ r.2.mem ((c.tc : Thread Cert.InOddIdeal.nD Cert.InOddIdeal.τ).loc Cert.InOddIdeal.main_v8_1) = v1 c
          ∧ r.2.mem ((c.tc : Thread Cert.InOddIdeal.nD Cert.InOddIdeal.τ).loc Cert.InOddIdeal.main_v8_2) = v2 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
          ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4))
      ∧ θ_run (Cert.ReferenceInOddIdeal.defs (F := Ideal)) (onTc (τ := Cert.ReferenceInOddIdeal.τ) (Cert.ReferenceInOddIdeal.main (F := Ideal))) ⟨m', fun _ => 0, g'⟩ (fun r => ∀ c : Dev Cert.ReferenceInOddIdeal.nD,
          r.2.mem ((c.tc : Thread Cert.ReferenceInOddIdeal.nD Cert.ReferenceInOddIdeal.τ).loc Cert.ReferenceInOddIdeal.main_v54) = v0 c
          ∧ r.2.mem ((c.tc : Thread Cert.ReferenceInOddIdeal.nD Cert.ReferenceInOddIdeal.τ).loc Cert.ReferenceInOddIdeal.main_v56) = v1 c
          ∧ r.2.mem ((c.tc : Thread Cert.ReferenceInOddIdeal.nD Cert.ReferenceInOddIdeal.τ).loc Cert.ReferenceInOddIdeal.main_v57) = v2 c
          ∧ r.2.mem ((c.tc : Thread Cert.ReferenceInOddIdeal.nD Cert.ReferenceInOddIdeal.τ).loc Cert.ReferenceInOddIdeal.main_arg0) = m' ((c.tc : Thread Cert.ReferenceInOddIdeal.nD Cert.ReferenceInOddIdeal.τ).loc Cert.ReferenceInOddIdeal.main_arg0)
          ∧ r.2.mem ((c.tc : Thread Cert.ReferenceInOddIdeal.nD Cert.ReferenceInOddIdeal.τ).loc Cert.ReferenceInOddIdeal.main_arg1) = m' ((c.tc : Thread Cert.ReferenceInOddIdeal.nD Cert.ReferenceInOddIdeal.τ).loc Cert.ReferenceInOddIdeal.main_arg1)
          ∧ r.2.mem ((c.tc : Thread Cert.ReferenceInOddIdeal.nD Cert.ReferenceInOddIdeal.τ).loc Cert.ReferenceInOddIdeal.main_arg2) = m' ((c.tc : Thread Cert.ReferenceInOddIdeal.nD Cert.ReferenceInOddIdeal.τ).loc Cert.ReferenceInOddIdeal.main_arg2)
          ∧ r.2.mem ((c.tc : Thread Cert.ReferenceInOddIdeal.nD Cert.ReferenceInOddIdeal.τ).loc Cert.ReferenceInOddIdeal.main_arg3) = m' ((c.tc : Thread Cert.ReferenceInOddIdeal.nD Cert.ReferenceInOddIdeal.τ).loc Cert.ReferenceInOddIdeal.main_arg3)
          ∧ r.2.mem ((c.tc : Thread Cert.ReferenceInOddIdeal.nD Cert.ReferenceInOddIdeal.τ).loc Cert.ReferenceInOddIdeal.main_arg4) = m' ((c.tc : Thread Cert.ReferenceInOddIdeal.nD Cert.ReferenceInOddIdeal.τ).loc Cert.ReferenceInOddIdeal.main_arg4))

def preserves_InEven_InEvenIdeal : Prop :=
  True

def algebraic_InEvenIdeal_ReferenceInEvenIdeal [hInEvenIdeal : Cert.InEvenIdeal.Facts] [hReferenceInEvenIdeal : Cert.ReferenceInEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.ReferenceInEvenIdeal.nD Cert.ReferenceInEvenIdeal.τ Cert.ReferenceInEvenIdeal.sig) → Buf (Elt Ideal) ℓ) (g' : Dev Cert.ReferenceInEvenIdeal.nD → PrngReg), Pre_InEvenIdeal m →
    (∀ c : Dev Cert.InEvenIdeal.nD,
      m' ((c.tc : Thread Cert.ReferenceInEvenIdeal.nD Cert.ReferenceInEvenIdeal.τ).loc Cert.ReferenceInEvenIdeal.main_arg0) = m ((c.tc : Thread Cert.InEvenIdeal.nD Cert.InEvenIdeal.τ).loc Cert.InEvenIdeal.main_arg0)
      ∧ m' ((c.tc : Thread Cert.ReferenceInEvenIdeal.nD Cert.ReferenceInEvenIdeal.τ).loc Cert.ReferenceInEvenIdeal.main_arg1) = m ((c.tc : Thread Cert.InEvenIdeal.nD Cert.InEvenIdeal.τ).loc Cert.InEvenIdeal.main_arg1)
      ∧ m' ((c.tc : Thread Cert.ReferenceInEvenIdeal.nD Cert.ReferenceInEvenIdeal.τ).loc Cert.ReferenceInEvenIdeal.main_arg2) = m ((c.tc : Thread Cert.InEvenIdeal.nD Cert.InEvenIdeal.τ).loc Cert.InEvenIdeal.main_arg2)
      ∧ m' ((c.tc : Thread Cert.ReferenceInEvenIdeal.nD Cert.ReferenceInEvenIdeal.τ).loc Cert.ReferenceInEvenIdeal.main_arg3) = m ((c.tc : Thread Cert.InEvenIdeal.nD Cert.InEvenIdeal.τ).loc Cert.InEvenIdeal.main_arg3)
      ∧ m' ((c.tc : Thread Cert.ReferenceInEvenIdeal.nD Cert.ReferenceInEvenIdeal.τ).loc Cert.ReferenceInEvenIdeal.main_arg4) = m ((c.tc : Thread Cert.InEvenIdeal.nD Cert.InEvenIdeal.τ).loc Cert.InEvenIdeal.main_arg4)) →
    ∃ (v0 : (c : Dev Cert.InEvenIdeal.nD) → Buf (Elt Ideal) ((c.tc : Thread Cert.InEvenIdeal.nD Cert.InEvenIdeal.τ).loc Cert.InEvenIdeal.main_v21_0)) (v1 : (c : Dev Cert.InEvenIdeal.nD) → Buf (Elt Ideal) ((c.tc : Thread Cert.InEvenIdeal.nD Cert.InEvenIdeal.τ).loc Cert.InEvenIdeal.main_v21_1)) (v2 : (c : Dev Cert.InEvenIdeal.nD) → Buf (Elt Ideal) ((c.tc : Thread Cert.InEvenIdeal.nD Cert.InEvenIdeal.τ).loc Cert.InEvenIdeal.main_v21_2)) (v3 : (c : Dev Cert.InEvenIdeal.nD) → Buf (Elt Ideal) ((c.tc : Thread Cert.InEvenIdeal.nD Cert.InEvenIdeal.τ).loc Cert.InEvenIdeal.main_v21_3)) (v4 : (c : Dev Cert.InEvenIdeal.nD) → Buf (Elt Ideal) ((c.tc : Thread Cert.InEvenIdeal.nD Cert.InEvenIdeal.τ).loc Cert.InEvenIdeal.main_v21_4)) (v5 : (c : Dev Cert.InEvenIdeal.nD) → Buf (Elt Ideal) ((c.tc : Thread Cert.InEvenIdeal.nD Cert.InEvenIdeal.τ).loc Cert.InEvenIdeal.main_v21_5)) (v6 : (c : Dev Cert.InEvenIdeal.nD) → Buf (Elt Ideal) ((c.tc : Thread Cert.InEvenIdeal.nD Cert.InEvenIdeal.τ).loc Cert.InEvenIdeal.main_v21_6)) (v7 : (c : Dev Cert.InEvenIdeal.nD) → Buf (Elt Ideal) ((c.tc : Thread Cert.InEvenIdeal.nD Cert.InEvenIdeal.τ).loc Cert.InEvenIdeal.main_v21_7)) (v8 : (c : Dev Cert.InEvenIdeal.nD) → Buf (Elt Ideal) ((c.tc : Thread Cert.InEvenIdeal.nD Cert.InEvenIdeal.τ).loc Cert.InEvenIdeal.main_v21_8)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v21_0) = v0 c
          ∧ r.2.mem ((c.tc : Thread Cert.InEvenIdeal.nD Cert.InEvenIdeal.τ).loc Cert.InEvenIdeal.main_v21_1) = v1 c
          ∧ r.2.mem ((c.tc : Thread Cert.InEvenIdeal.nD Cert.InEvenIdeal.τ).loc Cert.InEvenIdeal.main_v21_2) = v2 c
          ∧ r.2.mem ((c.tc : Thread Cert.InEvenIdeal.nD Cert.InEvenIdeal.τ).loc Cert.InEvenIdeal.main_v21_3) = v3 c
          ∧ r.2.mem ((c.tc : Thread Cert.InEvenIdeal.nD Cert.InEvenIdeal.τ).loc Cert.InEvenIdeal.main_v21_4) = v4 c
          ∧ r.2.mem ((c.tc : Thread Cert.InEvenIdeal.nD Cert.InEvenIdeal.τ).loc Cert.InEvenIdeal.main_v21_5) = v5 c
          ∧ r.2.mem ((c.tc : Thread Cert.InEvenIdeal.nD Cert.InEvenIdeal.τ).loc Cert.InEvenIdeal.main_v21_6) = v6 c
          ∧ r.2.mem ((c.tc : Thread Cert.InEvenIdeal.nD Cert.InEvenIdeal.τ).loc Cert.InEvenIdeal.main_v21_7) = v7 c
          ∧ r.2.mem ((c.tc : Thread Cert.InEvenIdeal.nD Cert.InEvenIdeal.τ).loc Cert.InEvenIdeal.main_v21_8) = v8 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4))
      ∧ θ_run (Cert.ReferenceInEvenIdeal.defs (F := Ideal)) (onTc (τ := Cert.ReferenceInEvenIdeal.τ) (Cert.ReferenceInEvenIdeal.main (F := Ideal))) ⟨m', fun _ => 0, g'⟩ (fun r => ∀ c : Dev Cert.ReferenceInEvenIdeal.nD,
          r.2.mem ((c.tc : Thread Cert.ReferenceInEvenIdeal.nD Cert.ReferenceInEvenIdeal.τ).loc Cert.ReferenceInEvenIdeal.main_v91) = v0 c
          ∧ r.2.mem ((c.tc : Thread Cert.ReferenceInEvenIdeal.nD Cert.ReferenceInEvenIdeal.τ).loc Cert.ReferenceInEvenIdeal.main_v93) = v1 c
          ∧ r.2.mem ((c.tc : Thread Cert.ReferenceInEvenIdeal.nD Cert.ReferenceInEvenIdeal.τ).loc Cert.ReferenceInEvenIdeal.main_v80) = v2 c
          ∧ r.2.mem ((c.tc : Thread Cert.ReferenceInEvenIdeal.nD Cert.ReferenceInEvenIdeal.τ).loc Cert.ReferenceInEvenIdeal.main_v95) = v3 c
          ∧ r.2.mem ((c.tc : Thread Cert.ReferenceInEvenIdeal.nD Cert.ReferenceInEvenIdeal.τ).loc Cert.ReferenceInEvenIdeal.main_v97) = v4 c
          ∧ r.2.mem ((c.tc : Thread Cert.ReferenceInEvenIdeal.nD Cert.ReferenceInEvenIdeal.τ).loc Cert.ReferenceInEvenIdeal.main_v100) = v5 c
          ∧ r.2.mem ((c.tc : Thread Cert.ReferenceInEvenIdeal.nD Cert.ReferenceInEvenIdeal.τ).loc Cert.ReferenceInEvenIdeal.main_v103) = v6 c
          ∧ r.2.mem ((c.tc : Thread Cert.ReferenceInEvenIdeal.nD Cert.ReferenceInEvenIdeal.τ).loc Cert.ReferenceInEvenIdeal.main_v83) = v7 c
          ∧ r.2.mem ((c.tc : Thread Cert.ReferenceInEvenIdeal.nD Cert.ReferenceInEvenIdeal.τ).loc Cert.ReferenceInEvenIdeal.main_v104) = v8 c
          ∧ r.2.mem ((c.tc : Thread Cert.ReferenceInEvenIdeal.nD Cert.ReferenceInEvenIdeal.τ).loc Cert.ReferenceInEvenIdeal.main_arg0) = m' ((c.tc : Thread Cert.ReferenceInEvenIdeal.nD Cert.ReferenceInEvenIdeal.τ).loc Cert.ReferenceInEvenIdeal.main_arg0)
          ∧ r.2.mem ((c.tc : Thread Cert.ReferenceInEvenIdeal.nD Cert.ReferenceInEvenIdeal.τ).loc Cert.ReferenceInEvenIdeal.main_arg1) = m' ((c.tc : Thread Cert.ReferenceInEvenIdeal.nD Cert.ReferenceInEvenIdeal.τ).loc Cert.ReferenceInEvenIdeal.main_arg1)
          ∧ r.2.mem ((c.tc : Thread Cert.ReferenceInEvenIdeal.nD Cert.ReferenceInEvenIdeal.τ).loc Cert.ReferenceInEvenIdeal.main_arg2) = m' ((c.tc : Thread Cert.ReferenceInEvenIdeal.nD Cert.ReferenceInEvenIdeal.τ).loc Cert.ReferenceInEvenIdeal.main_arg2)
          ∧ r.2.mem ((c.tc : Thread Cert.ReferenceInEvenIdeal.nD Cert.ReferenceInEvenIdeal.τ).loc Cert.ReferenceInEvenIdeal.main_arg3) = m' ((c.tc : Thread Cert.ReferenceInEvenIdeal.nD Cert.ReferenceInEvenIdeal.τ).loc Cert.ReferenceInEvenIdeal.main_arg3)
          ∧ r.2.mem ((c.tc : Thread Cert.ReferenceInEvenIdeal.nD Cert.ReferenceInEvenIdeal.τ).loc Cert.ReferenceInEvenIdeal.main_arg4) = m' ((c.tc : Thread Cert.ReferenceInEvenIdeal.nD Cert.ReferenceInEvenIdeal.τ).loc Cert.ReferenceInEvenIdeal.main_arg4))

def preserves_Sb_SbIdeal : Prop :=
  IdealRules.named_const.Statement Cert.SbIdeal.κ "rate" .f32 0xBFB8AA3B#32 ((-((Real.log 2)⁻¹) : ℝ) : EReal)
  ∧ IdealRules.named_const.Statement Cert.SbIdeal.κ "floor" .f32 0x42D20000#32 ⊤

def algebraic_SbIdeal_ReferenceSbIdeal [hSbIdeal : Cert.SbIdeal.Facts] [hReferenceSbIdeal : Cert.ReferenceSbIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_SbIdeal m →
    (∀ c : Dev Cert.SbIdeal.nD,
      m' ((c.tc : Thread Cert.ReferenceSbIdeal.nD Cert.ReferenceSbIdeal.τ).loc Cert.ReferenceSbIdeal.main_arg0) = m ((c.tc : Thread Cert.SbIdeal.nD Cert.SbIdeal.τ).loc Cert.SbIdeal.main_arg0)
      ∧ m' ((c.tc : Thread Cert.ReferenceSbIdeal.nD Cert.ReferenceSbIdeal.τ).loc Cert.ReferenceSbIdeal.main_arg1) = m ((c.tc : Thread Cert.SbIdeal.nD Cert.SbIdeal.τ).loc Cert.SbIdeal.main_arg1)
      ∧ m' ((c.tc : Thread Cert.ReferenceSbIdeal.nD Cert.ReferenceSbIdeal.τ).loc Cert.ReferenceSbIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v23) = v0 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0)
          ∧ r.2.mem ((c.tc : Thread Cert.ReferenceSbIdeal.nD Cert.ReferenceSbIdeal.τ).loc Cert.ReferenceSbIdeal.main_arg1) = m' ((c.tc : Thread Cert.ReferenceSbIdeal.nD Cert.ReferenceSbIdeal.τ).loc Cert.ReferenceSbIdeal.main_arg1)
          ∧ r.2.mem ((c.tc : Thread Cert.ReferenceSbIdeal.nD Cert.ReferenceSbIdeal.τ).loc Cert.ReferenceSbIdeal.main_arg2) = m' ((c.tc : Thread Cert.ReferenceSbIdeal.nD Cert.ReferenceSbIdeal.τ).loc Cert.ReferenceSbIdeal.main_arg2))

def preserves_Mod_ModIdeal : Prop :=
  True

def algebraic_ModIdeal_ReferenceModIdeal [hModIdeal : Cert.ModIdeal.Facts] [hReferenceModIdeal : Cert.ReferenceModIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_ModIdeal m →
    (∀ c : Dev Cert.ModIdeal.nD,
      m' ((c.tc : Thread Cert.ReferenceModIdeal.nD Cert.ReferenceModIdeal.τ).loc Cert.ReferenceModIdeal.main_arg0) = m ((c.tc : Thread Cert.ModIdeal.nD Cert.ModIdeal.τ).loc Cert.ModIdeal.main_arg0)
      ∧ m' ((c.tc : Thread Cert.ReferenceModIdeal.nD Cert.ReferenceModIdeal.τ).loc Cert.ReferenceModIdeal.main_arg1) = m ((c.tc : Thread Cert.ModIdeal.nD Cert.ModIdeal.τ).loc Cert.ModIdeal.main_arg1)
      ∧ m' ((c.tc : Thread Cert.ReferenceModIdeal.nD Cert.ReferenceModIdeal.τ).loc Cert.ReferenceModIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v5) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def Claim : Prop :=
  ∃ (hKernel : Cert.Kernel.Facts) (hKernelIdeal : Cert.KernelIdeal.Facts) (hReferenceIdeal : Cert.ReferenceIdeal.Facts) (hPostOdd : Cert.PostOdd.Facts) (hPostOddIdeal : Cert.PostOddIdeal.Facts) (hReferenceOddIdeal : Cert.ReferenceOddIdeal.Facts) (hPostEven : Cert.PostEven.Facts) (hPostEvenIdeal : Cert.PostEvenIdeal.Facts) (hReferenceEvenIdeal : Cert.ReferenceEvenIdeal.Facts) (hInOdd : Cert.InOdd.Facts) (hInOddIdeal : Cert.InOddIdeal.Facts) (hReferenceInOddIdeal : Cert.ReferenceInOddIdeal.Facts) (hInEven : Cert.InEven.Facts) (hInEvenIdeal : Cert.InEvenIdeal.Facts) (hReferenceInEvenIdeal : Cert.ReferenceInEvenIdeal.Facts) (hSb : Cert.Sb.Facts) (hSbIdeal : Cert.SbIdeal.Facts) (hReferenceSbIdeal : Cert.ReferenceSbIdeal.Facts) (hMod : Cert.Mod.Facts) (hModIdeal : Cert.ModIdeal.Facts) (hReferenceModIdeal : Cert.ReferenceModIdeal.Facts) (hPre_finite_ones : Cert.Pre_finite_ones.Facts),
    quiescent_Kernel (hKernel := hKernel)
    ∧ quiescent_KernelIdeal (hKernelIdeal := hKernelIdeal)
    ∧ quiescent_KernelIdeal_pre_finite_ones (hKernelIdeal := hKernelIdeal) (hPre_finite_ones := hPre_finite_ones)
    ∧ quiescent_ReferenceIdeal (hReferenceIdeal := hReferenceIdeal)
    ∧ quiescent_ReferenceIdeal_pre_finite_ones (hReferenceIdeal := hReferenceIdeal) (hPre_finite_ones := hPre_finite_ones)
    ∧ quiescent_PostOdd (hPostOdd := hPostOdd)
    ∧ quiescent_PostOddIdeal (hPostOddIdeal := hPostOddIdeal)
    ∧ quiescent_ReferenceOddIdeal (hReferenceOddIdeal := hReferenceOddIdeal)
    ∧ quiescent_PostEven (hPostEven := hPostEven)
    ∧ quiescent_PostEvenIdeal (hPostEvenIdeal := hPostEvenIdeal)
    ∧ quiescent_ReferenceEvenIdeal (hReferenceEvenIdeal := hReferenceEvenIdeal)
    ∧ quiescent_InOdd (hInOdd := hInOdd)
    ∧ quiescent_InOddIdeal (hInOddIdeal := hInOddIdeal)
    ∧ quiescent_ReferenceInOddIdeal (hReferenceInOddIdeal := hReferenceInOddIdeal)
    ∧ quiescent_InEven (hInEven := hInEven)
    ∧ quiescent_InEvenIdeal (hInEvenIdeal := hInEvenIdeal)
    ∧ quiescent_ReferenceInEvenIdeal (hReferenceInEvenIdeal := hReferenceInEvenIdeal)
    ∧ quiescent_Sb (hSb := hSb)
    ∧ quiescent_SbIdeal (hSbIdeal := hSbIdeal)
    ∧ quiescent_ReferenceSbIdeal (hReferenceSbIdeal := hReferenceSbIdeal)
    ∧ quiescent_Mod (hMod := hMod)
    ∧ quiescent_ModIdeal (hModIdeal := hModIdeal)
    ∧ quiescent_ReferenceModIdeal (hReferenceModIdeal := hReferenceModIdeal)
    ∧ preserves_Kernel_KernelIdeal
    ∧ algebraic_KernelIdeal_ReferenceIdeal_pre_finite_ones (hKernelIdeal := hKernelIdeal) (hReferenceIdeal := hReferenceIdeal) (hPre_finite_ones := hPre_finite_ones)
    ∧ preserves_PostOdd_PostOddIdeal
    ∧ algebraic_PostOddIdeal_ReferenceOddIdeal (hPostOddIdeal := hPostOddIdeal) (hReferenceOddIdeal := hReferenceOddIdeal)
    ∧ preserves_PostEven_PostEvenIdeal
    ∧ algebraic_PostEvenIdeal_ReferenceEvenIdeal (hPostEvenIdeal := hPostEvenIdeal) (hReferenceEvenIdeal := hReferenceEvenIdeal)
    ∧ preserves_InOdd_InOddIdeal
    ∧ algebraic_InOddIdeal_ReferenceInOddIdeal (hInOddIdeal := hInOddIdeal) (hReferenceInOddIdeal := hReferenceInOddIdeal)
    ∧ preserves_InEven_InEvenIdeal
    ∧ algebraic_InEvenIdeal_ReferenceInEvenIdeal (hInEvenIdeal := hInEvenIdeal) (hReferenceInEvenIdeal := hReferenceInEvenIdeal)
    ∧ preserves_Sb_SbIdeal
    ∧ algebraic_SbIdeal_ReferenceSbIdeal (hSbIdeal := hSbIdeal) (hReferenceSbIdeal := hReferenceSbIdeal)
    ∧ preserves_Mod_ModIdeal
    ∧ algebraic_ModIdeal_ReferenceModIdeal (hModIdeal := hModIdeal) (hReferenceModIdeal := hReferenceModIdeal)
-- ==== Pre_finite_ones.lean ====
abbrev S2x16384x1024 : Shape := ⟨3, ![2, 16384, 1024]⟩
abbrev S8x144x32768 : Shape := ⟨3, ![8, 144, 32768]⟩
abbrev S4x64 : Shape := ⟨2, ![4, 64]⟩
abbrev S128 : Shape := ⟨1, ![128]⟩
abbrev S_ : Shape := ⟨0, ![]⟩
abbrev S8x1x32768 : Shape := ⟨3, ![8, 1, 32768]⟩
abbrev S8x32768 : Shape := ⟨2, ![8, 32768]⟩

class Facts : Prop where
  bitsLt_bf16_f32 : FTy.bits .bf16 < FTy.bits .f32
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S8x144x32768 : S_.BroadcastsInDim S8x144x32768 (![] : Fin 0 → Fin S8x144x32768.rank)
  reducesTo_S8x144x32768_S_d0_1_2 : S8x144x32768.ReducesTo [0, 1, 2] S_
  bcast_S_S4x64 : S_.BroadcastsInDim S4x64 (![] : Fin 0 → Fin S4x64.rank)
  reducesTo_S4x64_S_d0_1 : S4x64.ReducesTo [0, 1] S_
  slices_S8x144x32768_S8x1x32768_0_128_0 : S8x144x32768.Slices ![0, 128, 0] S8x1x32768
  shapeCasts_S8x1x32768_S8x32768 : S8x1x32768.ShapeCasts S8x32768
  bcast_S_S8x32768 : S_.BroadcastsInDim S8x32768 (![] : Fin 0 → Fin S8x32768.rank)
  reducesTo_S8x32768_S_d0_1 : S8x32768.ReducesTo [0, 1] S_

variable [Facts]

def fn_part1 {F : FTy → Type} [FloatOps F] (main_arg2 : FVec F S8x144x32768 .bf16) (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  let main_v22 : FVec F S8x1x32768 .bf16 := (extractStridedSlice S8x1x32768 ![0, 128, 0] · slices_S8x144x32768_S8x1x32768_0_128_0) main_arg2
  let main_v23 : FVec F S8x32768 .bf16 := shapeCast S8x32768 main_v22 shapeCasts_S8x1x32768_S8x32768
  let main_v24 : FVec F S8x32768 .f32 := (extf .f32 · bitsLt_bf16_f32) main_v23
  let main_cst_6 : FVec F S_ .f32 := constant S_ .f32 0x3F800000#32
  let main_v25 : FVec F S8x32768 .f32 := broadcastInDim S8x32768 ![] bcast_S_S8x32768 main_cst_6
  let main_v26 : IVec S8x32768 1 := cmpf .oeq main_v24 main_v25
  let main_c_7 : IVec S_ 1 := constantI S_ 1 1#1
  let main_v27 : IVec S_ 1 := (fun x v => Host.reduce IntOp.andi x v reducesTo_S8x32768_S_d0_1 h_S_) main_v26 main_c_7
  let main_v28 : IVec S_ 1 := andi main_v21 main_v27
  main_v28

def fn {F : FTy → Type} [FloatOps F] (main_arg0 : FVec F S2x16384x1024 .bf16) (main_arg1 : FVec F S2x16384x1024 .bf16) (main_arg2 : FVec F S8x144x32768 .bf16) (main_arg3 : FVec F S4x64 .f32) (main_arg4 : FVec F S128 .f32) : IVec S_ 1 :=
  let main_v0 : FVec F S2x16384x1024 .f32 := (extf .f32 · bitsLt_bf16_f32) main_arg0
  let main_v1 : FVec F S2x16384x1024 .f32 := Host.absf main_v0
  let main_cst : FVec F S_ .f32 := constant S_ .f32 0x7F800000#32
  let main_v2 : FVec F S2x16384x1024 .f32 := broadcastInDim S2x16384x1024 ![] bcast_S_S2x16384x1024 main_cst
  let main_v3 : IVec S2x16384x1024 1 := cmpf .olt main_v1 main_v2
  let main_c : IVec S_ 1 := constantI S_ 1 1#1
  let main_v4 : IVec S_ 1 := (fun x v => Host.reduce IntOp.andi x v reducesTo_S2x16384x1024_S_d0_1_2 h_S_) main_v3 main_c
  let main_v5 : FVec F S2x16384x1024 .f32 := (extf .f32 · bitsLt_bf16_f32) main_arg1
  let main_v6 : FVec F S2x16384x1024 .f32 := Host.absf main_v5
  let main_cst_0 : FVec F S_ .f32 := constant S_ .f32 0x7F800000#32
  let main_v7 : FVec F S2x16384x1024 .f32 := broadcastInDim S2x16384x1024 ![] bcast_S_S2x16384x1024 main_cst_0
  let main_v8 : IVec S2x16384x1024 1 := cmpf .olt main_v6 main_v7
  let main_c_1 : IVec S_ 1 := constantI S_ 1 1#1
  let main_v9 : IVec S_ 1 := (fun x v => Host.reduce IntOp.andi x v reducesTo_S2x16384x1024_S_d0_1_2 h_S_) main_v8 main_c_1
  let main_v10 : IVec S_ 1 := andi main_v4 main_v9
  let main_v11 : FVec F S8x144x32768 .f32 := (extf .f32 · bitsLt_bf16_f32) main_arg2
  let main_v12 : FVec F S8x144x32768 .f32 := Host.absf main_v11
  let main_cst_2 : FVec F S_ .f32 := constant S_ .f32 0x7F800000#32
  let main_v13 : FVec F S8x144x32768 .f32 := broadcastInDim S8x144x32768 ![] bcast_S_S8x144x32768 main_cst_2
  let main_v14 : IVec S8x144x32768 1 := cmpf .olt main_v12 main_v13
  let main_c_3 : IVec S_ 1 := constantI S_ 1 1#1
  let main_v15 : IVec S_ 1 := (fun x v => Host.reduce IntOp.andi x v reducesTo_S8x144x32768_S_d0_1_2 h_S_) main_v14 main_c_3
  let main_v16 : IVec S_ 1 := andi main_v10 main_v15
  let main_v17 : FVec F S4x64 .f32 := Host.absf main_arg3
  fn_part1 (F := F) main_arg2 main_v16 main_v17
-- ==== Kernel.lean ====
abbrev S2x16384x1024 : Shape := ⟨3, ![2, 16384, 1024]⟩
abbrev S8x144x32768 : Shape := ⟨3, ![8, 144, 32768]⟩
abbrev S4x64 : Shape := ⟨2, ![4, 64]⟩
abbrev S128 : Shape := ⟨1, ![128]⟩
abbrev S128x1 : Shape := ⟨2, ![128, 1]⟩
abbrev S1x1024x128 : Shape := ⟨3, ![1, 1024, 128]⟩
abbrev S1x16384x128 : Shape := ⟨3, ![1, 16384, 128]⟩
abbrev S1x144x16384 : Shape := ⟨3, ![1, 144, 16384]⟩
abbrev S2x1024x2048 : Shape := ⟨3, ![2, 1024, 2048]⟩
abbrev S1x128 : Shape := ⟨2, ![1, 128]⟩
abbrev S1024x128 : Shape := ⟨2, ![1024, 128]⟩
abbrev S2048x128 : Shape := ⟨2, ![2048, 128]⟩
abbrev S1024x2048 : Shape := ⟨2, ![1024, 2048]⟩
abbrev S1x1024x2048 : Shape := ⟨3, ![1, 1024, 2048]⟩
abbrev S1x2048 : Shape := ⟨2, ![1, 2048]⟩
abbrev S144x2048 : Shape := ⟨2, ![144, 2048]⟩
abbrev S1024x1024 : Shape := ⟨2, ![1024, 1024]⟩
abbrev S1x144x1024 : Shape := ⟨3, ![1, 144, 1024]⟩
abbrev S144x1024 : Shape := ⟨2, ![144, 1024]⟩
abbrev S2048 : Shape := ⟨1, ![2048]⟩
abbrev S1x512x2048 : Shape := ⟨3, ![1, 512, 2048]⟩
abbrev S512x2048 : Shape := ⟨2, ![512, 2048]⟩
abbrev S1x144x512 : Shape := ⟨3, ![1, 144, 512]⟩
abbrev S144x512 : Shape := ⟨2, ![144, 512]⟩
abbrev S1x64 : Shape := ⟨2, ![1, 64]⟩
abbrev S1 : Shape := ⟨1, ![1]⟩
abbrev S1x1 : Shape := ⟨2, ![1, 1]⟩
abbrev S128x2048 : Shape := ⟨2, ![128, 2048]⟩
abbrev S128x1024 : Shape := ⟨2, ![128, 1024]⟩
abbrev S1x1024 : Shape := ⟨2, ![1, 1024]⟩
abbrev S1024 : Shape := ⟨1, ![1024]⟩

abbrev nBuf : Space → Nat
  | .hbm => 7
  | .vmem => 9
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S8x144x32768, .bf16⟩
  | .hbm, ⟨3, _⟩ => ⟨S4x64, .f32⟩
  | .hbm, ⟨4, _⟩ => ⟨S128, .f32⟩
  | .hbm, ⟨5, _⟩ => ⟨S128x1, .f32⟩
  | .hbm, ⟨6, _⟩ => ⟨S2x16384x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x16384x128, .bf16⟩
  | .local _ .vmem, ⟨3, _⟩ => ⟨S1x144x16384, .bf16⟩
  | .local _ .vmem, ⟨4, _⟩ => ⟨S4x64, .f32⟩
  | .local _ .vmem, ⟨5, _⟩ => ⟨S128x1, .f32⟩
  | .local _ .vmem, ⟨6, _⟩ => ⟨S1x1024x128, .bf16⟩
  | .local _ .vmem, ⟨7, _⟩ => ⟨S1x1024x128, .bf16⟩
  | .local _ .vmem, ⟨8, _⟩ => ⟨S2x1024x2048, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c1024_i32_8 : BitVec 32 := 1024#32
  let v33 : BitVec 32 := Scalar.muli v32 c1024_i32_8
  v33
def k0_off1 (i : grid0.Coords) : Fin 3 → Nat :=
  let c0_9 : Index := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c1024_i32_8 : BitVec 32 := 1024#32
  let v33 : BitVec 32 := Scalar.muli v32 c1024_i32_8
  let v34 : BitVec 32 := v33
  let v35 : Index := Scalar.indexCast v34
  let c0_10 : Index := 0#32
  ![0, v35.toNat, 0]
def k0_mult2 : BitVec 32 :=
  let c0_i32_16 : BitVec 32 := 0#32
  c0_i32_16
def k0_mult3 (i : grid0.Coords) : BitVec 32 :=
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c1024_i32_27 : BitVec 32 := 1024#32
  let v60 : BitVec 32 := Scalar.muli v32 c1024_i32_27
  v60
def k0_off2 (i : grid0.Coords) : Fin 3 → Nat :=
  let c0_28 : Index := 0#32
  let c0_29 : Index := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c1024_i32_27 : BitVec 32 := 1024#32
  let v60 : BitVec 32 := Scalar.muli v32 c1024_i32_27
  let v61 : BitVec 32 := v60
  let v62 : Index := Scalar.indexCast v61
  ![0, 0, v62.toNat]
@[reducible] def k0_t1_loop (i : grid0.Coords) : Scf.Loop 32 :=
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_40 : BitVec 32 := 1#32
  ⟨c0_i32_38, v99, c1_i32_40⟩
def k0_mult4 (i : grid0.Coords) (k0_t1 : Fin (k0_t1_loop i).trips) : BitVec 32 :=
  let c2_i32_64 : BitVec 32 := 2#32
  let c0_i32_38 : BitVec 32 := 0#32
  let c1_i32_40 : BitVec 32 := 1#32
  let arg10 : BitVec 32 := Scf.iv c0_i32_38 c1_i32_40 k0_t1
  let v166 : BitVec 32 := Scalar.muli c2_i32_64 arg10
  let c1_i32_65 : BitVec 32 := 1#32
  let v167 : BitVec 32 := Scalar.addi v166 c1_i32_65
  let c1024_i32_66 : BitVec 32 := 1024#32
  let v168 : BitVec 32 := Scalar.muli v167 c1024_i32_66
  v168
def k0_off3 (i : grid0.Coords) (k0_t1 : Fin (k0_t1_loop i).trips) (c1_i32_65 : BitVec 32) : Fin 3 → Nat :=
  let c0_67 : Index := 0#32
  let c2_i32_64 : BitVec 32 := 2#32
  let c0_i32_38 : BitVec 32 := 0#32
  let c1_i32_40 : BitVec 32 := 1#32
  let arg10 : BitVec 32 := Scf.iv c0_i32_38 c1_i32_40 k0_t1
  let v166 : BitVec 32 := Scalar.muli c2_i32_64 arg10
  let v167 : BitVec 32 := Scalar.addi v166 c1_i32_65
  let c1024_i32_66 : BitVec 32 := 1024#32
  let v168 : BitVec 32 := Scalar.muli v167 c1024_i32_66
  let v169 : BitVec 32 := v168
  let v170 : Index := Scalar.indexCast v169
  let c0_68 : Index := 0#32
  ![0, v170.toNat, 0]
def k0_mult5 (i : grid0.Coords) (k0_t1 : Fin (k0_t1_loop i).trips) : BitVec 32 :=
  let c2_i32_73 : BitVec 32 := 2#32
  let c0_i32_38 : BitVec 32 := 0#32
  let c1_i32_40 : BitVec 32 := 1#32
  let arg10 : BitVec 32 := Scf.iv c0_i32_38 c1_i32_40 k0_t1
  let v177 : BitVec 32 := Scalar.muli c2_i32_73 arg10
  let c1024_i32_84 : BitVec 32 := 1024#32
  let v198 : BitVec 32 := Scalar.muli v177 c1024_i32_84
  let c0_i32_85 : BitVec 32 := 0#32
  let v199 : BitVec 32 := Scalar.addi v198 c0_i32_85
  v199
def k0_off4 (i : grid0.Coords) (k0_t1 : Fin (k0_t1_loop i).trips) (c0_i32_85 : BitVec 32) : Fin 3 → Nat :=
  let c0_86 : Index := 0#32
  let c0_87 : Index := 0#32
  let c2_i32_73 : BitVec 32 := 2#32
  let c0_i32_38 : BitVec 32 := 0#32
  let c1_i32_40 : BitVec 32 := 1#32
  let arg10 : BitVec 32 := Scf.iv c0_i32_38 c1_i32_40 k0_t1
  let v177 : BitVec 32 := Scalar.muli c2_i32_73 arg10
  let c1024_i32_84 : BitVec 32 := 1024#32
  let v198 : BitVec 32 := Scalar.muli v177 c1024_i32_84
  let v199 : BitVec 32 := Scalar.addi v198 c0_i32_85
  let v200 : BitVec 32 := v199
  let v201 : Index := Scalar.indexCast v200
  ![0, 0, v201.toNat]
def k0_mult6 (i : grid0.Coords) (k0_t1 : Fin (k0_t1_loop i).trips) : BitVec 32 :=
  let c2_i32_73 : BitVec 32 := 2#32
  let c0_i32_38 : BitVec 32 := 0#32
  let c1_i32_40 : BitVec 32 := 1#32
  let arg10 : BitVec 32 := Scf.iv c0_i32_38 c1_i32_40 k0_t1
  let v177 : BitVec 32 := Scalar.muli c2_i32_73 arg10
  let c1024_i32_92 : BitVec 32 := 1024#32
  let v212 : BitVec 32 := Scalar.muli v177 c1024_i32_92
  let c512_i32 : BitVec 32 := 512#32
  let v213 : BitVec 32 := Scalar.addi v212 c512_i32
  v213
def k0_mult7 (i : grid0.Coords) (k0_t1 : Fin (k0_t1_loop i).trips) : BitVec 32 :=
  let c2_i32_96 : BitVec 32 := 2#32
  let c0_i32_38 : BitVec 32 := 0#32
  let c1_i32_40 : BitVec 32 := 1#32
  let arg10 : BitVec 32 := Scf.iv c0_i32_38 c1_i32_40 k0_t1
  let v220 : BitVec 32 := Scalar.muli c2_i32_96 arg10
  let c2_i32_97 : BitVec 32 := 2#32
  let v221 : BitVec 32 := Scalar.addi v220 c2_i32_97
  let c1024_i32_98 : BitVec 32 := 1024#32
  let v222 : BitVec 32 := Scalar.muli v221 c1024_i32_98
  v222
def k0_mult8 (i : grid0.Coords) (k0_t1 : Fin (k0_t1_loop i).trips) : BitVec 32 :=
  let c2_i32_105 : BitVec 32 := 2#32
  let c0_i32_38 : BitVec 32 := 0#32
  let c1_i32_40 : BitVec 32 := 1#32
  let arg10 : BitVec 32 := Scf.iv c0_i32_38 c1_i32_40 k0_t1
  let v231 : BitVec 32 := Scalar.muli c2_i32_105 arg10
  let c1_i32_106 : BitVec 32 := 1#32
  let v232 : BitVec 32 := Scalar.addi v231 c1_i32_106
  let c1024_i32_118 : BitVec 32 := 1024#32
  let v253 : BitVec 32 := Scalar.muli v232 c1024_i32_118
  let c0_i32_119 : BitVec 32 := 0#32
  let v254 : BitVec 32 := Scalar.addi v253 c0_i32_119
  v254
def k0_off5 (i : grid0.Coords) (k0_t1 : Fin (k0_t1_loop i).trips) (c0_i32_119 : BitVec 32) : Fin 3 → Nat :=
  let c0_120 : Index := 0#32
  let c0_121 : Index := 0#32
  let c2_i32_105 : BitVec 32 := 2#32
  let c0_i32_38 : BitVec 32 := 0#32
  let c1_i32_40 : BitVec 32 := 1#32
  let arg10 : BitVec 32 := Scf.iv c0_i32_38 c1_i32_40 k0_t1
  let v231 : BitVec 32 := Scalar.muli c2_i32_105 arg10
  let c1_i32_106 : BitVec 32 := 1#32
  let v232 : BitVec 32 := Scalar.addi v231 c1_i32_106
  let c1024_i32_118 : BitVec 32 := 1024#32
  let v253 : BitVec 32 := Scalar.muli v232 c1024_i32_118
  let v254 : BitVec 32 := Scalar.addi v253 c0_i32_119
  let v255 : BitVec 32 := v254
  let v256 : Index := Scalar.indexCast v255
  ![0, 0, v256.toNat]
def k0_mult9 (i : grid0.Coords) (k0_t1 : Fin (k0_t1_loop i).trips) : BitVec 32 :=
  let c2_i32_105 : BitVec 32 := 2#32
  let c0_i32_38 : BitVec 32 := 0#32
  let c1_i32_40 : BitVec 32 := 1#32
  let arg10 : BitVec 32 := Scf.iv c0_i32_38 c1_i32_40 k0_t1
  let v231 : BitVec 32 := Scalar.muli c2_i32_105 arg10
  let c1_i32_106 : BitVec 32 := 1#32
  let v232 : BitVec 32 := Scalar.addi v231 c1_i32_106
  let c1024_i32_126 : BitVec 32 := 1024#32
  let v267 : BitVec 32 := Scalar.muli v232 c1024_i32_126
  let c512_i32_127 : BitVec 32 := 512#32
  let v268 : BitVec 32 := Scalar.addi v267 c512_i32_127
  v268
@[reducible] def k0_t2_loop (i : grid0.Coords) : Scf.Loop 32 :=
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let v96 : BitVec 32 := Scalar.addi c0_i32_38 v95
  let c1_i32_41 : BitVec 32 := 1#32
  ⟨v99, v96, c1_i32_41⟩
def k0_mult10 (i : grid0.Coords) (k0_t2 : Fin (k0_t2_loop i).trips) : BitVec 32 :=
  let c2_i32_64 : BitVec 32 := 2#32
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg10 : BitVec 32 := Scf.iv v99 c1_i32_41 k0_t2
  let v166 : BitVec 32 := Scalar.muli c2_i32_64 arg10
  let c1_i32_65 : BitVec 32 := 1#32
  let v167 : BitVec 32 := Scalar.addi v166 c1_i32_65
  let c1024_i32_66 : BitVec 32 := 1024#32
  let v168 : BitVec 32 := Scalar.muli v167 c1024_i32_66
  v168
def k0_off6 (i : grid0.Coords) (k0_t2 : Fin (k0_t2_loop i).trips) (c1_i32_65 : BitVec 32) : Fin 3 → Nat :=
  let c0_67 : Index := 0#32
  let c2_i32_64 : BitVec 32 := 2#32
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg10 : BitVec 32 := Scf.iv v99 c1_i32_41 k0_t2
  let v166 : BitVec 32 := Scalar.muli c2_i32_64 arg10
  let v167 : BitVec 32 := Scalar.addi v166 c1_i32_65
  let c1024_i32_66 : BitVec 32 := 1024#32
  let v168 : BitVec 32 := Scalar.muli v167 c1024_i32_66
  let v169 : BitVec 32 := v168
  let v170 : Index := Scalar.indexCast v169
  let c0_68 : Index := 0#32
  ![0, v170.toNat, 0]
def k0_mult11 (i : grid0.Coords) (k0_t2 : Fin (k0_t2_loop i).trips) : BitVec 32 :=
  let c2_i32_73 : BitVec 32 := 2#32
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg10 : BitVec 32 := Scf.iv v99 c1_i32_41 k0_t2
  let v177 : BitVec 32 := Scalar.muli c2_i32_73 arg10
  let c1024_i32_84 : BitVec 32 := 1024#32
  let v198 : BitVec 32 := Scalar.muli v177 c1024_i32_84
  let c0_i32_85 : BitVec 32 := 0#32
  let v199 : BitVec 32 := Scalar.addi v198 c0_i32_85
  v199
def k0_off7 (i : grid0.Coords) (k0_t2 : Fin (k0_t2_loop i).trips) (c0_i32_85 : BitVec 32) : Fin 3 → Nat :=
  let c0_86 : Index := 0#32
  let c0_87 : Index := 0#32
  let c2_i32_73 : BitVec 32 := 2#32
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg10 : BitVec 32 := Scf.iv v99 c1_i32_41 k0_t2
  let v177 : BitVec 32 := Scalar.muli c2_i32_73 arg10
  let c1024_i32_84 : BitVec 32 := 1024#32
  let v198 : BitVec 32 := Scalar.muli v177 c1024_i32_84
  let v199 : BitVec 32 := Scalar.addi v198 c0_i32_85
  let v200 : BitVec 32 := v199
  let v201 : Index := Scalar.indexCast v200
  ![0, 0, v201.toNat]
def k0_mult12 (i : grid0.Coords) (k0_t2 : Fin (k0_t2_loop i).trips) : BitVec 32 :=
  let c2_i32_73 : BitVec 32 := 2#32
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg10 : BitVec 32 := Scf.iv v99 c1_i32_41 k0_t2
  let v177 : BitVec 32 := Scalar.muli c2_i32_73 arg10
  let c1024_i32_92 : BitVec 32 := 1024#32
  let v212 : BitVec 32 := Scalar.muli v177 c1024_i32_92
  let c512_i32 : BitVec 32 := 512#32
  let v213 : BitVec 32 := Scalar.addi v212 c512_i32
  v213
def k0_mult13 (i : grid0.Coords) (k0_t2 : Fin (k0_t2_loop i).trips) : BitVec 32 :=
  let c2_i32_96 : BitVec 32 := 2#32
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg10 : BitVec 32 := Scf.iv v99 c1_i32_41 k0_t2
  let v220 : BitVec 32 := Scalar.muli c2_i32_96 arg10
  let c2_i32_97 : BitVec 32 := 2#32
  let v221 : BitVec 32 := Scalar.addi v220 c2_i32_97
  let c1024_i32_98 : BitVec 32 := 1024#32
  let v222 : BitVec 32 := Scalar.muli v221 c1024_i32_98
  v222
def k0_mult14 (i : grid0.Coords) (k0_t2 : Fin (k0_t2_loop i).trips) : BitVec 32 :=
  let c2_i32_105 : BitVec 32 := 2#32
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg10 : BitVec 32 := Scf.iv v99 c1_i32_41 k0_t2
  let v231 : BitVec 32 := Scalar.muli c2_i32_105 arg10
  let c1_i32_106 : BitVec 32 := 1#32
  let v232 : BitVec 32 := Scalar.addi v231 c1_i32_106
  let c1024_i32_118 : BitVec 32 := 1024#32
  let v253 : BitVec 32 := Scalar.muli v232 c1024_i32_118
  let c0_i32_119 : BitVec 32 := 0#32
  let v254 : BitVec 32 := Scalar.addi v253 c0_i32_119
  v254
def k0_off8 (i : grid0.Coords) (k0_t2 : Fin (k0_t2_loop i).trips) (c0_i32_119 : BitVec 32) : Fin 3 → Nat :=
  let c0_120 : Index := 0#32
  let c0_121 : Index := 0#32
  let c2_i32_105 : BitVec 32 := 2#32
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg10 : BitVec 32 := Scf.iv v99 c1_i32_41 k0_t2
  let v231 : BitVec 32 := Scalar.muli c2_i32_105 arg10
  let c1_i32_106 : BitVec 32 := 1#32
  let v232 : BitVec 32 := Scalar.addi v231 c1_i32_106
  let c1024_i32_118 : BitVec 32 := 1024#32
  let v253 : BitVec 32 := Scalar.muli v232 c1024_i32_118
  let v254 : BitVec 32 := Scalar.addi v253 c0_i32_119
  let v255 : BitVec 32 := v254
  let v256 : Index := Scalar.indexCast v255
  ![0, 0, v256.toNat]
def k0_mult15 (i : grid0.Coords) (k0_t2 : Fin (k0_t2_loop i).trips) : BitVec 32 :=
  let c2_i32_105 : BitVec 32 := 2#32
  let c0_i32_38 : BitVec 32 := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c0_i32_32 : BitVec 32 := 0#32
  let v79 : BitVec 1 := Scalar.cmpi .sgt v32 c0_i32_32
  let v80 : BitVec 32 := Scalar.extui v79
  let c0_i32_33 : BitVec 32 := 0#32
  let v81 : BitVec 1 := Scalar.cmpi .slt v32 c0_i32_33
  let v82 : BitVec 32 := Scalar.extui v81
  let v83 : BitVec 32 := Scalar.subi v80 v82
  let c2_i32 : BitVec 32 := 2#32
  let c0_i32_34 : BitVec 32 := 0#32
  let v84 : BitVec 1 := Scalar.cmpi .sgt c2_i32 c0_i32_34
  let v85 : BitVec 32 := Scalar.extui v84
  let c0_i32_35 : BitVec 32 := 0#32
  let v86 : BitVec 1 := Scalar.cmpi .slt c2_i32 c0_i32_35
  let v87 : BitVec 32 := Scalar.extui v86
  let v88 : BitVec 32 := Scalar.subi v85 v87
  let v89 : BitVec 1 := Scalar.cmpi .ne v83 v88
  let v90 : BitVec 32 := Scalar.remsi v32 c2_i32
  let c0_i32_36 : BitVec 32 := 0#32
  let v91 : BitVec 1 := Scalar.cmpi .ne v90 c0_i32_36
  let v92 : BitVec 1 := Scalar.andi v89 v91
  let v78 : BitVec 32 := Scalar.divsi v32 c2_i32
  let c1_i32_37 : BitVec 32 := 1#32
  let v93 : BitVec 32 := Scalar.subi v78 c1_i32_37
  let v94 : BitVec 32 := Scalar.select v92 v93 v78
  let v95 : BitVec 32 := Scalar.subi v94 c0_i32_38
  let c1_i32_39 : BitVec 32 := 1#32
  let v97 : BitVec 32 := Scalar.divsi v95 c1_i32_39
  let v98 : BitVec 32 := Scalar.muli v97 c1_i32_39
  let v99 : BitVec 32 := Scalar.addi c0_i32_38 v98
  let c1_i32_41 : BitVec 32 := 1#32
  let arg10 : BitVec 32 := Scf.iv v99 c1_i32_41 k0_t2
  let v231 : BitVec 32 := Scalar.muli c2_i32_105 arg10
  let c1_i32_106 : BitVec 32 := 1#32
  let v232 : BitVec 32 := Scalar.addi v231 c1_i32_106
  let c1024_i32_126 : BitVec 32 := 1024#32
  let v267 : BitVec 32 := Scalar.muli v232 c1024_i32_126
  let c512_i32_127 : BitVec 32 := 512#32
  let v268 : BitVec 32 := Scalar.addi v267 c512_i32_127
  v268
def k0_cond1 (i : grid0.Coords) : BitVec 1 :=
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c2_i32_42 : BitVec 32 := 2#32
  let c0_i32_43 : BitVec 32 := 0#32
  let v102 : BitVec 1 := Scalar.cmpi .eq c2_i32_42 c0_i32_43
  let c1_i32_44 : BitVec 32 := 1#32
  let v103 : BitVec 32 := Scalar.select v102 c1_i32_44 c2_i32_42
  let v104 : BitVec 32 := Scalar.remsi v32 v103
  let c0_i32_46 : BitVec 32 := 0#32
  let v106 : BitVec 1 := Scalar.cmpi .slt v104 c0_i32_46
  let c0_i32_47 : BitVec 32 := 0#32
  let v107 : BitVec 1 := Scalar.cmpi .slt v103 c0_i32_47
  let v108 : BitVec 1 := Scalar.xori v106 v107
  let c0_i32_45 : BitVec 32 := 0#32
  let v105 : BitVec 1 := Scalar.cmpi .ne v104 c0_i32_45
  let v109 : BitVec 1 := Scalar.andi v108 v105
  let v110 : BitVec 32 := Scalar.addi v104 v103
  let v111 : BitVec 32 := Scalar.select v109 v110 v104
  let c1_i32_48 : BitVec 32 := 1#32
  let v112 : BitVec 1 := Scalar.cmpi .eq v111 c1_i32_48
  let v113 : BitVec 32 := Scalar.extui v112
  let c0_i32_49 : BitVec 32 := 0#32
  let v114 : BitVec 1 := Scalar.cmpi .ne v113 c0_i32_49
  v114

def k0_mult16 (i : grid0.Coords) : BitVec 32 :=
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c1_i32_64 : BitVec 32 := 1#32
  let v166 : BitVec 32 := Scalar.subi v32 c1_i32_64
  let c1024_i32_75 : BitVec 32 := 1024#32
  let v187 : BitVec 32 := Scalar.muli v166 c1024_i32_75
  let c0_i32_76 : BitVec 32 := 0#32
  let v188 : BitVec 32 := Scalar.addi v187 c0_i32_76
  v188
def k0_off9 (i : grid0.Coords) (c0_i32_76 : BitVec 32) : Fin 3 → Nat :=
  let c0_77 : Index := 0#32
  let c0_78 : Index := 0#32
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c1_i32_64 : BitVec 32 := 1#32
  let v166 : BitVec 32 := Scalar.subi v32 c1_i32_64
  let c1024_i32_75 : BitVec 32 := 1024#32
  let v187 : BitVec 32 := Scalar.muli v166 c1024_i32_75
  let v188 : BitVec 32 := Scalar.addi v187 c0_i32_76
  let v189 : BitVec 32 := v188
  let v190 : Index := Scalar.indexCast v189
  ![0, 0, v190.toNat]
def k0_mult17 (i : grid0.Coords) : BitVec 32 :=
  let arg2 : BitVec 32 := BitVec.ofNat 32 (i 2).val
  let c1024_i32 : BitVec 32 := 1024#32
  let v15 : BitVec 32 := Scalar.muli arg2 c1024_i32
  let c0_i32 : BitVec 32 := 0#32
  let v17 : BitVec 1 := Scalar.cmpi .sgt v15 c0_i32
  let v18 : BitVec 32 := Scalar.extui v17
  let c0_i32_4 : BitVec 32 := 0#32
  let v19 : BitVec 1 := Scalar.cmpi .slt v15 c0_i32_4
  let v20 : BitVec 32 := Scalar.extui v19
  let v21 : BitVec 32 := Scalar.subi v18 v20
  let c1024_i32_3 : BitVec 32 := 1024#32
  let c0_i32_5 : BitVec 32 := 0#32
  let v22 : BitVec 1 := Scalar.cmpi .sgt c1024_i32_3 c0_i32_5
  let v23 : BitVec 32 := Scalar.extui v22
  let c0_i32_6 : BitVec 32 := 0#32
  let v24 : BitVec 1 := Scalar.cmpi .slt c1024_i32_3 c0_i32_6
  let v25 : BitVec 32 := Scalar.extui v24
  let v26 : BitVec 32 := Scalar.subi v23 v25
  let v27 : BitVec 1 := Scalar.cmpi .ne v21 v26
  let v28 : BitVec 32 := Scalar.remsi v15 c1024_i32_3
  let c0_i32_7 : BitVec 32 := 0#32
  let v29 : BitVec 1 := Scalar.cmpi .ne v28 c0_i32_7
  let v30 : BitVec 1 := Scalar.andi v27 v29
  let v16 : BitVec 32 := Scalar.divsi v15 c1024_i32_3
  let c1_i32 : BitVec 32 := 1#32
  let v31 : BitVec 32 := Scalar.subi v16 c1_i32
  let v32 : BitVec 32 := Scalar.select v30 v31 v16
  let c1_i32_64 : BitVec 32 := 1#32
  let v166 : BitVec 32 := Scalar.subi v32 c1_i32_64
  let c1024_i32_83 : BitVec 32 := 1024#32
  let v201 : BitVec 32 := Scalar.muli v166 c1024_i32_83
  let c512_i32 : BitVec 32 := 512#32
  let v202 : BitVec 32 := Scalar.addi v201 c512_i32
  v202
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x144x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x1024 : Shape := ⟨3, ![2, 16384, 1024]⟩
abbrev S8x144x32768 : Shape := ⟨3, ![8, 144, 32768]⟩
abbrev S4x64 : Shape := ⟨2, ![4, 64]⟩
abbrev S128 : Shape := ⟨1, ![128]⟩
abbrev S2x16384x8x2x64 : Shape := ⟨5, ![2, 16384, 8, 2, 64]⟩
abbrev S8x128x32768 : Shape := ⟨3, ![8, 128, 32768]⟩
abbrev S8x128x2x16384 : Shape := ⟨4, ![8, 128, 2, 16384]⟩
abbrev S2x16384x8x128 : Shape := ⟨4, ![2, 16384, 8, 128]⟩
abbrev S1x64 : Shape := ⟨2, ![1, 64]⟩
abbrev S64 : Shape := ⟨1, ![64]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x2x16384x16384 : Shape := ⟨5, ![2, 8, 2, 16384, 16384]⟩
abbrev S2x8x2x16384 : Shape := ⟨4, ![2, 8, 2, 16384]⟩
abbrev S2x8x2x16384x1 : Shape := ⟨5, ![2, 8, 2, 16384, 1]⟩
abbrev S2x8x1x16384x16384 : Shape := ⟨5, ![2, 8, 1, 16384, 16384]⟩
abbrev S2x8x16384x16384 : Shape := ⟨4, ![2, 8, 16384, 16384]⟩
abbrev S2x8x128x16384 : Shape := ⟨4, ![2, 8, 128, 16384]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x1024, .bf16⟩
  | .hbm, ⟨2, _⟩ => ⟨S8x144x32768, .bf16⟩
  | .hbm, ⟨3, _⟩ => ⟨S4x64, .f32⟩
  | .hbm, ⟨4, _⟩ => ⟨S128, .f32⟩
  | .hbm, ⟨5, _⟩ => ⟨S2x16384x1024, .f32⟩
  | .hbm, ⟨6, _⟩ => ⟨S2x16384x8x2x64, .f32⟩
  | .hbm, ⟨7, _⟩ => ⟨S2x16384x1024, .f32⟩
  | .hbm, ⟨8, _⟩ => ⟨S2x16384x8x2x64, .f32⟩
  | .hbm, ⟨9, _⟩ => ⟨S8x128x32768, .bf16⟩
  | .hbm, ⟨10, _⟩ => ⟨S8x128x32768, .f32⟩
  | .hbm, ⟨11, _⟩ => ⟨S8x128x2x16384, .f32⟩
  | .hbm, ⟨12, _⟩ => ⟨S2x16384x8x128, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16384, .i32⟩
  | .hbm, ⟨33, _⟩ => ⟨S1x16384, .i32⟩
  | .hbm, ⟨34, _⟩ => ⟨S16384x1, .i32⟩
  | .hbm, ⟨35, _⟩ => ⟨S16384x16384, .i32⟩
  | .hbm, ⟨36, _⟩ => ⟨S16384x16384, .i32⟩
  | .hbm, ⟨37, _⟩ => ⟨S16384x16384, .i1⟩
  | .hbm, ⟨38, _⟩ => ⟨S2x8x2x16384x16384, .f32⟩
  | .hbm, ⟨39, _⟩ => ⟨S_, .f32⟩
  | .hbm, ⟨40, _⟩ => ⟨S_, .f32⟩
  | .hbm, ⟨41, _⟩ => ⟨S2x8x2x16384x16384, .i1⟩
  | .hbm, ⟨42, _⟩ => ⟨S2x8x2x16384x16384, .f32⟩
  | .hbm, ⟨43, _⟩ => ⟨S2x8x2x16384x16384, .f32⟩
  | .hbm, ⟨44, _⟩ => ⟨S_, .f32⟩
  | .hbm, ⟨45, _⟩ => ⟨S2x8x2x16384, .f32⟩
  | .hbm, ⟨46, _⟩ => ⟨S_, .f32⟩
  | .hbm, ⟨47, _⟩ => ⟨S2x8x2x16384, .f32⟩
  | .hbm, ⟨48, _⟩ => ⟨S2x8x2x16384, .f32⟩
  | .hbm, ⟨49, _⟩ => ⟨S2x8x2x16384x1, .f32⟩
  | .hbm, ⟨50, _⟩ => ⟨S2x8x2x16384x16384, .f32⟩
  | .hbm, ⟨51, _⟩ => ⟨S2x8x2x16384x16384, .f32⟩
  | .hbm, ⟨52, _⟩ => ⟨S2x8x2x16384x16384, .f32⟩
  | .hbm, ⟨53, _⟩ => ⟨S_, .f32⟩
  | .hbm, ⟨54, _⟩ => ⟨S2x8x2x16384, .f32⟩
  | .hbm, ⟨55, _⟩ => ⟨S2x8x2x16384x1, .f32⟩
  | .hbm, ⟨56, _⟩ => ⟨S2x8x2x16384x16384, .f32⟩
  | .hbm, ⟨57, _⟩ => ⟨S2x8x2x16384x16384, .f32⟩
  | .hbm, ⟨58, _⟩ => ⟨S2x8x1x16384x16384, .f32⟩
  | .hbm, ⟨59, _⟩ => ⟨S2x8x16384x16384, .f32⟩
  | .hbm, ⟨60, _⟩ => ⟨S2x8x1x16384x16384, .f32⟩
  | .hbm, ⟨61, _⟩ => ⟨S2x8x16384x16384, .f32⟩
  | .hbm, ⟨62, _⟩ => ⟨S2x8x16384x16384, .f32⟩
  | .hbm, ⟨63, _⟩ => ⟨S2x8x16384x16384, .f32⟩
  | .hbm, ⟨64, _⟩ => ⟨S2x8x16384x16384, .f32⟩
  | .hbm, ⟨65, _⟩ => ⟨S2x8x128x16384, .f32⟩
  | .hbm, ⟨66, _⟩ => ⟨S2x16384x8x128, .f32⟩
  | .hbm, ⟨67, _⟩ => ⟨S2x16384x8x128, .f32⟩
  | .hbm, ⟨68, _⟩ => ⟨S_, .f32⟩
  | .hbm, ⟨69, _⟩ => ⟨S2x16384x8, .f32⟩
  | .hbm, ⟨70, _⟩ => ⟨S2x16384x8x1, .f32⟩
  | .hbm, ⟨71, _⟩ => ⟨S_, .f32⟩
  | .hbm, ⟨72, _⟩ => ⟨S2x16384x8x1, .f32⟩
  | .hbm, ⟨73, _⟩ => ⟨S2x16384x8x1, .f32⟩
  | .hbm, ⟨74, _⟩ => ⟨S_, .f32⟩
  | .hbm, ⟨75, _⟩ => ⟨S2x16384x8x1, .f32⟩
  | .hbm, ⟨76, _⟩ => ⟨S2x16384x8x1, .f32⟩
  | .hbm, ⟨77, _⟩ => ⟨S2x16384x8x1, .f32⟩
  | .hbm, ⟨78, _⟩ => ⟨S2x16384x8x128, .f32⟩
  | .hbm, ⟨79, _⟩ => ⟨S2x16384x8x128, .f32⟩
  | .hbm, ⟨80, _⟩ => ⟨S1x1x1x128, .f32⟩
  | .hbm, ⟨81, _⟩ => ⟨S2x16384x8x128, .f32⟩
  | .hbm, ⟨82, _⟩ => ⟨S2x16384x8x128, .f32⟩
  | .hbm, ⟨83, _⟩ => ⟨S_, .f32⟩
  | .hbm, ⟨84, _⟩ => ⟨S2x16384x8x128, .f32⟩
  | .hbm, ⟨85, _⟩ => ⟨S2x16384x8x128, .f32⟩
  | .hbm, ⟨86, _⟩ => ⟨S2x16384x1024, .f32⟩
  | .hbm, ⟨87, _⟩ => ⟨S2x16384x1024, .bf16⟩
  | _, _ => ⟨S2x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== PostOdd.lean ====
abbrev S32768x1024 : Shape := ⟨2, ![32768, 1024]⟩
abbrev S1024x1024 : Shape := ⟨2, ![1024, 1024]⟩
abbrev S2x6x1024 : Shape := ⟨3, ![2, 6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 16
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S2x6x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceOddIdeal.lean ====
abbrev S32768x1024 : Shape := ⟨2, ![32768, 1024]⟩
abbrev S1024x1024 : Shape := ⟨2, ![1024, 1024]⟩
abbrev S2x6x1024 : Shape := ⟨3, ![2, 6, 1024]⟩
abbrev S1024 : Shape := ⟨1, ![1024]⟩
abbrev S1024x2816 : Shape := ⟨2, ![1024, 2816]⟩
abbrev S2816x1024 : Shape := ⟨2, ![2816, 1024]⟩
abbrev S2x16384x1024 : Shape := ⟨3, ![2, 16384, 1024]⟩
abbrev S2x1x1024 : Shape := ⟨3, ![2, 1, 1024]⟩
abbrev S2x1024 : Shape := ⟨2, ![2, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩

abbrev nBuf : Space → Nat
  | .hbm => 128
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S2x6x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1024, .f32⟩
  | .hbm, ⟨10, _⟩ => ⟨S1024, .f32⟩
  | .hbm, ⟨11, _⟩ => ⟨S2x16384x1024, .f32⟩
  | .hbm, ⟨12, _⟩ => ⟨S2x16384x1024, .bf16⟩
  | .hbm, ⟨13, _⟩ => ⟨S2x16384x1024, .f32⟩
  | .hbm, ⟨14, _⟩ => ⟨S1024x1024, .f32⟩
  | .hbm, ⟨15, _⟩ => ⟨S1024x2816, .f32⟩
  | .hbm, ⟨16, _⟩ => ⟨S1024x2816, .f32⟩
  | .hbm, ⟨17, _⟩ => ⟨S2816x1024, .f32⟩
  | .hbm, ⟨18, _⟩ => ⟨S2x1x1024, .f32⟩
  | .hbm, ⟨19, _⟩ => ⟨S2x1024, .f32⟩
  | .hbm, ⟨20, _⟩ => ⟨S2x1x1024, .f32⟩
  | .hbm, ⟨21, _⟩ => ⟨S2x1x1024, .f32⟩
  | .hbm, ⟨22, _⟩ => ⟨S2x1024, .f32⟩
  | .hbm, ⟨23, _⟩ => ⟨S2x1x1024, .f32⟩
  | .hbm, ⟨24, _⟩ => ⟨S2x1x1024, .f32⟩
  | .hbm, ⟨25, _⟩ => ⟨S2x1024, .f32⟩
  | .hbm, ⟨26, _⟩ => ⟨S2x1x1024, .f32⟩
  | .hbm, ⟨27, _⟩ => ⟨S2x1x1024, .f32⟩
  | .hbm, ⟨28, _⟩ => ⟨S2x1024, .f32⟩
  | .hbm, ⟨29, _⟩ => ⟨S2x1x1024, .f32⟩
  | .hbm, ⟨30, _⟩ => ⟨S_, .f32⟩
  | .hbm, ⟨31, _⟩ => ⟨S2x16384x1024, .f32⟩
  | .hbm, ⟨32, _⟩ => ⟨S2x16384x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1024, .f32⟩
  | .hbm, ⟨47, _⟩ => ⟨S2x16384x1024, .f32⟩
  | .hbm, ⟨48, _⟩ => ⟨S2x16384x1024, .f32⟩
  | .hbm, ⟨49, _⟩ => ⟨S_, .f32⟩
  | .hbm, ⟨50, _⟩ => ⟨S2x16384, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1024, .f32⟩
  | .hbm, ⟨56, _⟩ => ⟨S2x16384x1024, .f32⟩
  | .hbm, ⟨57, _⟩ => ⟨S_, .f32⟩
  | .hbm, ⟨58, _⟩ => ⟨S2x16384x1, .f32⟩
  | .hbm, ⟨59, _⟩ => ⟨S2x16384x1, .f32⟩
  | .hbm, ⟨60, _⟩ => ⟨S2x16384x1, .f32⟩
  | .hbm, ⟨61, _⟩ => ⟨S2x16384x1024, .f32⟩
  | .hbm, ⟨62, _⟩ => ⟨S2x16384x1024, .f32⟩
  | .hbm, ⟨63, _⟩ => ⟨S1x1x1024, .f32⟩
  | .hbm, ⟨64, _⟩ => ⟨S2x16384x1024, .f32⟩
  | .hbm, ⟨65, _⟩ => ⟨S2x16384x1024, .f32⟩
  | .hbm, ⟨66, _⟩ => ⟨S1x1x1024, .f32⟩
  | .hbm, ⟨67, _⟩ => ⟨S2x16384x1024, .f32⟩
  | .hbm, ⟨68, _⟩ => ⟨S2x16384x1024, .f32⟩
  | .hbm, ⟨69, _⟩ => ⟨S_, .f32⟩
  | .hbm, ⟨70, _⟩ => ⟨S2x1x1024, .f32⟩
  | .hbm, ⟨71, _⟩ => ⟨S2x1x1024, .f32⟩
  | .hbm, ⟨72, _⟩ => ⟨S2x16384x1024, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S2x16384x2816, .f32⟩
  | .hbm, ⟨77, _⟩ => ⟨S2x16384x2816, .f32⟩
  | .hbm, ⟨78, _⟩ => ⟨S2x16384x2816, .f32⟩
  | .hbm, ⟨79, _⟩ => ⟨S_, .f32⟩
  | .hbm, ⟨80, _⟩ => ⟨S2x16384x2816, .f32⟩
  | .hbm, ⟨81, _⟩ => ⟨S2x16384x2816, .f32⟩
  | .hbm, ⟨82, _⟩ => ⟨S_, .f32⟩
  | .hbm, ⟨83, _⟩ => ⟨S2x16384x2816, .f32⟩
  | .hbm, ⟨84, _⟩ => ⟨S2x16384x2816, .f32⟩
  | .hbm, ⟨85, _⟩ => ⟨S2x16384x2816, .f32⟩
  | .hbm, ⟨86, _⟩ => ⟨S2x16384x2816, .f32⟩
  | .hbm, ⟨87, _⟩ => ⟨S2x16384x2816, .f32⟩
  | .hbm, ⟨88, _⟩ => ⟨S2x16384x1024, .f32⟩
  | .hbm, ⟨89, _⟩ => ⟨S_, .f32⟩
  | .hbm, ⟨90, _⟩ => ⟨S2x16384x1024, .f32⟩
  | .hbm, ⟨91, _⟩ => ⟨S2x16384x1024, .f32⟩
  | .hbm, ⟨92, _⟩ => ⟨S_, .f32⟩
  | .hbm, ⟨93, _⟩ => ⟨S2x1x1024, .f32⟩
  | .hbm, ⟨94, _⟩ => ⟨S2x1x1024, .f32⟩
  | .hbm, ⟨95, _⟩ => ⟨S2x16384x1024, .f32⟩
  | .hbm, ⟨96, _⟩ => ⟨S2x16384x1024, .f32⟩
  | .hbm, ⟨97, _⟩ => ⟨S2x16384x1024, .f32⟩
  | .hbm, ⟨98, _⟩ => ⟨S_, .f32⟩
  | .hbm, ⟨99, _⟩ => ⟨S2x16384, .f32⟩
  | .hbm, ⟨100, _⟩ => ⟨S2x16384x1, .f32⟩
  | .hbm, ⟨101, _⟩ => ⟨S_, .f32⟩
  | .hbm, ⟨102, _⟩ => ⟨S2x16384x1, .f32⟩
  | .hbm, ⟨103, _⟩ => ⟨S2x16384x1, .f32⟩
  | .hbm, ⟨104, _⟩ => ⟨S2x16384x1024, .f32⟩
  | .hbm, ⟨105, _⟩ => ⟨S2x16384x1024, .f32⟩
  | .hbm, ⟨106, _⟩ => ⟨S2x16384x1024, .f32⟩
  | .hbm, ⟨107, _⟩ => ⟨S_, .f32⟩
  | .hbm, ⟨108, _⟩ => ⟨S2x16384, .f32⟩
  | .hbm, ⟨109, _⟩ => ⟨S2x16384x1, .f32⟩
  | .hbm, ⟨110, _⟩ => ⟨S_, .f32⟩
  | .hbm, ⟨111, _⟩ => ⟨S2x16384x1, .f32⟩
  | .hbm, ⟨112, _⟩ => ⟨S2x16384x1, .f32⟩
  | .hbm, ⟨113, _⟩ => ⟨S2x16384x1024, .f32⟩
  | .hbm, ⟨114, _⟩ => ⟨S2x16384x1024, .f32⟩
  | .hbm, ⟨115, _⟩ => ⟨S_, .f32⟩
  | .hbm, ⟨116, _⟩ => ⟨S2x16384x1, .f32⟩
  | .hbm, ⟨117, _⟩ => ⟨S2x16384x1, .f32⟩
  | .hbm, ⟨118, _⟩ => ⟨S2x16384x1, .f32⟩
  | .hbm, ⟨119, _⟩ => ⟨S2x16384x1024, .f32⟩
  | .hbm, ⟨120, _⟩ => ⟨S2x16384x1024, .f32⟩
  | .hbm, ⟨121, _⟩ => ⟨S1x1x1024, .f32⟩
  | .hbm, ⟨122, _⟩ => ⟨S2x16384x1024, .f32⟩
  | .hbm, ⟨123, _⟩ => ⟨S2x16384x1024, .f32⟩
  | .hbm, ⟨124, _⟩ => ⟨S1x1x1024, .f32⟩
  | .hbm, ⟨125, _⟩ => ⟨S2x16384x1024, .f32⟩
  | .hbm, ⟨126, _⟩ => ⟨S2x16384x1024, .f32⟩
  | .hbm, ⟨127, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_11 : Ref sig .tc := ⟨.hbm, 107, rfl⟩
abbrev main_v76 : Ref sig .tc := ⟨.hbm, 108, rfl⟩
abbrev main_v77 : Ref sig .tc := ⟨.hbm, 109, rfl⟩
abbrev main_cst_12 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_13 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== PostEven.lean ====
abbrev S32768x512 : Shape := ⟨2, ![32768, 512]⟩
abbrev S1024x1024 : Shape := ⟨2, ![1024, 1024]⟩
abbrev S32768x1024 : Shape := ⟨2, ![32768, 1024]⟩
abbrev S2x6x1024 : Shape := ⟨3, ![2, 6, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S512x512 : Shape := ⟨2, ![512, 512]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 19
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .bf16⟩
  | .hbm, ⟨3, _⟩ => ⟨S32768x1024, .f32⟩
  | .hbm, ⟨4, _⟩ => ⟨S2x6x1024, .f32⟩
  | .hbm, ⟨5, _⟩ => ⟨S1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1024, .f32⟩
  | .hbm, ⟨11, _⟩ => ⟨S1024, .f32⟩
  | .hbm, ⟨12, _⟩ => ⟨S512x1024, .bf16⟩
  | .hbm, ⟨13, _⟩ => ⟨S512x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceEvenIdeal.lean ====
abbrev S32768x512 : Shape := ⟨2, ![32768, 512]⟩
abbrev S1024x1024 : Shape := ⟨2, ![1024, 1024]⟩
abbrev S32768x1024 : Shape := ⟨2, ![32768, 1024]⟩
abbrev S2x6x1024 : Shape := ⟨3, ![2, 6, 1024]⟩
abbrev S1024 : Shape := ⟨1, ![1024]⟩
abbrev S1024x2816 : Shape := ⟨2, ![1024, 2816]⟩
abbrev S2816x1024 : Shape := ⟨2, ![2816, 1024]⟩
abbrev S2x16384x1024 : Shape := ⟨3, ![2, 16384, 1024]⟩
abbrev S2x1x1024 : Shape := ⟨3, ![2, 1, 1024]⟩
abbrev S2x1024 : Shape := ⟨2, ![2, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩

abbrev nBuf : Space → Nat
  | .hbm => 130
  | .vmem => 0
  | .smem => 0
  | _ => 0

abbrev hbmTy0_0 (i : Nat) : BufTy := match i % 128 with
  | 0 => ⟨S32768x512, .bf16⟩
  | 1 => ⟨S32768x512, .bf16⟩
  | 2 => ⟨S1024x1024, .bf16⟩
  | 3 => ⟨S32768x1024, .f32⟩
  | 4 => ⟨S2x6x1024, .f32⟩
  | 5 => ⟨S1024, .f32⟩
  | 6 => ⟨S1024, .f32⟩
  | 7 => ⟨S1024x2816, .bf16⟩
  | 8 => ⟨S1024x2816, .bf16⟩
  | 9 => ⟨S2816x1024, .bf16⟩
  | 10 => ⟨S1024, .f32⟩
  | 11 => ⟨S1024, .f32⟩
  | 12 => ⟨S32768x1024, .bf16⟩
  | 13 => ⟨S2x16384x1024, .f32⟩
  | 14 => ⟨S2x16384x1024, .bf16⟩
  | 15 => ⟨S2x16384x1024, .f32⟩
  | 16 => ⟨S1024x1024, .f32⟩
  | 17 => ⟨S1024x2816, .f32⟩
  | 18 => ⟨S1024x2816, .f32⟩
  | 19 => ⟨S2816x1024, .f32⟩
  | 20 => ⟨S2x1x1024, .f32⟩
  | 21 => ⟨S2x1024, .f32⟩
  | 22 => ⟨S2x1x1024, .f32⟩
  | 23 => ⟨S2x1x1024, .f32⟩
  | 24 => ⟨S2x1024, .f32⟩
  | 25 => ⟨S2x1x1024, .f32⟩
  | 26 => ⟨S2x1x1024, .f32⟩
  | 27 => ⟨S2x1024, .f32⟩
  | 28 => ⟨S2x1x1024, .f32⟩
  | 29 => ⟨S2x1x1024, .f32⟩
  | 30 => ⟨S2x1024, .f32⟩
  | 31 => ⟨S2x1x1024, .f32⟩
  | 32 => ⟨S_, .f32⟩
  | 33 => ⟨S2x16384x1024, .f32⟩
  | 34 => ⟨S2x16384x1024, .f32⟩
  | 35 => ⟨S_, .f32⟩
  | 36 => ⟨S2x1x1024, .f32⟩
  | 37 => ⟨S2x1x1024, .f32⟩
  | 38 => ⟨S2x16384x1024, .f32⟩
  | 39 => ⟨S2x16384x1024, .f32⟩
  | 40 => ⟨S2x16384x1024, .f32⟩
  | 41 => ⟨S2x16384x1024, .f32⟩
  | 42 => ⟨S_, .f32⟩
  | 43 => ⟨S2x16384, .f32⟩
  | 44 => ⟨S2x16384x1, .f32⟩
  | 45 => ⟨S_, .f32⟩
  | 46 => ⟨S2x16384x1, .f32⟩
  | 47 => ⟨S2x16384x1, .f32⟩
  | 48 => ⟨S2x16384x1024, .f32⟩
  | 49 => ⟨S2x16384x1024, .f32⟩
  | 50 => ⟨S2x16384x1024, .f32⟩
  | 51 => ⟨S_, .f32⟩
  | 52 => ⟨S2x16384, .f32⟩
  | 53 => ⟨S2x16384x1, .f32⟩
  | 54 => ⟨S_, .f32⟩
  | 55 => ⟨S2x16384x1, .f32⟩
  | 56 => ⟨S2x16384x1, .f32⟩
  | 57 => ⟨S2x16384x1024, .f32⟩
  | 58 => ⟨S2x16384x1024, .f32⟩
  | 59 => ⟨S_, .f32⟩
  | 60 => ⟨S2x16384x1, .f32⟩
  | 61 => ⟨S2x16384x1, .f32⟩
  | 62 => ⟨S2x16384x1, .f32⟩
  | 63 => ⟨S2x16384x1024, .f32⟩
  | 64 => ⟨S2x16384x1024, .f32⟩
  | 65 => ⟨S1x1x1024, .f32⟩
  | 66 => ⟨S2x16384x1024, .f32⟩
  | 67 => ⟨S2x16384x1024, .f32⟩
  | 68 => ⟨S1x1x1024, .f32⟩
  | 69 => ⟨S2x16384x1024, .f32⟩
  | 70 => ⟨S2x16384x1024, .f32⟩
  | 71 => ⟨S_, .f32⟩
  | 72 => ⟨S2x1x1024, .f32⟩
  | 73 => ⟨S2x1x1024, .f32⟩
  | 74 => ⟨S2x16384x1024, .f32⟩
  | 75 => ⟨S2x16384x1024, .f32⟩
  | 76 => ⟨S2x16384x1024, .f32⟩
  | 77 => ⟨S2x16384x1024, .f32⟩
  | 78 => ⟨S2x16384x2816, .f32⟩
  | 79 => ⟨S2x16384x2816, .f32⟩
  | 80 => ⟨S2x16384x2816, .f32⟩
  | 81 => ⟨S_, .f32⟩
  | 82 => ⟨S2x16384x2816, .f32⟩
  | 83 => ⟨S2x16384x2816, .f32⟩
  | 84 => ⟨S_, .f32⟩
  | 85 => ⟨S2x16384x2816, .f32⟩
  | 86 => ⟨S2x16384x2816, .f32⟩
  | 87 => ⟨S2x16384x2816, .f32⟩
  | 88 => ⟨S2x16384x2816, .f32⟩
  | 89 => ⟨S2x16384x2816, .f32⟩
  | 90 => ⟨S2x16384x1024, .f32⟩
  | 91 => ⟨S_, .f32⟩
  | 92 => ⟨S2x16384x1024, .f32⟩
  | 93 => ⟨S2x16384x1024, .f32⟩
  | 94 => ⟨S_, .f32⟩
  | 95 => ⟨S2x1x1024, .f32⟩
  | 96 => ⟨S2x1x1024, .f32⟩
  | 97 => ⟨S2x16384x1024, .f32⟩
  | 98 => ⟨S2x16384x1024, .f32⟩
  | 99 => ⟨S2x16384x1024, .f32⟩
  | 100 => ⟨S_, .f32⟩
  | 101 => ⟨S2x16384, .f32⟩
  | 102 => ⟨S2x16384x1, .f32⟩
  | 103 => ⟨S_, .f32⟩
  | 104 => ⟨S2x16384x1, .f32⟩
  | 105 => ⟨S2x16384x1, .f32⟩
  | 106 => ⟨S2x16384x1024, .f32⟩
  | 107 => ⟨S2x16384x1024, .f32⟩
  | 108 => ⟨S2x16384x1024, .f32⟩
  | 109 => ⟨S_, .f32⟩
  | 110 => ⟨S2x16384, .f32⟩
  | 111 => ⟨S2x16384x1, .f32⟩
  | 112 => ⟨S_, .f32⟩
  | 113 => ⟨S2x16384x1, .f32⟩
  | 114 => ⟨S2x16384x1, .f32⟩
  | 115 => ⟨S2x16384x1024, .f32⟩
  | 116 => ⟨S2x16384x1024, .f32⟩
  | 117 => ⟨S_, .f32⟩
  | 118 => ⟨S2x16384x1, .f32⟩
  | 119 => ⟨S2x16384x1, .f32⟩
  | 120 => ⟨S2x16384x1, .f32⟩
  | 121 => ⟨S2x16384x1024, .f32⟩
  | 122 => ⟨S2x16384x1024, .f32⟩
  | 123 => ⟨S1x1x1024, .f32⟩
  | 124 => ⟨S2x16384x1024, .f32⟩
  | 125 => ⟨S2x16384x1024, .f32⟩
  | 126 => ⟨S1x1x1024, .f32⟩
  | 127 => ⟨S2x16384x1024, .f32⟩
  | _ => ⟨S32768x512, .bf16⟩

abbrev hbmTy0_1 (i : Nat) : BufTy := match i % 128 with
  | 0 => ⟨S2x16384x1024, .f32⟩
  | 1 => ⟨S32768x1024, .f32⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_v70 : Ref sig .tc := ⟨.hbm, 101, rfl⟩
abbrev main_v71 : Ref sig .tc := ⟨.hbm, 102, rfl⟩
abbrev main_cst_10 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_13 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]
-- ==== InOdd.lean ====
abbrev S32768x1024 : Shape := ⟨2, ![32768, 1024]⟩
abbrev S2x6x1024 : Shape := ⟨3, ![2, 6, 1024]⟩
abbrev S32768x32 : Shape := ⟨2, ![32768, 32]⟩
abbrev S1024x3072 : Shape := ⟨2, ![1024, 3072]⟩
abbrev S1024x1024 : Shape := ⟨2, ![1024, 1024]⟩
abbrev S1024x2048 : Shape := ⟨2, ![1024, 2048]⟩
abbrev S1024x32x2x32 : Shape := ⟨4, ![1024, 32, 2, 32]⟩
abbrev S8x144x32768 : Shape := ⟨3, ![8, 144, 32768]⟩
abbrev S512x1024 : Shape := ⟨2, ![512, 1024]⟩
abbrev S1x6x1024 : Shape := ⟨3, ![1, 6, 1024]⟩
abbrev S512x32 : Shape := ⟨2, ![512, 32]⟩
abbrev S8x144x512 : Shape := ⟨3, ![8, 144, 512]⟩
abbrev S1x1x1024 : Shape := ⟨3, ![1, 1, 1024]⟩
abbrev S1x1024 : Shape := ⟨2, ![1, 1024]⟩
abbrev S512x2048 : Shape := ⟨2, ![512, 2048]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩

abbrev nBuf : Space → Nat
  | .hbm => 16
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S2x6x1024, .f32⟩
  | .hbm, ⟨2, _⟩ => ⟨S32768x32, .f32⟩
  | .hbm, ⟨3, _⟩ => ⟨S32768x32, .f32⟩
  | .hbm, ⟨4, _⟩ => ⟨S1024x3072, .f32⟩
  | .hbm, ⟨5, _⟩ => ⟨S1024x1024, .f32⟩
  | .hbm, ⟨6, _⟩ => ⟨S1024x2048, .f32⟩
  | .hbm, ⟨7, _⟩ => ⟨S1024x1024, .bf16⟩
  | .hbm, ⟨8, _⟩ => ⟨S1024x2048, .bf16⟩
  | .hbm, ⟨9, _⟩ => ⟨S1024x32x2x32, .f32⟩
  | .hbm, ⟨10, _⟩ => ⟨S1024x32x2x32, .f32⟩
  | .hbm, ⟨11, _⟩ => ⟨S1024x2048, .f32⟩
  | .hbm, ⟨12, _⟩ => ⟨S1024x2048, .bf16⟩
  | .hbm, ⟨13, _⟩ => ⟨S32768x1024, .bf16⟩
  | .hbm, ⟨14, _⟩ => ⟨S32768x1024, .bf16⟩
  | .hbm, ⟨15, _⟩ => ⟨S8x144x32768, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S1024x1024, .bf16⟩
  | .local _ .vmem, ⟨9, _⟩ => ⟨S1024x2048, .bf16⟩
  | .local _ .vmem, ⟨10, _⟩ => ⟨S1024x2048, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S8x144x512, .bf16⟩
  | .local _ .vmem, ⟨16, _⟩ => ⟨S8x144x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x144x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceInOddIdeal.lean ====
abbrev S32768x1024 : Shape := ⟨2, ![32768, 1024]⟩
abbrev S2x6x1024 : Shape := ⟨3, ![2, 6, 1024]⟩
abbrev S32768x32 : Shape := ⟨2, ![32768, 32]⟩
abbrev S1024x3072 : Shape := ⟨2, ![1024, 3072]⟩
abbrev S2x1x1024 : Shape := ⟨3, ![2, 1, 1024]⟩
abbrev S2x1024 : Shape := ⟨2, ![2, 1024]⟩
abbrev S2x16384x1024 : Shape := ⟨3, ![2, 16384, 1024]⟩
abbrev S_ : Shape := ⟨0, ![]⟩
abbrev S2x16384x1x32 : Shape := ⟨4, ![2, 16384, 1, 32]⟩
abbrev S2x16384x3072 : Shape := ⟨3, ![2, 16384, 3072]⟩
abbrev S2x16384x16x64 : Shape := ⟨4, ![2, 16384, 16, 64]⟩
abbrev S2x16384x16x32 : Shape := ⟨4, ![2, 16384, 16, 32]⟩
abbrev S32768x8x128 : Shape := ⟨3, ![32768, 8, 128]⟩
abbrev S8x128x32768 : Shape := ⟨3, ![8, 128, 32768]⟩
abbrev S8x16x32768 : Shape := ⟨3, ![8, 16, 32768]⟩
abbrev S8x144x32768 : Shape := ⟨3, ![8, 144, 32768]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x6x1024, .f32⟩
  | .hbm, ⟨2, _⟩ => ⟨S32768x32, .f32⟩
  | .hbm, ⟨3, _⟩ => ⟨S32768x32, .f32⟩
  | .hbm, ⟨4, _⟩ => ⟨S1024x3072, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x16384x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S2x16384x1024, .f32⟩
  | .hbm, ⟨19, _⟩ => ⟨S2x16384x1x32, .f32⟩
  | .hbm, ⟨20, _⟩ => ⟨S2x16384x1x32, .f32⟩
  | .hbm, ⟨21, _⟩ => ⟨S2x16384x3072, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S2x16384x16x64, .f32⟩
  | .hbm, ⟨26, _⟩ => ⟨S2x16384x16x32, .f32⟩
  | .hbm, ⟨27, _⟩ => ⟨S2x16384x16x32, .f32⟩
  | .hbm, ⟨28, _⟩ => ⟨S2x16384x16x32, .f32⟩
  | .hbm, ⟨29, _⟩ => ⟨S2x16384x16x32, .f32⟩
  | .hbm, ⟨30, _⟩ => ⟨S2x16384x16x32, .f32⟩
  | .hbm, ⟨31, _⟩ => ⟨S2x16384x16x32, .f32⟩
  | .hbm, ⟨32, _⟩ => ⟨S2x16384x16x32, .f32⟩
  | .hbm, ⟨33, _⟩ => ⟨S2x16384x16x32, .f32⟩
  | .hbm, ⟨34, _⟩ => ⟨S2x16384x16x32, .f32⟩
  | .hbm, ⟨35, _⟩ => ⟨S2x16384x16x32, .f32⟩
  | .hbm, ⟨36, _⟩ => ⟨S2x16384x16x32, .f32⟩
  | .hbm, ⟨37, _⟩ => ⟨S2x16384x16x32, .f32⟩
  | .hbm, ⟨38, _⟩ => ⟨S2x16384x16x64, .f32⟩
  | .hbm, ⟨39, _⟩ => ⟨S_, .f32⟩
  | .hbm, ⟨40, _⟩ => ⟨S2x16384x16x64, .f32⟩
  | .hbm, ⟨41, _⟩ => ⟨S2x16384x16x64, .f32⟩
  | .hbm, ⟨42, _⟩ => ⟨S2x16384x16x64, .f32⟩
  | .hbm, ⟨43, _⟩ => ⟨S2x16384x16x32, .f32⟩
  | .hbm, ⟨44, _⟩ => ⟨S2x16384x16x32, .f32⟩
  | .hbm, ⟨45, _⟩ => ⟨S2x16384x16x32, .f32⟩
  | .hbm, ⟨46, _⟩ => ⟨S2x16384x16x32, .f32⟩
  | .hbm, ⟨47, _⟩ => ⟨S2x16384x16x32, .f32⟩
  | .hbm, ⟨48, _⟩ => ⟨S2x16384x16x32, .f32⟩
  | .hbm, ⟨49, _⟩ => ⟨S2x16384x16x32, .f32⟩
  | .hbm, ⟨50, _⟩ => ⟨S2x16384x16x32, .f32⟩
  | .hbm, ⟨51, _⟩ => ⟨S2x16384x16x32, .f32⟩
  | .hbm, ⟨52, _⟩ => ⟨S2x16384x16x32, .f32⟩
  | .hbm, ⟨53, _⟩ => ⟨S2x16384x16x32, .f32⟩
  | .hbm, ⟨54, _⟩ => ⟨S2x16384x16x32, .f32⟩
  | .hbm, ⟨55, _⟩ => ⟨S2x16384x16x64, .f32⟩
  | .hbm, ⟨56, _⟩ => ⟨S32768x8x128, .f32⟩
  | .hbm, ⟨57, _⟩ => ⟨S8x128x32768, .f32⟩
  | .hbm, ⟨58, _⟩ => ⟨S_, .f32⟩
  | .hbm, ⟨59, _⟩ => ⟨S8x16x32768, .f32⟩
  | .hbm, ⟨60, _⟩ => ⟨S8x144x32768, .f32⟩
  | .hbm, ⟨61, _⟩ => ⟨S32768x1024, .f32⟩
  | .hbm, ⟨62, _⟩ => ⟨S32768x1024, .bf16⟩
  | .hbm, ⟨63, _⟩ => ⟨S32768x1024, .f32⟩
  | .hbm, ⟨64, _⟩ => ⟨S32768x1024, .bf16⟩
  | .hbm, ⟨65, _⟩ => ⟨S8x144x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_1 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩

abbrev nD : Nat := 1
abbrev τ : Topo := Topo.v7x

variable {F : FTy → Type} [FloatOps F]
-- ==== InEven.lean ====
abbrev S32768x1024 : Shape := ⟨2, ![32768, 1024]⟩
abbrev S2x6x1024 : Shape := ⟨3, ![2, 6, 1024]⟩
abbrev S32768x32 : Shape := ⟨2, ![32768, 32]⟩
abbrev S1024x2500 : Shape := ⟨2, ![1024, 2500]⟩
abbrev S_ : Shape := ⟨0, ![]⟩
abbrev S1024x124 : Shape := ⟨2, ![1024, 124]⟩
abbrev S1024x512 : Shape := ⟨2, ![1024, 512]⟩
abbrev S1024x64 : Shape := ⟨2, ![1024, 64]⟩
abbrev S1024x4 : Shape := ⟨2, ![1024, 4]⟩
abbrev S1024x1792 : Shape := ⟨2, ![1024, 1792]⟩
abbrev S1024x256 : Shape := ⟨2, ![1024, 256]⟩
abbrev S1024x1024 : Shape := ⟨2, ![1024, 1024]⟩
abbrev S1024x16x2x32 : Shape := ⟨4, ![1024, 16, 2, 32]⟩
abbrev S32768x512 : Shape := ⟨2, ![32768, 512]⟩
abbrev S32768x128 : Shape := ⟨2, ![32768, 128]⟩
abbrev S32768x256 : Shape := ⟨2, ![32768, 256]⟩
abbrev S4x128x32768 : Shape := ⟨3, ![4, 128, 32768]⟩
abbrev S1x80x32768 : Shape := ⟨3, ![1, 80, 32768]⟩
abbrev S512x1024 : Shape := ⟨2, ![512, 1024]⟩
abbrev S1x6x1024 : Shape := ⟨3, ![1, 6, 1024]⟩
abbrev S512x32 : Shape := ⟨2, ![512, 32]⟩
abbrev S512x512 : Shape := ⟨2, ![512, 512]⟩
abbrev S512x128 : Shape := ⟨2, ![512, 128]⟩
abbrev S512x256 : Shape := ⟨2, ![512, 256]⟩
abbrev S4x128x512 : Shape := ⟨3, ![4, 128, 512]⟩
abbrev S1x80x512 : Shape := ⟨3, ![1, 80, 512]⟩
abbrev S1x1x1024 : Shape := ⟨3, ![1, 1, 1024]⟩
abbrev S1x1024 : Shape := ⟨2, ![1, 1024]⟩
abbrev S512x1792 : Shape := ⟨2, ![512, 1792]⟩
abbrev S128x512 : Shape := ⟨2, ![128, 512]⟩
abbrev S1x128x512 : Shape := ⟨3, ![1, 128, 512]⟩
abbrev S64x512 : Shape := ⟨2, ![64, 512]⟩
abbrev S1x64x512 : Shape := ⟨3, ![1, 64, 512]⟩
abbrev S16x512 : Shape := ⟨2, ![16, 512]⟩
abbrev S1x16x512 : Shape := ⟨3, ![1, 16, 512]⟩

abbrev nBuf : Space → Nat
  | .hbm => 36
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S2x6x1024, .f32⟩
  | .hbm, ⟨2, _⟩ => ⟨S32768x32, .f32⟩
  | .hbm, ⟨3, _⟩ => ⟨S32768x32, .f32⟩
  | .hbm, ⟨4, _⟩ => ⟨S1024x2500, .f32⟩
  | .hbm, ⟨5, _⟩ => ⟨S_, .f32⟩
  | .hbm, ⟨6, _⟩ => ⟨S1024x124, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x64, .f32⟩
  | .hbm, ⟨11, _⟩ => ⟨S1024x64, .f32⟩
  | .hbm, ⟨12, _⟩ => ⟨S1024x4, .f32⟩
  | .hbm, ⟨13, _⟩ => ⟨S1024x1792, .f32⟩
  | .hbm, ⟨14, _⟩ => ⟨S1024x512, .f32⟩
  | .hbm, ⟨15, _⟩ => ⟨S1024x256, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x1024, .f32⟩
  | .hbm, ⟨21, _⟩ => ⟨S1024x1792, .bf16⟩
  | .hbm, ⟨22, _⟩ => ⟨S1024x1024, .bf16⟩
  | .hbm, ⟨23, _⟩ => ⟨S1024x16x2x32, .f32⟩
  | .hbm, ⟨24, _⟩ => ⟨S1024x16x2x32, .f32⟩
  | .hbm, ⟨25, _⟩ => ⟨S1024x1024, .f32⟩
  | .hbm, ⟨26, _⟩ => ⟨S1024x1024, .bf16⟩
  | .hbm, ⟨27, _⟩ => ⟨S32768x512, .bf16⟩
  | .hbm, ⟨28, _⟩ => ⟨S32768x512, .bf16⟩
  | .hbm, ⟨29, _⟩ => ⟨S32768x128, .f32⟩
  | .hbm, ⟨30, _⟩ => ⟨S32768x512, .bf16⟩
  | .hbm, ⟨31, _⟩ => ⟨S32768x256, .bf16⟩
  | .hbm, ⟨32, _⟩ => ⟨S32768x128, .bf16⟩
  | .hbm, ⟨33, _⟩ => ⟨S32768x128, .bf16⟩
  | .hbm, ⟨34, _⟩ => ⟨S4x128x32768, .bf16⟩
  | .hbm, ⟨35, _⟩ => ⟨S1x80x32768, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S1024x1792, .bf16⟩
  | .local _ .vmem, ⟨9, _⟩ => ⟨S1024x1024, .bf16⟩
  | .local _ .vmem, ⟨10, _⟩ => ⟨S1024x1024, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x128, .f32⟩
  | .local _ .vmem, ⟨16, _⟩ => ⟨S512x128, .f32⟩
  | .local _ .vmem, ⟨17, _⟩ => ⟨S512x512, .bf16⟩
  | .local _ .vmem, ⟨18, _⟩ => ⟨S512x512, .bf16⟩
  | .local _ .vmem, ⟨19, _⟩ => ⟨S512x256, .bf16⟩
  | .local _ .vmem, ⟨20, _⟩ => ⟨S512x256, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S4x128x512, .bf16⟩
  | .local _ .vmem, ⟨26, _⟩ => ⟨S4x128x512, .bf16⟩
  | .local _ .vmem, ⟨27, _⟩ => ⟨S1x80x512, .bf16⟩
  | .local _ .vmem, ⟨28, _⟩ => ⟨S1x80x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v21_2 : Ref sig .tc := ⟨.hbm, 29, rfl⟩
abbrev main_v21_3 : Ref sig .tc := ⟨.hbm, 30, rfl⟩
abbrev main_v21_4 : Ref sig .tc := ⟨.hbm, 31, rfl⟩
abbrev main_v21_5 : Ref sig .tc := ⟨.hbm, 32, rfl⟩
abbrev main_v21_6 : Ref sig .tc := ⟨.hbm, 33, rfl⟩
abbrev main_v21_7 : Ref sig .tc := ⟨.hbm, 34, rfl⟩
abbrev main_v21_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x80x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceInEvenIdeal.lean ====
abbrev S32768x1024 : Shape := ⟨2, ![32768, 1024]⟩
abbrev S2x6x1024 : Shape := ⟨3, ![2, 6, 1024]⟩
abbrev S32768x32 : Shape := ⟨2, ![32768, 32]⟩
abbrev S1024x2500 : Shape := ⟨2, ![1024, 2500]⟩
abbrev S2x1x1024 : Shape := ⟨3, ![2, 1, 1024]⟩
abbrev S2x1024 : Shape := ⟨2, ![2, 1024]⟩
abbrev S2x16384x1024 : Shape := ⟨3, ![2, 16384, 1024]⟩
abbrev S_ : Shape := ⟨0, ![]⟩
abbrev S2x16384x1x32 : Shape := ⟨4, ![2, 16384, 1, 32]⟩
abbrev S2x16384x2500 : Shape := ⟨3, ![2, 16384, 2500]⟩
abbrev S2x16384x512 : Shape := ⟨3, ![2, 16384, 512]⟩
abbrev S2x16384x64 : Shape := ⟨3, ![2, 16384, 64]⟩
abbrev S2x16384x256 : Shape := ⟨3, ![2, 16384, 256]⟩
abbrev S2x16384x4 : Shape := ⟨3, ![2, 16384, 4]⟩
abbrev S2x16384x8x64 : Shape := ⟨4, ![2, 16384, 8, 64]⟩
abbrev S2x16384x8x32 : Shape := ⟨4, ![2, 16384, 8, 32]⟩
abbrev S2x16384x4x64 : Shape := ⟨4, ![2, 16384, 4, 64]⟩
abbrev S2x16384x4x32 : Shape := ⟨4, ![2, 16384, 4, 32]⟩
abbrev S2x16384x1x64 : Shape := ⟨4, ![2, 16384, 1, 64]⟩
abbrev S32768x4 : Shape := ⟨2, ![32768, 4]⟩
abbrev S32768x128 : Shape := ⟨2, ![32768, 128]⟩
abbrev S32768x4x128 : Shape := ⟨3, ![32768, 4, 128]⟩
abbrev S4x128x32768 : Shape := ⟨3, ![4, 128, 32768]⟩
abbrev S1x32768x64 : Shape := ⟨3, ![1, 32768, 64]⟩
abbrev S1x64x32768 : Shape := ⟨3, ![1, 64, 32768]⟩
abbrev S1x16x32768 : Shape := ⟨3, ![1, 16, 32768]⟩
abbrev S1x80x32768 : Shape := ⟨3, ![1, 80, 32768]⟩
abbrev S32768x512 : Shape := ⟨2, ![32768, 512]⟩
abbrev S32768x256 : Shape := ⟨2, ![32768, 256]⟩
abbrev S2x16384x2x64 : Shape := ⟨4, ![2, 16384, 2, 64]⟩

abbrev nBuf : Space → Nat
  | .hbm => 118
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x6x1024, .f32⟩
  | .hbm, ⟨2, _⟩ => ⟨S32768x32, .f32⟩
  | .hbm, ⟨3, _⟩ => ⟨S32768x32, .f32⟩
  | .hbm, ⟨4, _⟩ => ⟨S1024x2500, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x16384x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S2x16384x1024, .f32⟩
  | .hbm, ⟨19, _⟩ => ⟨S2x16384x1x32, .f32⟩
  | .hbm, ⟨20, _⟩ => ⟨S2x16384x1x32, .f32⟩
  | .hbm, ⟨21, _⟩ => ⟨S2x16384x2500, .f32⟩
  | .hbm, ⟨22, _⟩ => ⟨S2x16384x512, .f32⟩
  | .hbm, ⟨23, _⟩ => ⟨S2x16384x512, .f32⟩
  | .hbm, ⟨24, _⟩ => ⟨S2x16384x512, .f32⟩
  | .hbm, ⟨25, _⟩ => ⟨S2x16384x512, .f32⟩
  | .hbm, ⟨26, _⟩ => ⟨S2x16384x64, .f32⟩
  | .hbm, ⟨27, _⟩ => ⟨S2x16384x64, .f32⟩
  | .hbm, ⟨28, _⟩ => ⟨S2x16384x256, .f32⟩
  | .hbm, ⟨29, _⟩ => ⟨S2x16384x64, .f32⟩
  | .hbm, ⟨30, _⟩ => ⟨S2x16384x4, .f32⟩
  | .hbm, ⟨31, _⟩ => ⟨S2x16384x8x64, .f32⟩
  | .hbm, ⟨32, _⟩ => ⟨S2x16384x8x32, .f32⟩
  | .hbm, ⟨33, _⟩ => ⟨S2x16384x8x32, .f32⟩
  | .hbm, ⟨34, _⟩ => ⟨S2x16384x8x32, .f32⟩
  | .hbm, ⟨35, _⟩ => ⟨S2x16384x8x32, .f32⟩
  | .hbm, ⟨36, _⟩ => ⟨S2x16384x8x32, .f32⟩
  | .hbm, ⟨37, _⟩ => ⟨S2x16384x8x32, .f32⟩
  | .hbm, ⟨38, _⟩ => ⟨S2x16384x8x32, .f32⟩
  | .hbm, ⟨39, _⟩ => ⟨S2x16384x8x32, .f32⟩
  | .hbm, ⟨40, _⟩ => ⟨S2x16384x8x32, .f32⟩
  | .hbm, ⟨41, _⟩ => ⟨S2x16384x8x32, .f32⟩
  | .hbm, ⟨42, _⟩ => ⟨S2x16384x8x32, .f32⟩
  | .hbm, ⟨43, _⟩ => ⟨S2x16384x8x32, .f32⟩
  | .hbm, ⟨44, _⟩ => ⟨S2x16384x8x64, .f32⟩
  | .hbm, ⟨45, _⟩ => ⟨S_, .f32⟩
  | .hbm, ⟨46, _⟩ => ⟨S2x16384x8x64, .f32⟩
  | .hbm, ⟨47, _⟩ => ⟨S2x16384x8x64, .f32⟩
  | .hbm, ⟨48, _⟩ => ⟨S2x16384x4x64, .f32⟩
  | .hbm, ⟨49, _⟩ => ⟨S2x16384x4x32, .f32⟩
  | .hbm, ⟨50, _⟩ => ⟨S2x16384x4x32, .f32⟩
  | .hbm, ⟨51, _⟩ => ⟨S2x16384x4x32, .f32⟩
  | .hbm, ⟨52, _⟩ => ⟨S2x16384x4x32, .f32⟩
  | .hbm, ⟨53, _⟩ => ⟨S2x16384x4x32, .f32⟩
  | .hbm, ⟨54, _⟩ => ⟨S2x16384x4x32, .f32⟩
  | .hbm, ⟨55, _⟩ => ⟨S2x16384x4x32, .f32⟩
  | .hbm, ⟨56, _⟩ => ⟨S2x16384x4x32, .f32⟩
  | .hbm, ⟨57, _⟩ => ⟨S2x16384x4x32, .f32⟩
  | .hbm, ⟨58, _⟩ => ⟨S2x16384x4x32, .f32⟩
  | .hbm, ⟨59, _⟩ => ⟨S2x16384x4x32, .f32⟩
  | .hbm, ⟨60, _⟩ => ⟨S2x16384x4x32, .f32⟩
  | .hbm, ⟨61, _⟩ => ⟨S2x16384x4x64, .f32⟩
  | .hbm, ⟨62, _⟩ => ⟨S_, .f32⟩
  | .hbm, ⟨63, _⟩ => ⟨S2x16384x4x64, .f32⟩
  | .hbm, ⟨64, _⟩ => ⟨S2x16384x4x64, .f32⟩
  | .hbm, ⟨65, _⟩ => ⟨S2x16384x1x64, .f32⟩
  | .hbm, ⟨66, _⟩ => ⟨S2x16384x1x32, .f32⟩
  | .hbm, ⟨67, _⟩ => ⟨S2x16384x1x32, .f32⟩
  | .hbm, ⟨68, _⟩ => ⟨S2x16384x1x32, .f32⟩
  | .hbm, ⟨69, _⟩ => ⟨S2x16384x1x32, .f32⟩
  | .hbm, ⟨70, _⟩ => ⟨S2x16384x1x32, .f32⟩
  | .hbm, ⟨71, _⟩ => ⟨S2x16384x1x32, .f32⟩
  | .hbm, ⟨72, _⟩ => ⟨S2x16384x1x32, .f32⟩
  | .hbm, ⟨73, _⟩ => ⟨S2x16384x1x32, .f32⟩
  | .hbm, ⟨74, _⟩ => ⟨S2x16384x1x64, .f32⟩
  | .hbm, ⟨75, _⟩ => ⟨S2x16384x1x64, .f32⟩
  | .hbm, ⟨76, _⟩ => ⟨S2x16384x1x32, .f32⟩
  | .hbm, ⟨77, _⟩ => ⟨S2x16384x1x32, .f32⟩
  | .hbm, ⟨78, _⟩ => ⟨S2x16384x1x32, .f32⟩
  | .hbm, ⟨79, _⟩ => ⟨S2x16384x1x32, .f32⟩
  | .hbm, ⟨80, _⟩ => ⟨S2x16384x1x32, .f32⟩
  | .hbm, ⟨81, _⟩ => ⟨S2x16384x1x32, .f32⟩
  | .hbm, ⟨82, _⟩ => ⟨S2x16384x1x32, .f32⟩
  | .hbm, ⟨83, _⟩ => ⟨S2x16384x1x32, .f32⟩
  | .hbm, ⟨84, _⟩ => ⟨S2x16384x1x64, .f32⟩
  | .hbm, ⟨85, _⟩ => ⟨S32768x4, .f32⟩
  | .hbm, ⟨86, _⟩ => ⟨S_, .f32⟩
  | .hbm, ⟨87, _⟩ => ⟨S32768x4, .f32⟩
  | .hbm, ⟨88, _⟩ => ⟨S32768x4, .f32⟩
  | .hbm, ⟨89, _⟩ => ⟨S_, .i32⟩
  | .hbm, ⟨90, _⟩ => ⟨S_, .f32⟩
  | .hbm, ⟨91, _⟩ => ⟨S32768x128, .f32⟩
  | .hbm, ⟨92, _⟩ => ⟨S32768x4x128, .f32⟩
  | .hbm, ⟨93, _⟩ => ⟨S4x128x32768, .f32⟩
  | .hbm, ⟨94, _⟩ => ⟨S4x128x32768, .bf16⟩
  | .hbm, ⟨95, _⟩ => ⟨S1x32768x64, .f32⟩
  | .hbm, ⟨96, _⟩ => ⟨S1x64x32768, .f32⟩
  | .hbm, ⟨97, _⟩ => ⟨S_, .f32⟩
  | .hbm, ⟨98, _⟩ => ⟨S1x16x32768, .f32⟩
  | .hbm, ⟨99, _⟩ => ⟨S1x80x32768, .f32⟩
  | .hbm, ⟨100, _⟩ => ⟨S_, .f32⟩
  | .hbm, ⟨101, _⟩ => ⟨S2x16384x512, .f32⟩
  | .hbm, ⟨102, _⟩ => ⟨S2x16384x512, .f32⟩
  | .hbm, ⟨103, _⟩ => ⟨S32768x512, .f32⟩
  | .hbm, ⟨104, _⟩ => ⟨S32768x512, .bf16⟩
  | .hbm, ⟨105, _⟩ => ⟨S32768x512, .f32⟩
  | .hbm, ⟨106, _⟩ => ⟨S32768x512, .bf16⟩
  | .hbm, ⟨107, _⟩ => ⟨S32768x512, .f32⟩
  | .hbm, ⟨108, _⟩ => ⟨S32768x512, .bf16⟩
  | .hbm, ⟨109, _⟩ => ⟨S32768x256, .f32⟩
  | .hbm, ⟨110, _⟩ => ⟨S32768x256, .bf16⟩
  | .hbm, ⟨111, _⟩ => ⟨S2x16384x2x64, .f32⟩
  | .hbm, ⟨112, _⟩ => ⟨S32768x128, .f32⟩
  | .hbm, ⟨113, _⟩ => ⟨S32768x128, .bf16⟩
  | .hbm, ⟨114, _⟩ => ⟨S2x16384x2x64, .f32⟩
  | .hbm, ⟨115, _⟩ => ⟨S32768x128, .f32⟩
  | .hbm, ⟨116, _⟩ => ⟨S32768x128, .bf16⟩
  | .hbm, ⟨117, _⟩ => ⟨S1x80x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_0 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_1 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_2 : Ref sig .tc := ⟨.hbm, 86, rfl⟩
abbrev main_v78 : Ref sig .tc := ⟨.hbm, 87, rfl⟩
abbrev main_v79 : Ref sig .tc := ⟨.hbm, 88, rfl⟩
abbrev main_c : Ref sig .tc := ⟨.hbm, 89, rfl⟩
abbrev main_call0_v0 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_3 : Ref sig .tc := ⟨.hbm, 97, rfl⟩
abbrev main_v86 : Ref sig .tc := ⟨.hbm, 98, rfl⟩
abbrev main_v87 : Ref sig .tc := ⟨.hbm, 99, rfl⟩
abbrev main_cst_4 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩

abbrev nD : Nat := 1
abbrev τ : Topo := Topo.v7x

variable {F : FTy → Type} [FloatOps F]
-- ==== Sb.lean ====
abbrev S2x16384x512 : Shape := ⟨3, ![2, 16384, 512]⟩
abbrev S4x128x32768 : Shape := ⟨3, ![4, 128, 32768]⟩
abbrev S1x256x512 : Shape := ⟨3, ![1, 256, 512]⟩
abbrev S1x16384x512 : Shape := ⟨3, ![1, 16384, 512]⟩
abbrev S4x128x16384 : Shape := ⟨3, ![4, 128, 16384]⟩
abbrev S1x128 : Shape := ⟨2, ![1, 128]⟩
abbrev S1x256x128 : Shape := ⟨3, ![1, 256, 128]⟩
abbrev S256x128 : Shape := ⟨2, ![256, 128]⟩
abbrev S512x128 : Shape := ⟨2, ![512, 128]⟩
abbrev S256x256 : Shape := ⟨2, ![256, 256]⟩
abbrev S1x2048 : Shape := ⟨2, ![1, 2048]⟩
abbrev S128x2048 : Shape := ⟨2, ![128, 2048]⟩
abbrev S256x512 : Shape := ⟨2, ![256, 512]⟩
abbrev S256x2048 : Shape := ⟨2, ![256, 2048]⟩
abbrev S1x128x256 : Shape := ⟨3, ![1, 128, 256]⟩
abbrev S128x256 : Shape := ⟨2, ![128, 256]⟩
abbrev S128x512 : Shape := ⟨2, ![128, 512]⟩
abbrev S1x1x2048 : Shape := ⟨3, ![1, 1, 2048]⟩
abbrev S1 : Shape := ⟨1, ![1]⟩
abbrev S1x1x1 : Shape := ⟨3, ![1, 1, 1]⟩
abbrev S64x256 : Shape := ⟨2, ![64, 256]⟩

abbrev nBuf : Space → Nat
  | .hbm => 4
  | .vmem => 6
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S4x128x32768, .bf16⟩
  | .hbm, ⟨3, _⟩ => ⟨S2x16384x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x16384x512, .bf16⟩
  | .local _ .vmem, ⟨3, _⟩ => ⟨S4x128x16384, .bf16⟩
  | .local _ .vmem, ⟨4, _⟩ => ⟨S1x256x512, .bf16⟩
  | .local _ .vmem, ⟨5, _⟩ => ⟨S1x256x512, .bf16⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 1, 64], ![false, false, false]⟩

def k0_mult1 (i : grid0.Coords) : BitVec 32 :=
  let arg2 : BitVec 32 := BitVec.ofNat 32 (i 2).val
  let c256_i32 : BitVec 32 := 256#32
  let v53 : BitVec 32 := Scalar.muli arg2 c256_i32
  v53
def k0_off1 (i : grid0.Coords) : Fin 3 → Nat :=
  let c0_14 : Index := 0#32
  let arg2 : BitVec 32 := BitVec.ofNat 32 (i 2).val
  let c256_i32 : BitVec 32 := 256#32
  let v53 : BitVec 32 := Scalar.muli arg2 c256_i32
  let v54 : BitVec 32 := v53
  let v55 : Index := Scalar.indexCast v54
  let c0_15 : Index := 0#32
  ![0, v55.toNat, 0]
def k0_off2 (i : grid0.Coords) : Fin 3 → Nat :=
  let c0_17 : Index := 0#32
  let arg2 : BitVec 32 := BitVec.ofNat 32 (i 2).val
  let c256_i32 : BitVec 32 := 256#32
  let v53 : BitVec 32 := Scalar.muli arg2 c256_i32
  let v54 : BitVec 32 := v53
  let v59 : Index := Scalar.indexCast v54
  let c128_18 : Index := 128#32
  ![0, v59.toNat, 128]
def k0_off3 (i : grid0.Coords) : Fin 3 → Nat :=
  let c0_20 : Index := 0#32
  let arg2 : BitVec 32 := BitVec.ofNat 32 (i 2).val
  let c256_i32 : BitVec 32 := 256#32
  let v53 : BitVec 32 := Scalar.muli arg2 c256_i32
  let v54 : BitVec 32 := v53
  let v63 : Index := Scalar.indexCast v54
  let c256_21 : Index := 256#32
  ![0, v63.toNat, 256]
def k0_off4 (i : grid0.Coords) : Fin 3 → Nat :=
  let c0_23 : Index := 0#32
  let arg2 : BitVec 32 := BitVec.ofNat 32 (i 2).val
  let c256_i32 : BitVec 32 := 256#32
  let v53 : BitVec 32 := Scalar.muli arg2 c256_i32
  let v54 : BitVec 32 := v53
  let v67 : Index := Scalar.indexCast v54
  let c384_24 : Index := 384#32
  ![0, v67.toNat, 384]
def k0_off5 (i : grid0.Coords) : Fin 3 → Nat :=
  let c0_32 : Index := 0#32
  let c0_33 : Index := 0#32
  let arg2 : BitVec 32 := BitVec.ofNat 32 (i 2).val
  let c256_i32 : BitVec 32 := 256#32
  let v53 : BitVec 32 := Scalar.muli arg2 c256_i32
  let v54 : BitVec 32 := v53
  let v98 : Index := Scalar.indexCast v54
  ![0, 0, v98.toNat]
def k0_off6 (i : grid0.Coords) : Fin 3 → Nat :=
  let c1 : Index := 1#32
  let c0_35 : Index := 0#32
  let arg2 : BitVec 32 := BitVec.ofNat 32 (i 2).val
  let c256_i32 : BitVec 32 := 256#32
  let v53 : BitVec 32 := Scalar.muli arg2 c256_i32
  let v54 : BitVec 32 := v53
  let v103 : Index := Scalar.indexCast v54
  ![1, 0, v103.toNat]
def k0_off7 (i : grid0.Coords) : Fin 3 → Nat :=
  let c2 : Index := 2#32
  let c0_37 : Index := 0#32
  let arg2 : BitVec 32 := BitVec.ofNat 32 (i 2).val
  let c256_i32 : BitVec 32 := 256#32
  let v53 : BitVec 32 := Scalar.muli arg2 c256_i32
  let v54 : BitVec 32 := v53
  let v108 : Index := Scalar.indexCast v54
  ![2, 0, v108.toNat]
def k0_off8 (i : grid0.Coords) : Fin 3 → Nat :=
  let c3 : Index := 3#32
  let c0_39 : Index := 0#32
  let arg2 : BitVec 32 := BitVec.ofNat 32 (i 2).val
  let c256_i32 : BitVec 32 := 256#32
  let v53 : BitVec 32 := Scalar.muli arg2 c256_i32
  let v54 : BitVec 32 := v53
  let v113 : Index := Scalar.indexCast v54
  ![3, 0, v113.toNat]
def k0_mult2 (arg7 : BitVec 32) : BitVec 32 :=
  let c256_i32_54 : BitVec 32 := 256#32
  let v162 : BitVec 32 := Scalar.muli arg7 c256_i32_54
  v162

def k0_off9 (arg7 : BitVec 32) : Fin 3 → Nat :=
  let c0_55 : Index := 0#32
  let c256_i32_54 : BitVec 32 := 256#32
  let v162 : BitVec 32 := Scalar.muli arg7 c256_i32_54
  let v163 : BitVec 32 := v162
  let v164 : Index := Scalar.indexCast v163
  let c0_56 : Index := 0#32
  ![0, v164.toNat, 0]
def k0_off10 (arg7 : BitVec 32) : Fin 3 → Nat :=
  let c0_58 : Index := 0#32
  let c256_i32_54 : BitVec 32 := 256#32
  let v162 : BitVec 32 := Scalar.muli arg7 c256_i32_54
  let v163 : BitVec 32 := v162
  let v168 : Index := Scalar.indexCast v163
  let c128_59 : Index := 128#32
  ![0, v168.toNat, 128]
def k0_off11 (arg7 : BitVec 32) : Fin 3 → Nat :=
  let c0_61 : Index := 0#32
  let c256_i32_54 : BitVec 32 := 256#32
  let v162 : BitVec 32 := Scalar.muli arg7 c256_i32_54
  let v163 : BitVec 32 := v162
  let v172 : Index := Scalar.indexCast v163
  let c256_62 : Index := 256#32
  ![0, v172.toNat, 256]
def k0_off12 (arg7 : BitVec 32) : Fin 3 → Nat :=
  let c0_64 : Index := 0#32
  let c256_i32_54 : BitVec 32 := 256#32
  let v162 : BitVec 32 := Scalar.muli arg7 c256_i32_54
  let v163 : BitVec 32 := v162
  let v176 : Index := Scalar.indexCast v163
  let c384_65 : Index := 384#32
  ![0, v176.toNat, 384]
def k0_off13 (arg7 : BitVec 32) : Fin 3 → Nat :=
  let c0_71 : Index := 0#32
  let c0_72 : Index := 0#32
  let c256_i32_54 : BitVec 32 := 256#32
  let v162 : BitVec 32 := Scalar.muli arg7 c256_i32_54
  let v163 : BitVec 32 := v162
  let v199 : Index := Scalar.indexCast v163
  ![0, 0, v199.toNat]
def k0_off14 (arg7 : BitVec 32) : Fin 3 → Nat :=
  let c1_74 : Index := 1#32
  let c0_75 : Index := 0#32
  let c256_i32_54 : BitVec 32 := 256#32
  let v162 : BitVec 32 := Scalar.muli arg7 c256_i32_54
  let v163 : BitVec 32 := v162
  let v204 : Index := Scalar.indexCast v163
  ![1, 0, v204.toNat]
def k0_off15 (arg7 : BitVec 32) : Fin 3 → Nat :=
  let c2_77 : Index := 2#32
  let c0_78 : Index := 0#32
  let c256_i32_54 : BitVec 32 := 256#32
  let v162 : BitVec 32 := Scalar.muli arg7 c256_i32_54
  let v163 : BitVec 32 := v162
  let v209 : Index := Scalar.indexCast v163
  ![2, 0, v209.toNat]
def k0_off16 (arg7 : BitVec 32) : Fin 3 → Nat :=
  let c3_80 : Index := 3#32
  let c0_81 : Index := 0#32
  let c256_i32_54 : BitVec 32 := 256#32
  let v162 : BitVec 32 := Scalar.muli arg7 c256_i32_54
  let v163 : BitVec 32 := v162
  let v214 : Index := Scalar.indexCast v163
  ![3, 0, v214.toNat]

def k0_chk1 (arg7 : BitVec 32) : Prop :=
  (256 ∣ (k0_mult2 arg7).toNat) ∧
  (∀ a, (k0_off9 arg7) a + S1x256x128.size a ≤ S1x16384x512.size a) ∧
  (∀ a, (k0_off10 arg7) a + S1x256x128.size a ≤ S1x16384x512.size a) ∧
  (∀ a, (k0_off11 arg7) a + S1x256x128.size a ≤ S1x16384x512.size a) ∧
  (∀ a, (k0_off12 arg7) a + S1x256x128.size a ≤ S1x16384x512.size a) ∧
  (∀ a, (k0_off13 arg7) a + S1x128x256.size a ≤ S4x128x16384.size a) ∧
  (∀ a, (k0_off14 arg7) a + S1x128x256.size a ≤ S4x128x16384.size a) ∧
  (∀ a, (k0_off15 arg7) a + S1x128x256.size a ≤ S4x128x16384.size a) ∧
  (∀ a, (k0_off16 arg7) a + S1x128x256.size a ≤ S4x128x16384.size a)
theorem k0_mult2_dvd : ∀ (arg7 : BitVec 32) (k0_hw1 : k0_chk1 arg7), 256 ∣ (k0_mult2 arg7).toNat := fun arg7 k0_hw1 => k0_hw1.1
theorem k0_off9_inb : ∀ (arg7 : BitVec 32) (k0_hw1 : k0_chk1 arg7), ∀ a, (k0_off9 arg7) a + S1x256x128.size a ≤ S1x16384x512.size a := fun arg7 k0_hw1 => k0_hw1.2.1
theorem k0_off10_inb : ∀ (arg7 : BitVec 32) (k0_hw1 : k0_chk1 arg7), ∀ a, (k0_off10 arg7) a + S1x256x128.size a ≤ S1x16384x512.size a := fun arg7 k0_hw1 => k0_hw1.2.2.1
theorem k0_off11_inb : ∀ (arg7 : BitVec 32) (k0_hw1 : k0_chk1 arg7), ∀ a, (k0_off11 arg7) a + S1x256x128.size a ≤ S1x16384x512.size a := fun arg7 k0_hw1 => k0_hw1.2.2.2.1
theorem k0_off12_inb : ∀ (arg7 : BitVec 32) (k0_hw1 : k0_chk1 arg7), ∀ a, (k0_off12 arg7) a + S1x256x128.size a ≤ S1x16384x512.size a := fun arg7 k0_hw1 => k0_hw1.2.2.2.2.1
theorem k0_off13_inb : ∀ (arg7 : BitVec 32) (k0_hw1 : k0_chk1 arg7), ∀ a, (k0_off13 arg7) a + S1x128x256.size a ≤ S4x128x16384.size a := fun arg7 k0_hw1 => k0_hw1.2.2.2.2.2.1
theorem k0_off14_inb : ∀ (arg7 : BitVec 32) (k0_hw1 : k0_chk1 arg7), ∀ a, (k0_off14 arg7) a + S1x128x256.size a ≤ S4x128x16384.size a := fun arg7 k0_hw1 => k0_hw1.2.2.2.2.2.2.1
theorem k0_off15_inb : ∀ (arg7 : BitVec 32) (k0_hw1 : k0_chk1 arg7), ∀ a, (k0_off15 arg7) a + S1x128x256.size a ≤ S4x128x16384.size a := fun arg7 k0_hw1 => k0_hw1.2.2.2.2.2.2.2.1
theorem k0_off16_inb : ∀ (arg7 : BitVec 32) (k0_hw1 : k0_chk1 arg7), ∀ a, (k0_off16 arg7) a + S1x128x256.size a ≤ S4x128x16384.size a := fun arg7 k0_hw1 => k0_hw1.2.2.2.2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S4x128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbIdeal.lean ====
variable {F : FTy → Type} [FloatOps F] [Named F]
def κ : String → Option EReal := fun
  | "floor" => some ⊤
  | "rate" => some ((-((Real.log 2)⁻¹) : ℝ) : EReal)
  | _ => none
-- ==== ReferenceSbIdeal.lean ====
abbrev S2x16384x512 : Shape := ⟨3, ![2, 16384, 512]⟩
abbrev S4x128x32768 : Shape := ⟨3, ![4, 128, 32768]⟩
abbrev S8x64x2x16384 : Shape := ⟨4, ![8, 64, 2, 16384]⟩
abbrev S2x16384x8x64 : Shape := ⟨4, ![2, 16384, 8, 64]⟩
abbrev S2x8x16384x16384 : Shape := ⟨4, ![2, 8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x8x64x16384 : Shape := ⟨4, ![2, 8, 64, 16384]⟩

abbrev nBuf : Space → Nat
  | .hbm => 67
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S4x128x32768, .bf16⟩
  | .hbm, ⟨3, _⟩ => ⟨S8x64x2x16384, .bf16⟩
  | .hbm, ⟨4, _⟩ => ⟨S2x16384x8x64, .bf16⟩
  | .hbm, ⟨5, _⟩ => ⟨S2x16384x8x64, .bf16⟩
  | .hbm, ⟨6, _⟩ => ⟨S2x8x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S2x8x16384x16384, .f32⟩
  | .hbm, ⟨14, _⟩ => ⟨S2x8x16384x16384, .f32⟩
  | .hbm, ⟨15, _⟩ => ⟨S_, .f32⟩
  | .hbm, ⟨16, _⟩ => ⟨S2x8x16384x16384, .f32⟩
  | .hbm, ⟨17, _⟩ => ⟨S2x8x16384x16384, .f32⟩
  | .hbm, ⟨18, _⟩ => ⟨S2x8x16384x16384, .f32⟩
  | .hbm, ⟨19, _⟩ => ⟨S2x8x16384x16384, .f32⟩
  | .hbm, ⟨20, _⟩ => ⟨S2x8x16384x16384, .i1⟩
  | .hbm, ⟨21, _⟩ => ⟨S2x8x16384x16384, .f32⟩
  | .hbm, ⟨22, _⟩ => ⟨S2x8x16384x16384, .f32⟩
  | .hbm, ⟨23, _⟩ => ⟨S2x8x16384x16384, .f32⟩
  | .hbm, ⟨24, _⟩ => ⟨S2x8x16384x16384, .f32⟩
  | .hbm, ⟨25, _⟩ => ⟨S2x8x16384x16384, .f32⟩
  | .hbm, ⟨26, _⟩ => ⟨S2x8x16384x16384, .f32⟩
  | .hbm, ⟨27, _⟩ => ⟨S2x8x16384x16384, .f32⟩
  | .hbm, ⟨28, _⟩ => ⟨S2x8x16384x16384, .f32⟩
  | .hbm, ⟨29, _⟩ => ⟨S2x8x16384x16384, .f32⟩
  | .hbm, ⟨30, _⟩ => ⟨S_, .f32⟩
  | .hbm, ⟨31, _⟩ => ⟨S_, .f32⟩
  | .hbm, ⟨32, _⟩ => ⟨S2x8x16384x16384, .i1⟩
  | .hbm, ⟨33, _⟩ => ⟨S2x8x16384x16384, .f32⟩
  | .hbm, ⟨34, _⟩ => ⟨S2x8x16384x16384, .f32⟩
  | .hbm, ⟨35, _⟩ => ⟨S_, .f32⟩
  | .hbm, ⟨36, _⟩ => ⟨S_, .f32⟩
  | .hbm, ⟨37, _⟩ => ⟨S2x8x16384x16384, .f32⟩
  | .hbm, ⟨38, _⟩ => ⟨S2x8x16384x16384, .f32⟩
  | .hbm, ⟨39, _⟩ => ⟨S2x8x16384x16384, .f32⟩
  | .hbm, ⟨40, _⟩ => ⟨S_, .f32⟩
  | .hbm, ⟨41, _⟩ => ⟨S2x8x16384x16384, .f32⟩
  | .hbm, ⟨42, _⟩ => ⟨S2x8x16384x16384, .f32⟩
  | .hbm, ⟨43, _⟩ => ⟨S2x8x16384x16384, .f32⟩
  | .hbm, ⟨44, _⟩ => ⟨S2x8x16384x16384, .f32⟩
  | .hbm, ⟨45, _⟩ => ⟨S2x8x16384x16384, .i1⟩
  | .hbm, ⟨46, _⟩ => ⟨S2x8x16384x16384, .f32⟩
  | .hbm, ⟨47, _⟩ => ⟨S2x8x16384x16384, .f32⟩
  | .hbm, ⟨48, _⟩ => ⟨S2x8x16384x16384, .f32⟩
  | .hbm, ⟨49, _⟩ => ⟨S2x8x16384x16384, .f32⟩
  | .hbm, ⟨50, _⟩ => ⟨S2x8x16384x16384, .f32⟩
  | .hbm, ⟨51, _⟩ => ⟨S2x8x16384x16384, .f32⟩
  | .hbm, ⟨52, _⟩ => ⟨S2x8x16384x16384, .f32⟩
  | .hbm, ⟨53, _⟩ => ⟨S2x8x16384x16384, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S_, .f32⟩
  | .hbm, ⟨58, _⟩ => ⟨S_, .f32⟩
  | .hbm, ⟨59, _⟩ => ⟨S2x8x16384x16384, .i1⟩
  | .hbm, ⟨60, _⟩ => ⟨S2x8x16384x16384, .f32⟩
  | .hbm, ⟨61, _⟩ => ⟨S2x8x16384x16384, .f32⟩
  | .hbm, ⟨62, _⟩ => ⟨S2x8x16384x16384, .bf16⟩
  | .hbm, ⟨63, _⟩ => ⟨S2x8x64x16384, .f32⟩
  | .hbm, ⟨64, _⟩ => ⟨S2x16384x8x64, .f32⟩
  | .hbm, ⟨65, _⟩ => ⟨S2x16384x8x64, .bf16⟩
  | .hbm, ⟨66, _⟩ => ⟨S2x16384x512, .bf16⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v11 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_call2_cst : Ref sig .tc := ⟨.hbm, 35, rfl⟩
abbrev main_call2_v0 : Ref sig .tc := ⟨.hbm, 36, rfl⟩
abbrev main_v13 : Ref sig .tc := ⟨.hbm, 37, rfl⟩
abbrev main_v14 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst_0 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩

abbrev nD : Nat := 1
abbrev τ : Topo := Topo.v7x

variable {F : FTy → Type} [FloatOps F]
-- ==== Mod.lean ====
abbrev S2x1024 : Shape := ⟨2, ![2, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x2x6144 : Shape := ⟨3, ![2, 2, 6144]⟩
abbrev S1x1024x1536 : Shape := ⟨3, ![1, 1024, 1536]⟩
abbrev S1x1x1536 : Shape := ⟨3, ![1, 1, 1536]⟩
abbrev S1x2x1536 : Shape := ⟨3, ![1, 2, 1536]⟩
abbrev S1024x1536 : Shape := ⟨2, ![1024, 1536]⟩
abbrev S2x1536 : Shape := ⟨2, ![2, 1536]⟩
abbrev S1x1536 : Shape := ⟨2, ![1, 1536]⟩

abbrev nBuf : Space → Nat
  | .hbm => 6
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1024x6144, .bf16⟩
  | .hbm, ⟨4, _⟩ => ⟨S2x1x6144, .f32⟩
  | .hbm, ⟨5, _⟩ => ⟨S2x2x6144, .f32⟩
  | .local _ .vmem, ⟨0, _⟩ => ⟨S2x1024, .f32⟩
  | .local _ .vmem, ⟨1, _⟩ => ⟨S1x1024x1536, .bf16⟩
  | .local _ .vmem, ⟨2, _⟩ => ⟨S1x1024x1536, .bf16⟩
  | .local _ .vmem, ⟨3, _⟩ => ⟨S1x1x1536, .f32⟩
  | .local _ .vmem, ⟨4, _⟩ => ⟨S1x1x1536, .f32⟩
  | .local _ .vmem, ⟨5, _⟩ => ⟨S1x2x1536, .f32⟩
  | .local _ .vmem, ⟨6, _⟩ => ⟨S1x2x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S2x6144x2 : Shape := ⟨3, ![2, 6144, 2]⟩
abbrev S2x2x6144 : Shape := ⟨3, ![2, 2, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x6144x2, .f32⟩
  | .hbm, ⟨13, _⟩ => ⟨S2x2x6144, .f32⟩
  | .hbm, ⟨14, _⟩ => ⟨S2x1x6144, .f32⟩
  | .hbm, ⟨15, _⟩ => ⟨S2x2x6144, .f32⟩
  | .hbm, ⟨16, _⟩ => ⟨S2x2x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.RunI.lean ====
/-
  The body of the kernel at one grid point, run once at symbolic operands: from the five input blocks held at
  named contents, the output block and the scratch held at anything, the body returns, hands the inputs back as they
  were and leaves one stored piece in the output block. There are two runs, one per way of the last conditional
  (an odd or an even number of full key blocks before the diagonal one); each finds its own piece.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The memref `M`'s buffer on core `c` held whole at the contents `f`. -/
abbrev held (c : Dev nD) {sp : Space} {S : Shape} {e : EltTy} (M : Memref sig .tc sp S e)
    (f : BufTy.Contents (Elt F) M.view.ty) : sProp 𝕄 :=
  M.view.loc (c : Thread nD τ) ↦[M.view.set]{fullShare} f

section
variable (c : Dev nD) (i : grid0.Coords) (arg3 : Memref sig .tc .vmem S1x1024x128 .bf16) (harg3 : arg3.IsWhole) (arg4 : Memref sig .tc .vmem S1x16384x128 .bf16) (harg4 : arg4.IsWhole) (arg5 : Memref sig .tc .vmem S1x144x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x1024x128 .bf16) (harg8 : arg8.IsWhole) (arg9 : Memref sig .tc .vmem S2x1024x2048 .f32) (harg9 : arg9.IsWhole)
  (X3 : BufTy.Contents (Elt F) arg3.view.ty) (X4 : BufTy.Contents (Elt F) arg4.view.ty)
  (X5 : BufTy.Contents (Elt F) arg5.view.ty) (X6 : BufTy.Contents (Elt F) arg6.view.ty)
  (X7 : BufTy.Contents (Elt F) arg7.view.ty)

set_option maxHeartbeats 4000000 in
/-- The run with an odd number of full key blocks. -/
def runOdd (hc : k0_cond1 i = 1#1) :
    { L : List (View.Piece (Elt F) S1x1024x128 .bf16) // ∀ (f8 : BufTy.Contents (Elt F) arg8.view.ty)
        (f9 : BufTy.Contents (Elt F) arg9.view.ty) (K : PUnit → sProp 𝕄),
      iprop(held c arg3 X3 ∗ held c arg4 X4 ∗ held c arg5 X5 ∗ held c arg6 X6 ∗ held c arg7 X7
          ∗ held c arg8 f8 ∗ held c arg9 f9
          ∗ (iprop(held c arg3 X3 ∗ held c arg4 X4 ∗ held c arg5 X5 ∗ held c arg6 X6 ∗ held c arg7 X7
              ∗ held c arg8 (arg8.view.writes (Elt F) f8 L) ∗ ∃ f, held c arg9 f) -∗ K ⟨⟩))
        ⊢ wp frame (wpE (defs₀ (F := F)) Variants.none (c : Thread nD τ) none) Set.univ
            (cc0_diff_attention (F := F) i arg3 harg3 arg4 harg4 arg5 harg5 arg6 harg6 arg7 harg7 arg8 harg8 arg9 harg9) K } := by
  refine ⟨?_, fun f8 f9 K => ?run⟩
  case run =>
    simp only [cc0_diff_attention_eq_skeleton]; unfold cc0_diff_attention_skel
    simp only [k0_part8_eq_skeleton, k0_part9_eq_skeleton, k0_part10_eq_skeleton, k0_part11_eq_skeleton]
    iintro ⟨H3, H4, H5, H6, H7, H8, H9, Hk⟩
    sl_exec (disch := sl_exact hc)
    sl_step
    iapply Hk
    isplitl [H3]; · iexact H3
    isplitl [H4]; · iexact H4
    isplitl [H5]; · iexact H5
    isplitl [H6]; · iexact H6
    isplitl [H7]; · iexact H7
    isplitl [H8]; · iexact H8
    iexists _; iexact H9

set_option maxHeartbeats 4000000 in
/-- The run with an even number of full key blocks. -/
def runEven (hc : ¬ k0_cond1 i = 1#1) :
    { L : List (View.Piece (Elt F) S1x1024x128 .bf16) // ∀ (f8 : BufTy.Contents (Elt F) arg8.view.ty)
        (f9 : BufTy.Contents (Elt F) arg9.view.ty) (K : PUnit → sProp 𝕄),
      iprop(held c arg3 X3 ∗ held c arg4 X4 ∗ held c arg5 X5 ∗ held c arg6 X6 ∗ held c arg7 X7
          ∗ held c arg8 f8 ∗ held c arg9 f9
          ∗ (iprop(held c arg3 X3 ∗ held c arg4 X4 ∗ held c arg5 X5 ∗ held c arg6 X6 ∗ held c arg7 X7
              ∗ held c arg8 (arg8.view.writes (Elt F) f8 L) ∗ ∃ f, held c arg9 f) -∗ K ⟨⟩))
        ⊢ wp frame (wpE (defs₀ (F := F)) Variants.none (c : Thread nD τ) none) Set.univ
            (cc0_diff_attention (F := F) i arg3 harg3 arg4 harg4 arg5 harg5 arg6 harg6 arg7 harg7 arg8 harg8 arg9 harg9) K } := by
  refine ⟨?_, fun f8 f9 K => ?run⟩
  case run =>
    simp only [cc0_diff_attention_eq_skeleton]; unfold cc0_diff_attention_skel
    simp only [k0_part8_eq_skeleton, k0_part9_eq_skeleton, k0_part10_eq_skeleton, k0_part11_eq_skeleton]
    iintro ⟨H3, H4, H5, H6, H7, H8, H9, Hk⟩
    sl_exec (disch := sl_exact hc)
    sl_step
    iapply Hk
    isplitl [H3]; · iexact H3
    isplitl [H4]; · iexact H4
    isplitl [H5]; · iexact H5
    isplitl [H6]; · iexact H6
    isplitl [H7]; · iexact H7
    isplitl [H8]; · iexact H8
    iexists _; iexact H9

end

end Cert.KernelIdeal.Hand

end
-- ==== Proof.FrameI.lean ====
/-
  The launch. From the two runs of the body: what the body leaves in the output block at every grid point, the data
  of the pipeline, the body's obligation at a generic point, and the run of the whole program, after which every array
  of the pipeline holds what the data say and every semaphore counter is zero.
-/
module

public import proofs.«01_k».proof.Proof.RunI
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section
variable (c : Dev nD) (i : grid0.Coords) (arg3 : Memref sig .tc .vmem S1x1024x128 .bf16) (harg3 : arg3.IsWhole) (arg4 : Memref sig .tc .vmem S1x16384x128 .bf16) (harg4 : arg4.IsWhole) (arg5 : Memref sig .tc .vmem S1x144x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x1024x128 .bf16) (harg8 : arg8.IsWhole) (arg9 : Memref sig .tc .vmem S2x1024x2048 .f32) (harg9 : arg9.IsWhole)
  (X3 : S1x1024x128.Idx → Elt F .bf16) (X4 : S1x16384x128.Idx → Elt F .bf16)
  (X5 : S1x144x16384.Idx → Elt F .bf16) (X6 : S4x64.Idx → Elt F .f32)
  (X7 : S128x1.Idx → Elt F .f32)

/-- The pieces the body stores in the output block, from the contents of the five input blocks. -/
def outL : List (View.Piece (Elt F) S1x1024x128 .bf16) :=
  if hc : k0_cond1 i = 1#1 then
    (runOdd c i arg3 harg3 arg4 harg4 arg5 harg5 arg6 harg6 arg7 harg7 arg8 harg8 arg9 harg9
      (harg3.unread X3) (harg4.unread X4) (harg5.unread X5) (harg6.unread X6) (harg7.unread X7) hc).1
  else
    (runEven c i arg3 harg3 arg4 harg4 arg5 harg5 arg6 harg6 arg7 harg7 arg8 harg8 arg9 harg9
      (harg3.unread X3) (harg4.unread X4) (harg5.unread X5) (harg6.unread X6) (harg7.unread X7) hc).1

/-- They cover the block: the one store is of the whole block. -/
theorem outL_cover (y : S1x1024x128.Idx) :
    ∃ p ∈ outL c i arg3 harg3 arg4 harg4 arg5 harg5 arg6 harg6 arg7 harg7 arg8 harg8 arg9 harg9 X3 X4 X5 X6 X7, y ∈ p.1.set := by
  unfold outL
  split
  · exact ⟨_, List.mem_singleton_self _, View.mem_set_unit_zero (by funext a; fin_cases a <;> rfl) (by decide) y⟩
  · exact ⟨_, List.mem_singleton_self _, View.mem_set_unit_zero (by funext a; fin_cases a <;> rfl) (by decide) y⟩

/-- What the body leaves in the output block. -/
def outV : S1x1024x128.Idx → Elt F .bf16 :=
  View.canon (outL c i arg3 harg3 arg4 harg4 arg5 harg5 arg6 harg6 arg7 harg7 arg8 harg8 arg9 harg9 X3 X4 X5 X6 X7)

/-- Either run, at the output block's pieces as defined above. -/
theorem outL_run (f8 : BufTy.Contents (Elt F) arg8.view.ty) (f9 : BufTy.Contents (Elt F) arg9.view.ty) (K : PUnit → sProp 𝕄) :
    iprop(held c arg3 (harg3.unread X3) ∗ held c arg4 (harg4.unread X4) ∗ held c arg5 (harg5.unread X5) ∗ held c arg6 (harg6.unread X6) ∗ held c arg7 (harg7.unread X7)
        ∗ held c arg8 f8 ∗ held c arg9 f9
        ∗ (iprop(held c arg3 (harg3.unread X3) ∗ held c arg4 (harg4.unread X4) ∗ held c arg5 (harg5.unread X5) ∗ held c arg6 (harg6.unread X6) ∗ held c arg7 (harg7.unread X7)
            ∗ held c arg8 (arg8.view.writes (Elt F) f8 (outL c i arg3 harg3 arg4 harg4 arg5 harg5 arg6 harg6 arg7 harg7 arg8 harg8 arg9 harg9 X3 X4 X5 X6 X7)) ∗ ∃ f, held c arg9 f) -∗ K ⟨⟩))
      ⊢ wp frame (wpE (defs₀ (F := F)) Variants.none (c : Thread nD τ) none) Set.univ
          (cc0_diff_attention (F := F) i arg3 harg3 arg4 harg4 arg5 harg5 arg6 harg6 arg7 harg7 arg8 harg8 arg9 harg9) K := by
  by_cases hc : k0_cond1 i = 1#1
  · have hL : outL c i arg3 harg3 arg4 harg4 arg5 harg5 arg6 harg6 arg7 harg7 arg8 harg8 arg9 harg9 X3 X4 X5 X6 X7 = (runOdd c i arg3 harg3 arg4 harg4 arg5 harg5 arg6 harg6 arg7 harg7 arg8 harg8 arg9 harg9 (harg3.unread X3) (harg4.unread X4) (harg5.unread X5) (harg6.unread X6) (harg7.unread X7) hc).1 := by
      unfold outL; rw [dif_pos hc]
    rw [hL]; exact (runOdd c i arg3 harg3 arg4 harg4 arg5 harg5 arg6 harg6 arg7 harg7 arg8 harg8 arg9 harg9 (harg3.unread X3) (harg4.unread X4) (harg5.unread X5) (harg6.unread X6) (harg7.unread X7) hc).2 f8 f9 K
  · have hL : outL c i arg3 harg3 arg4 harg4 arg5 harg5 arg6 harg6 arg7 harg7 arg8 harg8 arg9 harg9 X3 X4 X5 X6 X7 = (runEven c i arg3 harg3 arg4 harg4 arg5 harg5 arg6 harg6 arg7 harg7 arg8 harg8 arg9 harg9 (harg3.unread X3) (harg4.unread X4) (harg5.unread X5) (harg6.unread X6) (harg7.unread X7) hc).1 := by
      unfold outL; rw [dif_neg hc]
    rw [hL]; exact (runEven c i arg3 harg3 arg4 harg4 arg5 harg5 arg6 harg6 arg7 harg7 arg8 harg8 arg9 harg9 (harg3.unread X3) (harg4.unread X4) (harg5.unread X5) (harg6.unread X6) (harg7.unread X7) hc).2 f8 f9 K

set_option maxHeartbeats 1000000 in
/-- The body, run at input blocks whose contents read as given. -/
theorem sound_kernel (K : PUnit → sProp 𝕄) :
    iprop(owns c arg3 fullShare X3 ∗ owns c arg4 fullShare X4 ∗ owns c arg5 fullShare X5 ∗ owns c arg6 fullShare X6 ∗ owns c arg7 fullShare X7
        ∗ (∃ d, owns c arg8 fullShare d) ∗ (∃ f, held c arg9 f)
        ∗ (iprop(owns c arg3 fullShare X3 ∗ owns c arg4 fullShare X4 ∗ owns c arg5 fullShare X5 ∗ owns c arg6 fullShare X6 ∗ owns c arg7 fullShare X7
            ∗ owns c arg8 fullShare (outV c i arg3 harg3 arg4 harg4 arg5 harg5 arg6 harg6 arg7 harg7 arg8 harg8 arg9 harg9 X3 X4 X5 X6 X7)
            ∗ ∃ f, held c arg9 f) -∗ K ⟨⟩))
      ⊢ wp frame (wpE (defs₀ (F := F)) Variants.none (c : Thread nD τ) none) Set.univ
          (cc0_diff_attention (F := F) i arg3 harg3 arg4 harg4 arg5 harg5 arg6 harg6 arg7 harg7 arg8 harg8 arg9 harg9) K := by
  unfold owns
  iintro ⟨⟨%f3, %h3, H3⟩, ⟨%f4, %h4, H4⟩, ⟨%f5, %h5, H5⟩, ⟨%f6, %h6, H6⟩, ⟨%f7, %h7, H7⟩, ⟨%d8, %f8, %h8, H8⟩, ⟨%f9, H9⟩, Hk⟩
  obtain rfl := harg3.eq_unread h3; obtain rfl := harg4.eq_unread h4; obtain rfl := harg5.eq_unread h5
  obtain rfl := harg6.eq_unread h6; obtain rfl := harg7.eq_unread h7
  iapply (outL_run c i arg3 harg3 arg4 harg4 arg5 harg5 arg6 harg6 arg7 harg7 arg8 harg8 arg9 harg9 X3 X4 X5 X6 X7 f8 f9 K)
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H3, H4, H5, H6, H7, H8, H9⟩
  iapply Hk
  isplitl [H3]
  · iexists _
    isplitr
    · ipureintro; exact h3
    · iexact H3
  isplitl [H4]
  · iexists _
    isplitr
    · ipureintro; exact h4
    · iexact H4
  isplitl [H5]
  · iexists _
    isplitr
    · ipureintro; exact h5
    · iexact H5
  isplitl [H6]
  · iexists _
    isplitr
    · ipureintro; exact h6
    · iexact H6
  isplitl [H7]
  · iexists _
    isplitr
    · ipureintro; exact h7
    · iexact H7
  isplitl [H8]
  · iexists (arg8.view.writes (Elt F) f8 (outL c i arg3 harg3 arg4 harg4 arg5 harg5 arg6 harg6 arg7 harg7 arg8 harg8 arg9 harg9 X3 X4 X5 X6 X7))
    isplitr
    · ipureintro; exact View.read_writes_eq_canon _ _ _ (outL_cover c i arg3 harg3 arg4 harg4 arg5 harg5 arg6 harg6 arg7 harg7 arg8 harg8 arg9 harg9 X3 X4 X5 X6 X7)
    · iexact H8
  · iexact H9

end

variable (m : (ℓ : Loc nD τ sig) → Buf (Elt F) ℓ) (ρ : Dev nD → PrngReg)

/-- What the body leaves in the output block at point `t`, from the arrays the region finds. -/
def outAt (c : Dev nD) (t : Fin cfg0.N) : S1x1024x128.Idx → Elt F .bf16 :=
  outV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (iblk m c 0 t) (iblk m c 1 t) (iblk m c 2 t) (iblk m c 3 t) (iblk m c 4 t)

/-- The data of the pipeline: every input's buffer at its block, the output's at `outAt`; the scratch and the
    generator register untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨n + 6, hn⟩ => absurd hn (Nat.not_lt.mpr (Nat.le_add_left 6 n))
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d))
    ∗ (∃ d, owns c (st0_4 t) fullShare ((dats m 0 c).before 4 t d))
    ∗ (∃ d, owns c (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t)
    ∗ owns c (st0_4 t) fullShare ((dats m 0 c).after 4 t)
    ∗ owns c (st0_5 t) fullShare ((dats m 0 c).after 5 t))

/-- What the invariant says: the scratch at some contents, and the generator register at some state. -/
theorem phi_eq (c : Dev nD) : (Pipeline.ΦA spec0 c : sProp 𝕄)
    = iprop((∃ f, held c (Memref.whole cc0_scratch0) f) ∗ (∃ r, prngReg c r)) := by
  unfold Pipeline.ΦA; rw [scopedRest0_eq]; simp only [held, Memref.view_whole, View.set_whole]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, phi_eq]
  iintro ⟨⟨HS, Hr⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ (Memref.whole cc0_scratch0) (Memref.isWhole_whole _) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

/-- The obligation the launch asks of the body. -/
theorem body_obligation (c : Dev nD) : BodyObligation (dats (F := F) m 0 c) defs₀ Variants.none () Set.univ := fun t => by
  rw [bigSep_W0, bigSep_W0, defs₀_row]
  exact triple_restated (sound_body m c t) rfl .rfl fun _ => .rfl

-- the launch theorem's implicit arguments are found by unifying its conclusion with this statement, which takes
-- unfolding plain definitions in a metavariable's type
set_option backward.isDefEq.respectTransparency.types false in
set_option maxHeartbeats 4000000 in
/-- From any memory with zero counters every weakly fair run of the program ends, with every array of the pipeline
    at what the data say, every other buffer as the region found it and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ}

/-- After the run every argument array holds what it held at launch. -/
theorem final_args {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c)⟩

end Cert.KernelIdeal.Hand

end
-- ==== Proof.Online.lean ====
/-
  Softmax taken in pieces, over the extended reals. A column of scores, each a real number or minus infinity, is met
  block by block; a running bound is kept, and the running sums are kept divided by the exponential of that bound. What
  the sums are worth does not depend on the bound: this file states that as an invariant and proves the step that adds
  the terms of one block.
-/
module

public import Idealize.ShloMosaic.PureOps.Ideal.Laws

@[expose] public section

noncomputable section

namespace Cert.KernelIdeal.Hand

open Idealize Idealize.ShloMosaic

/-- The weight of a score: its exponential, and nothing for a score that is masked out. -/
def wt (x : EReal) : ℝ := if x = ⊥ then 0 else Real.exp x.toReal

theorem wt_bot : wt ⊥ = 0 := if_pos rfl

theorem wt_coe (s : ℝ) : wt (s : EReal) = Real.exp s := by
  unfold wt
  rw [if_neg (EReal.coe_ne_bot s), EReal.toReal_coe]

theorem wt_nonneg (x : EReal) : 0 ≤ wt x := by
  unfold wt
  split
  · exact le_refl _
  · exact (Real.exp_pos _).le

theorem bot_or_coe {x : EReal} (hx : x ≠ ⊤) : x = ⊥ ∨ ∃ r : ℝ, x = (r : EReal) := by
  induction x with
  | bot => exact Or.inl rfl
  | coe r => exact Or.inr ⟨r, rfl⟩
  | top => exact absurd rfl hx

/-- The exponential of a score less a real bound. -/
theorem exp_sub_bound {x : EReal} (hx : x ≠ ⊤) (M : ℝ) :
    Ideal.exp (x - (M : EReal)) = ((wt x * Real.exp (-M) : ℝ) : EReal) := by
  rcases bot_or_coe hx with rfl | ⟨r, rfl⟩
  · rw [EReal.bot_sub, wt_bot, zero_mul]; rfl
  · rw [← EReal.coe_sub, wt_coe, ← Real.exp_add, sub_eq_add_neg]; rfl

/-- A finite sum of real numbers is the same sum read in the extended reals. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The greatest of finitely many scores is again no more than a score. -/
theorem fold_max_ne_top {ι : Type*} [Fintype ι] (f : ι → EReal) (h : ∀ k, f k ≠ ⊤) :
    (Finset.univ : Finset ι).fold max ⊥ f ≠ ⊤ := by
  classical
  refine Finset.induction_on (motive := fun s => Finset.fold max ⊥ f s ≠ ⊤) (Finset.univ : Finset ι) ?_ ?_
  · rw [Finset.fold_empty]; exact bot_ne_top
  · intro a s ha ih
    rw [Finset.fold_insert ha]
    rcases max_choice (f a) (Finset.fold max ⊥ f s) with e | e <;> rw [e]
    · exact h a
    · exact ih

theorem le_fold_max {ι : Type*} [Fintype ι] (f : ι → EReal) (k : ι) :
    f k ≤ (Finset.univ : Finset ι).fold max ⊥ f :=
  (Finset.le_fold_max (f k)).2 (Or.inr ⟨k, Finset.mem_univ k, le_refl _⟩)

theorem max_ne_top {x y : EReal} (hx : x ≠ ⊤) (hy : y ≠ ⊤) : max x y ≠ ⊤ := by
  rcases max_choice x y with e | e <;> rw [e] <;> assumption

/-- Something between a real number and plus infinity, short of the latter, is a real number. -/
theorem exists_coe_of_le {x : EReal} {r : ℝ} (h : (r : EReal) ≤ x) (hx : x ≠ ⊤) : ∃ M : ℝ, x = (M : EReal) := by
  rcases bot_or_coe hx with rfl | e
  · exact absurd (le_bot_iff.1 h) (EReal.coe_ne_bot r)
  · exact e

/-- Sums kept below one bound, moved to another. -/
theorem rescale (A M M' : ℝ) :
    Ideal.exp ((M : EReal) - (M' : EReal)) * ((A * Real.exp (-M) : ℝ) : EReal) = ((A * Real.exp (-M') : ℝ) : EReal) := by
  rw [← EReal.coe_sub, show Ideal.exp ((M - M' : ℝ) : EReal) = ((Real.exp (M - M') : ℝ) : EReal) from rfl,
    ← EReal.coe_mul]
  congr 1
  rw [mul_left_comm, ← Real.exp_add]
  congr 2
  ring

/-- The terms of a block of scores, added to sums kept below the same bound. -/
theorem add_block {ι : Type*} [Fintype ι] (A M : ℝ) (w : ι → ℝ) (s : ι → EReal) (hs : ∀ k, s k ≠ ⊤) :
    ((A * Real.exp (-M) : ℝ) : EReal) + ∑ k, (w k : EReal) * Ideal.exp (s k - (M : EReal))
      = (((A + ∑ k, w k * wt (s k)) * Real.exp (-M) : ℝ) : EReal) := by
  have h : ∀ k, (w k : EReal) * Ideal.exp (s k - (M : EReal)) = ((w k * wt (s k) * Real.exp (-M) : ℝ) : EReal) := by
    intro k
    rw [exp_sub_bound (hs k), ← EReal.coe_mul, mul_assoc]
  rw [Finset.sum_congr rfl (fun k _ => h k), coe_sum, ← EReal.coe_add, ← Finset.sum_mul, ← add_mul]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A quotient of two sums kept below one bound is the quotient of the sums. -/
theorem ratio (A L M : ℝ) (hL : L ≠ 0) :
    Ideal.div ((A * Real.exp (-M) : ℝ) : EReal) ((L * Real.exp (-M) : ℝ) : EReal) = ((A / L : ℝ) : EReal) := by
  have he : Real.exp (-M) ≠ 0 := (Real.exp_pos _).ne'
  rw [div_coe _ _ (mul_ne_zero hL he), mul_div_mul_right _ _ he]

end Cert.KernelIdeal.Hand
-- ==== Proof.Ref.lean ====
/-
  The reference, in stages: the masked scores, their greatest values, the exponentials, the two softmaxes, the
  difference of the two, its product with the values, and the normalisation at the end. The term that the run of the
  reference states is the composition of the stages; each stage is read at an index.
-/
module

public import proofs.«01_k».proof.Proof.Online
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Hand

open Cert.KernelIdeal.Hand Idealize Idealize.ShloMosaic Cert.ReferenceIdeal Cert.ReferenceIdeal.Gen Idealize.ShloMosaic.TcCoe

/-- The scores of every query against every key, minus infinity where the key comes after the query. -/
def scores (q k : FVec Ideal S2x16384x1024 .bf16) : FVec Ideal S2x8x2x16384x16384 .f32 :=
  select (broadcastInDim S2x8x2x16384x16384 ![3, 4] bcast_S16384x16384_S2x8x2x16384x16384_3_4
      (cmpi .sle (broadcastInDim S16384x16384 ![0, 1] bcast_S1x16384_S16384x16384_0_1
          (broadcastInDim S1x16384 ![1] bcast_S16384_S1x16384_1 (iotaInDim S16384 32 0)))
        (broadcastInDim S16384x16384 ![0, 1] bcast_S16384x1_S16384x16384_0_1
          (broadcastInDim S16384x1 ![0] bcast_S16384_S16384x1_0 (iotaInDim S16384 32 0)))))
    (Host.dotGeneral dot_S2x16384x8x2x64_S2x16384x8x2x64_S2x8x2x16384x16384_4_4_1_1_023_023 none
      (shapeCast _ (extf .f32 q bitsLt_bf16_f32) shapeCasts_S2x16384x1024_S2x16384x8x2x64)
      (shapeCast _ (extf .f32 k bitsLt_bf16_f32) shapeCasts_S2x16384x1024_S2x16384x8x2x64))
    (broadcastInDim S2x8x2x16384x16384 ![] bcast_S_S2x8x2x16384x16384 (constant S_ .f32 0xFF800000#32))

/-- The greatest score of every query. -/
def tops (s : FVec Ideal S2x8x2x16384x16384 .f32) : FVec Ideal S2x8x2x16384 .f32 :=
  maximumf (broadcastInDim S2x8x2x16384 ![] bcast_S_S2x8x2x16384 (constant S_ .f32 0xFF800000#32))
    (Host.reduce FloatOps.maximumf s (constant S_ .f32 0xFF800000#32)
      reducesTo_S2x8x2x16384x16384_S2x8x2x16384_d4 h_S_)

/-- The exponentials of the scores less the greatest of their query. -/
def exps (s : FVec Ideal S2x8x2x16384x16384 .f32) : FVec Ideal S2x8x2x16384x16384 .f32 :=
  Host.exp (subf s (broadcastInDim S2x8x2x16384x16384 ![0, 1, 2, 3, 4]
    bcast_S2x8x2x16384x1_S2x8x2x16384x16384_0_1_2_3_4
    (broadcastInDim S2x8x2x16384x1 ![0, 1, 2, 3] bcast_S2x8x2x16384_S2x8x2x16384x1_0_1_2_3 (tops s))))

/-- The softmax of every query's scores, from their exponentials. -/
def probs (x : FVec Ideal S2x8x2x16384x16384 .f32) : FVec Ideal S2x8x2x16384x16384 .f32 :=
  Host.divf x (broadcastInDim S2x8x2x16384x16384 ![0, 1, 2, 3, 4]
    bcast_S2x8x2x16384x1_S2x8x2x16384x16384_0_1_2_3_4
    (broadcastInDim S2x8x2x16384x1 ![0, 1, 2, 3] bcast_S2x8x2x16384_S2x8x2x16384x1_0_1_2_3
      (Host.reduceAdd x (constant S_ .f32 0x00000000#32) reducesTo_S2x8x2x16384x16384_S2x8x2x16384_d4 h_S_)))

/-- The factor of the second softmax. -/
def factor (l : FVec Ideal S4x64 .f32) : FVec Ideal S_ .f32 :=
  addf (subf
      (Host.exp (Host.reduceAdd (mulf
        (shapeCast _ (extractStridedSlice S1x64 ![0, 0] l slices_S4x64_S1x64_0_0) shapeCasts_S1x64_S64)
        (shapeCast _ (extractStridedSlice S1x64 ![1, 0] l slices_S4x64_S1x64_1_0) shapeCasts_S1x64_S64))
        (constant S_ .f32 0x00000000#32) reducesTo_S64_S_d0 h_S_))
      (Host.exp (Host.reduceAdd (mulf
        (shapeCast _ (extractStridedSlice S1x64 ![2, 0] l slices_S4x64_S1x64_2_0) shapeCasts_S1x64_S64)
        (shapeCast _ (extractStridedSlice S1x64 ![3, 0] l slices_S4x64_S1x64_3_0) shapeCasts_S1x64_S64))
        (constant S_ .f32 0x00000000#32) reducesTo_S64_S_d0 h_S_)))
    (constant S_ .f32 0x3EB60549#32)

/-- The difference of the two softmaxes. -/
def diff (p : FVec Ideal S2x8x2x16384x16384 .f32) (l : FVec Ideal S_ .f32) : FVec Ideal S2x8x16384x16384 .f32 :=
  subf (shapeCast _ (extractStridedSlice S2x8x1x16384x16384 ![0, 0, 0, 0, 0] p
      slices_S2x8x2x16384x16384_S2x8x1x16384x16384_0_0_0_0_0) shapeCasts_S2x8x1x16384x16384_S2x8x16384x16384)
    (mulf (broadcastInDim S2x8x16384x16384 ![] bcast_S_S2x8x16384x16384 l)
      (shapeCast _ (extractStridedSlice S2x8x1x16384x16384 ![0, 0, 1, 0, 0] p
        slices_S2x8x2x16384x16384_S2x8x1x16384x16384_0_0_1_0_0) shapeCasts_S2x8x1x16384x16384_S2x8x16384x16384))

/-- The values weighted by the difference. -/
def mixed (v : FVec Ideal S8x144x32768 .bf16) (p : FVec Ideal S2x8x16384x16384 .f32) :
    FVec Ideal S2x16384x8x128 .f32 :=
  transpose S2x16384x8x128 [0, 3, 1, 2]
    (Host.dotGeneral dot_S2x16384x8x128_S2x8x16384x16384_S2x8x128x16384_1_3_3_2_02_01 none
      (transpose S2x16384x8x128 [2, 3, 0, 1]
        (shapeCast _ (extf .f32 (extractStridedSlice S8x128x32768 ![0, 0, 0] v
          slices_S8x144x32768_S8x128x32768_0_0_0) bitsLt_bf16_f32) shapeCasts_S8x128x32768_S8x128x2x16384)
        transposes_S8x128x2x16384_S2x16384x8x128_2_3_0_1) p)
    transposes_S2x8x128x16384_S2x16384x8x128_0_3_1_2

/-- The greatest along one axis, from minus infinity: it is no more than a score when the scores are none, and no score
exceeds it. -/
theorem reduce_max_spec {s t u : Shape} {a : Fin s.rank} (x : FVec Ideal s .f32) (init : FVec Ideal u .f32)
    (h' : s.ReducesTo [a] t) (h : s.Reduces [a] t) (hu : 0 < u.numel)
    (hi : init (Shape.Idx.first hu) = (⊥ : EReal)) (j : t.Idx) (hx : ∀ k, x (h.lift j k) ≠ (⊤ : EReal)) :
    Host.reduce FloatOps.maximumf x init h' hu j ≠ (⊤ : EReal)
      ∧ ∀ k, (x (h.lift j k) : EReal) ≤ Host.reduce FloatOps.maximumf x init h' hu j := by
  rw [Host.reduce_eq_fold_single FloatOps.maximumf x init h' h hu j, hi]
  exact ⟨fold_max_ne_top (fun k => x (h.lift j k)) hx, fun k => le_fold_max (fun k => x (h.lift j k)) k⟩

theorem ofBits_neg_inf : Ideal.ofBits .f32 0xFF800000#32 = ⊥ := by simp [Ideal.ofBits, Ideal.ieee]

theorem reduces_last : S2x8x2x16384x16384.Reduces [4] S2x8x2x16384 := by decide

theorem lift_last (b : Fin 2) (h : Fin 8) (c : Fin 2) (i j : Fin 16384) :
    reduces_last.lift (ix4 b h c i) j = ix5 b h c i j := by
  funext x
  apply Fin.ext
  fin_cases x <;> rfl

theorem max_bottom {t u : Shape} (d : Fin u.rank → Fin t.rank) (hb : u.BroadcastsInDim t d)
    (y : FVec Ideal t .f32) (j : t.Idx) :
    maximumf (broadcastInDim t d hb (constant (F := Ideal) u .f32 0xFF800000#32)) y j = y j := by
  have e : maximumf (broadcastInDim t d hb (constant (F := Ideal) u .f32 0xFF800000#32)) y j
      = max (Ideal.ofBits .f32 0xFF800000#32) (y j) := rfl
  rw [e, ofBits_neg_inf]
  exact max_eq_right bot_le

/-- The greatest score of a query is no more than a score, and none of its scores exceeds it. -/
theorem tops_spec (s : FVec Ideal S2x8x2x16384x16384 .f32) (b : Fin 2) (h : Fin 8) (c : Fin 2) (i : Fin 16384)
    (hs : ∀ j : Fin 16384, s (ix5 b h c i j) ≠ (⊤ : EReal)) :
    tops s (ix4 b h c i) ≠ (⊤ : EReal) ∧ ∀ j : Fin 16384, (s (ix5 b h c i j) : EReal) ≤ tops s (ix4 b h c i) := by
  unfold tops
  rw [max_bottom]
  have key := reduce_max_spec s (constant (F := Ideal) S_ .f32 0xFF800000#32)
    reducesTo_S2x8x2x16384x16384_S2x8x2x16384_d4 reduces_last h_S_ ofBits_neg_inf (ix4 b h c i) (fun k =>
      (congrArg s (lift_last b h c i k)).trans_ne (hs k))
  exact ⟨key.1, fun j => (congrArg s (lift_last b h c i j)).symm.trans_le (key.2 j)⟩

theorem exps_apply (s : FVec Ideal S2x8x2x16384x16384 .f32) (b : Fin 2) (h : Fin 8) (c : Fin 2) (i j : Fin 16384) :
    exps s (ix5 b h c i j) = Ideal.exp (s (ix5 b h c i j) - tops s (ix4 b h c i)) := by
  pointwise [exps]

theorem probs_apply (x : FVec Ideal S2x8x2x16384x16384 .f32) (b : Fin 2) (h : Fin 8) (c : Fin 2) (i j : Fin 16384) :
    probs x (ix5 b h c i j) = Ideal.div (x (ix5 b h c i j)) (∑ k : Fin 16384, x (ix5 b h c i k)) := by
  pointwise [probs]

theorem factor_apply (l : FVec Ideal S4x64 .f32) (j : S_.Idx) :
    factor l j = Ideal.exp (∑ x : Fin 64, l (ix2 0 x) * l (ix2 1 x)) - Ideal.exp (∑ x : Fin 64, l (ix2 2 x) * l (ix2 3 x))
      + Ideal.ofBits .f32 0x3EB60549#32 := by
  pointwise [factor]

theorem diff_apply (p : FVec Ideal S2x8x2x16384x16384 .f32) (l : FVec Ideal S_ .f32) (b : Fin 2) (h : Fin 8)
    (i j : Fin 16384) :
    diff p l (ix4 b h i j) = p (ix5 b h 0 i j) - l ix0 * p (ix5 b h 1 i j) := by
  pointwise [diff]

theorem mixed_apply (v : FVec Ideal S8x144x32768 .bf16) (p : FVec Ideal S2x8x16384x16384 .f32) (b : Fin 2)
    (i : Fin 16384) (h : Fin 8) (d : Fin 128) :
    mixed v p (ix4 b i h d)
      = ∑ j : Fin 16384, v (ix3 h ⟨d.val, by omega⟩ ⟨b.val * 16384 + j.val, by omega⟩) * p (ix4 b h i j) := by
  pointwise [mixed]

theorem scores_apply (q k : FVec Ideal S2x16384x1024 .bf16) (b : Fin 2) (h : Fin 8) (c : Fin 2) (i j : Fin 16384) :
    scores q k (ix5 b h c i j)
      = if j.val ≤ i.val then ∑ d : Fin 64, q (ix3 b i ⟨h.val * 128 + c.val * 64 + d.val, by omega⟩)
          * k (ix3 b j ⟨h.val * 128 + c.val * 64 + d.val, by omega⟩)
        else ⊥ := by
  have hi := i.isLt
  have hj := j.isLt
  have e : ∀ x y : EReal, Scalar.select (IntOp.cmpi .sle (BitVec.ofNat 32 j.val) (BitVec.ofNat 32 i.val)) x y
      = if j.val ≤ i.val then x else y := fun x y => by
    rw [WordCmp.cmpi_sle_ofNat (by omega) (by omega), WordCmp.select_ofBool]; simp only [decide_eq_true_eq]
  pointwise [scores]
  rw [ofBits_neg_inf]
  exact e _ _

/-- The normalisation at the end: every row of 128 divided by the root of its mean square, times the weight of the
lane, times a constant. -/
def normed (o : FVec Ideal S2x16384x8x128 .f32) (g : FVec Ideal S128 .f32) : FVec Ideal S2x16384x1024 .bf16 :=
  truncf .bf16 (shapeCast _ (mulf (mulf (mulf o
      (broadcastInDim S2x16384x8x128 ![0, 1, 2, 3] bcast_S2x16384x8x1_S2x16384x8x128_0_1_2_3
        (Host.rsqrt (addf (Host.divf
          (broadcastInDim S2x16384x8x1 ![0, 1, 2] bcast_S2x16384x8_S2x16384x8x1_0_1_2
            (Host.reduceAdd (mulf o o) (constant S_ .f32 0x00000000#32) reducesTo_S2x16384x8x128_S2x16384x8_d3 h_S_))
          (broadcastInDim S2x16384x8x1 ![] bcast_S_S2x16384x8x1 (constant S_ .f32 0x43000000#32)))
          (broadcastInDim S2x16384x8x1 ![] bcast_S_S2x16384x8x1 (constant S_ .f32 0x3727C5AC#32))))))
      (broadcastInDim S2x16384x8x128 ![0, 1, 2, 3] bcast_S1x1x1x128_S2x16384x8x128_0_1_2_3
        (broadcastInDim S1x1x1x128 ![3] bcast_S128_S1x1x1x128_3 g)))
      (broadcastInDim S2x16384x8x128 ![] bcast_S_S2x16384x8x128 (constant S_ .f32 0x3F24FD5C#32)))
    shapeCasts_S2x16384x8x128_S2x16384x1024) bitsLt_bf16_f32

theorem normed_apply (o : FVec Ideal S2x16384x8x128 .f32) (g : FVec Ideal S128 .f32) (b : Fin 2) (i : Fin 16384)
    (x : Fin 1024) :
    normed o g (ix3 b i x)
      = o (ix4 b i ⟨x.val / 128, by omega⟩ ⟨x.val % 128, by omega⟩)
          * Ideal.rsqrt (Ideal.div (∑ d : Fin 128, o (ix4 b i ⟨x.val / 128, by omega⟩ d) * o (ix4 b i ⟨x.val / 128, by omega⟩ d))
              (Ideal.ofBits .f32 0x43000000#32) + Ideal.ofBits .f32 0x3727C5AC#32)
          * g (ix1 ⟨x.val % 128, by omega⟩) * Ideal.ofBits .f32 0x3F24FD5C#32 := by
  pointwise [normed]

/-- The reference's result is the composition of the stages. -/
theorem result_eq (m : (ℓ : Loc nD τ sig) → Buf (Elt Ideal) ℓ) (c : Dev nD) :
    Value.res_main_v68 m c
      = normed (mixed (m ((c.tc : Thread nD τ).loc main_arg2))
          (diff (probs (exps (scores (m ((c.tc : Thread nD τ).loc main_arg0)) (m ((c.tc : Thread nD τ).loc main_arg1)))))
            (factor (m ((c.tc : Thread nD τ).loc main_arg3)))))
          (m ((c.tc : Thread nD τ).loc main_arg4)) := rfl

end Cert.ReferenceIdeal.Hand
-- ==== Proof.Pays.lean ====
module

public import proofs.«01_k».proof.Proof.Online
public import proofs.«01_k».proof.Proof.Gen.KernelIdeal.Skeleton
public import Idealize.ShloMosaic.Lib.Pointwise

@[expose] public section

set_option maxRecDepth 16384

noncomputable section

namespace Cert.KernelIdeal.Hand

open Idealize Idealize.ShloMosaic Cert.KernelIdeal.Gen

theorem ofBits_neg_inf : Ideal.ofBits .f32 0xFF800000#32 = ⊥ := by simp [Ideal.ofBits, Ideal.ieee]

theorem pay2_apply (v14 : FVec Ideal S2048x128 .bf16) (kb : FVec Ideal S1x1024x128 .bf16) (j : Fin 1024) (r : Fin 2048) :
    k0_pay2 v14 kb (ix3 0 j r) = ∑ d : Fin 128, kb (ix3 0 j d) * v14 (ix2 r d) := by
  pointwise [k0_pay2]

theorem pay3_apply (m : FVec Ideal S1x2048 .f32) (s0 s1 : FVec Ideal S1x512x2048 .f32) (r : Fin 2048) :
    k0_pay3 m s0 s1 (ix2 0 r) = max (max (m (ix2 0 r)) (Finset.univ.fold max ⊥ fun k : Fin 512 => s0 (ix3 0 k r)))
      (Finset.univ.fold max ⊥ fun k : Fin 512 => s1 (ix3 0 k r)) := by
  pointwise [k0_pay3]
  rw [ofBits_neg_inf]

theorem pay4_apply (m : FVec Ideal S1x2048 .f32) (a : FVec Ideal S144x2048 .f32) (s0 s1 : FVec Ideal S1x512x2048 .f32)
    (e : Fin 144) (r : Fin 2048) :
    k0_pay4 m a s0 s1 (ix2 e r) = Ideal.exp (m (ix2 0 r) - k0_pay3 m s0 s1 (ix2 0 r)) * a (ix2 e r) := by
  pointwise [k0_pay4]

theorem pay5_apply (m : FVec Ideal S1x2048 .f32) (s0 s1 s : FVec Ideal S1x512x2048 .f32)
    (k : Fin 512) (r : Fin 2048) :
    k0_pay5 m s0 s1 s (ix2 k r) = Ideal.exp (s (ix3 0 k r) - k0_pay3 m s0 s1 (ix2 0 r)) := by
  pointwise [k0_pay5]

theorem pay6_apply (M : FVec Ideal S1x2048 .f32) (a : FVec Ideal S144x2048 .f32) (p : FVec Ideal S512x2048 .bf16)
    (w0 : FVec Ideal S1x144x512 .bf16) (s1 : FVec Ideal S1x512x2048 .f32) (w1 : FVec Ideal S1x144x512 .bf16)
    (e : Fin 144) (r : Fin 2048) :
    k0_pay6 M a p w0 s1 w1 (ix2 e r) = a (ix2 e r) + ∑ k : Fin 512, w0 (ix3 0 e k) * p (ix2 k r)
      + ∑ k : Fin 512, w1 (ix3 0 e k) * Ideal.exp (s1 (ix3 0 k r) - M (ix2 0 r)) := by
  pointwise [k0_pay6]

end Cert.KernelIdeal.Hand
-- ==== Proof.PaysDiag.lean ====
/-
  The block of keys on the diagonal, read at an index: the queries with one half of their lanes cleared, the causal
  mask, the first bound and the first sums.
-/
module

public import proofs.«01_k».proof.Proof.Pays
public import Idealize.ShloMosaic.Lib.WordCmp
public import Idealize.ShloMosaic.PureOps.IdealRules

@[expose] public section

set_option maxRecDepth 16384

noncomputable section

namespace Cert.KernelIdeal.Hand

open Idealize Idealize.ShloMosaic Cert.KernelIdeal.Gen

/-- The row of the block of queries that a column of the scores belongs to. -/
abbrev qrow (r : Fin 2048) : Fin 1024 := ⟨r.val % 1024, Nat.mod_lt _ (by decide)⟩

theorem mask_bot : Named.named (F := Ideal) (φ := .f32) κ "mask" 0xF149F2CA#32 = (⊥ : EReal) :=
  IdealRules.named_const.ideal_named_scalar κ "mask" _ _ rfl

theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb, WordCmp.select_ofBool]; simp only [decide_eq_true_eq]

theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb, WordCmp.select_ofBool]; simp only [decide_eq_true_eq]

theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb, WordCmp.select_ofBool]; simp only [decide_eq_true_eq]

theorem pay25_apply (q : FVec Ideal S1x1024x128 .bf16) (r : Fin 2048) (d : Fin 128) :
    k0_pay25 (F := Ideal) q (ix2 r d) = if d.val / 64 = r.val / 1024 then q (ix3 0 (qrow r) d) else 0 := by
  pointwise [k0_pay25]
  have hd := d.isLt
  have hr := r.isLt
  show (if h : r.val < 1024 then
      Scalar.select (IntOp.cmpi .slt (BitVec.ofNat 32 d.val) (BitVec.ofNat 32 64)) (q (ix3 0 ⟨r.val, h⟩ d)) 0
    else Scalar.select (IntOp.cmpi .sge (BitVec.ofNat 32 d.val) (BitVec.ofNat 32 64))
      (q (ix3 0 ⟨r.val - 1024, by omega⟩ d)) 0) = _
  by_cases h : r.val < 1024
  · rw [dif_pos h, select_slt _ _ (by omega) (by omega)]
    have e : (⟨r.val, h⟩ : Fin 1024) = qrow r := Fin.ext (Nat.mod_eq_of_lt h).symm
    have h1 : r.val / 1024 = 0 := by omega
    rw [h1]
    by_cases h2 : d.val < 64
    · rw [if_pos h2, if_pos (by omega)]; exact congrArg (fun x => q (ix3 0 x d)) e
    · rw [if_neg h2, if_neg (by omega)]
  · rw [dif_neg h, select_sge _ _ (by omega) (by omega)]
    have e : (⟨r.val - 1024, by omega⟩ : Fin 1024) = qrow r := Fin.ext (by show r.val - 1024 = r.val % 1024; omega)
    have h1 : r.val / 1024 = 1 := by omega
    rw [h1]
    by_cases h2 : 64 ≤ d.val
    · rw [if_pos h2, if_pos (by omega)]; exact congrArg (fun x => q (ix3 0 x d)) e
    · rw [if_neg h2, if_neg (by omega)]

theorem pay31_apply (s : FVec Ideal S1x1024x2048 .f32) (k : Fin 1024) (r : Fin 2048) :
    k0_pay31 (F := Ideal) s (ix2 k r) = if k.val ≤ r.val % 1024 then s (ix3 0 k r) else ⊥ := by
  pointwise [k0_pay31]
  have hk := k.isLt
  have hr := r.isLt
  rw [mask_bot]
  show Scalar.select (if h : r.val < 1024 then IntOp.cmpi .sle (BitVec.ofNat 32 k.val) (BitVec.ofNat 32 r.val)
      else IntOp.cmpi .sle (BitVec.ofNat 32 k.val) (BitVec.ofNat 32 (r.val - 1024))) (s (ix3 0 k r)) ⊥ = _
  by_cases h : r.val < 1024
  · rw [dif_pos h, select_sle _ _ (by omega) (by omega), Nat.mod_eq_of_lt h]
  · rw [dif_neg h, select_sle _ _ (by omega) (by omega), show r.val - 1024 = r.val % 1024 by omega]

theorem pay32_apply (s : FVec Ideal S1x1024x2048 .f32) (r : Fin 2048) :
    k0_pay32 (F := Ideal) s (ix2 0 r)
      = max ⊥ (Finset.univ.fold max ⊥ fun k : Fin 1024 => k0_pay31 (F := Ideal) s (ix2 k r)) := by
  pointwise [k0_pay32, k0_pay28]
  rw [mask_bot, ofBits_neg_inf]

theorem pay33_apply (s : FVec Ideal S1x1024x2048 .f32) (w : FVec Ideal S1x144x1024 .bf16) (e : Fin 144) (r : Fin 2048) :
    k0_pay33 (F := Ideal) s w (ix2 e r)
      = ∑ k : Fin 1024, w (ix3 0 e k)
          * Ideal.exp (k0_pay31 (F := Ideal) s (ix2 k r) - k0_pay32 (F := Ideal) s (ix2 0 r)) := by
  pointwise [k0_pay33]

theorem pay35_apply (s : FVec Ideal S1x1024x2048 .f32) (a : FVec Ideal S144x2048 .f32) (e : Fin 144) (r : Fin 2048) :
    k0_pay35 (F := Ideal) k0_pay29 a (k0_pay34 s) (ix2 e r)
      = Ideal.exp (⊥ - k0_pay32 (F := Ideal) s (ix2 0 r)) * 0 + a (ix2 e r)  := by
  pointwise [k0_pay35, k0_pay34, k0_pay28, k0_pay29]
  rw [mask_bot]

end Cert.KernelIdeal.Hand
-- ==== Proof.Steps.lean ====
/-
  What the kernel carries from block to block: a real bound for every column of scores, and the sums of the weighted
  values below that bound. The block on the diagonal starts them; every further block adds its terms.
-/
module

public import proofs.«01_k».proof.Proof.PaysDiag

@[expose] public section

set_option maxRecDepth 16384

noncomputable section

namespace Cert.KernelIdeal.Hand

open Idealize Idealize.ShloMosaic Cert.KernelIdeal.Gen

/-- The bound and the sums carried by the kernel hold the sums `A`: in every column the bound is real, and the entries
are the sums times the exponential of minus the bound. -/
def Carries (m : FVec Ideal S1x2048 .f32) (a : FVec Ideal S144x2048 .f32) (A : Fin 144 → Fin 2048 → ℝ) : Prop :=
  ∀ r : Fin 2048, ∃ M : ℝ, m (ix2 0 r) = (M : EReal) ∧ ∀ e : Fin 144, a (ix2 e r) = ((A e r * Real.exp (-M) : ℝ) : EReal)

/-- The bound after a block whose scores come in two halves. -/
abbrev stepM (m : FVec Ideal S1x2048 .f32) (s0 s1 : FVec Ideal S1x512x2048 .f32) : FVec Ideal S1x2048 .f32 :=
  k0_pay3 m s0 s1

/-- The sums after a block whose scores and values come in two halves. -/
abbrev stepA (m : FVec Ideal S1x2048 .f32) (a : FVec Ideal S144x2048 .f32) (s0 s1 : FVec Ideal S1x512x2048 .f32)
    (w0 w1 : FVec Ideal S1x144x512 .bf16) : FVec Ideal S144x2048 .f32 :=
  k0_pay6 (k0_pay3 m s0 s1) (k0_pay4 m a s0 s1) (k0_pay5 m s0 s1 s0) w0 s1 w1

theorem Carries.congr {m : FVec Ideal S1x2048 .f32} {a : FVec Ideal S144x2048 .f32} {A B : Fin 144 → Fin 2048 → ℝ}
    (h : Carries m a A) (e : ∀ x r, A x r = B x r) : Carries m a B := by
  intro r
  obtain ⟨M, h1, h2⟩ := h r
  exact ⟨M, h1, fun x => by rw [h2 x, e x r]⟩

theorem Carries.step {m : FVec Ideal S1x2048 .f32} {a : FVec Ideal S144x2048 .f32} {A : Fin 144 → Fin 2048 → ℝ}
    (h : Carries m a A) (s0 s1 : FVec Ideal S1x512x2048 .f32) (w0 w1 : FVec Ideal S1x144x512 .bf16)
    (W0 W1 : Fin 144 → Fin 512 → ℝ)
    (hs0 : ∀ k r, s0 (ix3 0 k r) ≠ (⊤ : EReal)) (hs1 : ∀ k r, s1 (ix3 0 k r) ≠ (⊤ : EReal))
    (hw0 : ∀ e k, w0 (ix3 0 e k) = (W0 e k : EReal)) (hw1 : ∀ e k, w1 (ix3 0 e k) = (W1 e k : EReal)) :
    Carries (stepM m s0 s1) (stepA m a s0 s1 w0 w1)
      (fun e r => A e r + ∑ k : Fin 512, W0 e k * wt (s0 (ix3 0 k r)) + ∑ k : Fin 512, W1 e k * wt (s1 (ix3 0 k r))) := by
  intro r
  obtain ⟨M, h1, h2⟩ := h r
  have e3 := pay3_apply m s0 s1 r
  have hM : ∃ M' : ℝ, k0_pay3 m s0 s1 (ix2 0 r) = (M' : EReal) := by
    refine exists_coe_of_le (r := M) ?_ ?_
    · rw [e3, h1]; exact le_max_of_le_left (le_max_left _ _)
    · rw [e3, h1]
      exact max_ne_top (max_ne_top (EReal.coe_ne_top M) (fold_max_ne_top _ fun k => hs0 k r))
        (fold_max_ne_top _ fun k => hs1 k r)
  obtain ⟨M', hM'⟩ := hM
  refine ⟨M', hM', fun e => ?_⟩
  have e6 := pay6_apply (k0_pay3 m s0 s1) (k0_pay4 m a s0 s1) (k0_pay5 m s0 s1 s0) w0 s1 w1 e r
  have e4 := pay4_apply m a s0 s1 e r
  have e5 : ∀ k : Fin 512, w0 (ix3 0 e k) * k0_pay5 m s0 s1 s0 (ix2 k r)
      = (W0 e k : EReal) * Ideal.exp (s0 (ix3 0 k r) - (M' : EReal)) := fun k => by
    rw [pay5_apply, hM', hw0]
  have e7 : ∀ k : Fin 512, w1 (ix3 0 e k) * Ideal.exp (s1 (ix3 0 k r) - k0_pay3 m s0 s1 (ix2 0 r))
      = (W1 e k : EReal) * Ideal.exp (s1 (ix3 0 k r) - (M' : EReal)) := fun k => by
    rw [hM', hw1]
  rw [hM', h1, h2 e, rescale] at e4
  refine e6.trans ?_
  rw [e4, Finset.sum_congr rfl (fun k _ => e5 k), Finset.sum_congr rfl (fun k _ => e7 k),
    add_block _ _ _ _ (fun k => hs0 k r), add_block _ _ _ _ (fun k => hs1 k r)]

theorem Carries.start (s : FVec Ideal S1x1024x2048 .f32) (w : FVec Ideal S1x144x1024 .bf16)
    (S : Fin 1024 → Fin 2048 → ℝ) (W : Fin 144 → Fin 1024 → ℝ)
    (hs : ∀ k r, s (ix3 0 k r) = (S k r : EReal)) (hw : ∀ e k, w (ix3 0 e k) = (W e k : EReal)) :
    Carries (k0_pay32 (F := Ideal) s) (k0_pay35 (F := Ideal) k0_pay29 (k0_pay33 s w) (k0_pay34 s))
      (fun e r => ∑ k : Fin 1024, W e k * (if k.val ≤ r.val % 1024 then Real.exp (S k r) else 0)) := by
  intro r
  have e31 : ∀ k : Fin 1024, k0_pay31 (F := Ideal) s (ix2 k r)
      = if k.val ≤ r.val % 1024 then (S k r : EReal) else ⊥ := fun k => by rw [pay31_apply, hs]
  have hne : ∀ k : Fin 1024, k0_pay31 (F := Ideal) s (ix2 k r) ≠ (⊤ : EReal) := fun k => by
    rw [e31]; split
    · exact EReal.coe_ne_top _
    · exact bot_ne_top
  have hwt : ∀ k : Fin 1024, wt (k0_pay31 (F := Ideal) s (ix2 k r))
      = if k.val ≤ r.val % 1024 then Real.exp (S k r) else 0 := fun k => by
    rw [e31]; split
    · exact wt_coe _
    · exact wt_bot
  have hM : ∃ M : ℝ, k0_pay32 (F := Ideal) s (ix2 0 r) = (M : EReal) := by
    rw [pay32_apply]
    refine exists_coe_of_le (r := S 0 r) ?_ (max_ne_top bot_ne_top (fold_max_ne_top _ hne))
    refine le_max_of_le_right (le_trans ?_ (le_fold_max _ (0 : Fin 1024)))
    rw [e31, if_pos (show ((0 : Fin 1024) : ℕ) ≤ r.val % 1024 from Nat.zero_le _)]
  obtain ⟨M, hM⟩ := hM
  refine ⟨M, hM, fun e => ?_⟩
  have e33 : ∀ k : Fin 1024, w (ix3 0 e k) * Ideal.exp (k0_pay31 (F := Ideal) s (ix2 k r) - k0_pay32 (F := Ideal) s (ix2 0 r))
      = (W e k : EReal) * Ideal.exp (k0_pay31 (F := Ideal) s (ix2 k r) - (M : EReal)) := fun k => by
    rw [hM, hw]
  have e0 : Ideal.exp ((⊥ : EReal) - (M : EReal)) * 0 = ((0 * Real.exp (-M) : ℝ) : EReal) := by
    rw [mul_zero, zero_mul, EReal.coe_zero]
  rw [pay35_apply, pay33_apply, Finset.sum_congr rfl (fun k _ => e33 k), hM, e0, add_block _ _ _ _ hne, zero_add]
  rw [Finset.sum_congr rfl (fun k _ => by rw [hwt k])]

end Cert.KernelIdeal.Hand
-- ==== Proof.Trip.lean ====
/-
  One trip of the loop over pairs of blocks of keys, said outright: what it stores in the two places of the scratch
  memory, and what it makes of the bound and of the sums.
-/
module

public import proofs.«01_k».proof.Proof.Steps
public import proofs.«01_k».proof.Proof.FrameI

@[expose] public section

set_option maxRecDepth 16384

noncomputable section

namespace Cert.KernelIdeal.Hand

open Idealize Idealize.ShloMosaic Cert.KernelIdeal Cert.KernelIdeal.Gen

section
variable (c : Dev nD) (i : grid0.Coords) (arg3 : Memref sig .tc .vmem S1x1024x128 .bf16) (harg3 : arg3.IsWhole) (arg4 : Memref sig .tc .vmem S1x16384x128 .bf16) (harg4 : arg4.IsWhole) (arg5 : Memref sig .tc .vmem S1x144x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x1024x128 .bf16) (harg8 : arg8.IsWhole) (arg9 : Memref sig .tc .vmem S2x1024x2048 .f32) (harg9 : arg9.IsWhole)
  (v14 : FVec Ideal S2048x128 .bf16) (v32 : BitVec 32) (v43 : FVec Ideal S144x2048 .f32)
  (v67 : FVec Ideal S1x2048 .f32) (v72 v75 : FVec Ideal S144x2048 .f32)
  (Y4 : BufTy.Contents (Elt Ideal) arg4.view.ty) (Y5 : BufTy.Contents (Elt Ideal) arg5.view.ty)
  (k : Fin (k0_t1_loop i).trips)

/-- The keys of the pair's second block, and of the block after the pair. -/
abbrev keysA : FVec Ideal S1x1024x128 .bf16 :=
  View.readAt (Elt Ideal) arg4.view (Rect.unit (s := S1x16384x128) (k0_off3 i k 1#32) S1x1024x128.size (facts.k0_off3_inb i k 0)).toLoadRect Y4
abbrev keysB : FVec Ideal S1x1024x128 .bf16 :=
  View.readAt (Elt Ideal) arg4.view (Rect.unit (s := S1x16384x128) (k0_off3 i k 2#32) S1x1024x128.size (facts.k0_off3_inb i k 1)).toLoadRect Y4

/-- The values of the pair's two blocks, in halves. -/
abbrev valsA : FVec Ideal S1x144x512 .bf16 :=
  View.readAt (Elt Ideal) arg5.view (Rect.unit (s := S1x144x16384) (k0_off4 i k 0#32) S1x144x512.size (facts.k0_off4_inb i k 0)).toLoadRect Y5
abbrev valsB : FVec Ideal S1x144x512 .bf16 :=
  View.readAt (Elt Ideal) arg5.view (Rect.unit (s := S1x144x16384) (k0_off4 i k 512#32) S1x144x512.size (facts.k0_off4_inb i k 1)).toLoadRect Y5
abbrev valsC : FVec Ideal S1x144x512 .bf16 :=
  View.readAt (Elt Ideal) arg5.view (Rect.unit (s := S1x144x16384) (k0_off5 i k 0#32) S1x144x512.size (facts.k0_off5_inb i k 0)).toLoadRect Y5
abbrev valsD : FVec Ideal S1x144x512 .bf16 :=
  View.readAt (Elt Ideal) arg5.view (Rect.unit (s := S1x144x16384) (k0_off5 i k 512#32) S1x144x512.size (facts.k0_off5_inb i k 1)).toLoadRect Y5

/-- The two stores of a trip, the later first. -/
abbrev tripPieces : List (View.Piece (Elt Ideal) S2x1024x2048 .f32) :=
  [⟨Rect.unit ![0, 0, 0] S1x1024x2048.size inb_S2x1024x2048_S1x1024x2048_0_0_0, k0_pay2 v14 (keysB i arg4 Y4 k)⟩,
   ⟨Rect.unit ![1, 0, 0] S1x1024x2048.size inb_S2x1024x2048_S1x1024x2048_1_0_0, k0_pay2 v14 (keysA i arg4 Y4 k)⟩]

theorem tripL_eq (acc : FVec Ideal S1x2048 .f32 × FVec Ideal S144x2048 .f32) (f : BufTy.Contents (Elt Ideal) arg9.view.ty) :
    tripL_k0_t1 (F := Ideal) Variants.none c none i arg3 harg3 arg4 harg4 arg5 harg5 arg6 harg6 arg7 harg7 arg8 harg8 arg9 harg9 v14 v32 v43 v67 v72 v75 Y4 Y5 k acc f
      = tripPieces i arg4 v14 Y4 k := by
  unfold tripL_k0_t1 trip_k0_t1
  rfl

/-- The two halves of the first block's scores, as the trip finds them, and of the second's, as it has stored them. -/
abbrev oldA (f : BufTy.Contents (Elt Ideal) arg9.view.ty) : FVec Ideal S1x512x2048 .f32 :=
  View.readAt (Elt Ideal) arg9.view (Rect.unit (s := S2x1024x2048) ![0, 0, 0] S1x512x2048.size inb_S2x1024x2048_S1x512x2048_0_0_0).toLoadRect f
abbrev oldB (f : BufTy.Contents (Elt Ideal) arg9.view.ty) : FVec Ideal S1x512x2048 .f32 :=
  View.readAt (Elt Ideal) arg9.view (Rect.unit (s := S2x1024x2048) ![0, 512, 0] S1x512x2048.size inb_S2x1024x2048_S1x512x2048_0_512_0).toLoadRect f
abbrev newA : FVec Ideal S1x512x2048 .f32 :=
  arg9.view.readCov (tripPieces i arg4 v14 Y4 k) (Rect.unit (s := S2x1024x2048) ![1, 0, 0] S1x512x2048.size inb_S2x1024x2048_S1x512x2048_1_0_0).toLoadRect
abbrev newB : FVec Ideal S1x512x2048 .f32 :=
  arg9.view.readCov (tripPieces i arg4 v14 Y4 k) (Rect.unit (s := S2x1024x2048) ![1, 512, 0] S1x512x2048.size inb_S2x1024x2048_S1x512x2048_1_512_0).toLoadRect

theorem tripR_eq (acc : FVec Ideal S1x2048 .f32 × FVec Ideal S144x2048 .f32) (f : BufTy.Contents (Elt Ideal) arg9.view.ty) :
    tripR_k0_t1 (F := Ideal) Variants.none c none i arg3 harg3 arg4 harg4 arg5 harg5 arg6 harg6 arg7 harg7 arg8 harg8 arg9 harg9 v14 v32 v43 v67 v72 v75 Y4 Y5 k acc f
      = (stepM (stepM acc.1 (oldA arg9 f) (oldB arg9 f)) (newA i arg4 arg9 v14 Y4 k) (newB i arg4 arg9 v14 Y4 k),
         stepA (stepM acc.1 (oldA arg9 f) (oldB arg9 f))
          (stepA acc.1 acc.2 (oldA arg9 f) (oldB arg9 f) (valsA i arg5 Y5 k) (valsB i arg5 Y5 k))
          (newA i arg4 arg9 v14 Y4 k) (newB i arg4 arg9 v14 Y4 k) (valsC i arg5 Y5 k) (valsD i arg5 Y5 k)) := by
  unfold tripR_k0_t1 trip_k0_t1
  rfl

end

end Cert.KernelIdeal.Hand
-- ==== Proof.Grid.lean ====
/-
  Where the kernel reads. At each point of the grid, the offsets of the loads, the number of trips of the two loops and
  the condition on the left-over block, as plain numbers: the block of queries is number `q`, and a pair of blocks of
  keys is number `k`.
-/
module

public import proofs.«01_k».proof.Proof.Gen.KernelIdeal.Frame

@[expose] public section

set_option maxRecDepth 16384

namespace Cert.KernelIdeal.Hand

open Idealize Idealize.ShloMosaic Cert.KernelIdeal.Gen

/-- The number of the block of queries at a grid point. -/
abbrev qb (t : Fin grid0.N) : ℕ := (grid0.coords t 2).val

theorem trips1 : ∀ t : Fin grid0.N, (k0_t1_loop (grid0.coords t)).trips = qb t / 2 := by decide +kernel
theorem trips2 : ∀ t : Fin grid0.N, (k0_t2_loop (grid0.coords t)).trips = 0 := by decide +kernel
theorem cond1 : ∀ t : Fin grid0.N, k0_cond1 (grid0.coords t) = 1#1 ↔ qb t % 2 = 1 := by decide +kernel
theorem off1 : ∀ t : Fin grid0.N, k0_off1 (grid0.coords t) = ![0, 1024 * qb t, 0] := by decide +kernel
theorem off2 : ∀ t : Fin grid0.N, k0_off2 (grid0.coords t) = ![0, 0, 1024 * qb t] := by decide +kernel
theorem off3a : ∀ (t : Fin grid0.N) (k : Fin (k0_t1_loop (grid0.coords t)).trips),
    k0_off3 (grid0.coords t) k 1#32 = ![0, 1024 * (2 * k.val + 1), 0] := by decide +kernel
theorem off3b : ∀ (t : Fin grid0.N) (k : Fin (k0_t1_loop (grid0.coords t)).trips),
    k0_off3 (grid0.coords t) k 2#32 = ![0, 1024 * (2 * k.val + 2), 0] := by decide +kernel
theorem off4a : ∀ (t : Fin grid0.N) (k : Fin (k0_t1_loop (grid0.coords t)).trips),
    k0_off4 (grid0.coords t) k 0#32 = ![0, 0, 1024 * (2 * k.val)] := by decide +kernel
theorem off4b : ∀ (t : Fin grid0.N) (k : Fin (k0_t1_loop (grid0.coords t)).trips),
    k0_off4 (grid0.coords t) k 512#32 = ![0, 0, 1024 * (2 * k.val) + 512] := by decide +kernel
theorem off5a : ∀ (t : Fin grid0.N) (k : Fin (k0_t1_loop (grid0.coords t)).trips),
    k0_off5 (grid0.coords t) k 0#32 = ![0, 0, 1024 * (2 * k.val + 1)] := by decide +kernel
theorem off5b : ∀ (t : Fin grid0.N) (k : Fin (k0_t1_loop (grid0.coords t)).trips),
    k0_off5 (grid0.coords t) k 512#32 = ![0, 0, 1024 * (2 * k.val + 1) + 512] := by decide +kernel
theorem off9a : ∀ t : Fin grid0.N, qb t % 2 = 1 → k0_off9 (grid0.coords t) 0#32 = ![0, 0, 1024 * (2 * (qb t / 2))] := by
  decide +kernel
theorem off9b : ∀ t : Fin grid0.N, qb t % 2 = 1 →
    k0_off9 (grid0.coords t) 512#32 = ![0, 0, 1024 * (2 * (qb t / 2)) + 512] := by decide +kernel

end Cert.KernelIdeal.Hand
-- ==== Proof.Loop.lean ====
/-
  The loop over pairs of blocks of keys. Before each trip the bound and the sums carry the block on the diagonal and all
  the keys of the pairs before, and the first place of the scratch memory holds the scores of the next block.
-/
module

public import proofs.«01_k».proof.Proof.Trip
public import proofs.«01_k».proof.Proof.Grid
public import proofs.«01_k».proof.Proof.Pays
public import Idealize.ShloMosaic.Lib.WholeRead

@[expose] public section

set_option maxRecDepth 16384

noncomputable section

namespace Cert.KernelIdeal.Hand

open Idealize Idealize.ShloMosaic Cert.KernelIdeal Cert.KernelIdeal.Gen

/-- A load from a whole block held at `X`: the entry at the load's offset. -/
theorem load_at {s : Shape} {e : EltTy} {m : Memref sig .tc .vmem s e} (h : m.IsWhole) (X : s.Idx → Elt Ideal e)
    (off : Fin s.rank → ℕ) (sz : Fin s.rank → ℕ) (inb : ∀ a, off a + sz a ≤ s.size a)
    (y : s.Idx) (x : (Rect.unit (s := s) off sz inb).toLoadRect.shape.Idx) (off' : Fin s.rank → ℕ) (ho : off = off')
    (hy : ∀ a, (y a).val = off' a + (x a).val) :
    View.readAt (Elt Ideal) m.view (Rect.unit (s := s) off sz inb).toLoadRect (h.unread X) x = X y := by
  rw [Memref.IsWhole.readAt_unread]
  congr 1
  funext a
  apply Fin.ext
  rw [hy a, ← ho]
  show off a + 1 * (x a).val = _
  rw [one_mul]

abbrev slot0 : Rect S2x1024x2048 := Rect.unit ![0, 0, 0] S1x1024x2048.size inb_S2x1024x2048_S1x1024x2048_0_0_0
abbrev slot1 : Rect S2x1024x2048 := Rect.unit ![1, 0, 0] S1x1024x2048.size inb_S2x1024x2048_S1x1024x2048_1_0_0

/-- The first place after a store into it. -/
theorem canon_slot0 (p : FVec Ideal S1x1024x2048 .f32) (L : List (View.Piece (Elt Ideal) S2x1024x2048 .f32))
    (j : Fin 1024) (r : Fin 2048) :
    View.canon (Val := Elt Ideal) (⟨slot0, p⟩ :: L) (ix3 0 j r) = p (ix3 0 j r) := by
  have e : (ix3 0 j r : S2x1024x2048.Idx) = slot0.emb (ix3 0 j r : S1x1024x2048.Idx) := by
    funext a; fin_cases a <;> apply Fin.ext <;> simp [Rect.emb_apply, ix3]
  rw [e, View.canon_cons_emb]

/-- The second place after a store into it and then one into the first. -/
theorem canon_slot1 (p q : FVec Ideal S1x1024x2048 .f32) (L : List (View.Piece (Elt Ideal) S2x1024x2048 .f32))
    (j : Fin 1024) (r : Fin 2048) :
    View.canon (Val := Elt Ideal) (⟨slot0, q⟩ :: ⟨slot1, p⟩ :: L) (ix3 1 j r) = p (ix3 0 j r) := by
  have e : (ix3 1 j r : S2x1024x2048.Idx) = slot1.emb (ix3 0 j r : S1x1024x2048.Idx) := by
    funext a; fin_cases a <;> apply Fin.ext <;> simp [Rect.emb_apply, ix3]
  rw [View.canon_cons_of_not_mem]
  · rw [e, View.canon_cons_emb]
  · intro hm
    have h0 := (Rect.mem_set_unit (inb := inb_S2x1024x2048_S1x1024x2048_0_0_0).mp hm (0 : Fin 3)).2
    simp [ix3] at h0

/-- Half of a place of the scratch memory, as a load reads it. -/
theorem half_idx (s o : ℕ) (hs : s < 2) (ho : o + 512 ≤ 1024) (inb) (j : Fin 512) (r : Fin 2048) :
    (Rect.unit (s := S2x1024x2048) ![s, o, 0] S1x512x2048.size inb).toLoadRect.idx (ix3 0 j r : S1x512x2048.Idx)
      = (ix3 ⟨s, hs⟩ ⟨o + j.val, by omega⟩ r : S2x1024x2048.Idx) := by
  funext a
  apply Fin.ext
  rw [LoadRect.idx_apply]
  fin_cases a <;> simp [ix3]

/-- A block of keys taken in, in halves: the sums gain its keys. -/
theorem Carries.keys {m : FVec Ideal S1x2048 .f32} {a : FVec Ideal S144x2048 .f32} (B : Fin 144 → Fin 2048 → ℝ)
    (σ : Fin 2048 → ℕ → ℝ) (U : Fin 144 → ℕ → ℝ) (o : ℕ)
    (h : Carries m a (fun e r => B e r + ∑ n ∈ Finset.range o, U e n * Real.exp (σ r n)))
    (s0 s1 : FVec Ideal S1x512x2048 .f32) (w0 w1 : FVec Ideal S1x144x512 .bf16)
    (hs0 : ∀ (k : Fin 512) r, s0 (ix3 0 k r) = (σ r (o + k.val) : EReal))
    (hs1 : ∀ (k : Fin 512) r, s1 (ix3 0 k r) = (σ r (o + 512 + k.val) : EReal))
    (hw0 : ∀ e (k : Fin 512), w0 (ix3 0 e k) = (U e (o + k.val) : EReal))
    (hw1 : ∀ e (k : Fin 512), w1 (ix3 0 e k) = (U e (o + 512 + k.val) : EReal)) :
    Carries (stepM m s0 s1) (stepA m a s0 s1 w0 w1)
      (fun e r => B e r + ∑ n ∈ Finset.range (o + 1024), U e n * Real.exp (σ r n)) := by
  refine (h.step s0 s1 w0 w1 (fun e k => U e (o + k.val)) (fun e k => U e (o + 512 + k.val))
    (fun k r => by rw [hs0]; exact EReal.coe_ne_top _) (fun k r => by rw [hs1]; exact EReal.coe_ne_top _) hw0 hw1).congr ?_
  intro e r
  have e2 : o + 1024 = o + 512 + 512 := rfl
  rw [e2, Finset.sum_range_add, Finset.sum_range_add, Finset.sum_range (n := 512), Finset.sum_range (n := 512)]
  simp only [hs0, hs1, wt_coe]
  ring

section
variable (c : Dev nD) (arg3 : Memref sig .tc .vmem S1x1024x128 .bf16) (harg3 : arg3.IsWhole) (arg4 : Memref sig .tc .vmem S1x16384x128 .bf16) (harg4 : arg4.IsWhole) (arg5 : Memref sig .tc .vmem S1x144x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x1024x128 .bf16) (harg8 : arg8.IsWhole) (arg9 : Memref sig .tc .vmem S2x1024x2048 .f32) (harg9 : arg9.IsWhole)
  (v14 : FVec Ideal S2048x128 .bf16) (v32 : BitVec 32) (v43 : FVec Ideal S144x2048 .f32)
  (v67 : FVec Ideal S1x2048 .f32) (v72 v75 : FVec Ideal S144x2048 .f32)
  (X4 : S1x16384x128.Idx → Elt Ideal .bf16) (X5 : S1x144x16384.Idx → Elt Ideal .bf16)
  (t : Fin grid0.N)

theorem trip_bound (k : Fin (k0_t1_loop (grid0.coords t)).trips) : 2 * k.val + 2 ≤ qb t ∧ qb t < 16 := by
  have h : k.val < qb t / 2 := lt_of_lt_of_eq k.isLt (trips1 t)
  have h2 : qb t < 16 := (grid0.coords t 2).isLt
  exact ⟨by omega, h2⟩

theorem keysA_apply (k : Fin (k0_t1_loop (grid0.coords t)).trips) (j : Fin 1024) (d : Fin 128) (n : ℕ) (hn : n < 16384)
    (e : n = 1024 * (2 * k.val + 1) + j.val) :
    keysA (grid0.coords t) arg4 (harg4.unread X4) k (ix3 0 j d) = X4 (ix3 0 ⟨n, hn⟩ d) := by
  refine load_at harg4 X4 _ _ _ _ _ _ (off3a t k) ?_
  intro a
  fin_cases a <;> simp [ix3, e]

theorem keysB_apply (k : Fin (k0_t1_loop (grid0.coords t)).trips) (j : Fin 1024) (d : Fin 128) (n : ℕ) (hn : n < 16384)
    (e : n = 1024 * (2 * k.val + 2) + j.val) :
    keysB (grid0.coords t) arg4 (harg4.unread X4) k (ix3 0 j d) = X4 (ix3 0 ⟨n, hn⟩ d) := by
  refine load_at harg4 X4 _ _ _ _ _ _ (off3b t k) ?_
  intro a
  fin_cases a <;> simp [ix3, e]

theorem valsA_apply (k : Fin (k0_t1_loop (grid0.coords t)).trips) (x : Fin 144) (j : Fin 512) (n : ℕ) (hn : n < 16384)
    (e : n = 1024 * (2 * k.val) + j.val) :
    valsA (grid0.coords t) arg5 (harg5.unread X5) k (ix3 0 x j) = X5 (ix3 0 x ⟨n, hn⟩) := by
  refine load_at harg5 X5 _ _ _ _ _ _ (off4a t k) ?_
  intro a
  fin_cases a <;> simp [ix3, e]

theorem valsB_apply (k : Fin (k0_t1_loop (grid0.coords t)).trips) (x : Fin 144) (j : Fin 512) (n : ℕ) (hn : n < 16384)
    (e : n = 1024 * (2 * k.val) + 512 + j.val) :
    valsB (grid0.coords t) arg5 (harg5.unread X5) k (ix3 0 x j) = X5 (ix3 0 x ⟨n, hn⟩) := by
  refine load_at harg5 X5 _ _ _ _ _ _ (off4b t k) ?_
  intro a
  fin_cases a <;> simp [ix3, e]

theorem valsC_apply (k : Fin (k0_t1_loop (grid0.coords t)).trips) (x : Fin 144) (j : Fin 512) (n : ℕ) (hn : n < 16384)
    (e : n = 1024 * (2 * k.val + 1) + j.val) :
    valsC (grid0.coords t) arg5 (harg5.unread X5) k (ix3 0 x j) = X5 (ix3 0 x ⟨n, hn⟩) := by
  refine load_at harg5 X5 _ _ _ _ _ _ (off5a t k) ?_
  intro a
  fin_cases a <;> simp [ix3, e]

theorem valsD_apply (k : Fin (k0_t1_loop (grid0.coords t)).trips) (x : Fin 144) (j : Fin 512) (n : ℕ) (hn : n < 16384)
    (e : n = 1024 * (2 * k.val + 1) + 512 + j.val) :
    valsD (grid0.coords t) arg5 (harg5.unread X5) k (ix3 0 x j) = X5 (ix3 0 x ⟨n, hn⟩) := by
  refine load_at harg5 X5 _ _ _ _ _ _ (off5b t k) ?_
  intro a
  fin_cases a <;> simp [ix3, e]

/-- The loop's state. -/
abbrev pairs (H : List (View.Piece (Elt Ideal) S2x1024x2048 .f32)) (init : FVec Ideal S1x2048 .f32 × FVec Ideal S144x2048 .f32) (k : ℕ) :=
  st_k0_t1 (F := Ideal) Variants.none c none (grid0.coords t) arg3 harg3 arg4 harg4 arg5 harg5 arg6 harg6 arg7 harg7 arg8 harg8 arg9 harg9 v14 v32 v43 v67 v72 v75 (harg4.unread X4) (harg5.unread X5)
    (arg9.view.writes (Elt Ideal) arg9.view.junk H) init k

theorem pairs_spec (H : List (View.Piece (Elt Ideal) S2x1024x2048 .f32)) (init : FVec Ideal S1x2048 .f32 × FVec Ideal S144x2048 .f32)
    (σ : Fin 2048 → ℕ → ℝ) (U : Fin 144 → ℕ → ℝ) (B : Fin 144 → Fin 2048 → ℝ)
    (hK : ∀ n (h : n < 16384) r, ∑ d : Fin 128, X4 (ix3 0 ⟨n, h⟩ d) * v14 (ix2 r d) = (σ r n : EReal))
    (hU : ∀ n (h : n < 16384) e, X5 (ix3 0 e ⟨n, h⟩) = (U e n : EReal))
    (hH : ∀ (j : Fin 1024) r, View.canon (Val := Elt Ideal) H (ix3 0 j r) = (σ r j.val : EReal))
    (hinit : Carries init.1 init.2 B) (k : ℕ) (hk : k ≤ (k0_t1_loop (grid0.coords t)).trips) :
    Carries (pairs c arg3 harg3 arg4 harg4 arg5 harg5 arg6 harg6 arg7 harg7 arg8 harg8 arg9 harg9 v14 v32 v43 v67 v72 v75 X4 X5 t H init k).1.1
        (pairs c arg3 harg3 arg4 harg4 arg5 harg5 arg6 harg6 arg7 harg7 arg8 harg8 arg9 harg9 v14 v32 v43 v67 v72 v75 X4 X5 t H init k).1.2
        (fun e r => B e r + ∑ n ∈ Finset.range (2048 * k), U e n * Real.exp (σ r n))
      ∧ ∀ (j : Fin 1024) r, View.canon (Val := Elt Ideal)
          ((pairs c arg3 harg3 arg4 harg4 arg5 harg5 arg6 harg6 arg7 harg7 arg8 harg8 arg9 harg9 v14 v32 v43 v67 v72 v75 X4 X5 t H init k).2 ++ H) (ix3 0 j r)
        = (σ r (2048 * k + j.val) : EReal) := by
  induction k with
  | zero =>
    refine ⟨hinit.congr fun e r => by simp, fun j r => ?_⟩
    rw [show 2048 * 0 + j.val = j.val by omega]
    exact hH j r
  | succ k ih =>
    obtain ⟨hc, hs⟩ := ih (Nat.le_of_succ_le hk)
    have hb := trip_bound t ⟨k, hk⟩
    have hb1 : 2 * k + 2 ≤ qb t := hb.1
    have hb2 := hb.2
    rw [show pairs c arg3 harg3 arg4 harg4 arg5 harg5 arg6 harg6 arg7 harg7 arg8 harg8 arg9 harg9 v14 v32 v43 v67 v72 v75 X4 X5 t H init (k + 1) = _ from
      st_k0_t1_succ (F := Ideal) Variants.none c none (grid0.coords t) arg3 harg3 arg4 harg4 arg5 harg5 arg6 harg6 arg7 harg7 arg8 harg8 arg9 harg9 v14 v32 v43 v67 v72 v75 (harg4.unread X4) (harg5.unread X5)
        (arg9.view.writes (Elt Ideal) arg9.view.junk H) init ⟨k, hk⟩]
    rw [tripL_eq, tripR_eq]
    dsimp only [pairs] at hc hs
    generalize hst : st_k0_t1 (F := Ideal) Variants.none c none (grid0.coords t) arg3 harg3 arg4 harg4 arg5 harg5 arg6 harg6 arg7 harg7 arg8 harg8 arg9 harg9 v14 v32 v43 v67 v72 v75 (harg4.unread X4) (harg5.unread X5)
        (arg9.view.writes (Elt Ideal) arg9.view.junk H) init k = st at hc hs ⊢
    -- the four halves of scores
    have hA : ∀ (j : Fin 512) r, oldA arg9 (arg9.view.writes (Elt Ideal) (arg9.view.writes (Elt Ideal) arg9.view.junk H) st.2) (ix3 0 j r)
        = (σ r (2048 * k + j.val) : EReal) := fun j r => by
      rw [oldA, ← View.writes_append, View.readAt_writes_junk_eq_canon]
      show View.canon _ (LoadRect.idx _ _) = _
      rw [half_idx 0 0 (by decide) (by decide)]
      refine (hs ⟨0 + j.val, by omega⟩ r).trans ?_
      exact congrArg (fun z : ℕ => ((σ r z : ℝ) : EReal)) (by dsimp only; omega)
    have hB : ∀ (j : Fin 512) r, oldB arg9 (arg9.view.writes (Elt Ideal) (arg9.view.writes (Elt Ideal) arg9.view.junk H) st.2) (ix3 0 j r)
        = (σ r (2048 * k + 512 + j.val) : EReal) := fun j r => by
      rw [oldB, ← View.writes_append, View.readAt_writes_junk_eq_canon]
      show View.canon _ (LoadRect.idx _ _) = _
      rw [half_idx 0 512 (by decide) (by decide)]
      refine (hs ⟨512 + j.val, by omega⟩ r).trans ?_
      exact congrArg (fun z : ℕ => ((σ r z : ℝ) : EReal)) (by dsimp only; omega)
    have hP : ∀ (j : Fin 1024) r, k0_pay2 (F := Ideal) v14 (keysA (grid0.coords t) arg4 (harg4.unread X4) ⟨k, hk⟩) (ix3 0 j r)
        = (σ r (2048 * k + 1024 + j.val) : EReal) := fun j r => by
      rw [pay2_apply, ← hK _ (by omega)]
      refine Finset.sum_congr rfl fun d _ => ?_
      rw [keysA_apply arg4 harg4 X4 t ⟨k, hk⟩ j d (2048 * k + 1024 + j.val) (by omega) (by dsimp only; omega)]
    have hQ : ∀ (j : Fin 1024) r, k0_pay2 (F := Ideal) v14 (keysB (grid0.coords t) arg4 (harg4.unread X4) ⟨k, hk⟩) (ix3 0 j r)
        = (σ r (2048 * (k + 1) + j.val) : EReal) := fun j r => by
      rw [pay2_apply, ← hK _ (by omega)]
      refine Finset.sum_congr rfl fun d _ => ?_
      rw [keysB_apply arg4 harg4 X4 t ⟨k, hk⟩ j d (2048 * (k + 1) + j.val) (by omega) (by dsimp only; omega)]
    have hC : ∀ (j : Fin 512) r, newA (grid0.coords t) arg4 arg9 v14 (harg4.unread X4) ⟨k, hk⟩ (ix3 0 j r)
        = (σ r (2048 * k + 1024 + j.val) : EReal) := fun j r => by
      rw [newA, View.readCov_eq_canon']
      show View.canon _ (LoadRect.idx _ _) = _
      rw [half_idx 1 0 (by decide) (by decide)]
      refine (canon_slot1 _ _ [] ⟨0 + j.val, by omega⟩ r).trans ?_
      rw [hP]
      exact congrArg (fun z : ℕ => ((σ r z : ℝ) : EReal)) (by dsimp only; omega)
    have hD : ∀ (j : Fin 512) r, newB (grid0.coords t) arg4 arg9 v14 (harg4.unread X4) ⟨k, hk⟩ (ix3 0 j r)
        = (σ r (2048 * k + 1024 + 512 + j.val) : EReal) := fun j r => by
      rw [newB, View.readCov_eq_canon']
      show View.canon _ (LoadRect.idx _ _) = _
      rw [half_idx 1 512 (by decide) (by decide)]
      refine (canon_slot1 _ _ [] ⟨512 + j.val, by omega⟩ r).trans ?_
      rw [hP]
      exact congrArg (fun z : ℕ => ((σ r z : ℝ) : EReal)) (by dsimp only; omega)
    refine ⟨?_, ?_⟩
    · have h1 := Carries.keys B σ U (2048 * k) hc _ _
        (valsA (grid0.coords t) arg5 (harg5.unread X5) ⟨k, hk⟩) (valsB (grid0.coords t) arg5 (harg5.unread X5) ⟨k, hk⟩) hA hB
        (fun e j => by rw [valsA_apply arg5 harg5 X5 t ⟨k, hk⟩ e j (2048 * k + j.val) (by omega) (by dsimp only; omega), hU])
        (fun e j => by rw [valsB_apply arg5 harg5 X5 t ⟨k, hk⟩ e j (2048 * k + 512 + j.val) (by omega) (by dsimp only; omega), hU])
      exact Carries.keys B σ U (2048 * k + 1024) h1 _ _
        (valsC (grid0.coords t) arg5 (harg5.unread X5) ⟨k, hk⟩) (valsD (grid0.coords t) arg5 (harg5.unread X5) ⟨k, hk⟩) hC hD
        (fun e j => by rw [valsC_apply arg5 harg5 X5 t ⟨k, hk⟩ e j (2048 * k + 1024 + j.val) (by omega) (by dsimp only; omega), hU])
        (fun e j => by rw [valsD_apply arg5 harg5 X5 t ⟨k, hk⟩ e j (2048 * k + 1024 + 512 + j.val) (by omega) (by dsimp only; omega), hU])
    · intro j r
      exact (canon_slot0 _ _ j r).trans (hQ j r)

end

end Cert.KernelIdeal.Hand
-- ==== Proof.PayOut.lean ====
/-
  The end of the kernel, read at an index: the two quotients, their difference, and the normalisation.
-/
module

public import proofs.«01_k».proof.Proof.Pays

@[expose] public section

set_option maxRecDepth 16384

noncomputable section

namespace Cert.KernelIdeal.Hand

open Idealize Idealize.ShloMosaic Cert.KernelIdeal.Gen

/-- The factor of the second softmax, from the four rows of parameters. -/
def factor (l : FVec Ideal S4x64 .f32) : EReal :=
  Ideal.exp (∑ x : Fin 64, l (ix2 0 x) * l (ix2 1 x)) - Ideal.exp (∑ x : Fin 64, l (ix2 2 x) * l (ix2 3 x))
    + Ideal.ofBits .f32 0x3EB60549#32

/-- The difference of the two quotients: lane `d` of row `r`. -/
def quot (a : FVec Ideal S144x2048 .f32) (l : FVec Ideal S4x64 .f32) (r : Fin 1024) (d : Fin 128) : EReal :=
  Ideal.div (a (ix2 ⟨d.val, by omega⟩ ⟨r.val, by omega⟩)) (a (ix2 128 ⟨r.val, by omega⟩))
    - factor l * Ideal.div (a (ix2 ⟨d.val, by omega⟩ ⟨1024 + r.val, by omega⟩)) (a (ix2 128 ⟨1024 + r.val, by omega⟩))

theorem pay39_apply (a : FVec Ideal S144x2048 .f32) (l : FVec Ideal S4x64 .f32) (g : FVec Ideal S128x1 .f32)
    (r : Fin 1024) (d : Fin 128) :
    k0_pay39 (F := Ideal) a l g (ix2 r d)
      = quot a l r d
          * Ideal.rsqrt (Ideal.div (∑ x : Fin 128, quot a l r x * quot a l r x) (Ideal.ofBits .f32 0x43000000#32)
              + Ideal.ofBits .f32 0x3727C5AC#32)
          * g (ix2 d 0) * Ideal.ofBits .f32 0x3F24FD5C#32 := by
  pointwise [k0_pay39]
  rfl

theorem pay1_apply (x : FVec Ideal S1024x128 .bf16) (r : Fin 1024) (d : Fin 128) :
    k0_pay1 (F := Ideal) x (ix3 0 r d) = x (ix2 r d) := by
  pointwise [k0_pay1]

end Cert.KernelIdeal.Hand
-- ==== Proof.Body.lean ====
/-
  The body at a grid point: what either run stores, in terms of the loop's state.
-/
module

public import proofs.«01_k».proof.Proof.Loop
public import proofs.«01_k».proof.Proof.PaysDiag
public import proofs.«01_k».proof.Proof.PayOut

@[expose] public section

set_option maxRecDepth 16384

noncomputable section

namespace Cert.KernelIdeal.Hand

open Idealize Idealize.ShloMosaic Cert.KernelIdeal Cert.KernelIdeal.Gen

section
variable (c : Dev nD) (i : grid0.Coords) (arg3 : Memref sig .tc .vmem S1x1024x128 .bf16) (harg3 : arg3.IsWhole) (arg4 : Memref sig .tc .vmem S1x16384x128 .bf16) (harg4 : arg4.IsWhole) (arg5 : Memref sig .tc .vmem S1x144x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x1024x128 .bf16) (harg8 : arg8.IsWhole) (arg9 : Memref sig .tc .vmem S2x1024x2048 .f32) (harg9 : arg9.IsWhole)
  (Y3 : BufTy.Contents (Elt Ideal) arg3.view.ty) (Y4 : BufTy.Contents (Elt Ideal) arg4.view.ty) (Y5 : BufTy.Contents (Elt Ideal) arg5.view.ty)
  (Y6 : BufTy.Contents (Elt Ideal) arg6.view.ty) (Y7 : BufTy.Contents (Elt Ideal) arg7.view.ty)

/-- The queries, split in two halves of rows. -/
abbrev qrows : FVec Ideal S2048x128 .bf16 :=
  k0_pay25 (F := Ideal) (View.readAt (Elt Ideal) arg3.view (Rect.unit (s := S1x1024x128) ![0, 0, 0] S1x1024x128.size inb_S1x1024x128_S1x1024x128_0_0_0).toLoadRect Y3)
/-- The first block of keys, and the block on the diagonal with its values. -/
abbrev keys0 : FVec Ideal S1x1024x128 .bf16 :=
  View.readAt (Elt Ideal) arg4.view (Rect.unit (s := S1x16384x128) ![0, 0, 0] S1x1024x128.size inb_S1x16384x128_S1x1024x128_0_0_0).toLoadRect Y4
abbrev keysD : FVec Ideal S1x1024x128 .bf16 :=
  View.readAt (Elt Ideal) arg4.view (Rect.unit (s := S1x16384x128) (k0_off1 i) S1x1024x128.size (facts.k0_off1_inb i)).toLoadRect Y4
abbrev valsDiag : FVec Ideal S1x144x1024 .bf16 :=
  View.readAt (Elt Ideal) arg5.view (Rect.unit (s := S1x144x16384) (k0_off2 i) S1x144x1024.size (facts.k0_off2_inb i)).toLoadRect Y5
/-- The stores before the loop. -/
abbrev pieces0 : List (View.Piece (Elt Ideal) S2x1024x2048 .f32) :=
  [⟨slot0, k0_pay2 (F := Ideal) (qrows arg3 Y3) (keys0 arg4 Y4)⟩, ⟨slot1, k0_pay2 (F := Ideal) (qrows arg3 Y3) (keysD i arg4 Y4)⟩]
/-- The scores of the diagonal block. -/
abbrev scoresD : FVec Ideal S1x1024x2048 .f32 :=
  arg9.view.readCov (pieces0 i arg3 arg4 Y3 Y4) slot1.toLoadRect
abbrev bound0 : FVec Ideal S1x2048 .f32 := k0_pay32 (F := Ideal) (scoresD i arg3 arg4 arg9 Y3 Y4)
abbrev sums0 : FVec Ideal S144x2048 .f32 :=
  k0_pay35 (F := Ideal) k0_pay29 (k0_pay33 (scoresD i arg3 arg4 arg9 Y3 Y4) (valsDiag i arg5 Y5)) (k0_pay34 (scoresD i arg3 arg4 arg9 Y3 Y4))
/-- The state after the loop over pairs. -/
abbrev after1 (v32 : BitVec 32) :=
  st_k0_t1 (F := Ideal) Variants.none c none i arg3 harg3 arg4 harg4 arg5 harg5 arg6 harg6 arg7 harg7 arg8 harg8 arg9 harg9 (qrows arg3 Y3) v32 k0_pay29
    (bound0 i arg3 arg4 arg9 Y3 Y4) (k0_pay33 (scoresD i arg3 arg4 arg9 Y3 Y4) (valsDiag i arg5 Y5)) (k0_pay34 (scoresD i arg3 arg4 arg9 Y3 Y4)) Y4 Y5
    (arg9.view.writes (Elt Ideal) arg9.view.junk (pieces0 i arg3 arg4 Y3 Y4)) (bound0 i arg3 arg4 arg9 Y3 Y4, sums0 i arg3 arg4 arg5 arg9 Y3 Y4 Y5)
    (k0_t1_loop i).trips
/-- The state after the second loop. -/
abbrev after2 (v32 v99 : BitVec 32) :=
  st_k0_t2 (F := Ideal) Variants.none c none i arg3 harg3 arg4 harg4 arg5 harg5 arg6 harg6 arg7 harg7 arg8 harg8 arg9 harg9 (qrows arg3 Y3) v32 k0_pay29
    (bound0 i arg3 arg4 arg9 Y3 Y4) (k0_pay33 (scoresD i arg3 arg4 arg9 Y3 Y4) (valsDiag i arg5 Y5)) (k0_pay34 (scoresD i arg3 arg4 arg9 Y3 Y4)) v99 Y4 Y5
    (arg9.view.writes (Elt Ideal) arg9.view.junk ((after1 c i arg3 harg3 arg4 harg4 arg5 harg5 arg6 harg6 arg7 harg7 arg8 harg8 arg9 harg9 Y3 Y4 Y5 v32).2 ++ pieces0 i arg3 arg4 Y3 Y4))
    ((after1 c i arg3 harg3 arg4 harg4 arg5 harg5 arg6 harg6 arg7 harg7 arg8 harg8 arg9 harg9 Y3 Y4 Y5 v32).1.1, (after1 c i arg3 harg3 arg4 harg4 arg5 harg5 arg6 harg6 arg7 harg7 arg8 harg8 arg9 harg9 Y3 Y4 Y5 v32).1.2)
    (k0_t2_loop i).trips
/-- The last step, from the sums. -/
abbrev closing (a : FVec Ideal S144x2048 .f32) : FVec Ideal S1x1024x128 .bf16 :=
  k0_pay1 (F := Ideal) (k0_pay39 a
    (View.readAt (Elt Ideal) arg6.view (Rect.unit (s := S4x64) ![0, 0] S4x64.size inb_S4x64_S4x64_0_0).toLoadRect Y6)
    (View.readAt (Elt Ideal) arg7.view (Rect.unit (s := S128x1) ![0, 0] S128x1.size inb_S128x1_S128x1_0_0).toLoadRect Y7))

theorem runEven_eq (hc : ¬ k0_cond1 i = 1#1) : ∃ v32 v99 : BitVec 32,
    (runEven (F := Ideal) c i arg3 harg3 arg4 harg4 arg5 harg5 arg6 harg6 arg7 harg7 arg8 harg8 arg9 harg9 Y3 Y4 Y5 Y6 Y7 hc).1
      = [⟨Rect.unit ![0, 0, 0] S1x1024x128.size inb_S1x1024x128_S1x1024x128_0_0_0, closing arg6 arg7 Y6 Y7
          (after2 c i arg3 harg3 arg4 harg4 arg5 harg5 arg6 harg6 arg7 harg7 arg8 harg8 arg9 harg9 Y3 Y4 Y5 v32 v99).1.2⟩] :=
  ⟨_, _, rfl⟩

/-- The leftover block's scores and values, in halves. -/
abbrev leftA (L : List (View.Piece (Elt Ideal) S2x1024x2048 .f32)) : FVec Ideal S1x512x2048 .f32 :=
  arg9.view.readCov L (Rect.unit (s := S2x1024x2048) ![0, 0, 0] S1x512x2048.size inb_S2x1024x2048_S1x512x2048_0_0_0).toLoadRect
abbrev leftB (L : List (View.Piece (Elt Ideal) S2x1024x2048 .f32)) : FVec Ideal S1x512x2048 .f32 :=
  arg9.view.readCov L (Rect.unit (s := S2x1024x2048) ![0, 512, 0] S1x512x2048.size inb_S2x1024x2048_S1x512x2048_0_512_0).toLoadRect
abbrev valsE (hc : k0_cond1 i = 1#1) : FVec Ideal S1x144x512 .bf16 :=
  View.readAt (Elt Ideal) arg5.view (Rect.unit (s := S1x144x16384) (k0_off9 i 0#32) S1x144x512.size (facts.k0_off9_inb i hc 0)).toLoadRect Y5
abbrev valsF (hc : k0_cond1 i = 1#1) : FVec Ideal S1x144x512 .bf16 :=
  View.readAt (Elt Ideal) arg5.view (Rect.unit (s := S1x144x16384) (k0_off9 i 512#32) S1x144x512.size (facts.k0_off9_inb i hc 1)).toLoadRect Y5

theorem runOdd_eq (hc : k0_cond1 i = 1#1) : ∃ v32 v99 : BitVec 32,
    (runOdd (F := Ideal) c i arg3 harg3 arg4 harg4 arg5 harg5 arg6 harg6 arg7 harg7 arg8 harg8 arg9 harg9 Y3 Y4 Y5 Y6 Y7 hc).1
      = [⟨Rect.unit ![0, 0, 0] S1x1024x128.size inb_S1x1024x128_S1x1024x128_0_0_0, closing arg6 arg7 Y6 Y7
          (stepA (after2 c i arg3 harg3 arg4 harg4 arg5 harg5 arg6 harg6 arg7 harg7 arg8 harg8 arg9 harg9 Y3 Y4 Y5 v32 v99).1.1
            (after2 c i arg3 harg3 arg4 harg4 arg5 harg5 arg6 harg6 arg7 harg7 arg8 harg8 arg9 harg9 Y3 Y4 Y5 v32 v99).1.2
            (leftA arg9 ((after2 c i arg3 harg3 arg4 harg4 arg5 harg5 arg6 harg6 arg7 harg7 arg8 harg8 arg9 harg9 Y3 Y4 Y5 v32 v99).2
              ++ ((after1 c i arg3 harg3 arg4 harg4 arg5 harg5 arg6 harg6 arg7 harg7 arg8 harg8 arg9 harg9 Y3 Y4 Y5 v32).2 ++ pieces0 i arg3 arg4 Y3 Y4)))
            (leftB arg9 ((after2 c i arg3 harg3 arg4 harg4 arg5 harg5 arg6 harg6 arg7 harg7 arg8 harg8 arg9 harg9 Y3 Y4 Y5 v32 v99).2
              ++ ((after1 c i arg3 harg3 arg4 harg4 arg5 harg5 arg6 harg6 arg7 harg7 arg8 harg8 arg9 harg9 Y3 Y4 Y5 v32).2 ++ pieces0 i arg3 arg4 Y3 Y4)))
            (valsE i arg5 Y5 hc) (valsF i arg5 Y5 hc))⟩] :=
  ⟨_, _, rfl⟩

end

end Cert.KernelIdeal.Hand
-- ==== Proof.BodyVal.lean ====
/-
  The body's value: at a grid point, the block stored is the last step at sums carried over all the keys up to each row.
-/
module

public import proofs.«01_k».proof.Proof.Body

@[expose] public section

set_option maxRecDepth 16384

noncomputable section

namespace Cert.KernelIdeal.Hand

open Idealize Idealize.ShloMosaic Cert.KernelIdeal Cert.KernelIdeal.Gen

/-- The diagonal block's keys up to a row, and all the keys before the block. -/
theorem diag_total (f g : ℕ → ℝ) (a b : ℕ) (hb : b < 1024) :
    (∑ k : Fin 1024, f (a + k.val) * (if k.val ≤ b then g (a + k.val) else 0)) + ∑ n ∈ Finset.range a, f n * g n
      = ∑ n ∈ Finset.range (a + b + 1), f n * g n := by
  rw [Nat.add_assoc, Finset.sum_range_add, add_comm]
  congr 1
  rw [← Finset.sum_range (n := 1024) (f := fun k => f (a + k) * (if k ≤ b then g (a + k) else 0))]
  symm
  rw [← Finset.sum_subset (Finset.range_subset_range.mpr (show b + 1 ≤ 1024 by omega))]
  · refine Finset.sum_congr rfl fun k hk => ?_
    rw [if_pos (by have := Finset.mem_range.mp hk; omega)]
  · intro k _ hk
    rw [if_neg (by intro h; exact hk (Finset.mem_range.mpr (by omega))), mul_zero]

/-- The output block after the one store of all of it. -/
theorem canon_block (p : FVec Ideal S1x1024x128 .bf16) (r : Fin 1024) (d : Fin 128) :
    View.canon (Val := Elt Ideal) (e := .bf16) (s := S1x1024x128) [⟨Rect.unit ![0, 0, 0] S1x1024x128.size inb_S1x1024x128_S1x1024x128_0_0_0, p⟩] (ix3 0 r d) = p (ix3 0 r d) := by
  have e : (ix3 0 r d : S1x1024x128.Idx)
      = (Rect.unit (s := S1x1024x128) ![0, 0, 0] S1x1024x128.size inb_S1x1024x128_S1x1024x128_0_0_0).emb (ix3 0 r d : S1x1024x128.Idx) := by
    funext a; fin_cases a <;> apply Fin.ext <;> simp [Rect.emb_apply, ix3]
  conv_lhs => rw [e]
  exact View.canon_cons_emb _ _ _ _

section
variable (c : Dev nD) (t : Fin grid0.N) (arg3 : Memref sig .tc .vmem S1x1024x128 .bf16) (harg3 : arg3.IsWhole) (arg4 : Memref sig .tc .vmem S1x16384x128 .bf16) (harg4 : arg4.IsWhole) (arg5 : Memref sig .tc .vmem S1x144x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x1024x128 .bf16) (harg8 : arg8.IsWhole) (arg9 : Memref sig .tc .vmem S2x1024x2048 .f32) (harg9 : arg9.IsWhole)
  (X3 : S1x1024x128.Idx → Elt Ideal .bf16) (X4 : S1x16384x128.Idx → Elt Ideal .bf16)
  (X5 : S1x144x16384.Idx → Elt Ideal .bf16) (X6 : S4x64.Idx → Elt Ideal .f32)
  (X7 : S128x1.Idx → Elt Ideal .f32)

theorem qrows_eq : qrows arg3 (harg3.unread X3) = k0_pay25 (F := Ideal) X3 := by
  rw [qrows]
  congr 1
  funext x
  refine load_at harg3 X3 _ _ _ x x _ rfl ?_
  intro a
  fin_cases a <;> simp

theorem keys0_apply (j : Fin 1024) (d : Fin 128) (n : ℕ) (hn : n < 16384) (e : n = j.val) :
    keys0 arg4 (harg4.unread X4) (ix3 0 j d) = X4 (ix3 0 ⟨n, hn⟩ d) := by
  refine load_at harg4 X4 _ _ _ _ _ _ rfl ?_
  intro a
  fin_cases a <;> simp [ix3, e]

theorem keysD_apply (j : Fin 1024) (d : Fin 128) (n : ℕ) (hn : n < 16384) (e : n = 1024 * qb t + j.val) :
    keysD (grid0.coords t) arg4 (harg4.unread X4) (ix3 0 j d) = X4 (ix3 0 ⟨n, hn⟩ d) := by
  refine load_at harg4 X4 _ _ _ _ _ _ (off1 t) ?_
  intro a
  fin_cases a <;> simp [ix3, e]

theorem valsDiag_apply (x : Fin 144) (j : Fin 1024) (n : ℕ) (hn : n < 16384) (e : n = 1024 * qb t + j.val) :
    valsDiag (grid0.coords t) arg5 (harg5.unread X5) (ix3 0 x j) = X5 (ix3 0 x ⟨n, hn⟩) := by
  refine load_at harg5 X5 _ _ _ _ _ _ (off2 t) ?_
  intro a
  fin_cases a <;> simp [ix3, e]

theorem valsE_apply (hc : k0_cond1 (grid0.coords t) = 1#1) (x : Fin 144) (j : Fin 512) (n : ℕ) (hn : n < 16384)
    (e : n = 2048 * (qb t / 2) + j.val) :
    valsE (grid0.coords t) arg5 (harg5.unread X5) hc (ix3 0 x j) = X5 (ix3 0 x ⟨n, hn⟩) := by
  refine load_at harg5 X5 _ _ _ _ _ _ (off9a t ((cond1 t).mp hc)) ?_
  have e' : n = 1024 * (2 * (qb t / 2)) + j.val := by omega
  intro a
  fin_cases a <;> simp [ix3, e']

theorem valsF_apply (hc : k0_cond1 (grid0.coords t) = 1#1) (x : Fin 144) (j : Fin 512) (n : ℕ) (hn : n < 16384)
    (e : n = 2048 * (qb t / 2) + 512 + j.val) :
    valsF (grid0.coords t) arg5 (harg5.unread X5) hc (ix3 0 x j) = X5 (ix3 0 x ⟨n, hn⟩) := by
  refine load_at harg5 X5 _ _ _ _ _ _ (off9b t ((cond1 t).mp hc)) ?_
  have e' : n = 1024 * (2 * (qb t / 2)) + 512 + j.val := by omega
  intro a
  fin_cases a <;> simp [ix3, e']

theorem closing_apply (a : FVec Ideal S144x2048 .f32) (r : Fin 1024) (d : Fin 128) :
    closing arg6 arg7 (harg6.unread X6) (harg7.unread X7) a (ix3 0 r d) = k0_pay39 (F := Ideal) a X6 X7 (ix2 r d) := by
  rw [closing, pay1_apply]
  congr 2
  · funext x
    refine load_at harg6 X6 _ _ _ x x _ rfl ?_
    intro a
    fin_cases a <;> simp
  · funext x
    refine load_at harg7 X7 _ _ _ x x _ rfl ?_
    intro a
    fin_cases a <;> simp

/-- The sums after all the keys a row sees. -/
def total (σ : Fin 2048 → ℕ → ℝ) (U : Fin 144 → ℕ → ℝ) (o : ℕ) (e : Fin 144) (r : Fin 2048) : ℝ :=
  ∑ n ∈ Finset.range (o + r.val % 1024 + 1), U e n * Real.exp (σ r n)

theorem after1_spec (σ : Fin 2048 → ℕ → ℝ) (U : Fin 144 → ℕ → ℝ) (v32 : BitVec 32)
    (hK : ∀ n (h : n < 16384) r, ∑ d : Fin 128, X4 (ix3 0 ⟨n, h⟩ d) * k0_pay25 (F := Ideal) X3 (ix2 r d) = (σ r n : EReal))
    (hU : ∀ n (h : n < 16384) e, X5 (ix3 0 e ⟨n, h⟩) = (U e n : EReal)) :
    Carries (after1 c (grid0.coords t) arg3 harg3 arg4 harg4 arg5 harg5 arg6 harg6 arg7 harg7 arg8 harg8 arg9 harg9 (harg3.unread X3) (harg4.unread X4) (harg5.unread X5) v32).1.1
        (after1 c (grid0.coords t) arg3 harg3 arg4 harg4 arg5 harg5 arg6 harg6 arg7 harg7 arg8 harg8 arg9 harg9 (harg3.unread X3) (harg4.unread X4) (harg5.unread X5) v32).1.2
        (fun e r => (∑ k : Fin 1024, U e (1024 * qb t + k.val) * (if k.val ≤ r.val % 1024 then Real.exp (σ r (1024 * qb t + k.val)) else 0))
          + ∑ n ∈ Finset.range (2048 * (qb t / 2)), U e n * Real.exp (σ r n))
      ∧ ∀ (j : Fin 1024) r, View.canon (Val := Elt Ideal)
          ((after1 c (grid0.coords t) arg3 harg3 arg4 harg4 arg5 harg5 arg6 harg6 arg7 harg7 arg8 harg8 arg9 harg9 (harg3.unread X3) (harg4.unread X4) (harg5.unread X5) v32).2
            ++ pieces0 (grid0.coords t) arg3 arg4 (harg3.unread X3) (harg4.unread X4)) (ix3 0 j r)
        = (σ r (2048 * (qb t / 2) + j.val) : EReal) := by
  have hq : qb t < 16 := (grid0.coords t 2).isLt
  have hK' : ∀ n (h : n < 16384) r, ∑ d : Fin 128, X4 (ix3 0 ⟨n, h⟩ d) * qrows arg3 (harg3.unread X3) (ix2 r d) = (σ r n : EReal) := by
    rw [qrows_eq]; exact hK
  have hH : ∀ (j : Fin 1024) r, View.canon (Val := Elt Ideal) (pieces0 (grid0.coords t) arg3 arg4 (harg3.unread X3) (harg4.unread X4)) (ix3 0 j r)
      = (σ r j.val : EReal) := fun j r => by
    refine (canon_slot0 _ _ j r).trans ?_
    rw [pay2_apply, ← hK' j.val (by omega)]
    refine Finset.sum_congr rfl fun d _ => ?_
    rw [keys0_apply arg4 harg4 X4 j d j.val (by omega) rfl]
  have hS : ∀ (j : Fin 1024) r, scoresD (grid0.coords t) arg3 arg4 arg9 (harg3.unread X3) (harg4.unread X4) (ix3 0 j r)
      = (σ r (1024 * qb t + j.val) : EReal) := fun j r => by
    rw [scoresD, View.readCov_eq_canon']
    show View.canon _ (LoadRect.idx _ _) = _
    have e : (slot1.toLoadRect.idx (ix3 0 j r : S1x1024x2048.Idx) : S2x1024x2048.Idx) = ix3 1 j r := by
      funext a; apply Fin.ext; rw [LoadRect.idx_apply]; fin_cases a <;> simp [ix3]
    rw [e]
    refine (canon_slot1 _ _ [] j r).trans ?_
    rw [pay2_apply, ← hK' (1024 * qb t + j.val) (by omega)]
    refine Finset.sum_congr rfl fun d _ => ?_
    rw [keysD_apply t arg4 harg4 X4 j d (1024 * qb t + j.val) (by omega) rfl]
  have hinit := Carries.start (scoresD (grid0.coords t) arg3 arg4 arg9 (harg3.unread X3) (harg4.unread X4))
    (valsDiag (grid0.coords t) arg5 (harg5.unread X5)) (fun k r => σ r (1024 * qb t + k.val)) (fun e k => U e (1024 * qb t + k.val)) hS
    (fun e k => by rw [valsDiag_apply t arg5 harg5 X5 e k (1024 * qb t + k.val) (by omega) rfl, hU])
  have h := pairs_spec c arg3 harg3 arg4 harg4 arg5 harg5 arg6 harg6 arg7 harg7 arg8 harg8 arg9 harg9 (qrows arg3 (harg3.unread X3)) v32 k0_pay29
    (bound0 (grid0.coords t) arg3 arg4 arg9 (harg3.unread X3) (harg4.unread X4))
    (k0_pay33 (scoresD (grid0.coords t) arg3 arg4 arg9 (harg3.unread X3) (harg4.unread X4)) (valsDiag (grid0.coords t) arg5 (harg5.unread X5)))
    (k0_pay34 (scoresD (grid0.coords t) arg3 arg4 arg9 (harg3.unread X3) (harg4.unread X4)))
    X4 X5 t (pieces0 (grid0.coords t) arg3 arg4 (harg3.unread X3) (harg4.unread X4))
    (bound0 (grid0.coords t) arg3 arg4 arg9 (harg3.unread X3) (harg4.unread X4), sums0 (grid0.coords t) arg3 arg4 arg5 arg9 (harg3.unread X3) (harg4.unread X4) (harg5.unread X5))
    σ U _ hK' hU hH hinit (k0_t1_loop (grid0.coords t)).trips le_rfl
  obtain ⟨h1, h2⟩ := h
  refine ⟨h1.congr fun e r => ?_, fun j r => (h2 j r).trans ?_⟩
  · exact congrArg (fun z => _ + ∑ n ∈ Finset.range (2048 * z), U e n * Real.exp (σ r n)) (trips1 t)
  · exact congrArg (fun z : ℕ => ((σ r (2048 * z + j.val) : ℝ) : EReal)) (trips1 t)

/-- The second loop makes no trip. -/
theorem after2_eq (v32 v99 : BitVec 32) (Y3 : BufTy.Contents (Elt Ideal) arg3.view.ty) (Y4 : BufTy.Contents (Elt Ideal) arg4.view.ty) (Y5 : BufTy.Contents (Elt Ideal) arg5.view.ty) :
    after2 c (grid0.coords t) arg3 harg3 arg4 harg4 arg5 harg5 arg6 harg6 arg7 harg7 arg8 harg8 arg9 harg9 Y3 Y4 Y5 v32 v99
      = ((after1 c (grid0.coords t) arg3 harg3 arg4 harg4 arg5 harg5 arg6 harg6 arg7 harg7 arg8 harg8 arg9 harg9 Y3 Y4 Y5 v32).1, []) := by
  have key : ∀ n, n = 0 → st_k0_t2 (F := Ideal) Variants.none c none (grid0.coords t) arg3 harg3 arg4 harg4 arg5 harg5 arg6 harg6 arg7 harg7 arg8 harg8 arg9 harg9 (qrows arg3 Y3) v32 k0_pay29
    (bound0 (grid0.coords t) arg3 arg4 arg9 Y3 Y4) (k0_pay33 (scoresD (grid0.coords t) arg3 arg4 arg9 Y3 Y4) (valsDiag (grid0.coords t) arg5 Y5)) (k0_pay34 (scoresD (grid0.coords t) arg3 arg4 arg9 Y3 Y4)) v99 Y4 Y5
    (arg9.view.writes (Elt Ideal) arg9.view.junk ((after1 c (grid0.coords t) arg3 harg3 arg4 harg4 arg5 harg5 arg6 harg6 arg7 harg7 arg8 harg8 arg9 harg9 Y3 Y4 Y5 v32).2 ++ pieces0 (grid0.coords t) arg3 arg4 Y3 Y4))
    ((after1 c (grid0.coords t) arg3 harg3 arg4 harg4 arg5 harg5 arg6 harg6 arg7 harg7 arg8 harg8 arg9 harg9 Y3 Y4 Y5 v32).1.1, (after1 c (grid0.coords t) arg3 harg3 arg4 harg4 arg5 harg5 arg6 harg6 arg7 harg7 arg8 harg8 arg9 harg9 Y3 Y4 Y5 v32).1.2) n
      = ((after1 c (grid0.coords t) arg3 harg3 arg4 harg4 arg5 harg5 arg6 harg6 arg7 harg7 arg8 harg8 arg9 harg9 Y3 Y4 Y5 v32).1, []) := by
    rintro n rfl; rfl
  exact key _ (trips2 t)

/-- What the body leaves in the output block at a point. -/
theorem outV_apply (σ : Fin 2048 → ℕ → ℝ) (U : Fin 144 → ℕ → ℝ)
    (hK : ∀ n (h : n < 16384) r, ∑ d : Fin 128, X4 (ix3 0 ⟨n, h⟩ d) * k0_pay25 (F := Ideal) X3 (ix2 r d) = (σ r n : EReal))
    (hU : ∀ n (h : n < 16384) e, X5 (ix3 0 e ⟨n, h⟩) = (U e n : EReal)) :
    ∃ (m : FVec Ideal S1x2048 .f32) (a : FVec Ideal S144x2048 .f32), Carries m a (total σ U (1024 * qb t)) ∧
      ∀ (r : Fin 1024) (d : Fin 128),
        outV (F := Ideal) c (grid0.coords t) arg3 harg3 arg4 harg4 arg5 harg5 arg6 harg6 arg7 harg7 arg8 harg8 arg9 harg9 X3 X4 X5 X6 X7 (ix3 0 r d)
          = k0_pay39 (F := Ideal) a X6 X7 (ix2 r d) := by
  have hq : qb t < 16 := (grid0.coords t 2).isLt
  by_cases hc : k0_cond1 (grid0.coords t) = 1#1
  · obtain ⟨v32, v99, hL⟩ := runOdd_eq c (grid0.coords t) arg3 harg3 arg4 harg4 arg5 harg5 arg6 harg6 arg7 harg7 arg8 harg8 arg9 harg9
      (harg3.unread X3) (harg4.unread X4) (harg5.unread X5) (harg6.unread X6) (harg7.unread X7) hc
    have hodd := (cond1 t).mp hc
    obtain ⟨h1, h2⟩ := after1_spec c t arg3 harg3 arg4 harg4 arg5 harg5 arg6 harg6 arg7 harg7 arg8 harg8 arg9 harg9 X3 X4 X5 σ U v32 hK hU
    rw [after2_eq] at hL
    refine ⟨_, _, (Carries.keys _ σ U _ h1
      (leftA arg9 ((after1 c (grid0.coords t) arg3 harg3 arg4 harg4 arg5 harg5 arg6 harg6 arg7 harg7 arg8 harg8 arg9 harg9 (harg3.unread X3) (harg4.unread X4) (harg5.unread X5) v32).2 ++ pieces0 (grid0.coords t) arg3 arg4 (harg3.unread X3) (harg4.unread X4)))
      (leftB arg9 ((after1 c (grid0.coords t) arg3 harg3 arg4 harg4 arg5 harg5 arg6 harg6 arg7 harg7 arg8 harg8 arg9 harg9 (harg3.unread X3) (harg4.unread X4) (harg5.unread X5) v32).2 ++ pieces0 (grid0.coords t) arg3 arg4 (harg3.unread X3) (harg4.unread X4)))
      (valsE (grid0.coords t) arg5 (harg5.unread X5) hc) (valsF (grid0.coords t) arg5 (harg5.unread X5) hc) ?_ ?_ ?_ ?_).congr ?_, ?_⟩
    · intro j r
      rw [leftA, View.readCov_eq_canon']
      show View.canon _ (LoadRect.idx _ _) = _
      rw [half_idx 0 0 (by decide) (by decide)]
      refine (h2 ⟨0 + j.val, by omega⟩ r).trans ?_
      exact congrArg (fun z : ℕ => ((σ r z : ℝ) : EReal)) (by dsimp only; omega)
    · intro j r
      rw [leftB, View.readCov_eq_canon']
      show View.canon _ (LoadRect.idx _ _) = _
      rw [half_idx 0 512 (by decide) (by decide)]
      refine (h2 ⟨512 + j.val, by omega⟩ r).trans ?_
      exact congrArg (fun z : ℕ => ((σ r z : ℝ) : EReal)) (by dsimp only; omega)
    · intro e j
      rw [valsE_apply t arg5 harg5 X5 hc e j (2048 * (qb t / 2) + j.val) (by omega) rfl, hU]
    · intro e j
      rw [valsF_apply t arg5 harg5 X5 hc e j (2048 * (qb t / 2) + 512 + j.val) (by omega) rfl, hU]
    · intro e r
      rw [show 2048 * (qb t / 2) + 1024 = 1024 * qb t by omega]
      exact diag_total (U e) (fun n => Real.exp (σ r n)) _ _ (Nat.mod_lt _ (by decide))
    · intro r d
      rw [outV, outL, dif_pos hc, hL, canon_block, closing_apply arg6 harg6 arg7 harg7 X6 X7]
      rfl
  · obtain ⟨v32, v99, hL⟩ := runEven_eq c (grid0.coords t) arg3 harg3 arg4 harg4 arg5 harg5 arg6 harg6 arg7 harg7 arg8 harg8 arg9 harg9
      (harg3.unread X3) (harg4.unread X4) (harg5.unread X5) (harg6.unread X6) (harg7.unread X7) hc
    have heven : ¬ qb t % 2 = 1 := fun h => hc ((cond1 t).mpr h)
    obtain ⟨h1, -⟩ := after1_spec c t arg3 harg3 arg4 harg4 arg5 harg5 arg6 harg6 arg7 harg7 arg8 harg8 arg9 harg9 X3 X4 X5 σ U v32 hK hU
    rw [after2_eq] at hL
    refine ⟨_, _, h1.congr ?_, ?_⟩
    · intro e r
      rw [show 2048 * (qb t / 2) = 1024 * qb t by omega]
      exact diag_total (U e) (fun n => Real.exp (σ r n)) _ _ (Nat.mod_lt _ (by decide))
    · intro r d
      rw [outV, outL, dif_neg hc, hL, canon_block, closing_apply arg6 harg6 arg7 harg7 X6 X7]

end

end Cert.KernelIdeal.Hand
-- ==== Proof.Soft.lean ====
/-
  The two softmaxes in real numbers: the reference's, less its greatest score, and the kernel's quotient of carried
  sums are the same quotients of sums of exponentials.
-/
module

public import proofs.«01_k».proof.Proof.Ref
public import proofs.«01_k».proof.Proof.BodyVal

@[expose] public section

set_option maxRecDepth 16384

noncomputable section

namespace Cert.KernelIdeal.Hand

open Idealize Idealize.ShloMosaic

/-- A sum over the keys up to `i`, as one over all the keys. -/
theorem sum_upto (f : ℕ → ℝ) (i : Fin 16384) :
    ∑ j : Fin 16384, (if j.val ≤ i.val then f j.val else 0) = ∑ n ∈ Finset.range (i.val + 1), f n := by
  rw [← Finset.sum_range (n := 16384) (f := fun j => if j ≤ i.val then f j else 0)]
  rw [← Finset.sum_subset (Finset.range_subset_range.mpr (show i.val + 1 ≤ 16384 by omega))]
  · refine Finset.sum_congr rfl fun k hk => ?_
    rw [if_pos (by have := Finset.mem_range.mp hk; omega)]
  · intro k _ hk
    rw [if_neg (by intro h; exact hk (Finset.mem_range.mpr (by omega)))]

/-- The sum of the exponentials of the scores up to `i`. -/
def mass (σ : ℕ → ℝ) (i : ℕ) : ℝ := ∑ n ∈ Finset.range (i + 1), Real.exp (σ n)

theorem mass_pos (σ : ℕ → ℝ) (i : ℕ) : 0 < mass σ i :=
  Finset.sum_pos (fun _ _ => Real.exp_pos _) ⟨0, Finset.mem_range.mpr (Nat.succ_pos _)⟩

/-- The reference's softmax. -/
theorem probs_real (s : FVec Ideal Cert.ReferenceIdeal.S2x8x2x16384x16384 .f32) (b : Fin 2) (h : Fin 8) (c : Fin 2) (i : Fin 16384)
    (σ : ℕ → ℝ) (hs : ∀ j : Fin 16384, s (ix5 b h c i j) = if j.val ≤ i.val then ((σ j.val : ℝ) : EReal) else ⊥)
    (j : Fin 16384) :
    Cert.ReferenceIdeal.Hand.probs (Cert.ReferenceIdeal.Hand.exps s) (ix5 b h c i j)
      = (((if j.val ≤ i.val then Real.exp (σ j.val) else 0) / mass σ i.val : ℝ) : EReal) := by
  have hne : ∀ j : Fin 16384, s (ix5 b h c i j) ≠ (⊤ : EReal) := fun j => by
    rw [hs j]; split
    · exact EReal.coe_ne_top _
    · exact bot_ne_top
  obtain ⟨h1, h2⟩ := Cert.ReferenceIdeal.Hand.tops_spec s b h c i hne
  have hi : ((σ i.val : ℝ) : EReal) ≤ Cert.ReferenceIdeal.Hand.tops s (ix4 b h c i) := by
    have := h2 i
    rwa [hs i, if_pos le_rfl] at this
  obtain ⟨M, hM⟩ := exists_coe_of_le hi h1
  have hw : ∀ j : Fin 16384, wt (s (ix5 b h c i j)) = if j.val ≤ i.val then Real.exp (σ j.val) else 0 := fun j => by
    rw [hs j]; split
    · exact wt_coe _
    · exact wt_bot
  have he : ∀ j : Fin 16384, Cert.ReferenceIdeal.Hand.exps s (ix5 b h c i j)
      = (((if j.val ≤ i.val then Real.exp (σ j.val) else 0) * Real.exp (-M) : ℝ) : EReal) := fun j => by
    rw [Cert.ReferenceIdeal.Hand.exps_apply, hM, exp_sub_bound (hne j) M, hw j]
  rw [Cert.ReferenceIdeal.Hand.probs_apply, he j]
  simp only [he]
  rw [coe_sum, ← Finset.sum_mul, sum_upto (fun n => Real.exp (σ n)) i]
  exact ratio _ _ M (mass_pos σ i.val).ne'

/-- The kernel's sums and the reference's, divided: the weighted average of the values. -/
def avg (σ U : ℕ → ℝ) (i : ℕ) : ℝ := (∑ n ∈ Finset.range (i + 1), U n * Real.exp (σ n)) / mass σ i

/-- The reference's values weighted by the difference of its two softmaxes. -/
theorem mixed_real (s : FVec Ideal Cert.ReferenceIdeal.S2x8x2x16384x16384 .f32) (v : FVec Ideal Cert.ReferenceIdeal.S8x144x32768 .bf16)
    (l : FVec Ideal Cert.ReferenceIdeal.S_ .f32) (b : Fin 2) (h : Fin 8) (i : Fin 16384) (d : Fin 128)
    (σ0 σ1 U : ℕ → ℝ) (φ : ℝ)
    (h0 : ∀ j : Fin 16384, s (ix5 b h 0 i j) = if j.val ≤ i.val then ((σ0 j.val : ℝ) : EReal) else ⊥)
    (h1 : ∀ j : Fin 16384, s (ix5 b h 1 i j) = if j.val ≤ i.val then ((σ1 j.val : ℝ) : EReal) else ⊥)
    (hv : ∀ j : Fin 16384, v (ix3 h ⟨d.val, by omega⟩ ⟨b.val * 16384 + j.val, by omega⟩) = ((U j.val : ℝ) : EReal))
    (hl : l ix0 = ((φ : ℝ) : EReal)) :
    Cert.ReferenceIdeal.Hand.mixed v (Cert.ReferenceIdeal.Hand.diff (Cert.ReferenceIdeal.Hand.probs (Cert.ReferenceIdeal.Hand.exps s)) l) (ix4 b i h d)
      = ((avg σ0 U i.val - φ * avg σ1 U i.val : ℝ) : EReal) := by
  have hj : ∀ j : Fin 16384, v (ix3 h ⟨d.val, by omega⟩ ⟨b.val * 16384 + j.val, by omega⟩)
        * Cert.ReferenceIdeal.Hand.diff (Cert.ReferenceIdeal.Hand.probs (Cert.ReferenceIdeal.Hand.exps s)) l (ix4 b h i j)
      = (((if j.val ≤ i.val then U j.val * Real.exp (σ0 j.val) else 0) / mass σ0 i.val
          - φ * ((if j.val ≤ i.val then U j.val * Real.exp (σ1 j.val) else 0) / mass σ1 i.val) : ℝ) : EReal) := fun j => by
    rw [Cert.ReferenceIdeal.Hand.diff_apply, probs_real s b h 0 i σ0 h0 j, probs_real s b h 1 i σ1 h1 j, hv j, hl,
      ← EReal.coe_mul, ← EReal.coe_sub, ← EReal.coe_mul]
    congr 1
    split <;> ring
  rw [Cert.ReferenceIdeal.Hand.mixed_apply]
  simp only [hj]
  rw [coe_sum, Finset.sum_sub_distrib, ← Finset.mul_sum, ← Finset.sum_div, ← Finset.sum_div,
    sum_upto (fun n => U n * Real.exp (σ0 n)) i, sum_upto (fun n => U n * Real.exp (σ1 n)) i]
  rfl

/-- The kernel's difference of quotients. -/
theorem quot_real (m : FVec Ideal Cert.KernelIdeal.S1x2048 .f32) (a : FVec Ideal Cert.KernelIdeal.S144x2048 .f32)
    (l : FVec Ideal Cert.KernelIdeal.S4x64 .f32) (σ : Fin 2048 → ℕ → ℝ) (U : Fin 144 → ℕ → ℝ) (o : ℕ) (φ : ℝ)
    (h : Carries m a (total σ U o)) (ho : o + 1024 ≤ 16384) (h1 : ∀ n, n < 16384 → U 128 n = 1) (hl : factor l = ((φ : ℝ) : EReal))
    (r : Fin 1024) (d : Fin 128) :
    quot a l r d = ((avg (σ ⟨r.val, by omega⟩) (U ⟨d.val, by omega⟩) (o + r.val)
      - φ * avg (σ ⟨1024 + r.val, by omega⟩) (U ⟨d.val, by omega⟩) (o + r.val) : ℝ) : EReal) := by
  have key : ∀ R : Fin 2048, R.val % 1024 = r.val →
      Ideal.div (a (ix2 ⟨d.val, by omega⟩ R)) (a (ix2 128 R)) = ((avg (σ R) (U ⟨d.val, by omega⟩) (o + r.val) : ℝ) : EReal) := fun R hR => by
    obtain ⟨M, -, h2⟩ := h R
    have e1 : total σ U o 128 R = mass (σ R) (o + r.val) := by
      rw [total, mass, hR]
      refine Finset.sum_congr rfl fun n hn => ?_
      rw [h1 n (by have := Finset.mem_range.mp hn; omega), one_mul]
    have e2 : total σ U o ⟨d.val, by omega⟩ R
        = ∑ n ∈ Finset.range (o + r.val + 1), U ⟨d.val, by omega⟩ n * Real.exp (σ R n) := by
      rw [total, hR]
    rw [h2, h2, e1, e2]
    exact ratio _ _ M (mass_pos (σ R) (o + r.val)).ne'
  rw [quot, key ⟨r.val, by omega⟩ (Nat.mod_eq_of_lt r.isLt), key ⟨1024 + r.val, by omega⟩ (by show (1024 + r.val) % 1024 = r.val; omega), hl,
    ← EReal.coe_mul, ← EReal.coe_sub]

/-- The terms of one half: the other half's are zero. -/
theorem half_terms {R : Type} [AddCommMonoid R] (c : Fin 2) (f : Fin 128 → R) :
    ∑ d : Fin 128, (if d.val / 64 = c.val then f d else 0) = ∑ d : Fin 64, f ⟨c.val * 64 + d.val, by omega⟩ := by
  refine (Fin.sum_univ_add (a := 64) (b := 64) (fun d : Fin (64 + 64) => if d.val / 64 = c.val then f d else 0)).trans ?_
  have z0 : ∀ d : Fin 64, (Fin.castAdd 64 d).val / 64 = 0 := fun d => Nat.div_eq_of_lt d.isLt
  have z1 : ∀ d : Fin 64, (Fin.natAdd 64 d).val / 64 = 1 := fun d => by
    show (64 + d.val) / 64 = 1
    omega
  simp only [z0, z1]
  fin_cases c
  · simp only [Fin.zero_eta, Fin.val_zero, if_true, one_ne_zero, if_false, Finset.sum_const_zero, add_zero]
    refine Finset.sum_congr rfl fun d _ => ?_
    have e : Fin.castAdd 64 d = (⟨0 * 64 + d.val, by omega⟩ : Fin 128) := Fin.ext (by show d.val = 0 * 64 + d.val; omega)
    rw [e]
  · simp only [Fin.mk_one, Fin.val_one, if_true, zero_ne_one, if_false, Finset.sum_const_zero, zero_add]
    refine Finset.sum_congr rfl fun d _ => ?_
    have e : Fin.natAdd 64 d = (⟨1 * 64 + d.val, by omega⟩ : Fin 128) := Fin.ext (by show 64 + d.val = 1 * 64 + d.val; omega)
    rw [e]

/-- The scores of one half. -/
theorem half_sum (c : Fin 2) (f g : Fin 128 → ℝ) :
    ∑ d : Fin 128, f d * (if d.val / 64 = c.val then g d else 0)
      = ∑ d : Fin 64, f ⟨c.val * 64 + d.val, by omega⟩ * g ⟨c.val * 64 + d.val, by omega⟩ := by
  simp only [mul_ite, mul_zero]
  exact half_terms c fun d => f d * g d

end Cert.KernelIdeal.Hand
-- ==== Proof.Blocks.lean ====
/-
  The windows' blocks, read at coordinates off the argument arrays, and the output array from its blocks.
-/
module

public import proofs.«01_k».proof.Proof.FrameI
public import proofs.«01_k».proof.Proof.Grid
public import Idealize.ShloMosaic.Lib.Pipeline.ValueKit

@[expose] public section

set_option maxRecDepth 16384

noncomputable section

namespace Cert.KernelIdeal.Hand

open Idealize Idealize.ShloMosaic Idealize.ShloMosaic.TcCoe Cert.KernelIdeal Cert.KernelIdeal.Gen

/-- The batch and the head of a grid point. -/
def bt (t : Fin grid0.N) : ℕ := (grid0.coords t 0).val
def hd (t : Fin grid0.N) : ℕ := (grid0.coords t 1).val

theorem idx0 : ∀ t : Fin cfg0.N, win0_0.index t = ![bt t, qb t, hd t] := (by decide +kernel : ∀ t : Fin grid0.N, _)
theorem idx1 : ∀ t : Fin cfg0.N, win0_1.index t = ![bt t, 0, hd t] := (by decide +kernel : ∀ t : Fin grid0.N, _)
theorem idx2 : ∀ t : Fin cfg0.N, win0_2.index t = ![hd t, 0, bt t] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![bt t, qb t, hd t] := (by decide +kernel : ∀ t : Fin grid0.N, _)

theorem bt_lt (t : Fin grid0.N) : bt t < 2 := (grid0.coords t 0).isLt
theorem hd_lt (t : Fin grid0.N) : hd t < 8 := (grid0.coords t 1).isLt
theorem qb_lt (t : Fin grid0.N) : qb t < 16 := (grid0.coords t 2).isLt

variable (m : (ℓ : Loc nD τ sig) → Buf (Elt Ideal) ℓ) (c : Dev nD) (t : Fin cfg0.N)

theorem blk0 (r : Fin 1024) (d : Fin 128) :
    iblk (F := Ideal) m c 0 t (ix3 0 r d)
      = m ((c.tc : Thread nD τ).loc main_arg0) (ix3 ⟨bt t, bt_lt t⟩ ⟨1024 * qb t + r.val, by have := qb_lt t; omega⟩ ⟨hd t * 128 + d.val, by have := hd_lt t; omega⟩) := by
  blk_ext! [iblk, V, idx0 t]

theorem blk1 (n : Fin 16384) (d : Fin 128) :
    iblk (F := Ideal) m c 1 t (ix3 0 n d)
      = m ((c.tc : Thread nD τ).loc main_arg1) (ix3 ⟨bt t, bt_lt t⟩ n ⟨hd t * 128 + d.val, by have := hd_lt t; omega⟩) := by
  blk_ext! [iblk, V, idx1 t]

theorem blk2 (e : Fin 144) (n : Fin 16384) :
    iblk (F := Ideal) m c 2 t (ix3 0 e n)
      = m ((c.tc : Thread nD τ).loc main_arg2) (ix3 ⟨hd t, hd_lt t⟩ e ⟨bt t * 16384 + n.val, by have := bt_lt t; omega⟩) := by
  blk_ext! [iblk, V, idx2 t]

theorem blk3 (a : Fin 4) (b : Fin 64) :
    iblk (F := Ideal) m c 3 t (ix2 a b) = m ((c.tc : Thread nD τ).loc main_arg3) (ix2 a b) := by
  blk_ext! [iblk, V, idx3 t]

theorem blk4 (d : Fin 128) :
    iblk (F := Ideal) m c 4 t (ix2 d 0) = m ((c.tc : Thread nD τ).loc main_arg4) (ix1 d) := by
  blk_ext! [iblk, V, idx4 t]

/-- The output array is `G` if every point's block is. -/
theorem out_eq (G : Buf (Elt Ideal) ((c.tc : Thread nD τ).loc main_v1))
    (h : ∀ (t : Fin cfg0.N) (r : Fin 1024) (d : Fin 128), outAt (F := Ideal) m c t (ix3 0 r d)
      = G (ix3 ⟨bt t, bt_lt t⟩ ⟨1024 * qb t + r.val, by have := qb_lt t; omega⟩ ⟨hd t * 128 + d.val, by have := hd_lt t; omega⟩)) :
    (dats (F := Ideal) m 0 c).arrAt 5 cfg0.N = G := by
  refine (dats m 0 c).arrAt_eq_of_covers 5 _ (by decide +kernel) fun t hf y => ?_
  blk_simp
  rw [after0_5]
  have ey : y = (ix3 0 (y 1) (y 2) : S1x1024x128.Idx) := by
    funext a; fin_cases a
    · exact Subsingleton.elim (α := Fin 1) _ _
    · rfl
    · rfl
  have ht := h t (y 1) (y 2)
  rw [← ey] at ht
  refine ht.trans ?_
  congr 1
  blk_ext [idx5 t]

end Cert.KernelIdeal.Hand
-- ==== Proof.Point.lean ====
/-
  The output array, entry by entry: with finite arguments and a row of ones under the values, what the body leaves at
  every grid point is the reference's block.
-/
module

public import proofs.«01_k».proof.Proof.Soft
public import proofs.«01_k».proof.Proof.Blocks

@[expose] public section

set_option maxRecDepth 16384

noncomputable section

namespace Cert.KernelIdeal.Hand

open Idealize Idealize.ShloMosaic Idealize.ShloMosaic.TcCoe Cert.KernelIdeal Cert.KernelIdeal.Gen

/-- The score of key `n` for query `i` in half `x` of head `h`. -/
def score (qr kr : S2x16384x1024.Idx → ℝ) (b : Fin 2) (h : Fin 8) (x : ℕ) (i : Fin 16384) (n : ℕ) : ℝ :=
  if hn : n < 16384 then
    ∑ d : Fin 128, kr (ix3 b ⟨n, hn⟩ ⟨h.val * 128 + d.val, by omega⟩)
      * (if d.val / 64 = x then qr (ix3 b i ⟨h.val * 128 + d.val, by omega⟩) else 0)
  else 0

/-- The values as a function of the key. -/
def vals (vr : S8x144x32768.Idx → ℝ) (b : Fin 2) (h : Fin 8) (e : Fin 144) (n : ℕ) : ℝ :=
  if hn : n < 16384 then vr (ix3 h e ⟨b.val * 16384 + n, by omega⟩) else 0

theorem scores_real (q k : FVec Ideal S2x16384x1024 .bf16) (qr kr : S2x16384x1024.Idx → ℝ)
    (hq : ∀ x, q x = ((qr x : ℝ) : EReal)) (hk : ∀ x, k x = ((kr x : ℝ) : EReal))
    (b : Fin 2) (h : Fin 8) (x : Fin 2) (i j : Fin 16384) :
    Cert.ReferenceIdeal.Hand.scores q k (ix5 b h x i j)
      = if j.val ≤ i.val then ((score qr kr b h x.val i j.val : ℝ) : EReal) else ⊥ := by
  rw [Cert.ReferenceIdeal.Hand.scores_apply]
  by_cases hij : j.val ≤ i.val
  · rw [if_pos hij, if_pos hij, score, dif_pos j.isLt,
      half_sum x (fun d => kr (ix3 b j ⟨h.val * 128 + d.val, by omega⟩)) (fun d => qr (ix3 b i ⟨h.val * 128 + d.val, by omega⟩)), ← coe_sum]
    refine Finset.sum_congr rfl fun d _ => ?_
    rw [hq, hk, ← EReal.coe_mul, mul_comm]
    have e : (⟨h.val * 128 + x.val * 64 + d.val, by omega⟩ : Fin 1024) = ⟨h.val * 128 + (x.val * 64 + d.val), by omega⟩ :=
      Fin.ext (by dsimp only; omega)
    rw [e]
  · rw [if_neg hij, if_neg hij]

theorem factor_real (l : FVec Ideal S4x64 .f32) (lr : S4x64.Idx → ℝ) (hl : ∀ x, l x = ((lr x : ℝ) : EReal)) :
    ∃ φ : ℝ, factor l = ((φ : ℝ) : EReal) := by
  have hz : ∃ z : ℝ, Ideal.ofBits .f32 0x3EB60549#32 = ((z : ℝ) : EReal) := by
    simp [Ideal.ofBits, Ideal.ieee]
    exact ⟨_, (EReal.coe_mul _ _).symm⟩
  obtain ⟨z, hz⟩ := hz
  have hs : ∀ u v : Fin 4, ∃ y : ℝ, Ideal.exp (∑ x : Fin 64, l (ix2 u x) * l (ix2 v x)) = ((y : ℝ) : EReal) := fun u v => by
    refine ⟨Real.exp (∑ x : Fin 64, lr (ix2 u x) * lr (ix2 v x)), ?_⟩
    have e : ∑ x : Fin 64, l (ix2 u x) * l (ix2 v x) = ((∑ x : Fin 64, lr (ix2 u x) * lr (ix2 v x) : ℝ) : EReal) := by
      rw [← coe_sum]
      refine Finset.sum_congr rfl fun x _ => ?_
      rw [hl, hl, ← EReal.coe_mul]
    rw [e]; rfl
  obtain ⟨y0, h0⟩ := hs 0 1
  obtain ⟨y1, h1⟩ := hs 2 3
  exact ⟨y0 - y1 + z, by rw [factor, h0, h1, hz]; push_cast; rfl⟩

/-- What the reference makes of the five arguments. -/
abbrev target (q k : FVec Ideal S2x16384x1024 .bf16) (v : FVec Ideal S8x144x32768 .bf16) (l : FVec Ideal S4x64 .f32)
    (g : FVec Ideal S128 .f32) : FVec Ideal S2x16384x1024 .bf16 :=
  Cert.ReferenceIdeal.Hand.normed (Cert.ReferenceIdeal.Hand.mixed v
    (Cert.ReferenceIdeal.Hand.diff (Cert.ReferenceIdeal.Hand.probs (Cert.ReferenceIdeal.Hand.exps (Cert.ReferenceIdeal.Hand.scores q k)))
      (Cert.ReferenceIdeal.Hand.factor l))) g

variable (m : (ℓ : Loc nD τ sig) → Buf (Elt Ideal) ℓ) (c : Dev nD)

theorem outAt_real (qr kr : S2x16384x1024.Idx → ℝ) (vr : S8x144x32768.Idx → ℝ) (lr : S4x64.Idx → ℝ)
    (hq : ∀ x : S2x16384x1024.Idx, m ((c.tc : Thread nD τ).loc main_arg0) x = ((qr x : ℝ) : EReal))
    (hk : ∀ x : S2x16384x1024.Idx, m ((c.tc : Thread nD τ).loc main_arg1) x = ((kr x : ℝ) : EReal))
    (hv : ∀ x : S8x144x32768.Idx, m ((c.tc : Thread nD τ).loc main_arg2) x = ((vr x : ℝ) : EReal))
    (hl : ∀ x : S4x64.Idx, m ((c.tc : Thread nD τ).loc main_arg3) x = ((lr x : ℝ) : EReal))
    (h1 : ∀ (h : Fin 8) (n : Fin 32768), vr (ix3 h 128 n) = 1)
    (t : Fin cfg0.N) (r : Fin 1024) (d : Fin 128) :
    outAt (F := Ideal) m c t (ix3 0 r d)
      = target (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (ix3 ⟨bt t, bt_lt t⟩ ⟨1024 * qb t + r.val, by have := qb_lt t; omega⟩ ⟨hd t * 128 + d.val, by have := hd_lt t; omega⟩) := by
  have hqb := qb_lt t
  have hhd := hd_lt t
  have hbt := bt_lt t
  set b : Fin 2 := ⟨bt t, hbt⟩ with hb
  set h : Fin 8 := ⟨hd t, hhd⟩ with hh
  set i : Fin 16384 := ⟨1024 * qb t + r.val, by omega⟩ with hi
  let σ : Fin 2048 → ℕ → ℝ := fun R n => score qr kr b h (R.val / 1024) ⟨1024 * qb t + R.val % 1024, by omega⟩ n
  let U : Fin 144 → ℕ → ℝ := fun e n => vals vr b h e n
  have l3 : iblk (F := Ideal) m c 3 t = m ((c.tc : Thread nD τ).loc main_arg3) := by
    funext x
    have ex : x = (ix2 (x 0) (x 1) : S4x64.Idx) := by funext a; fin_cases a <;> rfl
    rw [ex]; exact blk3 m c t (x 0) (x 1)
  obtain ⟨φ, hφ⟩ := factor_real (m ((c.tc : Thread nD τ).loc main_arg3)) lr hl
  obtain ⟨mm, aa, hC, hout⟩ := outV_apply c t
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _)
    (iblk m c 0 t) (iblk m c 1 t) (iblk m c 2 t) (iblk m c 3 t) (iblk m c 4 t) σ U
    (fun n hn R => by
      show _ = ((score qr kr b h (R.val / 1024) ⟨1024 * qb t + R.val % 1024, by omega⟩ n : ℝ) : EReal)
      rw [score, dif_pos hn, ← coe_sum]
      refine Finset.sum_congr rfl fun x _ => ?_
      rw [pay25_apply, blk1, hk, EReal.coe_mul]
      congr 1
      split
      · rw [blk0, hq]
      · rfl)
    (fun n hn e => by
      show _ = ((vals vr b h e n : ℝ) : EReal)
      rw [vals, dif_pos hn, blk2, hv])
  have hU1 : ∀ n, n < 16384 → U 128 n = 1 := fun n hn => by
    show vals vr b h 128 n = 1
    rw [vals, dif_pos hn]; exact h1 _ _
  have hquot : ∀ x : Fin 128, quot aa (iblk (F := Ideal) m c 3 t) r x
      = Cert.ReferenceIdeal.Hand.mixed (m ((c.tc : Thread nD τ).loc main_arg2))
        (Cert.ReferenceIdeal.Hand.diff (Cert.ReferenceIdeal.Hand.probs (Cert.ReferenceIdeal.Hand.exps
          (Cert.ReferenceIdeal.Hand.scores (m ((c.tc : Thread nD τ).loc main_arg0)) (m ((c.tc : Thread nD τ).loc main_arg1)))))
          (Cert.ReferenceIdeal.Hand.factor (m ((c.tc : Thread nD τ).loc main_arg3)))) (ix4 b i h x) := fun x => by
    rw [quot_real mm aa (iblk (F := Ideal) m c 3 t) σ U (1024 * qb t) φ hC (by omega) hU1 (by rw [l3]; exact hφ) r x]
    rw [mixed_real _ _ _ b h i x (score qr kr b h 0 i) (score qr kr b h 1 i) (U ⟨x.val, by omega⟩) φ
      (fun j => scores_real _ _ qr kr hq hk b h 0 i j) (fun j => scores_real _ _ qr kr hq hk b h 1 i j)
      (fun j => by
        rw [hv]
        show _ = ((vals vr b h ⟨x.val, by omega⟩ j.val : ℝ) : EReal)
        rw [vals, dif_pos j.isLt])
      (by rw [Cert.ReferenceIdeal.Hand.factor_apply]; exact hφ)]
    have e0 : σ ⟨r.val, by omega⟩ = score qr kr b h 0 i := by
      funext n
      show score qr kr b h (r.val / 1024) ⟨1024 * qb t + r.val % 1024, by omega⟩ n = _
      congr 1
      · omega
      · exact Fin.ext (by show 1024 * qb t + r.val % 1024 = 1024 * qb t + r.val; omega)
    have e1 : σ ⟨1024 + r.val, by omega⟩ = score qr kr b h 1 i := by
      funext n
      show score qr kr b h ((1024 + r.val) / 1024) ⟨1024 * qb t + (1024 + r.val) % 1024, by omega⟩ n = _
      congr 1
      · omega
      · exact Fin.ext (by show 1024 * qb t + (1024 + r.val) % 1024 = 1024 * qb t + r.val; omega)
    rw [e0, e1]
  refine (hout r d).trans ?_
  rw [pay39_apply]
  simp only [hquot]
  rw [blk4]
  rw [target, Cert.ReferenceIdeal.Hand.normed_apply]
  have x1 : (⟨(hd t * 128 + d.val) / 128, by omega⟩ : Fin 8) = h := Fin.ext (by show (hd t * 128 + d.val) / 128 = hd t; omega)
  have x2 : (⟨(hd t * 128 + d.val) % 128, by omega⟩ : Fin 128) = d := Fin.ext (by show (hd t * 128 + d.val) % 128 = d.val; omega)
  dsimp only
  rw [x1, x2]

end Cert.KernelIdeal.Hand
-- ==== Proof.Pre.lean ====
/-
  What the precondition says of the arguments: every query, key, value and parameter is a real number, and row 128 of every
  head's values holds ones.
-/
module

public import proofs.«01_k».proof.Proof.Point
public import proofs.«01_k».proof.Pre_finite_ones
public import proofs.«01_k».proof.Proof.Gen.Pre_finite_ones
public import Idealize.ShloMosaic.Lib.ReduceAll

@[expose] public section

noncomputable section

namespace Cert.Pre_finite_ones.Hand

open Idealize.ShloMosaic Cert.Pre_finite_ones

/-- The bit pattern of positive infinity stands for the top element. -/
theorem top_bits : Ideal.ofBits .f32 0x7F800000#32 = (⊤ : EReal) := by simp [Ideal.ofBits, Ideal.ieee]

/-- The bit pattern of one stands for one. -/
theorem one_bits : Ideal.ofBits .f32 0x3F800000#32 = (1 : EReal) := by
  simp [Ideal.ofBits, Ideal.ieee]
  rw [← EReal.coe_mul, ← EReal.coe_one, EReal.coe_eq_coe_iff]
  norm_num

/-- A number below infinity in absolute value is a real number. -/
theorem real_of_abs (x : EReal) (h : Ideal.cmp .olt (max x (-x)) (Ideal.ofBits .f32 0x7F800000#32) = 1#1) :
    x = ((x.toReal : ℝ) : EReal) := by
  rw [top_bits] at h
  have h' := (Ideal.cmp_olt_eq_one _ _).1 h
  refine (EReal.coe_toReal ?_ ?_).symm
  · rintro rfl; simp at h'
  · rintro rfl; simp at h'

/-- A comparison for equality with one that came out true. -/
theorem one_of_eq (x : EReal) (h : Ideal.cmp .oeq x (Ideal.ofBits .f32 0x3F800000#32) = 1#1) : x = 1 := by
  rw [one_bits] at h
  exact (Ideal.cmp_oeq_eq_one _ _).1 h

instance : Subsingleton S_.Idx := ⟨fun a b => funext fun d => d.elim0⟩

variable (q k : FVec Ideal S2x16384x1024 .bf16) (v : FVec Ideal S8x144x32768 .bf16) (l : FVec Ideal S4x64 .f32)
  (g : FVec Ideal S128 .f32)

/-- The five conditions the predicate joins. -/
theorem parts (h : fn (F := Ideal) q k v l g = fun _ => 1#1) :
    (∀ x, q x = (((q x : EReal).toReal : ℝ) : EReal)) ∧ (∀ x, k x = (((k x : EReal).toReal : ℝ) : EReal))
      ∧ (∀ x, v x = (((v x : EReal).toReal : ℝ) : EReal)) ∧ (∀ x, l x = (((l x : EReal).toReal : ℝ) : EReal))
      ∧ ∀ (a : Fin 8) (n : Fin 32768), v (ix3 a 128 n) = (1 : EReal) := by
  have h0 := congrFun h (fun d => d.elim0)
  obtain ⟨h1, ho⟩ := IntOp.andi_eq_one.1 h0
  obtain ⟨h2, hl⟩ := IntOp.andi_eq_one.1 h1
  obtain ⟨h3, hv⟩ := IntOp.andi_eq_one.1 h2
  obtain ⟨hq, hk⟩ := IntOp.andi_eq_one.1 h3
  refine ⟨fun x => real_of_abs _ (Host.reduce_andi_all _ _ _ _ _ hq x), fun x => real_of_abs _ (Host.reduce_andi_all _ _ _ _ _ hk x),
    fun x => real_of_abs _ (Host.reduce_andi_all _ _ _ _ _ hv x), fun x => real_of_abs _ (Host.reduce_andi_all _ _ _ _ _ hl x),
    fun a n => ?_⟩
  have e := one_of_eq _ (Host.reduce_andi_all _ _ _ _ _ ho (ix2 a n))
  rw [← e]
  symm
  pointwise

end Cert.Pre_finite_ones.Hand

end
-- ==== Proof.Rows.lean ====
/-
  The output projection, the two normalisations and the feed-forward of a layer, for one row: functions of the row's
  entries, of the six modulation vectors of its sequence and of the weights. Both the kernels and the references read as
  these at every index.
-/
module

public import Idealize.ShloMosaic.Lib.Pointwise
public import Idealize.ShloMosaic.PureOps.Ideal

@[expose] public section

noncomputable section

namespace Cert.Post

open Idealize Idealize.ShloMosaic

/-- The mean of a row. -/
def meanRow (v : Fin 1024 → EReal) : EReal := Ideal.div (∑ j, v j) (Ideal.ofBits .f32 0x44800000#32)

/-- The row normalised, with gain and bias. -/
def normRow (v g b : Fin 1024 → EReal) (d : Fin 1024) : EReal :=
  (v d - meanRow v) * Ideal.rsqrt (meanRow (fun j => (v j - meanRow v) * (v j - meanRow v)) + Ideal.ofBits .f32 0x3727C5AC#32) * g d + b d

/-- The residual and the gated branch added. -/
def joined (x s y : Fin 1024 → EReal) (d : Fin 1024) : EReal :=
  Ideal.ofBits .f32 0x3FB504F3#32 * x d + (1 + s d) * y d

/-- The row modulated. -/
def shifted (x a b : Fin 1024 → EReal) (d : Fin 1024) : EReal := x d * (1 + a d) + b d

/-- The row times a matrix. -/
def times {n k : ℕ} (h : Fin n → EReal) (w : Fin n → Fin k → EReal) (f : Fin k) : EReal := ∑ e, h e * w e f

/-- The product with a row of two halves is the sum of the halves' products. -/
theorem times_halves {k : ℕ} (h : Fin 1024 → EReal) (w : Fin 1024 → Fin k → EReal) (f : Fin k) :
    times h w f = times (fun e : Fin 512 => h ⟨e.val, by omega⟩) (fun e => w ⟨e.val, by omega⟩) f
      + times (fun e : Fin 512 => h ⟨512 + e.val, by omega⟩) (fun e => w ⟨512 + e.val, by omega⟩) f :=
  Fin.sum_univ_add (M := EReal) (a := 512) (b := 512) fun e => h e * w e f

/-- The feed-forward of a row. -/
def feed (h : Fin 1024 → EReal) (wg wu : Fin 1024 → Fin 2816 → EReal) (wd : Fin 2816 → Fin 1024 → EReal) (d : Fin 1024) : EReal :=
  times (fun f => times h wg f * Ideal.logistic (times h wg f) * times h wu f) wd d

/-- The first half: the row after the token mixer's branch `y`. -/
def mixedRow (y x : Fin 1024 → EReal) (md : Fin 6 → Fin 1024 → EReal) (gm bm : Fin 1024 → EReal) : Fin 1024 → EReal :=
  normRow (joined x (md 2) y) gm bm

/-- The second half: the row after the feed-forward's branch, before its normalisation. -/
def fedRow (x : Fin 1024 → EReal) (md : Fin 6 → Fin 1024 → EReal) (wg wu : Fin 1024 → Fin 2816 → EReal)
    (wd : Fin 2816 → Fin 1024 → EReal) : Fin 1024 → EReal :=
  joined x (md 5) (feed (shifted x (md 4) (md 3)) wg wu wd)

/-- The whole of it. -/
def postRow (y x : Fin 1024 → EReal) (md : Fin 6 → Fin 1024 → EReal) (gm bm : Fin 1024 → EReal)
    (wg wu : Fin 1024 → Fin 2816 → EReal) (wd : Fin 2816 → Fin 1024 → EReal) (gf bf : Fin 1024 → EReal) : Fin 1024 → EReal :=
  normRow (fedRow (mixedRow y x md gm bm) md wg wu wd) gf bf

end Cert.Post

end
-- ==== Proof.RowOdd.lean ====
/-
  The odd layer's projection and feed-forward call, read at an index: what the body leaves in its output block, the blocks it
  reads off the argument arrays, and the output array.
-/
module

public import proofs.«01_k».proof.Proof.Rows
public import proofs.«01_k».proof.Proof.Gen.PostOddIdeal.Frame
public import Idealize.ShloMosaic.Lib.Pointwise
public import Idealize.ShloMosaic.Lib.Pipeline.ValueKit

@[expose] public section

set_option maxRecDepth 16384

noncomputable section

namespace Cert.PostOddIdeal.Hand

open Idealize Idealize.ShloMosaic Idealize.ShloMosaic.TcCoe Cert.PostOddIdeal Cert.PostOddIdeal.Gen Cert.Post

section
variable (x0 : Vec Ideal S512x1024 .bf16) (x1 : Vec Ideal S1024x1024 .bf16) (x2 : Vec Ideal S512x1024 .f32) (x3 : Vec Ideal S1x6x1024 .f32)
  (x4 x5 : Vec Ideal S1x1024 .f32) (x6 x7 : Vec Ideal S1024x2816 .bf16) (x8 : Vec Ideal S2816x1024 .bf16) (x9 x10 : Vec Ideal S1x1024 .f32)
  (r : Fin 512) (d : Fin 1024)

/-- The row after the token mixer's branch. -/
theorem pay7_row : k0_pay7 (F := Ideal) x0 x1 x2 x3 x4 x5 x6 x7 x8 x9 x10 (ix2 r d)
    = mixedRow (times (fun j => x0 (ix2 r j)) fun e f => x1 (ix2 e f)) (fun j => x2 (ix2 r j)) (fun a j => x3 (ix3 0 a j))
        (fun j => x4 (ix2 0 j)) (fun j => x5 (ix2 0 j)) d := by
  unfold k0_pay7 mixedRow normRow meanRow joined times
  pointwise [k0_pay2]

/-- The row after the feed-forward's branch, before its normalisation. -/
theorem pay3_row (v : FVec Ideal S512x1024 .f32) :
    k0_pay3 (F := Ideal) v (View.ld x3 r0_4) (View.ld x3 r0_5) (View.ld x6 r0_6) (View.ld x7 r0_6) (View.ld x8 r0_7) (View.ld x3 r0_8) (ix2 r d)
      = fedRow (fun j => v (ix2 r j)) (fun a j => x3 (ix3 0 a j)) (fun e f => x6 (ix2 e f)) (fun e f => x7 (ix2 e f))
          (fun e f => x8 (ix2 e f)) d := by
  unfold fedRow feed joined shifted times
  pointwise [k0_pay3]

/-- The normalisation at the end. -/
theorem pay1_row (v : FVec Ideal S512x1024 .f32) (g b : FVec Ideal S1x1024 .f32) (s : FVec Ideal S512 .f32)
    (hs : s (ix1 r) = (∑ j, (v (ix2 r j) : EReal) : EReal)) :
    k0_pay1 (F := Ideal) v g b s (ix2 r d)
      = normRow (fun j => v (ix2 r j)) (fun j => g (ix2 0 j)) (fun j => b (ix2 0 j)) d := by
  unfold normRow meanRow
  pointwise [k0_pay1]
  rw [hs]

/-- What the body leaves in its output block. -/
theorem out_row : out0_11 (F := Ideal) x0 x1 x2 x3 x4 x5 x6 x7 x8 x9 x10 (ix2 r d)
    = postRow (times (fun j => x0 (ix2 r j)) fun e f => x1 (ix2 e f)) (fun j => x2 (ix2 r j)) (fun a j => x3 (ix3 0 a j))
        (fun j => x4 (ix2 0 j)) (fun j => x5 (ix2 0 j)) (fun e f => x6 (ix2 e f)) (fun e f => x7 (ix2 e f)) (fun e f => x8 (ix2 e f))
        (fun j => x9 (ix2 0 j)) (fun j => x10 (ix2 0 j)) d := by
  have e : (ix2 r d : S512x1024.Idx) = r0_0.emb (ix2 r d) := by funext a; apply Fin.ext; fin_cases a <;> simp [Rect.emb, r0_0, Rect.unit]
  unfold out0_11
  conv_lhs => rw [e]
  refine (View.canon_cons_emb _ _ _ _).trans ?_
  refine (pay1_row r d _ _ _ _ (by pointwise [k0_pay6])).trans ?_
  unfold postRow
  have h1 : ∀ j, k0_pay3 (F := Ideal) (k0_pay7 x0 x1 x2 x3 x4 x5 x6 x7 x8 x9 x10) (View.ld x3 r0_4) (View.ld x3 r0_5) (View.ld x6 r0_6) (View.ld x7 r0_6) (View.ld x8 r0_7) (View.ld x3 r0_8) (ix2 r j) = _ :=
    fun j => pay3_row x3 x6 x7 x8 r j _
  simp only [h1, pay7_row]
  congr 1
  · funext j; pointwise [k0_pay4]
  · funext j; pointwise [k0_pay5]

end

theorem idxs : ∀ t : Fin cfg0.N, win0_0.index t = ![t.val, 0] ∧ win0_2.index t = ![t.val, 0] ∧ win0_3.index t = ![t.val / 32, 0, 0]
    ∧ win0_11.index t = ![t.val, 0] := (by decide +kernel : ∀ t : Fin grid0.N, _)
theorem idxs0 : ∀ t : Fin cfg0.N, win0_1.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] := (by decide +kernel : ∀ t : Fin grid0.N, _)

theorem point_lt (t : Fin cfg0.N) : t.val < 64 := t.isLt

/-- The row of the arrays that row `r` of a block is. -/
abbrev rowAt (t : Fin cfg0.N) (r : Fin 512) : Fin 32768 := ⟨512 * t.val + r.val, by have := point_lt t; omega⟩

section
variable (m : (ℓ : Loc nD τ sig) → Buf (Elt Ideal) ℓ) (c : Dev nD) (t : Fin cfg0.N)

theorem blk0 (r : Fin 512) (j : Fin 1024) :
    iblk (F := Ideal) m c 0 t (ix2 r j) = m ((c.tc : Thread nD τ).loc main_arg0) (ix2 (rowAt t r) j) := by
  blk_ext! [iblk, V, idxs t]
theorem blk1 (e f : Fin 1024) :
    iblk (F := Ideal) m c 1 t (ix2 e f) = m ((c.tc : Thread nD τ).loc main_arg1) (ix2 e f) := by
  blk_ext! [iblk, V, idxs0 t]
theorem blk2 (r : Fin 512) (j : Fin 1024) :
    iblk (F := Ideal) m c 2 t (ix2 r j) = m ((c.tc : Thread nD τ).loc main_arg2) (ix2 (rowAt t r) j) := by
  blk_ext! [iblk, V, idxs t]
theorem blk3 (a : Fin 6) (j : Fin 1024) :
    iblk (F := Ideal) m c 3 t (ix3 0 a j)
      = m ((c.tc : Thread nD τ).loc main_arg3) (ix3 ⟨t.val / 32, by have := point_lt t; omega⟩ a j) := by
  blk_ext! [iblk, V, idxs t]
theorem blk4 (j : Fin 1024) : iblk (F := Ideal) m c 4 t (ix2 0 j) = m ((c.tc : Thread nD τ).loc main_arg4) (ix1 j) := by
  blk_ext! [iblk, V, idxs0 t]
theorem blk5 (j : Fin 1024) : iblk (F := Ideal) m c 5 t (ix2 0 j) = m ((c.tc : Thread nD τ).loc main_arg5) (ix1 j) := by
  blk_ext! [iblk, V, idxs0 t]
theorem blk6 (e : Fin 1024) (f : Fin 2816) :
    iblk (F := Ideal) m c 6 t (ix2 e f) = m ((c.tc : Thread nD τ).loc main_arg6) (ix2 e f) := by
  blk_ext! [iblk, V, idxs0 t]
theorem blk7 (e : Fin 1024) (f : Fin 2816) :
    iblk (F := Ideal) m c 7 t (ix2 e f) = m ((c.tc : Thread nD τ).loc main_arg7) (ix2 e f) := by
  blk_ext! [iblk, V, idxs0 t]
theorem blk8 (e : Fin 2816) (f : Fin 1024) :
    iblk (F := Ideal) m c 8 t (ix2 e f) = m ((c.tc : Thread nD τ).loc main_arg8) (ix2 e f) := by
  blk_ext! [iblk, V, idxs0 t]
theorem blk9 (j : Fin 1024) : iblk (F := Ideal) m c 9 t (ix2 0 j) = m ((c.tc : Thread nD τ).loc main_arg9) (ix1 j) := by
  blk_ext! [iblk, V, idxs0 t]
theorem blk10 (j : Fin 1024) : iblk (F := Ideal) m c 10 t (ix2 0 j) = m ((c.tc : Thread nD τ).loc main_arg10) (ix1 j) := by
  blk_ext! [iblk, V, idxs0 t]

/-- The array row `R` of the call's result is of the arguments. -/
def rowOf (R : Fin 32768) : Fin 1024 → EReal :=
  postRow (times (fun j => m ((c.tc : Thread nD τ).loc main_arg0) (ix2 R j)) fun e f => m ((c.tc : Thread nD τ).loc main_arg1) (ix2 e f))
    (fun j => m ((c.tc : Thread nD τ).loc main_arg2) (ix2 R j))
    (fun a j => m ((c.tc : Thread nD τ).loc main_arg3) (ix3 ⟨R.val / 16384, by omega⟩ a j))
    (fun j => m ((c.tc : Thread nD τ).loc main_arg4) (ix1 j)) (fun j => m ((c.tc : Thread nD τ).loc main_arg5) (ix1 j))
    (fun e f => m ((c.tc : Thread nD τ).loc main_arg6) (ix2 e f)) (fun e f => m ((c.tc : Thread nD τ).loc main_arg7) (ix2 e f))
    (fun e f => m ((c.tc : Thread nD τ).loc main_arg8) (ix2 e f))
    (fun j => m ((c.tc : Thread nD τ).loc main_arg9) (ix1 j)) (fun j => m ((c.tc : Thread nD τ).loc main_arg10) (ix1 j))

/-- The body's output block at a grid point. -/
theorem point (r : Fin 512) (d : Fin 1024) :
    (dats (F := Ideal) m 0 c).after 11 t (ix2 r d) = rowOf m c (rowAt t r) d := by
  have hb : (⟨(rowAt t r).val / 16384, by have := (rowAt t r).isLt; omega⟩ : Fin 2) = ⟨t.val / 32, by have := point_lt t; omega⟩ :=
    Fin.ext (by show (512 * t.val + r.val) / 16384 = t.val / 32; omega)
  rw [after0_11]
  refine (out_row _ _ _ _ _ _ _ _ _ _ _ r d).trans ?_
  simp only [blk0, blk1, blk2, blk3, blk4, blk5, blk6, blk7, blk8, blk9, blk10]
  unfold rowOf
  rw [hb]

/-- The output array from its rows. -/
theorem out_eq (G : Buf (Elt Ideal) ((c.tc : Thread nD τ).loc main_v4))
    (h : ∀ (R : Fin 32768) (d : Fin 1024), G (ix2 R d) = rowOf m c R d) :
    (dats (F := Ideal) m 0 c).arrAt 11 cfg0.N = G := by
  refine (dats m 0 c).arrAt_eq_of_covers 11 _ (by decide +kernel) fun t hf y => ?_
  blk_simp
  have ey : y = (ix2 (y 0) (y 1) : S512x1024.Idx) := by
    funext a; fin_cases a <;> rfl
  have ht := (point m c t (y 0) (y 1)).trans (h (rowAt t (y 0)) (y 1)).symm
  rw [← ey] at ht
  refine ht.trans ?_
  congr 1
  blk_ext [idxs t]

end

end Cert.PostOddIdeal.Hand

end
-- ==== Proof.RowEven.lean ====
/-
  The even layer's projection and feed-forward call, read at an index: what the body leaves in its output block, the blocks
  it reads off the argument arrays, and the output array.
-/
module

public import proofs.«01_k».proof.Proof.Rows
public import proofs.«01_k».proof.Proof.Gen.PostEvenIdeal.Frame
public import Idealize.ShloMosaic.Lib.Pointwise
public import Idealize.ShloMosaic.Lib.Pipeline.ValueKit

@[expose] public section

set_option maxRecDepth 16384

noncomputable section

namespace Cert.PostEvenIdeal.Hand

open Idealize Idealize.ShloMosaic Idealize.ShloMosaic.TcCoe Cert.PostEvenIdeal Cert.PostEvenIdeal.Gen Cert.Post

section
variable (x0 x1 : Vec Ideal S512x512 .bf16) (x2 x3 : Vec Ideal S512x1024 .bf16) (x4 : Vec Ideal S512x1024 .f32) (x5 : Vec Ideal S1x6x1024 .f32)
  (x6 x7 : Vec Ideal S1x1024 .f32) (x8 x9 : Vec Ideal S1024x2816 .bf16) (x10 : Vec Ideal S2816x1024 .bf16) (x11 x12 : Vec Ideal S1x1024 .f32)
  (r : Fin 512) (d : Fin 1024)

/-- The two token mixers' branches, projected and added. -/
abbrev branch : Fin 1024 → EReal := fun d =>
  times (fun j => x0 (ix2 r j)) (fun e f => x2 (ix2 e f)) d + times (fun j => x1 (ix2 r j)) (fun e f => x3 (ix2 e f)) d

/-- The row before the first normalisation. -/
abbrev before : Fin 1024 → EReal := joined (fun j => x4 (ix2 r j)) (fun j => x5 (ix3 0 2 j)) (branch x0 x1 x2 x3 r)

theorem pay11_row : k0_pay11 (F := Ideal) x0 x1 x2 x3 x4 x5 x6 x7 x8 x9 x10 x11 x12 (ix2 r d)
    = before x0 x1 x2 x3 x4 x5 r d - meanRow (before x0 x1 x2 x3 x4 x5 r) := by
  unfold before branch meanRow joined times k0_pay11
  pointwise [k0_pay4]

theorem pay12_row : k0_pay12 (F := Ideal) x0 x1 x2 x3 x4 x5 x6 x7 x8 x9 x10 x11 x12 (ix2 r 0)
    = meanRow (fun j => (before x0 x1 x2 x3 x4 x5 r j - meanRow (before x0 x1 x2 x3 x4 x5 r))
        * (before x0 x1 x2 x3 x4 x5 r j - meanRow (before x0 x1 x2 x3 x4 x5 r))) := by
  simp only [← pay11_row x0 x1 x2 x3 x4 x5 x6 x7 x8 x9 x10 x11 x12 r]
  unfold meanRow k0_pay12 k0_pay11
  pointwise [k0_pay5]

/-- The row after the token mixers' branch. -/
abbrev mixed : FVec Ideal S512x1024 .f32 :=
  k0_pay6 (k0_pay9 x0 x1 x2 x3 x4 x5 x6 x7 x8 x9 x10 x11 x12) (k0_pay10 x0 x1 x2 x3 x4 x5 x6 x7 x8 x9 x10 x11 x12)
    (k0_pay11 x0 x1 x2 x3 x4 x5 x6 x7 x8 x9 x10 x11 x12) (k0_pay12 x0 x1 x2 x3 x4 x5 x6 x7 x8 x9 x10 x11 x12)

theorem mixed_row : mixed x0 x1 x2 x3 x4 x5 x6 x7 x8 x9 x10 x11 x12 (ix2 r d)
    = mixedRow (branch x0 x1 x2 x3 r) (fun j => x4 (ix2 r j)) (fun a j => x5 (ix3 0 a j))
        (fun j => x6 (ix2 0 j)) (fun j => x7 (ix2 0 j)) d := by
  unfold mixed mixedRow normRow
  pointwise [k0_pay6]
  rw [pay11_row, pay12_row]
  unfold k0_pay9 k0_pay10
  pointwise [k0_pay2, k0_pay3]

/-- The row after the feed-forward's branch, before its normalisation. -/
theorem fed_row (a b : FVec Ideal S1x1024 .f32) (v : FVec Ideal S512x1024 .f32) (s : FVec Ideal S512x1 .f32) :
    (k0_pay7 (F := Ideal) a b v s (ix2 r d)
      + k0_pay8 (F := Ideal) a b v s (View.ld x5 r0_4) (View.ld x5 r0_5) (View.ld x8 r0_6) (View.ld x9 r0_6) (View.ld x10 r0_7) (View.ld x5 r0_8) (ix2 r d) : EReal)
      = fedRow (fun j => k0_pay6 (F := Ideal) a b v s (ix2 r j)) (fun a j => x5 (ix3 0 a j)) (fun e f => x8 (ix2 e f)) (fun e f => x9 (ix2 e f))
          (fun e f => x10 (ix2 e f)) d := by
  unfold fedRow feed joined shifted times
  pointwise [k0_pay7, k0_pay8]

/-- The normalisation at the end. -/
theorem pay1_row (v w : FVec Ideal S512x1024 .f32) (g b : Vec Ideal S1x1024 .f32) :
    k0_pay1 (F := Ideal) v w g b (ix2 r d)
      = normRow (fun j => v (ix2 r j) + w (ix2 r j)) (fun j => g (ix2 0 j)) (fun j => b (ix2 0 j)) d := by
  unfold normRow meanRow
  pointwise [k0_pay1]

/-- What the body leaves in its output block. -/
theorem out_row : out0_13 (F := Ideal) x0 x1 x2 x3 x4 x5 x6 x7 x8 x9 x10 x11 x12 (ix2 r d)
    = postRow (branch x0 x1 x2 x3 r) (fun j => x4 (ix2 r j)) (fun a j => x5 (ix3 0 a j))
        (fun j => x6 (ix2 0 j)) (fun j => x7 (ix2 0 j)) (fun e f => x8 (ix2 e f)) (fun e f => x9 (ix2 e f)) (fun e f => x10 (ix2 e f))
        (fun j => x11 (ix2 0 j)) (fun j => x12 (ix2 0 j)) d := by
  have e : (ix2 r d : S512x1024.Idx) = r0_1.emb (ix2 r d) := by funext a; apply Fin.ext; fin_cases a <;> simp [Rect.emb, r0_1, Rect.unit]
  unfold out0_13
  conv_lhs => rw [e]
  refine (View.canon_cons_emb _ _ _ _).trans ?_
  refine (pay1_row r d _ _ _ _).trans ?_
  unfold postRow
  have h1 : ∀ j, (_ : EReal) = _ := fun j => fed_row x5 x8 x9 x10 r j (k0_pay9 x0 x1 x2 x3 x4 x5 x6 x7 x8 x9 x10 x11 x12)
    (k0_pay10 x0 x1 x2 x3 x4 x5 x6 x7 x8 x9 x10 x11 x12) (k0_pay11 x0 x1 x2 x3 x4 x5 x6 x7 x8 x9 x10 x11 x12)
    (k0_pay12 x0 x1 x2 x3 x4 x5 x6 x7 x8 x9 x10 x11 x12)
  have h2 : (fun j => mixed x0 x1 x2 x3 x4 x5 x6 x7 x8 x9 x10 x11 x12 (ix2 r j)) = _ :=
    funext fun j => mixed_row x0 x1 x2 x3 x4 x5 x6 x7 x8 x9 x10 x11 x12 r j
  congr 1
  · funext j
    refine (h1 j).trans ?_
    rw [← h2]
  · funext j; pointwise
  · funext j; pointwise

end

theorem idxs : ∀ t : Fin cfg0.N, win0_0.index t = ![t.val, 0] ∧ win0_1.index t = ![t.val, 0] ∧ win0_4.index t = ![t.val, 0]
    ∧ win0_5.index t = ![t.val / 32, 0, 0] ∧ win0_13.index t = ![t.val, 0] := (by decide +kernel : ∀ t : Fin grid0.N, _)
theorem idxs0 : ∀ t : Fin cfg0.N, win0_2.index t = ![0, 0] ∧ win0_3.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] := (by decide +kernel : ∀ t : Fin grid0.N, _)

theorem point_lt (t : Fin cfg0.N) : t.val < 64 := t.isLt

/-- The row of the arrays that row `r` of a block is. -/
abbrev rowAt (t : Fin cfg0.N) (r : Fin 512) : Fin 32768 := ⟨512 * t.val + r.val, by have := point_lt t; omega⟩

section
variable (m : (ℓ : Loc nD τ sig) → Buf (Elt Ideal) ℓ) (c : Dev nD) (t : Fin cfg0.N)

theorem blk0 (r j : Fin 512) :
    iblk (F := Ideal) m c 0 t (ix2 r j) = m ((c.tc : Thread nD τ).loc main_arg0) (ix2 (rowAt t r) j) := by
  blk_ext! [iblk, V, idxs t]
theorem blk1 (r j : Fin 512) :
    iblk (F := Ideal) m c 1 t (ix2 r j) = m ((c.tc : Thread nD τ).loc main_arg1) (ix2 (rowAt t r) j) := by
  blk_ext! [iblk, V, idxs t]
theorem blk2 (e : Fin 512) (f : Fin 1024) :
    iblk (F := Ideal) m c 2 t (ix2 e f) = m ((c.tc : Thread nD τ).loc main_arg2) (ix2 ⟨e.val, by omega⟩ f) := by
  blk_ext! [iblk, V, idxs0 t]
theorem blk3 (e : Fin 512) (f : Fin 1024) :
    iblk (F := Ideal) m c 3 t (ix2 e f) = m ((c.tc : Thread nD τ).loc main_arg2) (ix2 ⟨512 + e.val, by omega⟩ f) := by
  blk_ext! [iblk, V, idxs0 t]
theorem blk4 (r : Fin 512) (j : Fin 1024) :
    iblk (F := Ideal) m c 4 t (ix2 r j) = m ((c.tc : Thread nD τ).loc main_arg3) (ix2 (rowAt t r) j) := by
  blk_ext! [iblk, V, idxs t]
theorem blk5 (a : Fin 6) (j : Fin 1024) :
    iblk (F := Ideal) m c 5 t (ix3 0 a j) = m ((c.tc : Thread nD τ).loc main_arg4) (ix3 ⟨t.val / 32, by have := point_lt t; omega⟩ a j) := by
  blk_ext! [iblk, V, idxs t]
theorem blk6 (j : Fin 1024) :
    iblk (F := Ideal) m c 6 t (ix2 0 j) = m ((c.tc : Thread nD τ).loc main_arg5) (ix1 j) := by
  blk_ext! [iblk, V, idxs0 t]
theorem blk7 (j : Fin 1024) :
    iblk (F := Ideal) m c 7 t (ix2 0 j) = m ((c.tc : Thread nD τ).loc main_arg6) (ix1 j) := by
  blk_ext! [iblk, V, idxs0 t]
theorem blk11 (j : Fin 1024) :
    iblk (F := Ideal) m c 11 t (ix2 0 j) = m ((c.tc : Thread nD τ).loc main_arg10) (ix1 j) := by
  blk_ext! [iblk, V, idxs0 t]
theorem blk12 (j : Fin 1024) :
    iblk (F := Ideal) m c 12 t (ix2 0 j) = m ((c.tc : Thread nD τ).loc main_arg11) (ix1 j) := by
  blk_ext! [iblk, V, idxs0 t]
theorem blk8 (e : Fin 1024) (f : Fin 2816) :
    iblk (F := Ideal) m c 8 t (ix2 e f) = m ((c.tc : Thread nD τ).loc main_arg7) (ix2 e f) := by
  blk_ext! [iblk, V, idxs0 t]
theorem blk9 (e : Fin 1024) (f : Fin 2816) :
    iblk (F := Ideal) m c 9 t (ix2 e f) = m ((c.tc : Thread nD τ).loc main_arg8) (ix2 e f) := by
  blk_ext! [iblk, V, idxs0 t]
theorem blk10 (e : Fin 2816) (f : Fin 1024) :
    iblk (F := Ideal) m c 10 t (ix2 e f) = m ((c.tc : Thread nD τ).loc main_arg9) (ix2 e f) := by
  blk_ext! [iblk, V, idxs0 t]

/-- The array row `R` of the call's result is of the arguments. -/
def rowOf (R : Fin 32768) : Fin 1024 → EReal :=
  postRow (fun d => times (fun j => m ((c.tc : Thread nD τ).loc main_arg0) (ix2 R j)) (fun e f => m ((c.tc : Thread nD τ).loc main_arg2) (ix2 ⟨e.val, by omega⟩ f)) d
      + times (fun j => m ((c.tc : Thread nD τ).loc main_arg1) (ix2 R j)) (fun e f => m ((c.tc : Thread nD τ).loc main_arg2) (ix2 ⟨512 + e.val, by omega⟩ f)) d)
    (fun j => m ((c.tc : Thread nD τ).loc main_arg3) (ix2 R j))
    (fun a j => m ((c.tc : Thread nD τ).loc main_arg4) (ix3 ⟨R.val / 16384, by omega⟩ a j))
    (fun j => m ((c.tc : Thread nD τ).loc main_arg5) (ix1 j)) (fun j => m ((c.tc : Thread nD τ).loc main_arg6) (ix1 j))
    (fun e f => m ((c.tc : Thread nD τ).loc main_arg7) (ix2 e f)) (fun e f => m ((c.tc : Thread nD τ).loc main_arg8) (ix2 e f))
    (fun e f => m ((c.tc : Thread nD τ).loc main_arg9) (ix2 e f))
    (fun j => m ((c.tc : Thread nD τ).loc main_arg10) (ix1 j)) (fun j => m ((c.tc : Thread nD τ).loc main_arg11) (ix1 j))

/-- The body's output block at a grid point. -/
theorem point (r : Fin 512) (d : Fin 1024) :
    (dats (F := Ideal) m 0 c).after 13 t (ix2 r d) = rowOf m c (rowAt t r) d := by
  have hb : (⟨(rowAt t r).val / 16384, by have := (rowAt t r).isLt; omega⟩ : Fin 2) = ⟨t.val / 32, by have := point_lt t; omega⟩ :=
    Fin.ext (by show (512 * t.val + r.val) / 16384 = t.val / 32; omega)
  rw [after0_13]
  refine (out_row _ _ _ _ _ _ _ _ _ _ _ _ _ r d).trans ?_
  simp only [blk4, blk5, blk6, blk7, blk8, blk9, blk10, blk11, blk12]
  unfold rowOf
  rw [hb]
  congr 1
  funext f
  unfold branch
  simp only [blk0, blk1, blk2, blk3]

/-- The output array from its rows. -/
theorem out_eq (G : Buf (Elt Ideal) ((c.tc : Thread nD τ).loc main_v6))
    (h : ∀ (R : Fin 32768) (d : Fin 1024), G (ix2 R d) = rowOf m c R d) :
    (dats (F := Ideal) m 0 c).arrAt 13 cfg0.N = G := by
  refine (dats m 0 c).arrAt_eq_of_covers 13 _ (by decide +kernel) fun t hf y => ?_
  blk_simp
  have ey : y = (ix2 (y 0) (y 1) : S512x1024.Idx) := by
    funext a; fin_cases a <;> rfl
  have ht := (point m c t (y 0) (y 1)).trans (h (rowAt t (y 0)) (y 1)).symm
  rw [← ey] at ht
  refine ht.trans ?_
  congr 1
  blk_ext [idxs t]

end

end Cert.PostEvenIdeal.Hand

end
-- ==== Proof.RefOdd.lean ====
/-
  The reference of the odd layer's projection and feed-forward, read at an index, stage by stage.
-/
module

public import proofs.«01_k».proof.Proof.Rows
public import proofs.«01_k».proof.Proof.Gen.ReferenceOddIdeal.Run
public import Idealize.ShloMosaic.Lib.Pointwise

@[expose] public section

set_option maxRecDepth 16384

noncomputable section

namespace Cert.ReferenceOddIdeal.Hand

open Idealize Idealize.ShloMosaic Idealize.ShloMosaic.TcCoe Cert.ReferenceOddIdeal Cert.ReferenceOddIdeal.Gen Cert.ReferenceOddIdeal.Value Cert.Post

variable (V0 : Valuation τ sig (Elt Ideal))

/-- The result: the last normalisation, at the rows of both sequences. -/
def result : FVec Ideal S32768x1024 .f32 :=
  shapeCast _ (addf (mulf (mulf
      (subf (res_main_v68 V0) (broadcastInDim S2x16384x1024 ![0, 1, 2] bcast_S2x16384x1_S2x16384x1024_0_1_2 (res_main_v72 V0)))
      (broadcastInDim S2x16384x1024 ![0, 1, 2] bcast_S2x16384x1_S2x16384x1024_0_1_2
        (Host.rsqrt (addf
          (Host.divf (broadcastInDim S2x16384x1 ![0, 1] bcast_S2x16384_S2x16384x1_0_1
              (Host.reduceAdd (mulf (res_main_v74 V0) (res_main_v74 V0)) (constant S_ .f32 0x00000000#32)
                reducesTo_S2x16384x1024_S2x16384_d2 h_S_))
            (broadcastInDim S2x16384x1 ![] bcast_S_S2x16384x1 (constant S_ .f32 0x44800000#32)))
          (broadcastInDim S2x16384x1 ![] bcast_S_S2x16384x1 (constant S_ .f32 0x3727C5AC#32))))))
      (broadcastInDim S2x16384x1024 ![0, 1, 2] bcast_S1x1x1024_S2x16384x1024_0_1_2
        (broadcastInDim S1x1x1024 ![2] bcast_S1024_S1x1x1024_2 (V0 (Proc.devRef .tc main_arg9)))))
    (broadcastInDim S2x16384x1024 ![0, 1, 2] bcast_S1x1x1024_S2x16384x1024_0_1_2
      (broadcastInDim S1x1x1024 ![2] bcast_S1024_S1x1x1024_2 (V0 (Proc.devRef .tc main_arg10)))))
    shapeCasts_S2x16384x1024_S32768x1024

/-- The modulation vectors of a sequence. -/
abbrev mods (b : Fin 2) (a : Fin 6) (j : Fin 1024) : EReal := V0 (Proc.devRef .tc main_arg3) (ix3 b a j)

/-- The row of the arrays at a position of a sequence. -/
abbrev pos (b : Fin 2) (s : Fin 16384) : Fin 32768 := ⟨b.val * 16384 + s.val, by omega⟩

section
variable (b : Fin 2) (s : Fin 16384)

/-- Rows of three of the stages. -/
abbrev row26 (j : Fin 1024) : EReal := res_main_v26 (F := Ideal) V0 (ix3 b s j)
abbrev row50 (j : Fin 1024) : EReal := res_main_v50 (F := Ideal) V0 (ix3 b s j)
abbrev row68 (j : Fin 1024) : EReal := res_main_v68 (F := Ideal) V0 (ix3 b s j)

/-- The row before the first normalisation. -/
theorem v26_row (d : Fin 1024) : res_main_v26 (F := Ideal) V0 (ix3 b s d)
    = joined (fun j => V0 (Proc.devRef .tc main_arg2) (ix2 (pos b s) j)) (mods V0 b 2)
        (times (fun j => V0 (Proc.devRef .tc main_arg0) (ix2 (pos b s) j)) fun e f => V0 (Proc.devRef .tc main_arg1) (ix2 e f)) d := by
  unfold joined times
  pointwise [res_main_v26]

theorem v30_row : res_main_v30 (F := Ideal) V0 (ix3 b s 0) = meanRow (row26 V0 b s) := by
  unfold meanRow
  pointwise [res_main_v30]

theorem v32_row (d : Fin 1024) : res_main_v32 (F := Ideal) V0 (ix3 b s d)
    = row26 V0 b s d - meanRow (row26 V0 b s) := by
  rw [← v30_row]
  pointwise [res_main_v32]

/-- The row after the token mixer's branch. -/
theorem v50_row (d : Fin 1024) : res_main_v50 (F := Ideal) V0 (ix3 b s d)
    = mixedRow (times (fun j => V0 (Proc.devRef .tc main_arg0) (ix2 (pos b s) j)) fun e f => V0 (Proc.devRef .tc main_arg1) (ix2 e f))
        (fun j => V0 (Proc.devRef .tc main_arg2) (ix2 (pos b s) j)) (mods V0 b)
        (fun j => V0 (Proc.devRef .tc main_arg4) (ix1 j)) (fun j => V0 (Proc.devRef .tc main_arg5) (ix1 j)) d := by
  have e : joined (fun j => V0 (Proc.devRef .tc main_arg2) (ix2 (pos b s) j)) (mods V0 b 2)
      (times (fun j => V0 (Proc.devRef .tc main_arg0) (ix2 (pos b s) j)) fun e f => V0 (Proc.devRef .tc main_arg1) (ix2 e f))
      = row26 V0 b s := funext fun d => (v26_row V0 b s d).symm
  unfold mixedRow normRow
  rw [e]
  simp only [(v32_row V0 b s _).symm]
  rw [meanRow]
  pointwise [res_main_v50]
  rw [v30_row, ← v32_row]

/-- The row before the last normalisation. -/
theorem v68_row (d : Fin 1024) : res_main_v68 (F := Ideal) V0 (ix3 b s d)
    = fedRow (row50 V0 b s) (mods V0 b)
        (fun e f => V0 (Proc.devRef .tc main_arg6) (ix2 e f)) (fun e f => V0 (Proc.devRef .tc main_arg7) (ix2 e f))
        (fun e f => V0 (Proc.devRef .tc main_arg8) (ix2 e f)) d := by
  unfold fedRow feed joined shifted times Ideal.logistic
  pointwise [res_main_v68, res_main_v57, res_main_v56]

theorem v72_row : res_main_v72 (F := Ideal) V0 (ix3 b s 0) = meanRow (row68 V0 b s) := by
  unfold meanRow
  pointwise [res_main_v72]

theorem v74_row (d : Fin 1024) : res_main_v74 (F := Ideal) V0 (ix3 b s d)
    = row68 V0 b s d - meanRow (row68 V0 b s) := by
  rw [← v72_row]
  pointwise [res_main_v74]

end

/-- The result at an index. -/
theorem result_row (R : Fin 32768) (d : Fin 1024) : result V0 (ix2 R d)
    = postRow (times (fun j => V0 (Proc.devRef .tc main_arg0) (ix2 R j)) fun e f => V0 (Proc.devRef .tc main_arg1) (ix2 e f))
        (fun j => V0 (Proc.devRef .tc main_arg2) (ix2 R j)) (mods V0 ⟨R.val / 16384, by omega⟩)
        (fun j => V0 (Proc.devRef .tc main_arg4) (ix1 j)) (fun j => V0 (Proc.devRef .tc main_arg5) (ix1 j))
        (fun e f => V0 (Proc.devRef .tc main_arg6) (ix2 e f)) (fun e f => V0 (Proc.devRef .tc main_arg7) (ix2 e f))
        (fun e f => V0 (Proc.devRef .tc main_arg8) (ix2 e f))
        (fun j => V0 (Proc.devRef .tc main_arg9) (ix1 j)) (fun j => V0 (Proc.devRef .tc main_arg10) (ix1 j)) d := by
  have hR : R = pos ⟨R.val / 16384, by omega⟩ ⟨R.val % 16384, by omega⟩ := Fin.ext (by show R.val = R.val / 16384 * 16384 + R.val % 16384; omega)
  obtain ⟨b, hb⟩ : ∃ b : Fin 2, (⟨R.val / 16384, by omega⟩ : Fin 2) = b := ⟨_, rfl⟩
  obtain ⟨s, hs⟩ : ∃ s : Fin 16384, (⟨R.val % 16384, by omega⟩ : Fin 16384) = s := ⟨_, rfl⟩
  rw [hb, hs] at hR
  rw [hb]
  have e : result V0 (ix2 R d) = normRow (row68 V0 b s) (fun j => V0 (Proc.devRef .tc main_arg9) (ix1 j))
      (fun j => V0 (Proc.devRef .tc main_arg10) (ix1 j)) d := by
    unfold normRow
    simp only [(v74_row V0 b s _).symm]
    rw [meanRow]
    pointwise [result]
    rw [hb, hs, v72_row, ← v74_row]
  rw [e]
  rw [hR]
  unfold postRow
  congr 1
  funext j
  refine (v68_row V0 b s j).trans ?_
  congr 1
  funext k
  exact v50_row V0 b s k

end Cert.ReferenceOddIdeal.Hand

end
-- ==== Proof.RefEven.lean ====
/-
  The reference of the even layer's projection and feed-forward: it is the odd layer's, of the two attention outputs side
  by side.
-/
module

public import proofs.«01_k».proof.Proof.RefOdd
public import proofs.«01_k».proof.Proof.Gen.ReferenceEvenIdeal.Run

@[expose] public section

set_option maxRecDepth 16384

noncomputable section

namespace Cert.ReferenceEvenIdeal.Hand

open Idealize Idealize.ShloMosaic Idealize.ShloMosaic.TcCoe Cert.ReferenceEvenIdeal Cert.ReferenceEvenIdeal.Gen Cert.ReferenceEvenIdeal.Value Cert.Post

variable (V0 : Valuation τ sig (Elt Ideal))

/-- The two attention outputs side by side. -/
def sides : FVec Ideal S32768x1024 .bf16 :=
  concatenate S32768x1024 1 [⟨S32768x512, (V0 (Proc.devRef .tc main_arg0))⟩, ⟨S32768x512, (V0 (Proc.devRef .tc main_arg1))⟩]
    concatenates_S32768x512_S32768x512_S32768x1024_d1

theorem sides_left (R : Fin 32768) (e : Fin 512) : sides V0 (ix2 R ⟨e.val, by omega⟩) = V0 (Proc.devRef .tc main_arg0) (ix2 R e) := by
  pointwise [sides]

theorem sides_right (R : Fin 32768) (e : Fin 512) : sides V0 (ix2 R ⟨512 + e.val, by omega⟩) = V0 (Proc.devRef .tc main_arg1) (ix2 R e) := by
  pointwise [sides]

/-- The odd layer's reference's arguments that go with these. -/
def asOdd : Valuation Cert.ReferenceOddIdeal.τ Cert.ReferenceOddIdeal.sig (Elt Ideal) :=
  Function.update (Function.update (Function.update (Function.update (Function.update (Function.update (Function.update
    (Function.update (Function.update (Function.update (Function.update (fun _ => Classical.ofNonempty)
    (Proc.devRef .tc Cert.ReferenceOddIdeal.main_arg10) (V0 (Proc.devRef .tc main_arg11)))
    (Proc.devRef .tc Cert.ReferenceOddIdeal.main_arg9) (V0 (Proc.devRef .tc main_arg10)))
    (Proc.devRef .tc Cert.ReferenceOddIdeal.main_arg8) (V0 (Proc.devRef .tc main_arg9)))
    (Proc.devRef .tc Cert.ReferenceOddIdeal.main_arg7) (V0 (Proc.devRef .tc main_arg8)))
    (Proc.devRef .tc Cert.ReferenceOddIdeal.main_arg6) (V0 (Proc.devRef .tc main_arg7)))
    (Proc.devRef .tc Cert.ReferenceOddIdeal.main_arg5) (V0 (Proc.devRef .tc main_arg6)))
    (Proc.devRef .tc Cert.ReferenceOddIdeal.main_arg4) (V0 (Proc.devRef .tc main_arg5)))
    (Proc.devRef .tc Cert.ReferenceOddIdeal.main_arg3) (V0 (Proc.devRef .tc main_arg4)))
    (Proc.devRef .tc Cert.ReferenceOddIdeal.main_arg2) (V0 (Proc.devRef .tc main_arg3)))
    (Proc.devRef .tc Cert.ReferenceOddIdeal.main_arg1) (V0 (Proc.devRef .tc main_arg2)))
    (Proc.devRef .tc Cert.ReferenceOddIdeal.main_arg0) (sides V0)

/-- What they are at each of its arguments. -/
theorem asOdd_args : asOdd V0 (Proc.devRef .tc Cert.ReferenceOddIdeal.main_arg0) = sides V0
    ∧ asOdd V0 (Proc.devRef .tc Cert.ReferenceOddIdeal.main_arg1) = V0 (Proc.devRef .tc main_arg2)
    ∧ asOdd V0 (Proc.devRef .tc Cert.ReferenceOddIdeal.main_arg2) = V0 (Proc.devRef .tc main_arg3)
    ∧ asOdd V0 (Proc.devRef .tc Cert.ReferenceOddIdeal.main_arg3) = V0 (Proc.devRef .tc main_arg4)
    ∧ asOdd V0 (Proc.devRef .tc Cert.ReferenceOddIdeal.main_arg4) = V0 (Proc.devRef .tc main_arg5)
    ∧ asOdd V0 (Proc.devRef .tc Cert.ReferenceOddIdeal.main_arg5) = V0 (Proc.devRef .tc main_arg6)
    ∧ asOdd V0 (Proc.devRef .tc Cert.ReferenceOddIdeal.main_arg6) = V0 (Proc.devRef .tc main_arg7)
    ∧ asOdd V0 (Proc.devRef .tc Cert.ReferenceOddIdeal.main_arg7) = V0 (Proc.devRef .tc main_arg8)
    ∧ asOdd V0 (Proc.devRef .tc Cert.ReferenceOddIdeal.main_arg8) = V0 (Proc.devRef .tc main_arg9)
    ∧ asOdd V0 (Proc.devRef .tc Cert.ReferenceOddIdeal.main_arg9) = V0 (Proc.devRef .tc main_arg10)
    ∧ asOdd V0 (Proc.devRef .tc Cert.ReferenceOddIdeal.main_arg10) = V0 (Proc.devRef .tc main_arg11) := by
  refine ⟨?_, ?_, ?_, ?_, ?_, ?_, ?_, ?_, ?_, ?_, ?_⟩ <;>
    simp (disch := decide) only [asOdd, Function.update_of_ne, Function.update_self, ne_eq]

open Cert.ReferenceOddIdeal.Value in
theorem v27_odd : res_main_v27 (F := Ideal) V0 = res_main_v26 (F := Ideal) (asOdd V0) := by
  obtain ⟨h0, h1, h2, h3, -⟩ := asOdd_args V0
  unfold res_main_v27 res_main_v26
  rw [h0, h1, h2, h3]
  rfl

open Cert.ReferenceOddIdeal.Value in
theorem v31_odd : res_main_v31 (F := Ideal) V0 = res_main_v30 (F := Ideal) (asOdd V0) := by
  unfold res_main_v31 res_main_v30
  rw [v27_odd]

open Cert.ReferenceOddIdeal.Value in
theorem v33_odd : res_main_v33 (F := Ideal) V0 = res_main_v32 (F := Ideal) (asOdd V0) := by
  unfold res_main_v33 res_main_v32
  rw [v27_odd, v31_odd]

open Cert.ReferenceOddIdeal.Value in
theorem v51_odd : res_main_v51 (F := Ideal) V0 = res_main_v50 (F := Ideal) (asOdd V0) := by
  obtain ⟨-, -, -, -, h4, h5, -⟩ := asOdd_args V0
  unfold res_main_v51 res_main_v50
  rw [v27_odd, v31_odd, v33_odd, h4, h5]

theorem v57_odd : res_main_v57 (F := Ideal) V0 = Cert.ReferenceOddIdeal.Value.res_main_v56 (F := Ideal) (asOdd V0) := by
  obtain ⟨-, -, -, h3, -⟩ := asOdd_args V0
  unfold res_main_v57 Cert.ReferenceOddIdeal.Value.res_main_v56
  rw [v51_odd, h3]

open Cert.ReferenceOddIdeal.Value in
theorem v69_odd : res_main_v69 (F := Ideal) V0 = res_main_v68 (F := Ideal) (asOdd V0) := by
  obtain ⟨-, -, -, h3, -, -, h6, h7, h8, -⟩ := asOdd_args V0
  unfold res_main_v69 res_main_v68 res_main_v58 Cert.ReferenceOddIdeal.Value.res_main_v57
  rw [v51_odd, v57_odd, h3, h6, h7, h8]
  rfl

open Cert.ReferenceOddIdeal.Value in
theorem v73_odd : res_main_v73 (F := Ideal) V0 = res_main_v72 (F := Ideal) (asOdd V0) := by
  unfold res_main_v73 res_main_v72
  rw [v69_odd]

open Cert.ReferenceOddIdeal.Value in
theorem v75_odd : res_main_v75 (F := Ideal) V0 = res_main_v74 (F := Ideal) (asOdd V0) := by
  unfold res_main_v75 res_main_v74
  rw [v69_odd, v73_odd]

/-- The result: the last normalisation, at the rows of both sequences. -/
def result : FVec Ideal S32768x1024 .f32 :=
  shapeCast _ (addf (mulf (mulf
      (subf (res_main_v69 V0) (broadcastInDim S2x16384x1024 ![0, 1, 2] bcast_S2x16384x1_S2x16384x1024_0_1_2 (res_main_v73 V0)))
      (broadcastInDim S2x16384x1024 ![0, 1, 2] bcast_S2x16384x1_S2x16384x1024_0_1_2
        (Host.rsqrt (addf
          (Host.divf (broadcastInDim S2x16384x1 ![0, 1] bcast_S2x16384_S2x16384x1_0_1
              (Host.reduceAdd (mulf (res_main_v75 V0) (res_main_v75 V0)) (constant S_ .f32 0x00000000#32)
                reducesTo_S2x16384x1024_S2x16384_d2 h_S_))
            (broadcastInDim S2x16384x1 ![] bcast_S_S2x16384x1 (constant S_ .f32 0x44800000#32)))
          (broadcastInDim S2x16384x1 ![] bcast_S_S2x16384x1 (constant S_ .f32 0x3727C5AC#32))))))
      (broadcastInDim S2x16384x1024 ![0, 1, 2] bcast_S1x1x1024_S2x16384x1024_0_1_2
        (broadcastInDim S1x1x1024 ![2] bcast_S1024_S1x1x1024_2 (V0 (Proc.devRef .tc main_arg10)))))
    (broadcastInDim S2x16384x1024 ![0, 1, 2] bcast_S1x1x1024_S2x16384x1024_0_1_2
      (broadcastInDim S1x1x1024 ![2] bcast_S1024_S1x1x1024_2 (V0 (Proc.devRef .tc main_arg11)))))
    shapeCasts_S2x16384x1024_S32768x1024

theorem result_odd : result V0 = Cert.ReferenceOddIdeal.Hand.result (asOdd V0) := by
  obtain ⟨-, -, -, -, -, -, -, -, -, h9, h10⟩ := asOdd_args V0
  unfold result Cert.ReferenceOddIdeal.Hand.result
  rw [v69_odd, v73_odd, v75_odd, h9, h10]

/-- The result at an index. -/
theorem result_row (R : Fin 32768) (d : Fin 1024) : result V0 (ix2 R d)
    = postRow (fun d => times (fun j => V0 (Proc.devRef .tc main_arg0) (ix2 R j)) (fun e f => V0 (Proc.devRef .tc main_arg2) (ix2 ⟨e.val, by omega⟩ f)) d
          + times (fun j => V0 (Proc.devRef .tc main_arg1) (ix2 R j)) (fun e f => V0 (Proc.devRef .tc main_arg2) (ix2 ⟨512 + e.val, by omega⟩ f)) d)
        (fun j => V0 (Proc.devRef .tc main_arg3) (ix2 R j)) (fun a j => V0 (Proc.devRef .tc main_arg4) (ix3 ⟨R.val / 16384, by omega⟩ a j))
        (fun j => V0 (Proc.devRef .tc main_arg5) (ix1 j)) (fun j => V0 (Proc.devRef .tc main_arg6) (ix1 j))
        (fun e f => V0 (Proc.devRef .tc main_arg7) (ix2 e f)) (fun e f => V0 (Proc.devRef .tc main_arg8) (ix2 e f))
        (fun e f => V0 (Proc.devRef .tc main_arg9) (ix2 e f))
        (fun j => V0 (Proc.devRef .tc main_arg10) (ix1 j)) (fun j => V0 (Proc.devRef .tc main_arg11) (ix1 j)) d := by
  obtain ⟨h0, h1, h2, h3, h4, h5, h6, h7, h8, h9, h10⟩ := asOdd_args V0
  refine (congrFun (result_odd V0) _).trans ((Cert.ReferenceOddIdeal.Hand.result_row (asOdd V0) R d).trans ?_)
  unfold Cert.ReferenceOddIdeal.Hand.mods
  rw [h0, h1, h2, h3, h4, h5, h6, h7, h8, h9, h10]
  congr 1
  funext f
  refine (times_halves _ _ f).trans ?_
  simp only [sides_left, sides_right]

end Cert.ReferenceEvenIdeal.Hand

end
-- ==== Proof.Heads.lean ====
/-
  The attention inputs' call on one row, as plain functions: the modulated row times the weights, its heads turned by the row's
  angles, queries scaled.
-/
module

public import proofs.«01_k».proof.Proof.Rows

@[expose] public section

noncomputable section

namespace Cert.In

open Idealize Idealize.ShloMosaic Cert.Post

/-- A head turned by the angles whose cosines and sines are `c` and `s`: its two halves are the two coordinates. -/
def roped (c s : Fin 32 → EReal) (p : Fin 64 → EReal) (l : Fin 64) : EReal :=
  if h : l.val < 32 then p l * c ⟨l.val, h⟩ - p ⟨l.val + 32, by omega⟩ * s ⟨l.val, h⟩
  else p l * c ⟨l.val - 32, by omega⟩ + p ⟨l.val - 32, by omega⟩ * s ⟨l.val - 32, by omega⟩

/-- The same through partners and signed sines. -/
theorem roped_eq (c s : Fin 32 → EReal) (p : Fin 64 → EReal) (l : Fin 64) :
    p l * c ⟨l.val % 32, by omega⟩ + p ⟨(l.val + 32) % 64, by omega⟩ * (if l.val < 32 then 0 - s ⟨l.val % 32, by omega⟩ else s ⟨l.val % 32, by omega⟩)
      = roped c s p l := by
  unfold roped
  by_cases h : l.val < 32
  · have e1 : (⟨l.val % 32, by omega⟩ : Fin 32) = ⟨l.val, h⟩ := Fin.ext (by show l.val % 32 = l.val; omega)
    have e2 : (⟨(l.val + 32) % 64, by omega⟩ : Fin 64) = ⟨l.val + 32, by omega⟩ := Fin.ext (by show (l.val + 32) % 64 = l.val + 32; omega)
    rw [dif_pos h, if_pos h, e1, e2, zero_sub, mul_neg, sub_eq_add_neg]
  · have e1 : (⟨l.val % 32, by omega⟩ : Fin 32) = ⟨l.val - 32, by omega⟩ := Fin.ext (by show l.val % 32 = l.val - 32; omega)
    have e2 : (⟨(l.val + 32) % 64, by omega⟩ : Fin 64) = ⟨l.val - 32, by omega⟩ := Fin.ext (by show (l.val + 32) % 64 = l.val - 32; omega)
    rw [dif_neg h, if_neg h, e1, e2]

/-- Head `n` of the row times the weights' columns that start at `o`, turned. -/
def headRow {N : ℕ} (h : Fin 1024 → EReal) (w : Fin 1024 → Fin N → EReal) (c s : Fin 32 → EReal) (o : ℕ) (ho : o + 64 ≤ N) : Fin 64 → EReal :=
  roped c s fun l => times h w ⟨o + l.val, by omega⟩

/-- A head's value from its own column, its partner's and signed sines laid out in lanes of 128. -/
theorem headRow_eq {N : ℕ} (h : Fin 1024 → EReal) (w : Fin 1024 → Fin N → EReal) (c s : Fin 32 → EReal) (o : ℕ) (ho : o + 64 ≤ N) (q : Fin 64)
    (i j : Fin N) (l : Fin 128) (hi : i.val = o + q.val) (hj : j.val = o + (q.val + 32) % 64) (hl : l.val % 64 = q.val) :
    times h w i * c ⟨l.val % 32, by omega⟩
        + times h w j * (if l.val % 64 < 32 then 0 - s ⟨l.val % 32, by omega⟩ else s ⟨l.val % 32, by omega⟩)
      = headRow h w c s o ho q := by
  have ei : i = ⟨o + q.val, by omega⟩ := Fin.ext hi
  have ej : j = ⟨o + (q.val + 32) % 64, by omega⟩ := Fin.ext hj
  have el : (⟨l.val % 32, by omega⟩ : Fin 32) = ⟨q.val % 32, by omega⟩ := Fin.ext (by show l.val % 32 = q.val % 32; omega)
  unfold headRow
  rw [← roped_eq]
  simp only [ei, ej, el, hl]

/-- Four blocks of 32 lanes side by side, alternately of `f` and of `g`. -/
theorem quarters (f g : Fin 32 → EReal) (l : Fin 128) :
    (if h : l.val < 32 then f ⟨l.val, h⟩
      else if h : l.val - 32 < 32 then g ⟨l.val - 32, h⟩
      else if h : l.val - 32 - 32 < 32 then f ⟨l.val - 32 - 32, h⟩ else g ⟨l.val - 32 - 32 - 32, by omega⟩)
      = if l.val % 64 < 32 then f ⟨l.val % 32, by omega⟩ else g ⟨l.val % 32, by omega⟩ := by
  split_ifs <;> first | omega | (congr 1; exact Fin.ext (by simp only; omega))

end Cert.In

end
-- ==== Proof.InOddRow.lean ====
/-
  The odd layer's attention inputs, read at an index: the body's three output blocks, and the arrays the call leaves.
-/
module

public import proofs.«01_k».proof.Proof.Heads
public import proofs.«01_k».proof.Proof.Gen.InOddIdeal.Frame
public import Idealize.ShloMosaic.Lib.Pointwise
public import Idealize.ShloMosaic.Lib.Pipeline.ValueKit

@[expose] public section

set_option maxRecDepth 16384

noncomputable section

namespace Cert.InOddIdeal.Hand

open Idealize Idealize.ShloMosaic Idealize.ShloMosaic.TcCoe Cert.InOddIdeal Cert.InOddIdeal.Gen Cert.Post Cert.In

section
variable (v17 v20 : FVec Ideal S512x2048 .f32) (v23 v28 : FVec Ideal S512x128 .f32) (r : Fin 512)

/-- A turned value. -/
def turnedAt (f : Fin 2048) : EReal :=
  v17 (ix2 r f) * v23 (ix2 r ⟨f.val % 128, by omega⟩) + v20 (ix2 r f) * v28 (ix2 r ⟨f.val % 128, by omega⟩)
/-- A query's value. -/
def queryAt (f : Fin 1024) : EReal := turnedAt v17 v20 v23 v28 r ⟨f.val, by omega⟩ * Ideal.ofBits .f32 0x3E000000#32
/-- A key's value. -/
def keyAt (f : Fin 1024) : EReal := turnedAt v17 v20 v23 v28 r ⟨1024 + f.val, by omega⟩

end

section
variable (v14 : FVec Ideal S512x1024 .f32) (v17 v20 : FVec Ideal S512x2048 .f32) (v23 v28 : FVec Ideal S512x128 .f32)

/-- The query block: a value times its cosine, added to its partner times its signed sine, scaled. -/
def blockQ : Vec Ideal S512x1024 .bf16 := fun y => queryAt v17 v20 v23 v28 (y 0) (y 1)

/-- The key block. -/
def blockK : Vec Ideal S512x1024 .bf16 := fun y => keyAt v17 v20 v23 v28 (y 0) (y 1)

theorem blockQ_at (o : ℕ) (ho : o % 128 = 0) (r : Fin 512) (l : Fin 128) (p) :
    blockQ v17 v20 v23 v28 (ix2 r ⟨o + l.val, p⟩)
      = (v17 (ix2 r ⟨o + l.val, by omega⟩) * v23 (ix2 r l) + v20 (ix2 r ⟨o + l.val, by omega⟩) * v28 (ix2 r l))
          * Ideal.ofBits .f32 0x3E000000#32 := by
  have e : (⟨(o + l.val) % 128, by omega⟩ : Fin 128) = l := Fin.ext (by show (o + l.val) % 128 = l.val; omega)
  show queryAt v17 v20 v23 v28 r ⟨o + l.val, p⟩ = _
  unfold queryAt turnedAt
  rw [e]
theorem blockK_at (o : ℕ) (ho : o % 128 = 0) (r : Fin 512) (l : Fin 128) (p) :
    blockK v17 v20 v23 v28 (ix2 r ⟨o + l.val, p⟩)
      = v17 (ix2 r ⟨1024 + o + l.val, by omega⟩) * v23 (ix2 r l) + v20 (ix2 r ⟨1024 + o + l.val, by omega⟩) * v28 (ix2 r l) := by
  have e : (⟨(1024 + (o + l.val)) % 128, by omega⟩ : Fin 128) = l := Fin.ext (by show (1024 + (o + l.val)) % 128 = l.val; omega)
  show keyAt v17 v20 v23 v28 r ⟨o + l.val, p⟩ = _
  unfold keyAt turnedAt
  simp only [e, Nat.add_assoc]

/-- A transposed value, or a one. -/
def valueAt (n : Fin 8) (e : Fin 144) (r : Fin 512) : EReal :=
  if h : e.val < 128 then v14 (ix2 r ⟨128 * n.val + e.val, by omega⟩) else 1

/-- The block of transposed values, with its rows of ones. -/
def blockV : Vec Ideal S8x144x512 .bf16 := fun y => valueAt v14 (y 0) (y 1) (y 2)

theorem blockV_low (n : ℕ) (e : Fin 128) (r : Fin 512) (p q) :
    blockV v14 (ix3 ⟨n, p⟩ ⟨0 + e.val, q⟩ r) = v14 (ix2 r ⟨128 * n + e.val, by have : n < 8 := p; omega⟩) := by
  refine (dif_pos (show 0 + e.val < 128 by omega)).trans ?_
  congr 2; exact Fin.ext (by show 128 * n + (0 + e.val) = 128 * n + e.val; omega)
theorem blockV_ones (n : ℕ) (e : Fin 16) (r : Fin 512) (p q) : blockV v14 (ix3 ⟨n, p⟩ ⟨128 + e.val, q⟩ r) = (1 : EReal) :=
  dif_neg (show ¬ 128 + e.val < 128 by omega)

end

theorem emb2 (o : ℕ) (inb : ∀ a, (![0, o] : Fin 2 → ℕ) a + S512x128.size a ≤ S512x1024.size a) (r : Fin 512) (l : Fin 128) :
    (Rect.unit (s := S512x1024) ![0, o] S512x128.size inb).emb (ix2 r l)
      = (ix2 r ⟨o + l.val, by have h : o + 128 ≤ 1024 := inb 1; omega⟩ : S512x1024.Idx) := by
  funext a; apply Fin.ext; fin_cases a <;> simp [Rect.emb, Rect.unit]

theorem emb3 (n o k : ℕ) (inb : ∀ a, (![n, o, 0] : Fin 3 → ℕ) a + (![1, k, 512] : Fin 3 → ℕ) a ≤ S8x144x512.size a) (a : Fin 1) (e : Fin k) (r : Fin 512) :
    (Rect.unit (s := S8x144x512) ![n, o, 0] ![1, k, 512] inb).emb (ix3 a e r)
      = (ix3 ⟨n, by have h : n + 1 ≤ 8 := inb 0; omega⟩ ⟨o + e.val, by have h : o + k ≤ 144 := inb 1; omega⟩ r : S8x144x512.Idx) := by
  funext a; apply Fin.ext; fin_cases a <;> simp [Rect.emb, Rect.unit]

theorem hz2 : (![0, 0] : Fin 2 → Nat) = fun _ => 0 := funext fun a => by fin_cases a <;> rfl

section
variable (c : Dev nD) (i : grid0.Coords) (arg1 : Memref sig .tc .vmem S512x1024 .f32) (harg1 : arg1.IsWhole)
  (arg2 : Memref sig .tc .vmem S1x6x1024 .f32) (harg2 : arg2.IsWhole) (arg3 : Memref sig .tc .vmem S512x32 .f32) (harg3 : arg3.IsWhole)
  (arg4 : Memref sig .tc .vmem S512x32 .f32) (harg4 : arg4.IsWhole) (arg5 : Memref sig .tc .vmem S1024x1024 .bf16) (harg5 : arg5.IsWhole)
  (arg6 : Memref sig .tc .vmem S1024x2048 .bf16) (harg6 : arg6.IsWhole) (arg7 : Memref sig .tc .vmem S1024x2048 .bf16) (harg7 : arg7.IsWhole)
  (arg8 : Memref sig .tc .vmem S512x1024 .bf16) (harg8 : arg8.IsWhole) (arg9 : Memref sig .tc .vmem S512x1024 .bf16) (harg9 : arg9.IsWhole)
  (arg10 : Memref sig .tc .vmem S8x144x512 .bf16) (harg10 : arg10.IsWhole)
  (x0 : Vec Ideal S512x1024 .f32) (x1 : Vec Ideal S1x6x1024 .f32) (x2 x3 : Vec Ideal S512x32 .f32) (x4 : Vec Ideal S1024x1024 .bf16)
  (x5 x6 : Vec Ideal S1024x2048 .bf16)

/-- The blocks that the body's first stage makes of what it loads. -/
abbrev loaded0 : FVec Ideal S1x1x1024 .f32 := View.ld x1 (Rect.unit (s := S1x6x1024) ![0, 0, 0] S1x1x1024.size inb_S1x6x1024_S1x1x1024_0_0_0)
abbrev loaded1 : FVec Ideal S1x1x1024 .f32 := View.ld x1 (Rect.unit (s := S1x6x1024) ![0, 1, 0] S1x1x1024.size inb_S1x6x1024_S1x1x1024_0_1_0)

theorem out7 :
    out0_A_7 c i arg1 harg1 arg2 harg2 arg3 harg3 arg4 harg4 arg5 harg5 arg6 harg6 arg7 harg7 arg8 harg8 arg9 harg9 arg10 harg10
      x0 x1 x2 x3 x4 x5 x6
      = blockQ (k0_pay7 x0 (loaded0 x1) (loaded1 x1) x5) (k0_pay8 x0 (loaded0 x1) (loaded1 x1) x6) (k0_pay9 x2) (k0_pay10 x3) := by
  funext y
  unfold out0_A_7
  rw [View.read_writes_junk_eq_canon]
  refine View.canon_apply_of_pieces (blockQ (k0_pay7 x0 (loaded0 x1) (loaded1 x1) x5) (k0_pay8 x0 (loaded0 x1) (loaded1 x1) x6) (k0_pay9 x2) (k0_pay10 x3)) _ ?_ y (cover0_A_7 c i arg1 harg1 arg2 harg2 arg3 harg3 arg4 harg4 arg5 harg5 arg6 harg6 arg7 harg7 arg8 harg8 arg9 harg9 arg10 harg10
      x0 x1 x2 x3 x4 x5 x6 y)
  unfold kernelRun0_A
  dsimp only
  sl_unfold_words
  simp only [List.forall_mem_cons, View.readAt_eq_ld, harg1.read_unread, harg2.read_unread, harg3.read_unread, harg4.read_unread, harg6.read_unread, harg7.read_unread, View.ld_unit_zero (S := S512x1024) hz2, View.ld_unit_zero (S := S1024x1024) hz2, View.ld_unit_zero (S := S1024x2048) hz2, View.ld_unit_zero (S := S512x32) hz2]
  refine ⟨?_, ?_, ?_, ?_, ?_, ?_, ?_, ?_, fun _ h => absurd h List.not_mem_nil⟩
  all_goals
    intro x
    obtain ⟨r, l, rfl⟩ : ∃ (r : Fin 512) (l : Fin 128), x = ix2 r l := ⟨x 0, x 1, by funext a; fin_cases a <;> rfl⟩
    rw [emb2, blockQ_at _ _ _ _ _ (by decide)]
    pointwise [k0_pay11, k0_pay12, k0_pay13, k0_pay14, k0_pay15, k0_pay16, k0_pay17, k0_pay18, k0_pay19, k0_pay20]

theorem out8 :
    out0_A_8 c i arg1 harg1 arg2 harg2 arg3 harg3 arg4 harg4 arg5 harg5 arg6 harg6 arg7 harg7 arg8 harg8 arg9 harg9 arg10 harg10
      x0 x1 x2 x3 x4 x5 x6
      = blockK (k0_pay7 x0 (loaded0 x1) (loaded1 x1) x5) (k0_pay8 x0 (loaded0 x1) (loaded1 x1) x6) (k0_pay9 x2) (k0_pay10 x3) := by
  funext y
  unfold out0_A_8
  rw [View.read_writes_junk_eq_canon]
  refine View.canon_apply_of_pieces (blockK (k0_pay7 x0 (loaded0 x1) (loaded1 x1) x5) (k0_pay8 x0 (loaded0 x1) (loaded1 x1) x6) (k0_pay9 x2) (k0_pay10 x3)) _ ?_ y (cover0_A_8 c i arg1 harg1 arg2 harg2 arg3 harg3 arg4 harg4 arg5 harg5 arg6 harg6 arg7 harg7 arg8 harg8 arg9 harg9 arg10 harg10
      x0 x1 x2 x3 x4 x5 x6 y)
  unfold kernelRun0_A
  dsimp only
  sl_unfold_words
  simp only [List.forall_mem_cons, View.readAt_eq_ld, harg1.read_unread, harg2.read_unread, harg3.read_unread, harg4.read_unread, harg6.read_unread, harg7.read_unread, View.ld_unit_zero (S := S512x1024) hz2, View.ld_unit_zero (S := S1024x1024) hz2, View.ld_unit_zero (S := S1024x2048) hz2, View.ld_unit_zero (S := S512x32) hz2]
  refine ⟨?_, ?_, ?_, ?_, ?_, ?_, ?_, ?_, fun _ h => absurd h List.not_mem_nil⟩
  all_goals
    intro x
    obtain ⟨r, l, rfl⟩ : ∃ (r : Fin 512) (l : Fin 128), x = ix2 r l := ⟨x 0, x 1, by funext a; fin_cases a <;> rfl⟩
    rw [emb2, blockK_at _ _ _ _ _ (by decide)]
    pointwise [k0_pay21, k0_pay22, k0_pay23, k0_pay24, k0_pay25, k0_pay26, k0_pay27, k0_pay28, k0_pay29]

theorem out9 :
    out0_A_9 c i arg1 harg1 arg2 harg2 arg3 harg3 arg4 harg4 arg5 harg5 arg6 harg6 arg7 harg7 arg8 harg8 arg9 harg9 arg10 harg10
      x0 x1 x2 x3 x4 x5 x6
      = blockV (k0_pay6 x0 (loaded0 x1) (loaded1 x1) x4) := by
  funext y
  unfold out0_A_9
  rw [View.read_writes_junk_eq_canon]
  refine View.canon_apply_of_pieces (blockV (k0_pay6 x0 (loaded0 x1) (loaded1 x1) x4)) _ ?_ y (cover0_A_9 c i arg1 harg1 arg2 harg2 arg3 harg3 arg4 harg4 arg5 harg5 arg6 harg6 arg7 harg7 arg8 harg8 arg9 harg9 arg10 harg10
      x0 x1 x2 x3 x4 x5 x6 y)
  unfold kernelRun0_A
  dsimp only
  sl_unfold_words
  simp only [List.forall_mem_cons, View.readAt_eq_ld, harg1.read_unread, harg2.read_unread, harg5.read_unread, View.ld_unit_zero (S := S512x1024) hz2, View.ld_unit_zero (S := S1024x1024) hz2, View.ld_unit_zero (S := S1024x2048) hz2, View.ld_unit_zero (S := S512x32) hz2]
  refine ⟨?_, ?_, ?_, ?_, ?_, ?_, ?_, ?_, ?_, ?_, ?_, ?_, ?_, ?_, ?_, ?_, fun _ h => absurd h List.not_mem_nil⟩
  all_goals
    intro x
    first
      | obtain ⟨a, e, r, rfl⟩ : ∃ (a : Fin 1) (e : Fin 128) (r : Fin 512), x = ix3 a e r := ⟨x 0, x 1, x 2, by funext a; fin_cases a <;> rfl⟩
      | obtain ⟨a, e, r, rfl⟩ : ∃ (a : Fin 1) (e : Fin 16) (r : Fin 512), x = ix3 a e r := ⟨x 0, x 1, x 2, by funext a; fin_cases a <;> rfl⟩
    rw [emb3]
    first
      | rw [blockV_low]
      | rw [blockV_ones]
    pointwise [k0_pay1, k0_pay2, k0_pay3, k0_pay4, k0_pay30, k0_pay31, k0_pay32, k0_pay33, k0_pay34, k0_pay35, k0_pay36, k0_pay37, k0_pay38, k0_pay39, k0_pay40, k0_pay41, k0_pay42, k0_pay43, k0_pay44]

end

theorem idxs : ∀ t : Fin cfg0.N, win0_0.index t = ![t.val, 0] ∧ win0_1.index t = ![t.val / 32, 0, 0] ∧ win0_2.index t = ![t.val, 0]
    ∧ win0_3.index t = ![t.val, 0] ∧ win0_7.index t = ![t.val, 0] ∧ win0_8.index t = ![t.val, 0] ∧ win0_9.index t = ![0, 0, t.val] :=
  (by decide +kernel : ∀ t : Fin grid0.N, _)
theorem idxs0 : ∀ t : Fin cfg0.N, win0_4.index t = ![0, 0] ∧ win0_5.index t = ![0, 0] ∧ win0_6.index t = ![0, 0] :=
  (by decide +kernel : ∀ t : Fin grid0.N, _)

theorem point_lt (t : Fin cfg0.N) : t.val < 64 := t.isLt

/-- The row of the arrays that row `r` of a block is. -/
abbrev rowAt (t : Fin cfg0.N) (r : Fin 512) : Fin 32768 := ⟨512 * t.val + r.val, by have := point_lt t; omega⟩

section
variable (m : (ℓ : Loc nD τ sig) → Buf (Elt Ideal) ℓ) (c : Dev nD) (t : Fin cfg0.N)

theorem blk0 (r : Fin 512) (j : Fin 1024) :
    iblk (F := Ideal) m c 0 t (ix2 r j) = m ((c.tc : Thread nD τ).loc main_arg0) (ix2 (rowAt t r) j) := by
  blk_ext! [iblk, V, idxs t]
theorem blk1 (a : Fin 6) (j : Fin 1024) :
    iblk (F := Ideal) m c 1 t (ix3 0 a j)
      = m ((c.tc : Thread nD τ).loc main_arg1) (ix3 ⟨t.val / 32, by have := point_lt t; omega⟩ a j) := by
  blk_ext! [iblk, V, idxs t]
theorem blk2 (r : Fin 512) (j : Fin 32) :
    iblk (F := Ideal) m c 2 t (ix2 r j) = m ((c.tc : Thread nD τ).loc main_arg2) (ix2 (rowAt t r) j) := by
  blk_ext! [iblk, V, idxs t]
theorem blk3 (r : Fin 512) (j : Fin 32) :
    iblk (F := Ideal) m c 3 t (ix2 r j) = m ((c.tc : Thread nD τ).loc main_arg3) (ix2 (rowAt t r) j) := by
  blk_ext! [iblk, V, idxs t]
theorem blk4 (e f : Fin 1024) :
    iblk (F := Ideal) m c 4 t (ix2 e f) = m ((c.tc : Thread nD τ).loc main_arg4) (ix2 e ⟨2048 + f.val, by omega⟩) := by
  blk_ext! [iblk, V, idxs0 t]
theorem blk5 (e : Fin 1024) (f : Fin 2048) :
    iblk (F := Ideal) m c 5 t (ix2 e f) = m ((c.tc : Thread nD τ).loc main_arg4) (ix2 e ⟨f.val, by omega⟩) := by
  blk_ext! [iblk, V, idxs0 t]
theorem blk6 (e : Fin 1024) (f : Fin 2048) :
    iblk (F := Ideal) m c 6 t (ix2 e f)
      = m ((c.tc : Thread nD τ).loc main_arg4) (ix2 e ⟨64 * (f.val / 64) + (f.val + 32) % 64, by omega⟩) := by
  blk_ext! [iblk, V, idxs0 t]
  · show (((View.whole main_v7).slice (win0_6.rect t)).emb (ix2 e f) 0).val = e.val
    blk_simp [idxs0 t]
  · simp [Fin.rev]
    omega
end

section
variable (x0 : Vec Ideal S512x1024 .f32) (x1 : Vec Ideal S1x6x1024 .f32) (x2 x3 : Vec Ideal S512x32 .f32) (x4 : Vec Ideal S1024x1024 .bf16)
  (x5 x6 : Vec Ideal S1024x2048 .bf16) (r : Fin 512)

/-- The modulated row of a block. -/
abbrev inBlk : Fin 1024 → EReal := shifted (fun j => x0 (ix2 r j)) (fun j => x1 (ix3 0 1 j)) (fun j => x1 (ix3 0 0 j))

theorem loaded0_at (j : Fin 1024) : loaded0 x1 (ix3 0 0 j) = x1 (ix3 0 0 j) := by
  refine congrArg x1 ?_
  funext a; apply Fin.ext; fin_cases a <;> simp [Rect.emb, Rect.unit]
theorem loaded1_at (j : Fin 1024) : loaded1 x1 (ix3 0 0 j) = x1 (ix3 0 1 j) := by
  refine congrArg x1 ?_
  funext a; apply Fin.ext; fin_cases a <;> simp [Rect.emb, Rect.unit]

theorem pay5_at (j : Fin 1024) : k0_pay5 x0 (loaded0 x1) (loaded1 x1) (ix2 r j) = inBlk x0 x1 r j := by
  unfold inBlk shifted
  pointwise [k0_pay5]
  rw [loaded0_at, loaded1_at]
theorem pay6_at (f : Fin 1024) : k0_pay6 x0 (loaded0 x1) (loaded1 x1) x4 (ix2 r f) = times (inBlk x0 x1 r) (fun e f => x4 (ix2 e f)) f := by
  unfold times
  pointwise [k0_pay6, pay5_at]
theorem pay7_at (f : Fin 2048) : k0_pay7 x0 (loaded0 x1) (loaded1 x1) x5 (ix2 r f) = times (inBlk x0 x1 r) (fun e f => x5 (ix2 e f)) f := by
  unfold times
  pointwise [k0_pay7, pay5_at]
theorem pay8_at (f : Fin 2048) : k0_pay8 x0 (loaded0 x1) (loaded1 x1) x6 (ix2 r f) = times (inBlk x0 x1 r) (fun e f => x6 (ix2 e f)) f := by
  unfold times
  pointwise [k0_pay8, pay5_at]
theorem pay9_at (l : Fin 128) : k0_pay9 x2 (ix2 r l) = x2 (ix2 r ⟨l.val % 32, by omega⟩) := by
  pointwise [k0_pay9]
  exact (quarters (fun l => x2 (ix2 r l)) (fun l => x2 (ix2 r l)) l).trans (ite_self _)
theorem pay10_at (l : Fin 128) : k0_pay10 x3 (ix2 r l)
    = if l.val % 64 < 32 then (0 : EReal) - x3 (ix2 r ⟨l.val % 32, by omega⟩) else x3 (ix2 r ⟨l.val % 32, by omega⟩) := by
  pointwise [k0_pay10]
  exact quarters (fun l => 0 - x3 (ix2 r l)) (fun l => x3 (ix2 r l)) l
end

section
variable (m : (ℓ : Loc nD τ sig) → Buf (Elt Ideal) ℓ) (c : Dev nD)

/-- The modulated row of the arguments, the weights, and the row's angles. -/
abbrev inRow (R : Fin 32768) : Fin 1024 → EReal :=
  shifted (fun j => m ((c.tc : Thread nD τ).loc main_arg0) (ix2 R j))
    (fun j => m ((c.tc : Thread nD τ).loc main_arg1) (ix3 ⟨R.val / 16384, by omega⟩ 1 j))
    (fun j => m ((c.tc : Thread nD τ).loc main_arg1) (ix3 ⟨R.val / 16384, by omega⟩ 0 j))
abbrev wts (e : Fin 1024) (f : Fin 3072) : EReal := m ((c.tc : Thread nD τ).loc main_arg4) (ix2 e f)
abbrev cosRow (R : Fin 32768) (j : Fin 32) : EReal := m ((c.tc : Thread nD τ).loc main_arg2) (ix2 R j)
abbrev sinRow (R : Fin 32768) (j : Fin 32) : EReal := m ((c.tc : Thread nD τ).loc main_arg3) (ix2 R j)

variable (t : Fin cfg0.N) (r : Fin 512)

theorem inBlk_eq : inBlk (iblk (F := Ideal) m c 0 t) (iblk (F := Ideal) m c 1 t) r = inRow m c (rowAt t r) := by
  have hb : (⟨(rowAt t r).val / 16384, by have := (rowAt t r).isLt; omega⟩ : Fin 2) = ⟨t.val / 32, by have := point_lt t; omega⟩ :=
    Fin.ext (by show (512 * t.val + r.val) / 16384 = t.val / 32; omega)
  unfold inBlk inRow
  rw [hb]
  simp only [blk0, blk1]

/-- A turned value of a block is the head's value. -/
theorem turned_eq (f : Fin 2048) (o : ℕ) (ho : o + 64 ≤ 3072) (q : Fin 64) (hf : f.val = o + q.val) (h64 : o % 64 = 0) :
    turnedAt (k0_pay7 (iblk (F := Ideal) m c 0 t) (loaded0 (iblk (F := Ideal) m c 1 t)) (loaded1 (iblk (F := Ideal) m c 1 t)) (iblk (F := Ideal) m c 5 t))
        (k0_pay8 (iblk (F := Ideal) m c 0 t) (loaded0 (iblk (F := Ideal) m c 1 t)) (loaded1 (iblk (F := Ideal) m c 1 t)) (iblk (F := Ideal) m c 6 t))
        (k0_pay9 (iblk (F := Ideal) m c 2 t)) (k0_pay10 (iblk (F := Ideal) m c 3 t)) r f
      = headRow (inRow m c (rowAt t r)) (wts m c) (cosRow m c (rowAt t r)) (sinRow m c (rowAt t r)) o ho q := by
  unfold turnedAt
  rw [pay7_at, pay8_at, pay9_at, pay10_at, inBlk_eq]
  simp only [blk2, blk3]
  refine Eq.trans ?_ (headRow_eq (inRow m c (rowAt t r)) (wts m c) (cosRow m c (rowAt t r)) (sinRow m c (rowAt t r)) o ho q
    ⟨f.val, by omega⟩ ⟨64 * (f.val / 64) + (f.val + 32) % 64, by omega⟩ ⟨f.val % 128, by omega⟩ hf
    (by show 64 * (f.val / 64) + (f.val + 32) % 64 = o + (q.val + 32) % 64; omega) (by show f.val % 128 % 64 = q.val; omega))
  unfold times
  simp only [blk5, blk6]

/-- The three output blocks at a grid point. -/
theorem pointQ (d : Fin 1024) : (dats (F := Ideal) m 0 c).after 7 t (ix2 r d)
    = headRow (inRow m c (rowAt t r)) (wts m c) (cosRow m c (rowAt t r)) (sinRow m c (rowAt t r)) (d.val / 64 * 64) (by omega) ⟨d.val % 64, by omega⟩
        * Ideal.ofBits .f32 0x3E000000#32 := by
  rw [after0_7]
  unfold outsAt0
  dsimp only
  rw [out7]
  refine congrArg (· * Ideal.ofBits .f32 0x3E000000#32) (turned_eq m c t r ⟨d.val, by omega⟩ _ _ _ ?_ ?_)
  · show d.val = d.val / 64 * 64 + d.val % 64
    omega
  · omega
theorem pointK (d : Fin 1024) : (dats (F := Ideal) m 0 c).after 8 t (ix2 r d)
    = headRow (inRow m c (rowAt t r)) (wts m c) (cosRow m c (rowAt t r)) (sinRow m c (rowAt t r)) (1024 + d.val / 64 * 64) (by omega)
        ⟨d.val % 64, by omega⟩ := by
  rw [after0_8]
  unfold outsAt0
  dsimp only
  rw [out8]
  refine turned_eq m c t r ⟨1024 + d.val, by omega⟩ _ _ _ ?_ ?_
  · show 1024 + d.val = 1024 + d.val / 64 * 64 + d.val % 64
    omega
  · omega
theorem pointV (n : Fin 8) (e : Fin 144) : (dats (F := Ideal) m 0 c).after 9 t (ix3 n e r)
    = if h : e.val < 128 then times (inRow m c (rowAt t r)) (wts m c) ⟨2048 + (n.val * 128 + e.val), by omega⟩ else 1 := by
  rw [after0_9]
  unfold outsAt0
  dsimp only
  rw [out9]
  show valueAt _ n e r = _
  unfold valueAt
  by_cases h : e.val < 128
  · rw [dif_pos h, dif_pos h, pay6_at, inBlk_eq]
    have ee : (⟨2048 + (128 * n.val + e.val), by omega⟩ : Fin 3072) = ⟨2048 + (n.val * 128 + e.val), by omega⟩ :=
      Fin.ext (by show 2048 + (128 * n.val + e.val) = 2048 + (n.val * 128 + e.val); omega)
    unfold times
    simp only [blk4, ee]
  · rw [dif_neg h, dif_neg h]

/-- The queries' and keys' arrays from their rows. -/
theorem outQ_eq (G : Buf (Elt Ideal) ((c.tc : Thread nD τ).loc main_v8_0))
    (h : ∀ (R : Fin 32768) (d : Fin 1024), G (ix2 R d)
      = headRow (inRow m c R) (wts m c) (cosRow m c R) (sinRow m c R) (d.val / 64 * 64) (by omega) ⟨d.val % 64, by omega⟩
        * Ideal.ofBits .f32 0x3E000000#32) :
    (dats (F := Ideal) m 0 c).arrAt 7 cfg0.N = G := by
  refine (dats m 0 c).arrAt_eq_of_covers 7 _ (by decide +kernel) fun t hf y => ?_
  blk_simp
  have ey : y = (ix2 (y 0) (y 1) : S512x1024.Idx) := by
    funext a; fin_cases a <;> rfl
  have ht := (pointQ m c t (y 0) (y 1)).trans (h (rowAt t (y 0)) (y 1)).symm
  rw [← ey] at ht
  refine ht.trans ?_
  congr 1
  blk_ext [idxs t]
theorem outK_eq (G : Buf (Elt Ideal) ((c.tc : Thread nD τ).loc main_v8_1))
    (h : ∀ (R : Fin 32768) (d : Fin 1024), G (ix2 R d)
      = headRow (inRow m c R) (wts m c) (cosRow m c R) (sinRow m c R) (1024 + d.val / 64 * 64) (by omega) ⟨d.val % 64, by omega⟩) :
    (dats (F := Ideal) m 0 c).arrAt 8 cfg0.N = G := by
  refine (dats m 0 c).arrAt_eq_of_covers 8 _ (by decide +kernel) fun t hf y => ?_
  blk_simp
  have ey : y = (ix2 (y 0) (y 1) : S512x1024.Idx) := by
    funext a; fin_cases a <;> rfl
  have ht := (pointK m c t (y 0) (y 1)).trans (h (rowAt t (y 0)) (y 1)).symm
  rw [← ey] at ht
  refine ht.trans ?_
  congr 1
  blk_ext [idxs t]

/-- The transposed values' array from its columns. -/
theorem outV_eq (G : Buf (Elt Ideal) ((c.tc : Thread nD τ).loc main_v8_2))
    (h : ∀ (n : Fin 8) (e : Fin 144) (R : Fin 32768), G (ix3 n e R)
      = if h : e.val < 128 then times (inRow m c R) (wts m c) ⟨2048 + (n.val * 128 + e.val), by omega⟩ else 1) :
    (dats (F := Ideal) m 0 c).arrAt 9 cfg0.N = G := by
  refine (dats m 0 c).arrAt_eq_of_covers 9 _ (by decide +kernel) fun t hf y => ?_
  blk_simp
  have ey : y = (ix3 (y 0) (y 1) (y 2) : S8x144x512.Idx) := by
    funext a; fin_cases a <;> rfl
  have ht := (pointV m c t (y 2) (y 0) (y 1)).trans (h (y 0) (y 1) (rowAt t (y 2))).symm
  rw [← ey] at ht
  refine ht.trans ?_
  congr 1
  blk_ext [idxs t]

end

end Cert.InOddIdeal.Hand
-- ==== Proof.InOddRef.lean ====
/-
  The reference of the odd layer's attention inputs, read at an index: queries, keys and values.
-/
module

public import proofs.«01_k».proof.Proof.Heads
public import proofs.«01_k».proof.Proof.Gen.ReferenceInOddIdeal.Run
public import Idealize.ShloMosaic.Lib.Pointwise

@[expose] public section

set_option maxRecDepth 16384

noncomputable section

namespace Cert.ReferenceInOddIdeal.Hand

open Idealize Idealize.ShloMosaic Idealize.ShloMosaic.TcCoe Cert.ReferenceInOddIdeal Cert.ReferenceInOddIdeal.Gen Cert.ReferenceInOddIdeal.Value Cert.Post Cert.In

section

/-- Heads turned, from their halves and the angles' cosines and sines. -/
def turnedHeads (t u : FVec Ideal S2x16384x16x32 .f32) (cs sn : FVec Ideal S2x16384x1x32 .f32) : FVec Ideal S2x16384x16x64 .f32 :=
  fn_main_v32
    (subf (mulf t (broadcastInDim S2x16384x16x32 ![0, 1, 2, 3] bcast_S2x16384x1x32_S2x16384x16x32_0_1_2_3 cs))
      (mulf u (broadcastInDim S2x16384x16x32 ![0, 1, 2, 3] bcast_S2x16384x1x32_S2x16384x16x32_0_1_2_3 sn)))
    (addf (mulf u (broadcastInDim S2x16384x16x32 ![0, 1, 2, 3] bcast_S2x16384x1x32_S2x16384x16x32_0_1_2_3 cs))
      (mulf t (broadcastInDim S2x16384x16x32 ![0, 1, 2, 3] bcast_S2x16384x1x32_S2x16384x16x32_0_1_2_3 sn)))

theorem turnedHeads_at (x : FVec Ideal S2x16384x16x64 .f32) (cs sn : FVec Ideal S2x16384x1x32 .f32)
    (b : Fin 2) (s : Fin 16384) (n : Fin 16) (l : Fin 64) :
    turnedHeads (extractStridedSlice S2x16384x16x32 ![0, 0, 0, 0] x slices_S2x16384x16x64_S2x16384x16x32_0_0_0_0)
        (extractStridedSlice S2x16384x16x32 ![0, 0, 0, 32] x slices_S2x16384x16x64_S2x16384x16x32_0_0_0_32) cs sn (ix4 b s n l)
      = roped (fun j => cs (ix4 b s 0 j)) (fun j => sn (ix4 b s 0 j)) (fun l => x (ix4 b s n l)) l := by
  unfold roped
  pointwise [turnedHeads, fn_main_v32]
  by_cases h : l.val < 32
  · rw [dif_pos h, dif_pos h]
    congr 3
    exact congrArg (ix4 b s n) (Fin.ext (Nat.add_comm _ _))
  · rw [dif_neg h, dif_neg h]
    congr 3
    exact congrArg (ix4 b s n) (Fin.ext (by show 32 + (l.val - 32) = l.val; omega))

end

variable (m : (ℓ : Loc nD τ sig) → Buf (Elt Ideal) ℓ) (c : Dev nD)

/-- Rows scaled and shifted. -/
def rowsOf (x : FVec Ideal S32768x1024 .f32) (md : FVec Ideal S2x6x1024 .f32) : FVec Ideal S2x16384x1024 .f32 :=
  addf (mulf (shapeCast _ x shapeCasts_S32768x1024_S2x16384x1024)
      (broadcastInDim S2x16384x1024 ![0, 1, 2] bcast_S2x1x1024_S2x16384x1024_0_1_2
        (addf (broadcastInDim S2x1x1024 ![] bcast_S_S2x1x1024 (constant S_ .f32 0x3F800000#32))
          (broadcastInDim S2x1x1024 ![0, 2] bcast_S2x1024_S2x1x1024_0_2
            (shapeCast _ (extractStridedSlice S2x1x1024 ![0, 1, 0] md slices_S2x6x1024_S2x1x1024_0_1_0)
              shapeCasts_S2x1x1024_S2x1024)))))
      (broadcastInDim S2x16384x1024 ![0, 1, 2] bcast_S2x1x1024_S2x16384x1024_0_1_2
        (broadcastInDim S2x1x1024 ![0, 2] bcast_S2x1024_S2x1x1024_0_2
          (shapeCast _ (extractStridedSlice S2x1x1024 ![0, 0, 0] md slices_S2x6x1024_S2x1x1024_0_0_0)
            shapeCasts_S2x1x1024_S2x1024)))

theorem rowsOf_at (x : FVec Ideal S32768x1024 .f32) (md : FVec Ideal S2x6x1024 .f32) (b : Fin 2) (s : Fin 16384) (j : Fin 1024) :
    rowsOf x md (ix3 b s j) = shifted (fun j => x (ix2 ⟨b.val * 16384 + s.val, by omega⟩ j)) (fun j => md (ix3 b 1 j)) (fun j => md (ix3 b 0 j)) j := by
  unfold shifted
  pointwise [rowsOf]

/-- The modulated rows. -/
def modulated : FVec Ideal S2x16384x1024 .f32 :=
  rowsOf (m ((c.tc : Thread nD τ).loc main_arg0)) (m ((c.tc : Thread nD τ).loc main_arg1))

/-- The modulated rows times the weights. -/
def proj : FVec Ideal S2x16384x3072 .f32 :=
  Host.dotGeneral (φ₁ := .f32) (φ₂ := .f32) dot_S2x16384x1024_S1024x3072_S2x16384x3072_2_0_01_1_n_n none
    (modulated m c)
    (m ((c.tc : Thread nD τ).loc main_arg4) : FVec Ideal S1024x3072 .f32)

/-- The angles' tables, by sequence and position. -/
abbrev tab (a : FVec Ideal S32768x32 .f32) : FVec Ideal S2x16384x1x32 .f32 := shapeCast _ a shapeCasts_S32768x32_S2x16384x1x32

/-- The heads of the queries and of the keys, turned. -/
def heads (x : FVec Ideal S2x16384x1024 .f32) : FVec Ideal S2x16384x16x64 .f32 :=
  turnedHeads
    (extractStridedSlice S2x16384x16x32 ![0, 0, 0, 0] (shapeCast _ x shapeCasts_S2x16384x1024_S2x16384x16x64) slices_S2x16384x16x64_S2x16384x16x32_0_0_0_0)
    (extractStridedSlice S2x16384x16x32 ![0, 0, 0, 32] (shapeCast _ x shapeCasts_S2x16384x1024_S2x16384x16x64) slices_S2x16384x16x64_S2x16384x16x32_0_0_0_32)
    (tab (m ((c.tc : Thread nD τ).loc main_arg2))) (tab (m ((c.tc : Thread nD τ).loc main_arg3)))

def resultQ : FVec Ideal S32768x1024 .bf16 :=
  truncf .bf16 (shapeCast _ (mulf (heads m c (extractStridedSlice S2x16384x1024 ![0, 0, 0] (proj m c) slices_S2x16384x3072_S2x16384x1024_0_0_0))
    (broadcastInDim S2x16384x16x64 ![] bcast_S_S2x16384x16x64 (constant S_ .f32 0x3E000000#32))) shapeCasts_S2x16384x16x64_S32768x1024) bitsLt_bf16_f32
def resultK : FVec Ideal S32768x1024 .bf16 :=
  truncf .bf16 (shapeCast _ (heads m c (extractStridedSlice S2x16384x1024 ![0, 0, 1024] (proj m c) slices_S2x16384x3072_S2x16384x1024_0_0_1024))
    shapeCasts_S2x16384x16x64_S32768x1024) bitsLt_bf16_f32
def resultV : FVec Ideal S8x144x32768 .bf16 :=
  truncf .bf16 (fn_main_v52 (F := Ideal) (transpose S8x128x32768 [1, 2, 0] (shapeCast _ (extractStridedSlice S2x16384x1024 ![0, 0, 2048] (proj m c)
      slices_S2x16384x3072_S2x16384x1024_0_0_2048) shapeCasts_S2x16384x1024_S32768x8x128) transposes_S32768x8x128_S8x128x32768_1_2_0)
    (broadcastInDim S8x16x32768 ![] bcast_S_S8x16x32768 (constant (F := Ideal) S_ .f32 0x3F800000#32) : FVec Ideal S8x16x32768 .f32)) bitsLt_bf16_f32

theorem resultQ_eq : res_main_v54 (F := Ideal) m c = resultQ m c := rfl
theorem resultK_eq : res_main_v56 (F := Ideal) m c = resultK m c := rfl

/-- The modulated row. -/
abbrev inRow (R : Fin 32768) : Fin 1024 → EReal :=
  shifted (fun j => m ((c.tc : Thread nD τ).loc main_arg0) (ix2 R j))
    (fun j => m ((c.tc : Thread nD τ).loc main_arg1) (ix3 ⟨R.val / 16384, by omega⟩ 1 j))
    (fun j => m ((c.tc : Thread nD τ).loc main_arg1) (ix3 ⟨R.val / 16384, by omega⟩ 0 j))
abbrev wts (e : Fin 1024) (f : Fin 3072) : EReal := m ((c.tc : Thread nD τ).loc main_arg4) (ix2 e f)
abbrev cosRow (R : Fin 32768) (j : Fin 32) : EReal := m ((c.tc : Thread nD τ).loc main_arg2) (ix2 R j)
abbrev sinRow (R : Fin 32768) (j : Fin 32) : EReal := m ((c.tc : Thread nD τ).loc main_arg3) (ix2 R j)

/-- The row of the arrays at a position of a sequence. -/
abbrev pos (b : Fin 2) (s : Fin 16384) : Fin 32768 := ⟨b.val * 16384 + s.val, by omega⟩
theorem pos_div (b : Fin 2) (s : Fin 16384) (p) : (⟨(pos b s).val / 16384, p⟩ : Fin 2) = b := Fin.ext (by show (b.val * 16384 + s.val) / 16384 = b.val; omega)
theorem pos_mod (b : Fin 2) (s : Fin 16384) (p) : (⟨(pos b s).val % 16384, p⟩ : Fin 16384) = s := Fin.ext (by show (b.val * 16384 + s.val) % 16384 = s.val; omega)
theorem pos_eta (R : Fin 32768) (p q) : pos ⟨R.val / 16384, p⟩ ⟨R.val % 16384, q⟩ = R :=
  Fin.ext (by show R.val / 16384 * 16384 + R.val % 16384 = R.val; omega)

theorem modulated_at (b : Fin 2) (s : Fin 16384) (j : Fin 1024) : modulated m c (ix3 b s j) = inRow m c (pos b s) j := by
  refine (rowsOf_at _ _ b s j).trans ?_
  unfold inRow
  rw [pos_div]

theorem proj_at (b : Fin 2) (s : Fin 16384) (f : Fin 3072) : proj m c (ix3 b s f) = times (inRow m c (pos b s)) (wts m c) f := by
  unfold times
  pointwise [proj, modulated_at]

theorem heads_at (x : FVec Ideal S2x16384x1024 .f32) (b : Fin 2) (s : Fin 16384) (n : Fin 16) (l : Fin 64) :
    heads m c x (ix4 b s n l)
      = roped (cosRow m c (pos b s)) (sinRow m c (pos b s)) (fun l => x (ix3 b s ⟨n.val * 64 + l.val, by omega⟩)) l := by
  refine (turnedHeads_at _ _ _ b s n l).trans ?_
  congr 1
  · funext j; pointwise []
  · funext j; pointwise []
  · funext j; pointwise []

theorem resultQ_at (R : Fin 32768) (d : Fin 1024) : resultQ m c (ix2 R d)
    = headRow (inRow m c R) (wts m c) (cosRow m c R) (sinRow m c R) (d.val / 64 * 64) (by omega) ⟨d.val % 64, by omega⟩
        * Ideal.ofBits .f32 0x3E000000#32 := by
  pointwise [resultQ, heads_at, proj_at, pos_eta, headRow]

theorem resultK_at (R : Fin 32768) (d : Fin 1024) : resultK m c (ix2 R d)
    = headRow (inRow m c R) (wts m c) (cosRow m c R) (sinRow m c R) (1024 + d.val / 64 * 64) (by omega) ⟨d.val % 64, by omega⟩ := by
  pointwise [resultK, heads_at, proj_at, pos_eta, headRow, Nat.add_assoc]

theorem resultV_at (n : Fin 8) (e : Fin 144) (R : Fin 32768) : resultV m c (ix3 n e R)
    = if h : e.val < 128 then times (inRow m c R) (wts m c) ⟨2048 + (n.val * 128 + e.val), by omega⟩ else 1 := by
  pointwise [resultV, fn_main_v52, proj_at, pos_eta]

end Cert.ReferenceInOddIdeal.Hand

end
-- ==== Proof.InOddClaim.lean ====
/-
  The claims about the odd layer's attention inputs: the call and its reference run, and from equal arguments leave equal queries,
  keys and values.
-/
module

public import proofs.«01_k».proof.Defs
public import proofs.«01_k».proof.Proof.InOddRow
public import proofs.«01_k».proof.Proof.InOddRef
public import proofs.«01_k».proof.Proof.Gen.InOdd.Frame
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The odd layer's attention inputs run without a fault, leave their arguments as they were and every counter at zero. -/
theorem frame_inOdd : Cert.quiescent_InOdd (hInOdd := Cert.InOdd.Gen.facts) := fun m ρ _ =>
  Cert.InOdd.Gen.frame (F := Bits) m ρ

/-- The same of their idealization. -/
theorem frame_inOddIdeal : Cert.quiescent_InOddIdeal (hInOddIdeal := Cert.InOddIdeal.Gen.facts) := fun m ρ _ =>
  Cert.InOddIdeal.Gen.frame (F := Ideal) m ρ

/-- The same of their reference, which has no semaphore at all. -/
theorem frame_referenceInOdd : Cert.quiescent_ReferenceInOddIdeal (hReferenceInOddIdeal := Cert.ReferenceInOddIdeal.Gen.facts) := fun m ρ _ =>
  (θ_run Cert.ReferenceInOddIdeal.defs _ _).mono
    (fun r h => ⟨fun c => (h c).2.2.2, Idealize.ShloMosaic.sem_eq_zero_of_no_sems (by decide) r.2⟩)
    (Cert.ReferenceInOddIdeal.Value.run (F := Ideal) m ρ)

section
variable (m : (ℓ : Loc Cert.InOddIdeal.nD Cert.InOddIdeal.τ Cert.InOddIdeal.sig) → Buf (Elt Ideal) ℓ)
  (m' : (ℓ : Loc Cert.ReferenceInOddIdeal.nD Cert.ReferenceInOddIdeal.τ Cert.ReferenceInOddIdeal.sig) → Buf (Elt Ideal) ℓ)
  (c : Dev Cert.InOddIdeal.nD)

/-- The two programs' arguments agree. -/
def InOddArgs : Prop :=
  m' ((c.tc : Thread Cert.ReferenceInOddIdeal.nD Cert.ReferenceInOddIdeal.τ).loc Cert.ReferenceInOddIdeal.main_arg0) = m ((c.tc : Thread Cert.InOddIdeal.nD Cert.InOddIdeal.τ).loc Cert.InOddIdeal.main_arg0)
    ∧ m' ((c.tc : Thread Cert.ReferenceInOddIdeal.nD Cert.ReferenceInOddIdeal.τ).loc Cert.ReferenceInOddIdeal.main_arg1) = m ((c.tc : Thread Cert.InOddIdeal.nD Cert.InOddIdeal.τ).loc Cert.InOddIdeal.main_arg1)
    ∧ m' ((c.tc : Thread Cert.ReferenceInOddIdeal.nD Cert.ReferenceInOddIdeal.τ).loc Cert.ReferenceInOddIdeal.main_arg2) = m ((c.tc : Thread Cert.InOddIdeal.nD Cert.InOddIdeal.τ).loc Cert.InOddIdeal.main_arg2)
    ∧ m' ((c.tc : Thread Cert.ReferenceInOddIdeal.nD Cert.ReferenceInOddIdeal.τ).loc Cert.ReferenceInOddIdeal.main_arg3) = m ((c.tc : Thread Cert.InOddIdeal.nD Cert.InOddIdeal.τ).loc Cert.InOddIdeal.main_arg3)
    ∧ m' ((c.tc : Thread Cert.ReferenceInOddIdeal.nD Cert.ReferenceInOddIdeal.τ).loc Cert.ReferenceInOddIdeal.main_arg4) = m ((c.tc : Thread Cert.InOddIdeal.nD Cert.InOddIdeal.τ).loc Cert.InOddIdeal.main_arg4)

variable {m m' c} (ha : InOddArgs m m' c)
include ha

theorem inOdd_row : Cert.ReferenceInOddIdeal.Hand.inRow m' c = Cert.InOddIdeal.Hand.inRow m c := by
  unfold Cert.ReferenceInOddIdeal.Hand.inRow Cert.InOddIdeal.Hand.inRow
  rw [ha.1, ha.2.1]
theorem inOdd_wts : Cert.ReferenceInOddIdeal.Hand.wts m' c = Cert.InOddIdeal.Hand.wts m c := by
  unfold Cert.ReferenceInOddIdeal.Hand.wts Cert.InOddIdeal.Hand.wts
  rw [ha.2.2.2.2]
theorem inOdd_cos : Cert.ReferenceInOddIdeal.Hand.cosRow m' c = Cert.InOddIdeal.Hand.cosRow m c := by
  unfold Cert.ReferenceInOddIdeal.Hand.cosRow Cert.InOddIdeal.Hand.cosRow
  rw [ha.2.2.1]
theorem inOdd_sin : Cert.ReferenceInOddIdeal.Hand.sinRow m' c = Cert.InOddIdeal.Hand.sinRow m c := by
  unfold Cert.ReferenceInOddIdeal.Hand.sinRow Cert.InOddIdeal.Hand.sinRow
  rw [ha.2.2.2.1]

/-- From equal arguments the call leaves the three arrays that the reference computes. -/
theorem inOdd_queries : (Cert.InOddIdeal.Gen.dats (F := Ideal) m 0 c).arrAt 7 Cert.InOddIdeal.cfg0.N = Cert.ReferenceInOddIdeal.Hand.resultQ m' c := by
  refine Cert.InOddIdeal.Hand.outQ_eq m c _ fun R d => (Cert.ReferenceInOddIdeal.Hand.resultQ_at m' c R d).trans ?_
  rw [inOdd_row ha, inOdd_wts ha, inOdd_cos ha, inOdd_sin ha]
theorem inOdd_keys : (Cert.InOddIdeal.Gen.dats (F := Ideal) m 0 c).arrAt 8 Cert.InOddIdeal.cfg0.N = Cert.ReferenceInOddIdeal.Hand.resultK m' c := by
  refine Cert.InOddIdeal.Hand.outK_eq m c _ fun R d => (Cert.ReferenceInOddIdeal.Hand.resultK_at m' c R d).trans ?_
  rw [inOdd_row ha, inOdd_wts ha, inOdd_cos ha, inOdd_sin ha]
theorem inOdd_values : (Cert.InOddIdeal.Gen.dats (F := Ideal) m 0 c).arrAt 9 Cert.InOddIdeal.cfg0.N = Cert.ReferenceInOddIdeal.Hand.resultV m' c := by
  refine Cert.InOddIdeal.Hand.outV_eq m c _ fun n e R => (Cert.ReferenceInOddIdeal.Hand.resultV_at m' c n e R).trans ?_
  rw [inOdd_row ha, inOdd_wts ha]
end

/-- The odd layer's attention inputs are what their reference gives. -/
theorem algebraic_inOdd : Cert.algebraic_InOddIdeal_ReferenceInOddIdeal (hInOddIdeal := Cert.InOddIdeal.Gen.facts)
    (hReferenceInOddIdeal := Cert.ReferenceInOddIdeal.Gen.facts) := fun m ρ m' ρ' _ ha =>
  ⟨Cert.ReferenceInOddIdeal.Hand.resultQ m', Cert.ReferenceInOddIdeal.Hand.resultK m', Cert.ReferenceInOddIdeal.Hand.resultV m',
    (θ_run Cert.InOddIdeal.defs _ _).mono (fun _ h c => ⟨((h.2.1 c).1 7).trans (inOdd_queries (ha c)), ((h.2.1 c).1 8).trans (inOdd_keys (ha c)),
        ((h.2.1 c).1 9).trans (inOdd_values (ha c)), h.1 c⟩)
      (θ_run_and (Cert.InOddIdeal.Gen.unchanged (F := Ideal) m ρ) (Cert.InOddIdeal.Gen.run_main_quiescent (F := Ideal) m ρ)),
    (θ_run Cert.ReferenceInOddIdeal.defs _ _).mono (fun _ h c => ⟨(h c).1.trans (Cert.ReferenceInOddIdeal.Hand.resultQ_eq m' c),
        (h c).2.1.trans (Cert.ReferenceInOddIdeal.Hand.resultK_eq m' c), (h c).2.2.1.trans rfl, (h c).2.2.2⟩)
      (Cert.ReferenceInOddIdeal.Value.run (F := Ideal) m' ρ')⟩

end Cert.Proof

end
-- ==== Proof.InEvenBody.lean ====
/-
  The even layer's attention inputs, read at an index: the body's nine output blocks.
-/
module

public import proofs.«01_k».proof.Proof.Heads
public import proofs.«01_k».proof.Proof.Gen.InEvenIdeal.Frame
public import Idealize.ShloMosaic.Lib.Pointwise
public import Idealize.ShloMosaic.Lib.Pipeline.ValueKit

@[expose] public section

set_option maxRecDepth 16384

noncomputable section

namespace Cert.InEvenIdeal.Hand

open Idealize Idealize.ShloMosaic Idealize.ShloMosaic.TcCoe Cert.InEvenIdeal Cert.InEvenIdeal.Gen Cert.Post Cert.In

section
variable (v17 v20 : FVec Ideal S512x1024 .f32) (v23 v28 : FVec Ideal S512x128 .f32)

/-- A turned value. -/
def turnedAt (r : Fin 512) (f : Fin 1024) : EReal :=
  v17 (ix2 r f) * v23 (ix2 r ⟨f.val % 128, by omega⟩) + v20 (ix2 r f) * v28 (ix2 r ⟨f.val % 128, by omega⟩)

theorem turnedAt_at (o : ℕ) (ho : o % 128 = 0) (r : Fin 512) (l : Fin 128) (p) :
    turnedAt v17 v20 v23 v28 r ⟨o + l.val, p⟩
      = v17 (ix2 r ⟨o + l.val, p⟩) * v23 (ix2 r l) + v20 (ix2 r ⟨o + l.val, p⟩) * v28 (ix2 r l) := by
  have e : (⟨(o + l.val) % 128, by omega⟩ : Fin 128) = l := Fin.ext (by show (o + l.val) % 128 = l.val; omega)
  unfold turnedAt
  rw [e]

/-- The sparse attention's queries, the indexer's queries, and the two keys, turned. -/
def queriesAt (r : Fin 512) (f : Fin 512) : EReal := turnedAt v17 v20 v23 v28 r ⟨f.val, by omega⟩ * Ideal.ofBits .f32 0x3E000000#32
def indexersAt (r : Fin 512) (f : Fin 256) : EReal := turnedAt v17 v20 v23 v28 r ⟨512 + f.val, by omega⟩ * Ideal.ofBits .f32 0x3E000000#32
def keysAt (r : Fin 512) (f : Fin 128) : EReal := turnedAt v17 v20 v23 v28 r ⟨768 + f.val, by omega⟩
def indexKeysAt (r : Fin 512) (f : Fin 128) : EReal := turnedAt v17 v20 v23 v28 r ⟨896 + f.val, by omega⟩
def blockQd : Vec Ideal S512x512 .bf16 := fun y => queriesAt v17 v20 v23 v28 (y 0) (y 1)
def blockQi : Vec Ideal S512x256 .bf16 := fun y => indexersAt v17 v20 v23 v28 (y 0) (y 1)
def blockKd : Vec Ideal S512x128 .bf16 := fun y => keysAt v17 v20 v23 v28 (y 0) (y 1)
def blockKi : Vec Ideal S512x128 .bf16 := fun y => indexKeysAt v17 v20 v23 v28 (y 0) (y 1)

theorem blockQd_at (o : ℕ) (ho : o % 128 = 0) (r : Fin 512) (l : Fin 128) (p) :
    blockQd v17 v20 v23 v28 (ix2 r ⟨o + l.val, p⟩)
      = (v17 (ix2 r ⟨o + l.val, by omega⟩) * v23 (ix2 r l) + v20 (ix2 r ⟨o + l.val, by omega⟩) * v28 (ix2 r l))
          * Ideal.ofBits .f32 0x3E000000#32 :=
  congrArg (· * Ideal.ofBits .f32 0x3E000000#32) (turnedAt_at v17 v20 v23 v28 o ho r l (by omega))
theorem blockQi_at (o : ℕ) (ho : o % 128 = 0) (r : Fin 512) (l : Fin 128) (p) :
    blockQi v17 v20 v23 v28 (ix2 r ⟨o + l.val, p⟩)
      = (v17 (ix2 r ⟨512 + o + l.val, by omega⟩) * v23 (ix2 r l) + v20 (ix2 r ⟨512 + o + l.val, by omega⟩) * v28 (ix2 r l))
          * Ideal.ofBits .f32 0x3E000000#32 := by
  refine (congrArg (fun f => turnedAt v17 v20 v23 v28 r f * Ideal.ofBits .f32 0x3E000000#32)
    (Fin.ext (Nat.add_assoc 512 o l.val).symm : (⟨512 + (o + l.val), by omega⟩ : Fin 1024) = ⟨512 + o + l.val, by omega⟩)).trans ?_
  exact congrArg (· * Ideal.ofBits .f32 0x3E000000#32) (turnedAt_at v17 v20 v23 v28 (512 + o) (by omega) r l (by omega))

end

section
variable (v14 : FVec Ideal S512x1792 .f32)

/-- The plain blocks: stick-breaking queries and keys, index weights, and the two values transposed. -/
def blockQs : Vec Ideal S512x512 .bf16 := fun y => (fun (r : Fin 512) (f : Fin 512) => v14 (ix2 r ⟨f.val, by omega⟩) * Ideal.ofBits .f32 0x3E000000#32) (y 0) (y 1)
def blockKs : Vec Ideal S512x512 .bf16 := fun y => (fun (r : Fin 512) (f : Fin 512) => v14 (ix2 r ⟨512 + f.val, by omega⟩)) (y 0) (y 1)
def blockWi : Vec Ideal S512x128 .f32 := fun y => (fun (r : Fin 512) (f : Fin 128) => v14 (ix2 r ⟨1664 + f.val, by omega⟩) * Ideal.ofBits .f32 0x3F000000#32) (y 0) (y 1)
def blockVs : Vec Ideal S4x128x512 .bf16 := fun y => (fun (n : Fin 4) (e : Fin 128) (r : Fin 512) => v14 (ix2 r ⟨1024 + (128 * n.val + e.val), by omega⟩)) (y 0) (y 1) (y 2)
def valueAt (e : Fin 80) (r : Fin 512) : EReal := if h : e.val < 64 then v14 (ix2 r ⟨1536 + e.val, by omega⟩) else 1
def blockVd : Vec Ideal S1x80x512 .bf16 := fun y => valueAt v14 (y 1) (y 2)

theorem blockVs_at (n : ℕ) (e : Fin 128) (r : Fin 512) (p q) :
    blockVs v14 (ix3 ⟨n, p⟩ ⟨0 + e.val, q⟩ r) = v14 (ix2 r ⟨1024 + 128 * n + e.val, by have : n < 4 := p; omega⟩) := by
  show v14 (ix2 r ⟨1024 + (128 * n + (0 + e.val)), _⟩) = _
  congr 2; exact Fin.ext (by show 1024 + (128 * n + (0 + e.val)) = 1024 + 128 * n + e.val; omega)
theorem blockVd_low (e : Fin 64) (r : Fin 512) (p q) :
    blockVd v14 (ix3 ⟨0, p⟩ ⟨0 + e.val, q⟩ r) = v14 (ix2 r ⟨1536 + e.val, by omega⟩) := by
  refine (dif_pos (show 0 + e.val < 64 by omega)).trans ?_
  congr 2; exact Fin.ext (by show 1536 + (0 + e.val) = 1536 + e.val; omega)
theorem blockVd_ones (e : Fin 16) (r : Fin 512) (p q) : blockVd v14 (ix3 ⟨0, p⟩ ⟨64 + e.val, q⟩ r) = (1 : EReal) :=
  dif_neg (show ¬ 64 + e.val < 64 by omega)

end

theorem emb2 (w o : ℕ) (inb : ∀ a, (![0, o] : Fin 2 → ℕ) a + S512x128.size a ≤ (![512, w] : Fin 2 → ℕ) a) (r : Fin 512) (l : Fin 128) :
    (Rect.unit (s := ⟨2, ![512, w]⟩) ![0, o] S512x128.size inb).emb (ix2 r l)
      = (ix2 r ⟨o + l.val, by have h : o + 128 ≤ w := inb 1; omega⟩ : (⟨2, ![512, w]⟩ : Shape).Idx) := by
  funext a; apply Fin.ext; fin_cases a <;> simp [Rect.emb, Rect.unit]

theorem emb0 (w : ℕ) (inb : ∀ a, (![0, 0] : Fin 2 → ℕ) a + (![512, w] : Fin 2 → ℕ) a ≤ (![512, w] : Fin 2 → ℕ) a) (r : Fin 512) (l : Fin w) :
    (Rect.unit (s := ⟨2, ![512, w]⟩) ![0, 0] ![512, w] inb).emb (ix2 r l) = (ix2 r l : (⟨2, ![512, w]⟩ : Shape).Idx) := by
  funext a; apply Fin.ext; fin_cases a <;> simp [Rect.emb, Rect.unit]

theorem emb3 (u w n o k : ℕ) (inb : ∀ a, (![n, o, 0] : Fin 3 → ℕ) a + (![1, k, 512] : Fin 3 → ℕ) a ≤ (![u, w, 512] : Fin 3 → ℕ) a) (a : Fin 1) (e : Fin k) (r : Fin 512) :
    (Rect.unit (s := ⟨3, ![u, w, 512]⟩) ![n, o, 0] ![1, k, 512] inb).emb (ix3 a e r)
      = (ix3 ⟨n, by have h : n + 1 ≤ u := inb 0; omega⟩ ⟨o + e.val, by have h : o + k ≤ w := inb 1; omega⟩ r : (⟨3, ![u, w, 512]⟩ : Shape).Idx) := by
  funext a; apply Fin.ext; fin_cases a <;> simp [Rect.emb, Rect.unit]

theorem hz2 : (![0, 0] : Fin 2 → Nat) = fun _ => 0 := funext fun a => by fin_cases a <;> rfl

section
variable (c : Dev nD) (i : grid0.Coords) (arg1 : Memref sig .tc .vmem S512x1024 .f32) (harg1 : arg1.IsWhole)
  (arg2 : Memref sig .tc .vmem S1x6x1024 .f32) (harg2 : arg2.IsWhole) (arg3 : Memref sig .tc .vmem S512x32 .f32) (harg3 : arg3.IsWhole)
  (arg4 : Memref sig .tc .vmem S512x32 .f32) (harg4 : arg4.IsWhole)
  (arg5 : Memref sig .tc .vmem S1024x1792 .bf16) (harg5 : arg5.IsWhole) (arg6 : Memref sig .tc .vmem S1024x1024 .bf16) (harg6 : arg6.IsWhole)
  (arg7 : Memref sig .tc .vmem S1024x1024 .bf16) (harg7 : arg7.IsWhole) (arg8 : Memref sig .tc .vmem S512x512 .bf16) (harg8 : arg8.IsWhole)
  (arg9 : Memref sig .tc .vmem S512x512 .bf16) (harg9 : arg9.IsWhole) (arg10 : Memref sig .tc .vmem S512x128 .f32) (harg10 : arg10.IsWhole)
  (arg11 : Memref sig .tc .vmem S512x512 .bf16) (harg11 : arg11.IsWhole) (arg12 : Memref sig .tc .vmem S512x256 .bf16) (harg12 : arg12.IsWhole)
  (arg13 : Memref sig .tc .vmem S512x128 .bf16) (harg13 : arg13.IsWhole) (arg14 : Memref sig .tc .vmem S512x128 .bf16) (harg14 : arg14.IsWhole)
  (arg15 : Memref sig .tc .vmem S4x128x512 .bf16) (harg15 : arg15.IsWhole) (arg16 : Memref sig .tc .vmem S1x80x512 .bf16) (harg16 : arg16.IsWhole)
  (x0 : Vec Ideal S512x1024 .f32) (x1 : Vec Ideal S1x6x1024 .f32) (x2 x3 : Vec Ideal S512x32 .f32) (x4 : Vec Ideal S1024x1792 .bf16)
  (x5 x6 : Vec Ideal S1024x1024 .bf16)

/-- The blocks that the body's first stage makes of what it loads. -/
abbrev loaded0 : FVec Ideal S1x1x1024 .f32 := View.ld x1 (Rect.unit (s := S1x6x1024) ![0, 0, 0] S1x1x1024.size inb_S1x6x1024_S1x1x1024_0_0_0)
abbrev loaded1 : FVec Ideal S1x1x1024 .f32 := View.ld x1 (Rect.unit (s := S1x6x1024) ![0, 1, 0] S1x1x1024.size inb_S1x6x1024_S1x1x1024_0_1_0)

theorem out7 :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6
      = blockQs (k0_pay2 x0 (loaded0 x1) (loaded1 x1) x4) := by
  funext y
  unfold out0_A_7
  rw [View.read_writes_junk_eq_canon]
  refine View.canon_apply_of_pieces (blockQs (k0_pay2 x0 (loaded0 x1) (loaded1 x1) x4)) _ ?_ y (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 y)
  unfold kernelRun0_A
  dsimp only
  sl_unfold_words
  simp only [List.forall_mem_cons, View.readAt_eq_ld, harg1.read_unread, harg2.read_unread, harg5.read_unread, View.ld_unit_zero (S := S512x1024) hz2, View.ld_unit_zero (S := S1024x1792) hz2, View.ld_unit_zero (S := S1024x1024) hz2, View.ld_unit_zero (S := S512x32) hz2]
  refine ⟨?_, fun _ h => absurd h List.not_mem_nil⟩
  intro x
  obtain ⟨r, l, rfl⟩ : ∃ (r : Fin 512) (l : Fin 512), x = ix2 r l := ⟨x 0, x 1, by funext a; fin_cases a <;> rfl⟩
  refine Eq.trans ?_ (congrArg _ (emb0 512 _ r l)).symm
  pointwise [k0_pay7, blockQs]

theorem out8 :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6
      = blockKs (k0_pay2 x0 (loaded0 x1) (loaded1 x1) x4) := by
  funext y
  unfold out0_A_8
  rw [View.read_writes_junk_eq_canon]
  refine View.canon_apply_of_pieces (blockKs (k0_pay2 x0 (loaded0 x1) (loaded1 x1) x4)) _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 y)
  unfold kernelRun0_A
  dsimp only
  sl_unfold_words
  simp only [List.forall_mem_cons, View.readAt_eq_ld, harg1.read_unread, harg2.read_unread, harg5.read_unread, View.ld_unit_zero (S := S512x1024) hz2, View.ld_unit_zero (S := S1024x1792) hz2, View.ld_unit_zero (S := S1024x1024) hz2, View.ld_unit_zero (S := S512x32) hz2]
  refine ⟨?_, fun _ h => absurd h List.not_mem_nil⟩
  intro x
  obtain ⟨r, l, rfl⟩ : ∃ (r : Fin 512) (l : Fin 512), x = ix2 r l := ⟨x 0, x 1, by funext a; fin_cases a <;> rfl⟩
  refine Eq.trans ?_ (congrArg _ (emb0 512 _ r l)).symm
  pointwise [k0_pay8, blockKs]

theorem out9 :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6
      = blockWi (k0_pay2 x0 (loaded0 x1) (loaded1 x1) x4) := by
  funext y
  unfold out0_A_9
  rw [View.read_writes_junk_eq_canon]
  refine View.canon_apply_of_pieces (blockWi (k0_pay2 x0 (loaded0 x1) (loaded1 x1) x4)) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 y)
  unfold kernelRun0_A
  dsimp only
  sl_unfold_words
  simp only [List.forall_mem_cons, View.readAt_eq_ld, harg1.read_unread, harg2.read_unread, harg5.read_unread, View.ld_unit_zero (S := S512x1024) hz2, View.ld_unit_zero (S := S1024x1792) hz2, View.ld_unit_zero (S := S1024x1024) hz2, View.ld_unit_zero (S := S512x32) hz2]
  refine ⟨?_, fun _ h => absurd h List.not_mem_nil⟩
  intro x
  obtain ⟨r, l, rfl⟩ : ∃ (r : Fin 512) (l : Fin 128), x = ix2 r l := ⟨x 0, x 1, by funext a; fin_cases a <;> rfl⟩
  refine Eq.trans ?_ (congrArg _ (emb0 128 _ r l)).symm
  pointwise [k0_pay9, blockWi]

theorem out10 :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6
      = blockQd (k0_pay3 x0 (loaded0 x1) (loaded1 x1) x5) (k0_pay4 x0 (loaded0 x1) (loaded1 x1) x6) (k0_pay5 x2) (k0_pay6 x3) := by
  funext y
  unfold out0_A_10
  rw [View.read_writes_junk_eq_canon]
  refine View.canon_apply_of_pieces (blockQd (k0_pay3 x0 (loaded0 x1) (loaded1 x1) x5) (k0_pay4 x0 (loaded0 x1) (loaded1 x1) x6) (k0_pay5 x2) (k0_pay6 x3)) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 y)
  unfold kernelRun0_A
  dsimp only
  sl_unfold_words
  simp only [List.forall_mem_cons, View.readAt_eq_ld, harg1.read_unread, harg2.read_unread, harg3.read_unread, harg4.read_unread, harg6.read_unread, harg7.read_unread, View.ld_unit_zero (S := S512x1024) hz2, View.ld_unit_zero (S := S1024x1792) hz2, View.ld_unit_zero (S := S1024x1024) hz2, View.ld_unit_zero (S := S512x32) hz2]
  refine ⟨?_, ?_, ?_, ?_, fun _ h => absurd h List.not_mem_nil⟩
  all_goals
    intro x
    obtain ⟨r, l, rfl⟩ : ∃ (r : Fin 512) (l : Fin 128), x = ix2 r l := ⟨x 0, x 1, by funext a; fin_cases a <;> rfl⟩
    refine Eq.trans ?_ (congrArg _ (emb2 512 _ _ r l)).symm
    rw [blockQd_at _ _ _ _ _ (by decide)]
    pointwise [k0_pay10, k0_pay11, k0_pay12, k0_pay13, k0_pay14]

theorem out11 :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6
      = blockQi (k0_pay3 x0 (loaded0 x1) (loaded1 x1) x5) (k0_pay4 x0 (loaded0 x1) (loaded1 x1) x6) (k0_pay5 x2) (k0_pay6 x3) := by
  funext y
  unfold out0_A_11
  rw [View.read_writes_junk_eq_canon]
  refine View.canon_apply_of_pieces (blockQi (k0_pay3 x0 (loaded0 x1) (loaded1 x1) x5) (k0_pay4 x0 (loaded0 x1) (loaded1 x1) x6) (k0_pay5 x2) (k0_pay6 x3)) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 y)
  unfold kernelRun0_A
  dsimp only
  sl_unfold_words
  simp only [List.forall_mem_cons, View.readAt_eq_ld, harg1.read_unread, harg2.read_unread, harg3.read_unread, harg4.read_unread, harg6.read_unread, harg7.read_unread, View.ld_unit_zero (S := S512x1024) hz2, View.ld_unit_zero (S := S1024x1792) hz2, View.ld_unit_zero (S := S1024x1024) hz2, View.ld_unit_zero (S := S512x32) hz2]
  refine ⟨?_, ?_, fun _ h => absurd h List.not_mem_nil⟩
  all_goals
    intro x
    obtain ⟨r, l, rfl⟩ : ∃ (r : Fin 512) (l : Fin 128), x = ix2 r l := ⟨x 0, x 1, by funext a; fin_cases a <;> rfl⟩
    refine Eq.trans ?_ (congrArg _ (emb2 256 _ _ r l)).symm
    rw [blockQi_at _ _ _ _ _ (by decide)]
    pointwise [k0_pay15, k0_pay16]

theorem out12 :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6
      = blockKd (k0_pay3 x0 (loaded0 x1) (loaded1 x1) x5) (k0_pay4 x0 (loaded0 x1) (loaded1 x1) x6) (k0_pay5 x2) (k0_pay6 x3) := by
  funext y
  unfold out0_A_12
  rw [View.read_writes_junk_eq_canon]
  refine View.canon_apply_of_pieces (blockKd (k0_pay3 x0 (loaded0 x1) (loaded1 x1) x5) (k0_pay4 x0 (loaded0 x1) (loaded1 x1) x6) (k0_pay5 x2) (k0_pay6 x3)) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 y)
  unfold kernelRun0_A
  dsimp only
  sl_unfold_words
  simp only [List.forall_mem_cons, View.readAt_eq_ld, harg1.read_unread, harg2.read_unread, harg3.read_unread, harg4.read_unread, harg6.read_unread, harg7.read_unread, View.ld_unit_zero (S := S512x1024) hz2, View.ld_unit_zero (S := S1024x1792) hz2, View.ld_unit_zero (S := S1024x1024) hz2, View.ld_unit_zero (S := S512x32) hz2]
  refine ⟨?_, fun _ h => absurd h List.not_mem_nil⟩
  intro x
  obtain ⟨r, l, rfl⟩ : ∃ (r : Fin 512) (l : Fin 128), x = ix2 r l := ⟨x 0, x 1, by funext a; fin_cases a <;> rfl⟩
  refine Eq.trans ?_ (congrArg _ (emb0 128 _ r l)).symm
  refine Eq.trans ?_ (turnedAt_at _ _ _ _ 768 (by decide) r l (by omega)).symm
  pointwise [k0_pay17]

theorem out13 :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6
      = blockKi (k0_pay3 x0 (loaded0 x1) (loaded1 x1) x5) (k0_pay4 x0 (loaded0 x1) (loaded1 x1) x6) (k0_pay5 x2) (k0_pay6 x3) := by
  funext y
  unfold out0_A_13
  rw [View.read_writes_junk_eq_canon]
  refine View.canon_apply_of_pieces (blockKi (k0_pay3 x0 (loaded0 x1) (loaded1 x1) x5) (k0_pay4 x0 (loaded0 x1) (loaded1 x1) x6) (k0_pay5 x2) (k0_pay6 x3)) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 y)
  unfold kernelRun0_A
  dsimp only
  sl_unfold_words
  simp only [List.forall_mem_cons, View.readAt_eq_ld, harg1.read_unread, harg2.read_unread, harg3.read_unread, harg4.read_unread, harg6.read_unread, harg7.read_unread, View.ld_unit_zero (S := S512x1024) hz2, View.ld_unit_zero (S := S1024x1792) hz2, View.ld_unit_zero (S := S1024x1024) hz2, View.ld_unit_zero (S := S512x32) hz2]
  refine ⟨?_, fun _ h => absurd h List.not_mem_nil⟩
  intro x
  obtain ⟨r, l, rfl⟩ : ∃ (r : Fin 512) (l : Fin 128), x = ix2 r l := ⟨x 0, x 1, by funext a; fin_cases a <;> rfl⟩
  refine Eq.trans ?_ (congrArg _ (emb0 128 _ r l)).symm
  refine Eq.trans ?_ (turnedAt_at _ _ _ _ 896 (by decide) r l (by omega)).symm
  pointwise [k0_pay18]

theorem out14 :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6
      = blockVs (k0_pay2 x0 (loaded0 x1) (loaded1 x1) x4) := by
  funext y
  unfold out0_A_14
  rw [View.read_writes_junk_eq_canon]
  refine View.canon_apply_of_pieces (blockVs (k0_pay2 x0 (loaded0 x1) (loaded1 x1) x4)) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 y)
  unfold kernelRun0_A
  dsimp only
  sl_unfold_words
  simp only [List.forall_mem_cons, View.readAt_eq_ld, harg1.read_unread, harg2.read_unread, harg5.read_unread, View.ld_unit_zero (S := S512x1024) hz2, View.ld_unit_zero (S := S1024x1792) hz2, View.ld_unit_zero (S := S1024x1024) hz2, View.ld_unit_zero (S := S512x32) hz2]
  refine ⟨?_, ?_, ?_, ?_, fun _ h => absurd h List.not_mem_nil⟩
  all_goals
    intro x
    obtain ⟨a, e, r, rfl⟩ : ∃ (a : Fin 1) (e : Fin 128) (r : Fin 512), x = ix3 a e r := ⟨x 0, x 1, x 2, by funext a; fin_cases a <;> rfl⟩
    refine Eq.trans ?_ (congrArg _ (emb3 4 128 _ _ 128 _ a e r)).symm
    rw [blockVs_at]
    pointwise [k0_pay19, k0_pay20, k0_pay21, k0_pay22, k0_pay23]

theorem out15 :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6
      = blockVd (k0_pay2 x0 (loaded0 x1) (loaded1 x1) x4) := by
  funext y
  unfold out0_A_15
  rw [View.read_writes_junk_eq_canon]
  refine View.canon_apply_of_pieces (blockVd (k0_pay2 x0 (loaded0 x1) (loaded1 x1) x4)) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 y)
  unfold kernelRun0_A
  dsimp only
  sl_unfold_words
  simp only [List.forall_mem_cons, View.readAt_eq_ld, harg1.read_unread, harg2.read_unread, harg5.read_unread, View.ld_unit_zero (S := S512x1024) hz2, View.ld_unit_zero (S := S1024x1792) hz2, View.ld_unit_zero (S := S1024x1024) hz2, View.ld_unit_zero (S := S512x32) hz2]
  refine ⟨?_, ?_, fun _ h => absurd h List.not_mem_nil⟩
  · intro x
    obtain ⟨a, e, r, rfl⟩ : ∃ (a : Fin 1) (e : Fin 16) (r : Fin 512), x = ix3 a e r := ⟨x 0, x 1, x 2, by funext a; fin_cases a <;> rfl⟩
    refine Eq.trans ?_ (congrArg _ (emb3 1 80 _ _ 16 _ a e r)).symm
    rw [blockVd_ones]
    pointwise [k0_pay25]
  · intro x
    obtain ⟨a, e, r, rfl⟩ : ∃ (a : Fin 1) (e : Fin 64) (r : Fin 512), x = ix3 a e r := ⟨x 0, x 1, x 2, by funext a; fin_cases a <;> rfl⟩
    refine Eq.trans ?_ (congrArg _ (emb3 1 80 _ _ 64 _ a e r)).symm
    rw [blockVd_low]
    pointwise [k0_pay24]

end

end Cert.InEvenIdeal.Hand

end
-- ==== Proof.InEvenRow.lean ====
/-
  The even layer's attention inputs, read at an index: what a grid point sees of the arrays, and the arrays the call leaves.
-/
module

public import proofs.«01_k».proof.Proof.InEvenBody
public import Idealize.ShloMosaic.Lib.StableHlo.ReadAt

@[expose] public section

set_option maxRecDepth 16384

noncomputable section

namespace Cert.InEvenIdeal.Hand

open Idealize Idealize.ShloMosaic Idealize.ShloMosaic.TcCoe Cert.InEvenIdeal Cert.InEvenIdeal.Gen Cert.Post Cert.In

theorem idxs : ∀ t : Fin cfg0.N, win0_0.index t = ![t.val, 0] ∧ win0_1.index t = ![t.val / 32, 0, 0] ∧ win0_2.index t = ![t.val, 0]
    ∧ win0_3.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0]
    ∧ win0_14.index t = ![0, 0, t.val] ∧ win0_15.index t = ![0, 0, t.val] :=
  (by decide +kernel : ∀ t : Fin grid0.N, _)
theorem idxs0 : ∀ t : Fin cfg0.N, win0_4.index t = ![0, 0] ∧ win0_5.index t = ![0, 0] ∧ win0_6.index t = ![0, 0] :=
  (by decide +kernel : ∀ t : Fin grid0.N, _)

theorem point_lt (t : Fin cfg0.N) : t.val < 64 := t.isLt

/-- The row of the arrays that row `r` of a block is. -/
abbrev rowAt (t : Fin cfg0.N) (r : Fin 512) : Fin 32768 := ⟨512 * t.val + r.val, by have := point_lt t; omega⟩

/-- The column of the weights that a column of the turned weights is. -/
def colOf (f : Fin 1024) : Fin 2500 :=
  ⟨if f.val < 512 then 1536 + f.val else if f.val < 768 then 1664 + f.val
    else if f.val < 896 then 2048 + f.val % 64 else 2432 + f.val % 64, by split_ifs <;> omega⟩

/-- A column's partner: the same place in the other half of its head. -/
abbrev other (f : Fin 1024) : Fin 1024 := ⟨64 * (f.val / 64) + (f.val + 32) % 64, by omega⟩

/-- The weights not turned, at an index. -/
def plainAt (w : Fin 1024 → Fin 2500 → EReal) (e : Fin 1024) (f : Fin 1792) : EReal :=
  if h : f.val < 1536 then w e ⟨f.val, by omega⟩
  else if f.val < 1664 then w e ⟨2112 + f.val % 64, by omega⟩
  else if h : f.val < 1668 then w e ⟨832 + f.val, by omega⟩ else 0

section
variable (w : Fin 1024 → Fin 2500 → EReal) (e : Fin 1024) (f : Fin 1792) (k : Fin 2500)

theorem plainAt_low (h : f.val < 1536) (hk : k.val = f.val) : plainAt w e f = w e k :=
  (dif_pos h).trans (congrArg (w e) (Fin.ext hk.symm))
theorem plainAt_value (h : 1536 ≤ f.val) (h' : f.val < 1664) (hk : k.val = 2112 + f.val % 64) : plainAt w e f = w e k :=
  (dif_neg (by omega)).trans ((if_pos h').trans (congrArg (w e) (Fin.ext hk.symm)))
theorem plainAt_index (h : 1664 ≤ f.val) (h' : f.val < 1668) (hk : k.val = 832 + f.val) : plainAt w e f = w e k :=
  (dif_neg (by omega)).trans ((if_neg (by omega)).trans ((dif_pos h').trans (congrArg (w e) (Fin.ext hk.symm))))
theorem plainAt_zero (h : 1668 ≤ f.val) : plainAt w e f = 0 :=
  (dif_neg (by omega)).trans ((if_neg (by omega)).trans (dif_neg (by omega)))
end

section
variable (w : Vec Ideal S1024x2500 .f32) (e : Fin 1024)

/-- The weights to be turned: the queries' heads, the indexer's heads, and each of the two keys twice. -/
def catTurn : Vec Ideal S1024x1024 .f32 :=
  concatenate S1024x1024 1 [⟨S1024x512, extractStridedSlice S1024x512 ![0, 1536] w slices_S1024x2500_S1024x512_0_1536⟩,
    ⟨S1024x256, extractStridedSlice S1024x256 ![0, 2176] w slices_S1024x2500_S1024x256_0_2176⟩,
    ⟨S1024x64, extractStridedSlice S1024x64 ![0, 2048] w slices_S1024x2500_S1024x64_0_2048⟩,
    ⟨S1024x64, extractStridedSlice S1024x64 ![0, 2048] w slices_S1024x2500_S1024x64_0_2048⟩,
    ⟨S1024x64, extractStridedSlice S1024x64 ![0, 2432] w slices_S1024x2500_S1024x64_0_2432⟩,
    ⟨S1024x64, extractStridedSlice S1024x64 ![0, 2432] w slices_S1024x2500_S1024x64_0_2432⟩]
    concatenates_S1024x512_S1024x256_S1024x64_S1024x64_S1024x64_S1024x64_S1024x1024_d1

/-- The other weights, the sparse attention's values twice, and zeros after the index weights. -/
def catPlain : Vec Ideal S1024x1792 .f32 :=
  concatenate S1024x1792 1 [⟨S1024x512, extractStridedSlice S1024x512 ![0, 0] w slices_S1024x2500_S1024x512_0_0⟩,
    ⟨S1024x512, extractStridedSlice S1024x512 ![0, 512] w slices_S1024x2500_S1024x512_0_512⟩,
    ⟨S1024x512, extractStridedSlice S1024x512 ![0, 1024] w slices_S1024x2500_S1024x512_0_1024⟩,
    ⟨S1024x64, extractStridedSlice S1024x64 ![0, 2112] w slices_S1024x2500_S1024x64_0_2112⟩,
    ⟨S1024x64, extractStridedSlice S1024x64 ![0, 2112] w slices_S1024x2500_S1024x64_0_2112⟩,
    ⟨S1024x4, extractStridedSlice S1024x4 ![0, 2496] w slices_S1024x2500_S1024x4_0_2496⟩,
    ⟨S1024x124, broadcastInDim S1024x124 ![] bcast_S_S1024x124 (constant (F := Ideal) S_ .f32 0x00000000#32)⟩]
    concatenates_S1024x512_S1024x512_S1024x512_S1024x64_S1024x64_S1024x4_S1024x124_S1024x1792_d1

/-- Every head's halves exchanged. -/
def swapped (x : Vec Ideal S1024x1024 .f32) : Vec Ideal S1024x1024 .f32 :=
  shapeCast S1024x1024 (Host.reverse [2] (shapeCast S1024x16x2x32 x shapeCasts_S1024x1024_S1024x16x2x32)) shapeCasts_S1024x16x2x32_S1024x1024

theorem catTurn_at (f : Fin 1024) : catTurn w (ix2 e f) = w (ix2 e (colOf f)) := by
  pointwise [catTurn]
  split_ifs
  all_goals
    refine congrArg (fun k => w (ix2 e k)) (Fin.ext ?_)
    show _ = (colOf f).val
    unfold colOf
    dsimp only
    split_ifs <;> omega
theorem catPlain_at (f : Fin 1792) : catPlain w (ix2 e f) = plainAt (fun e f => w (ix2 e f)) e f := by
  pointwise [catPlain]
  split_ifs
  all_goals first
    | exact (plainAt_low (fun e f => w (ix2 e f)) e f ⟨_, _⟩ (by omega) (by first | rfl | (dsimp only; omega))).symm
    | exact (plainAt_value (fun e f => w (ix2 e f)) e f ⟨_, _⟩ (by omega) (by omega) (by dsimp only; omega)).symm
    | exact (plainAt_index (fun e f => w (ix2 e f)) e f ⟨_, _⟩ (by omega) (by omega) (by dsimp only; omega)).symm
    | exact (plainAt_zero (fun e f => w (ix2 e f)) e f (by omega)).symm
theorem swapped_at (x : Vec Ideal S1024x1024 .f32) (f : Fin 1024) : swapped x (ix2 e f) = x (ix2 e (other f)) := by
  pointwise [swapped]
  blk_ext
  · simp
  · simp [Fin.rev]
    omega
end

section
variable (x0 : Vec Ideal S512x1024 .f32) (x1 : Vec Ideal S1x6x1024 .f32) (x2 x3 : Vec Ideal S512x32 .f32) (x4 : Vec Ideal S1024x1792 .bf16)
  (x5 x6 : Vec Ideal S1024x1024 .bf16) (r : Fin 512)

/-- The modulated row of a block. -/
abbrev inBlk : Fin 1024 → EReal := shifted (fun j => x0 (ix2 r j)) (fun j => x1 (ix3 0 1 j)) (fun j => x1 (ix3 0 0 j))

theorem loaded0_at (j : Fin 1024) : loaded0 x1 (ix3 0 0 j) = x1 (ix3 0 0 j) := by
  refine congrArg x1 ?_
  funext a; apply Fin.ext; fin_cases a <;> simp [Rect.emb, Rect.unit]
theorem loaded1_at (j : Fin 1024) : loaded1 x1 (ix3 0 0 j) = x1 (ix3 0 1 j) := by
  refine congrArg x1 ?_
  funext a; apply Fin.ext; fin_cases a <;> simp [Rect.emb, Rect.unit]

theorem pay1_at (j : Fin 1024) : k0_pay1 x0 (loaded0 x1) (loaded1 x1) (ix2 r j) = inBlk x0 x1 r j := by
  unfold inBlk shifted
  pointwise [k0_pay1]
  rw [loaded0_at, loaded1_at]
theorem pay2_at (f : Fin 1792) : k0_pay2 x0 (loaded0 x1) (loaded1 x1) x4 (ix2 r f) = times (inBlk x0 x1 r) (fun e f => x4 (ix2 e f)) f := by
  unfold times
  pointwise [k0_pay2, pay1_at]
theorem pay3_at (f : Fin 1024) : k0_pay3 x0 (loaded0 x1) (loaded1 x1) x5 (ix2 r f) = times (inBlk x0 x1 r) (fun e f => x5 (ix2 e f)) f := by
  unfold times
  pointwise [k0_pay3, pay1_at]
theorem pay4_at (f : Fin 1024) : k0_pay4 x0 (loaded0 x1) (loaded1 x1) x6 (ix2 r f) = times (inBlk x0 x1 r) (fun e f => x6 (ix2 e f)) f := by
  unfold times
  pointwise [k0_pay4, pay1_at]
theorem pay5_at (l : Fin 128) : k0_pay5 x2 (ix2 r l) = x2 (ix2 r ⟨l.val % 32, by omega⟩) := by
  pointwise [k0_pay5]
  exact (quarters (fun l => x2 (ix2 r l)) (fun l => x2 (ix2 r l)) l).trans (ite_self _)
theorem pay6_at (l : Fin 128) : k0_pay6 x3 (ix2 r l)
    = if l.val % 64 < 32 then (0 : EReal) - x3 (ix2 r ⟨l.val % 32, by omega⟩) else x3 (ix2 r ⟨l.val % 32, by omega⟩) := by
  pointwise [k0_pay6]
  exact quarters (fun l => 0 - x3 (ix2 r l)) (fun l => x3 (ix2 r l)) l
end

section
variable (m : (ℓ : Loc nD τ sig) → Buf (Elt Ideal) ℓ) (c : Dev nD)

/-- The modulated row of the arguments, the weights, and the row's angles. -/
abbrev inRow (R : Fin 32768) : Fin 1024 → EReal :=
  shifted (fun j => m ((c.tc : Thread nD τ).loc main_arg0) (ix2 R j))
    (fun j => m ((c.tc : Thread nD τ).loc main_arg1) (ix3 ⟨R.val / 16384, by omega⟩ 1 j))
    (fun j => m ((c.tc : Thread nD τ).loc main_arg1) (ix3 ⟨R.val / 16384, by omega⟩ 0 j))
abbrev wts (e : Fin 1024) (f : Fin 2500) : EReal := m ((c.tc : Thread nD τ).loc main_arg4) (ix2 e f)
abbrev cosRow (R : Fin 32768) (j : Fin 32) : EReal := m ((c.tc : Thread nD τ).loc main_arg2) (ix2 R j)
abbrev sinRow (R : Fin 32768) (j : Fin 32) : EReal := m ((c.tc : Thread nD τ).loc main_arg3) (ix2 R j)
abbrev headOf (R : Fin 32768) (o : ℕ) (ho : o + 64 ≤ 2500) : Fin 64 → EReal :=
  headRow (inRow m c R) (wts m c) (cosRow m c R) (sinRow m c R) o ho

set_option maxHeartbeats 4000000 in
theorem plain_eq : V (F := Ideal) m c main_v15 = catPlain (m ((c.tc : Thread nD τ).loc main_arg4)) := by
  unfold V
  after_reads_simp
  rfl
set_option maxHeartbeats 4000000 in
theorem turn_eq : V (F := Ideal) m c main_v16 = catTurn (m ((c.tc : Thread nD τ).loc main_arg4)) := by
  unfold V
  after_reads_simp
  rfl
set_option maxHeartbeats 4000000 in
theorem swap_eq : V (F := Ideal) m c main_v20 = swapped (catTurn (m ((c.tc : Thread nD τ).loc main_arg4))) := by
  unfold V
  after_reads_simp
  rfl

variable (t : Fin cfg0.N)

theorem blk0 (r : Fin 512) (j : Fin 1024) :
    iblk (F := Ideal) m c 0 t (ix2 r j) = m ((c.tc : Thread nD τ).loc main_arg0) (ix2 (rowAt t r) j) := by
  blk_ext! [iblk, V, idxs t]
theorem blk1 (a : Fin 6) (j : Fin 1024) :
    iblk (F := Ideal) m c 1 t (ix3 0 a j)
      = m ((c.tc : Thread nD τ).loc main_arg1) (ix3 ⟨t.val / 32, by have := point_lt t; omega⟩ a j) := by
  blk_ext! [iblk, V, idxs t]
theorem blk2 (r : Fin 512) (j : Fin 32) :
    iblk (F := Ideal) m c 2 t (ix2 r j) = m ((c.tc : Thread nD τ).loc main_arg2) (ix2 (rowAt t r) j) := by
  blk_ext! [iblk, V, idxs t]
theorem blk3 (r : Fin 512) (j : Fin 32) :
    iblk (F := Ideal) m c 3 t (ix2 r j) = m ((c.tc : Thread nD τ).loc main_arg3) (ix2 (rowAt t r) j) := by
  blk_ext! [iblk, V, idxs t]
theorem blk4 (e : Fin 1024) (f : Fin 1792) : iblk (F := Ideal) m c 4 t (ix2 e f) = plainAt (wts m c) e f := by
  refine Eq.trans ?_ ((congrFun (plain_eq m c) (ix2 e f)).trans (catPlain_at _ e f))
  blk_ext [iblk, idxs0 t]
theorem blk5 (e f : Fin 1024) : iblk (F := Ideal) m c 5 t (ix2 e f) = wts m c e (colOf f) := by
  refine Eq.trans ?_ ((congrFun (turn_eq m c) (ix2 e f)).trans (catTurn_at _ e f))
  blk_ext [iblk, idxs0 t]
theorem blk6 (e f : Fin 1024) : iblk (F := Ideal) m c 6 t (ix2 e f) = wts m c e (colOf (other f)) := by
  refine Eq.trans ?_ ((congrFun (swap_eq m c) (ix2 e f)).trans ((swapped_at e _ f).trans (catTurn_at _ e (other f))))
  blk_ext [iblk, idxs0 t]

variable (r : Fin 512)

theorem inBlk_eq : inBlk (iblk (F := Ideal) m c 0 t) (iblk (F := Ideal) m c 1 t) r = inRow m c (rowAt t r) := by
  have hb : (⟨(rowAt t r).val / 16384, by have := (rowAt t r).isLt; omega⟩ : Fin 2) = ⟨t.val / 32, by have := point_lt t; omega⟩ :=
    Fin.ext (by show (512 * t.val + r.val) / 16384 = t.val / 32; omega)
  unfold inBlk inRow
  rw [hb]
  simp only [blk0, blk1]

/-- The four stages of the body at a grid point. -/
abbrev plainBlk : FVec Ideal S512x1792 .f32 :=
  k0_pay2 (iblk (F := Ideal) m c 0 t) (loaded0 (iblk (F := Ideal) m c 1 t)) (loaded1 (iblk (F := Ideal) m c 1 t)) (iblk (F := Ideal) m c 4 t)
abbrev turnBlk : FVec Ideal S512x1024 .f32 :=
  k0_pay3 (iblk (F := Ideal) m c 0 t) (loaded0 (iblk (F := Ideal) m c 1 t)) (loaded1 (iblk (F := Ideal) m c 1 t)) (iblk (F := Ideal) m c 5 t)
abbrev swapBlk : FVec Ideal S512x1024 .f32 :=
  k0_pay4 (iblk (F := Ideal) m c 0 t) (loaded0 (iblk (F := Ideal) m c 1 t)) (loaded1 (iblk (F := Ideal) m c 1 t)) (iblk (F := Ideal) m c 6 t)

/-- A value not turned is the row times a column of the weights. -/
theorem plainBlk_eq (f : Fin 1792) (k : Fin 2500) (hk : ∀ e, plainAt (wts m c) e f = wts m c e k) :
    plainBlk m c t (ix2 r f) = times (inRow m c (rowAt t r)) (wts m c) k := by
  unfold plainBlk
  rw [pay2_at, inBlk_eq]
  unfold times
  simp only [blk4, hk]
theorem plainBlk_zero (f : Fin 1792) (hf : 1668 ≤ f.val) : plainBlk m c t (ix2 r f) = 0 := by
  have hk : ∀ e, plainAt (wts m c) e f = 0 := fun e => plainAt_zero (wts m c) e f hf
  unfold plainBlk
  rw [pay2_at, inBlk_eq]
  unfold times
  simp only [blk4, hk, mul_zero, Finset.sum_const_zero]

/-- A turned value of a block is the head's value. -/
theorem turned_eq (f : Fin 1024) (o : ℕ) (ho : o + 64 ≤ 2500) (q : Fin 64) (hf : (colOf f).val = o + q.val)
    (hs : (colOf (other f)).val = o + (q.val + 32) % 64) (hq : f.val % 64 = q.val) :
    turnedAt (turnBlk m c t) (swapBlk m c t) (k0_pay5 (iblk (F := Ideal) m c 2 t)) (k0_pay6 (iblk (F := Ideal) m c 3 t)) r f
      = headOf m c (rowAt t r) o ho q := by
  unfold turnedAt turnBlk swapBlk
  rw [pay3_at, pay4_at, pay5_at, pay6_at, inBlk_eq]
  simp only [blk2, blk3]
  refine Eq.trans ?_ (headRow_eq (inRow m c (rowAt t r)) (wts m c) (cosRow m c (rowAt t r)) (sinRow m c (rowAt t r)) o ho q
    (colOf f) (colOf (other f)) ⟨f.val % 128, by omega⟩ hf hs (by show f.val % 128 % 64 = q.val; omega))
  unfold times
  simp only [blk5, blk6]

/-- The nine output blocks at a grid point. -/
theorem pointQs (d : Fin 512) : (dats (F := Ideal) m 0 c).after 7 t (ix2 r d)
    = times (inRow m c (rowAt t r)) (wts m c) ⟨d.val, by omega⟩ * Ideal.ofBits .f32 0x3E000000#32 := by
  rw [after0_7]
  unfold outsAt0
  dsimp only
  rw [out7]
  exact congrArg (· * Ideal.ofBits .f32 0x3E000000#32) (plainBlk_eq m c t r _ _ fun e => dif_pos (by show d.val < 1536; omega))
theorem pointKs (d : Fin 512) : (dats (F := Ideal) m 0 c).after 8 t (ix2 r d)
    = times (inRow m c (rowAt t r)) (wts m c) ⟨512 + d.val, by omega⟩ := by
  rw [after0_8]
  unfold outsAt0
  dsimp only
  rw [out8]
  exact plainBlk_eq m c t r _ _ fun e => dif_pos (by show 512 + d.val < 1536; omega)
theorem pointWi (d : Fin 128) : (dats (F := Ideal) m 0 c).after 9 t (ix2 r d)
    = if h : d.val < 4 then times (inRow m c (rowAt t r)) (wts m c) ⟨2496 + d.val, by omega⟩ * Ideal.ofBits .f32 0x3F000000#32 else 0 := by
  rw [after0_9]
  unfold outsAt0
  dsimp only
  rw [out9]
  by_cases h : d.val < 4
  · rw [dif_pos h]
    refine congrArg (· * Ideal.ofBits .f32 0x3F000000#32) (plainBlk_eq m c t r ⟨1664 + d.val, by omega⟩ _ fun e => ?_)
    exact plainAt_index (wts m c) e _ _ (by dsimp only; omega) (by dsimp only; omega) (by dsimp only; omega)
  · rw [dif_neg h]
    refine (congrArg (· * Ideal.ofBits .f32 0x3F000000#32) (plainBlk_zero m c t r ⟨1664 + d.val, by omega⟩ ?_)).trans (zero_mul _)
    dsimp only
    omega
theorem pointQd (d : Fin 512) : (dats (F := Ideal) m 0 c).after 10 t (ix2 r d)
    = headOf m c (rowAt t r) (1536 + d.val / 64 * 64) (by omega) ⟨d.val % 64, by omega⟩ * Ideal.ofBits .f32 0x3E000000#32 := by
  rw [after0_10]
  unfold outsAt0
  dsimp only
  rw [out10]
  refine congrArg (· * Ideal.ofBits .f32 0x3E000000#32) (turned_eq m c t r ⟨d.val, by omega⟩ _ _ _ ?_ ?_ ?_)
  · unfold colOf
    dsimp only
    split_ifs <;> omega
  · unfold colOf
    dsimp only
    split_ifs <;> omega
  · first | rfl | (dsimp only; omega)
theorem pointQi (d : Fin 256) : (dats (F := Ideal) m 0 c).after 11 t (ix2 r d)
    = headOf m c (rowAt t r) (2176 + d.val / 64 * 64) (by omega) ⟨d.val % 64, by omega⟩ * Ideal.ofBits .f32 0x3E000000#32 := by
  rw [after0_11]
  unfold outsAt0
  dsimp only
  rw [out11]
  refine congrArg (· * Ideal.ofBits .f32 0x3E000000#32) (turned_eq m c t r ⟨512 + d.val, by omega⟩ _ _ _ ?_ ?_ ?_)
  · unfold colOf
    dsimp only
    split_ifs <;> omega
  · unfold colOf
    dsimp only
    split_ifs <;> omega
  · first | rfl | (dsimp only; omega)
theorem pointKd (d : Fin 128) : (dats (F := Ideal) m 0 c).after 12 t (ix2 r d)
    = headOf m c (rowAt t r) 2048 (by omega) ⟨d.val % 64, by omega⟩ := by
  rw [after0_12]
  unfold outsAt0
  dsimp only
  rw [out12]
  refine turned_eq m c t r ⟨768 + d.val, by omega⟩ _ _ _ ?_ ?_ ?_
  · unfold colOf
    dsimp only
    split_ifs <;> omega
  · unfold colOf
    dsimp only
    split_ifs <;> omega
  · first | rfl | (dsimp only; omega)
theorem pointKi (d : Fin 128) : (dats (F := Ideal) m 0 c).after 13 t (ix2 r d)
    = headOf m c (rowAt t r) 2432 (by omega) ⟨d.val % 64, by omega⟩ := by
  rw [after0_13]
  unfold outsAt0
  dsimp only
  rw [out13]
  refine turned_eq m c t r ⟨896 + d.val, by omega⟩ _ _ _ ?_ ?_ ?_
  · unfold colOf
    dsimp only
    split_ifs <;> omega
  · unfold colOf
    dsimp only
    split_ifs <;> omega
  · first | rfl | (dsimp only; omega)
theorem pointVs (n : Fin 4) (e : Fin 128) : (dats (F := Ideal) m 0 c).after 14 t (ix3 n e r)
    = times (inRow m c (rowAt t r)) (wts m c) ⟨1024 + (n.val * 128 + e.val), by omega⟩ := by
  rw [after0_14]
  unfold outsAt0
  dsimp only
  rw [out14]
  refine plainBlk_eq m c t r ⟨1024 + (128 * n.val + e.val), by omega⟩ _ fun i => ?_
  exact plainAt_low (wts m c) i _ _ (by dsimp only; omega) (by dsimp only; omega)
theorem pointVd (e : Fin 80) : (dats (F := Ideal) m 0 c).after 15 t (ix3 0 e r)
    = if h : e.val < 64 then times (inRow m c (rowAt t r)) (wts m c) ⟨2112 + e.val, by omega⟩ else 1 := by
  rw [after0_15]
  unfold outsAt0
  dsimp only
  rw [out15]
  show valueAt _ e r = _
  unfold valueAt
  by_cases h : e.val < 64
  · rw [dif_pos h, dif_pos h]
    refine plainBlk_eq m c t r _ _ fun i => ?_
    exact plainAt_value (wts m c) i _ _ (by dsimp only; omega) (by dsimp only; omega) (by dsimp only; omega)
  · rw [dif_neg h, dif_neg h]
end

section
variable (m : (ℓ : Loc nD τ sig) → Buf (Elt Ideal) ℓ) (c : Dev nD)

/-- The arrays from their rows, the values' from their columns. -/
theorem outQs_eq (G : Buf (Elt Ideal) ((c.tc : Thread nD τ).loc main_v21_0))
    (h : ∀ (R : Fin 32768) (d : Fin 512), G (ix2 R d)
      = times (inRow m c R) (wts m c) ⟨d.val, by omega⟩ * Ideal.ofBits .f32 0x3E000000#32) :
    (dats (F := Ideal) m 0 c).arrAt 7 cfg0.N = G := by
  refine (dats m 0 c).arrAt_eq_of_covers 7 _ (by decide +kernel) fun t hf y => ?_
  blk_simp
  have ey : y = (ix2 (y 0) (y 1) : S512x512.Idx) := by
    funext a; fin_cases a <;> rfl
  have ht := (pointQs m c t (y 0) (y 1)).trans (h (rowAt t (y 0)) (y 1)).symm
  rw [← ey] at ht
  refine ht.trans ?_
  congr 1
  blk_ext [idxs t]
theorem outKs_eq (G : Buf (Elt Ideal) ((c.tc : Thread nD τ).loc main_v21_1))
    (h : ∀ (R : Fin 32768) (d : Fin 512), G (ix2 R d)
      = times (inRow m c R) (wts m c) ⟨512 + d.val, by omega⟩) :
    (dats (F := Ideal) m 0 c).arrAt 8 cfg0.N = G := by
  refine (dats m 0 c).arrAt_eq_of_covers 8 _ (by decide +kernel) fun t hf y => ?_
  blk_simp
  have ey : y = (ix2 (y 0) (y 1) : S512x512.Idx) := by
    funext a; fin_cases a <;> rfl
  have ht := (pointKs m c t (y 0) (y 1)).trans (h (rowAt t (y 0)) (y 1)).symm
  rw [← ey] at ht
  refine ht.trans ?_
  congr 1
  blk_ext [idxs t]
theorem outWi_eq (G : Buf (Elt Ideal) ((c.tc : Thread nD τ).loc main_v21_2))
    (h : ∀ (R : Fin 32768) (d : Fin 128), G (ix2 R d)
      = if h : d.val < 4 then times (inRow m c R) (wts m c) ⟨2496 + d.val, by omega⟩ * Ideal.ofBits .f32 0x3F000000#32 else 0) :
    (dats (F := Ideal) m 0 c).arrAt 9 cfg0.N = G := by
  refine (dats m 0 c).arrAt_eq_of_covers 9 _ (by decide +kernel) fun t hf y => ?_
  blk_simp
  have ey : y = (ix2 (y 0) (y 1) : S512x128.Idx) := by
    funext a; fin_cases a <;> rfl
  have ht := (pointWi m c t (y 0) (y 1)).trans (h (rowAt t (y 0)) (y 1)).symm
  rw [← ey] at ht
  refine ht.trans ?_
  congr 1
  blk_ext [idxs t]
theorem outQd_eq (G : Buf (Elt Ideal) ((c.tc : Thread nD τ).loc main_v21_3))
    (h : ∀ (R : Fin 32768) (d : Fin 512), G (ix2 R d)
      = headOf m c R (1536 + d.val / 64 * 64) (by omega) ⟨d.val % 64, by omega⟩ * Ideal.ofBits .f32 0x3E000000#32) :
    (dats (F := Ideal) m 0 c).arrAt 10 cfg0.N = G := by
  refine (dats m 0 c).arrAt_eq_of_covers 10 _ (by decide +kernel) fun t hf y => ?_
  blk_simp
  have ey : y = (ix2 (y 0) (y 1) : S512x512.Idx) := by
    funext a; fin_cases a <;> rfl
  have ht := (pointQd m c t (y 0) (y 1)).trans (h (rowAt t (y 0)) (y 1)).symm
  rw [← ey] at ht
  refine ht.trans ?_
  congr 1
  blk_ext [idxs t]
theorem outQi_eq (G : Buf (Elt Ideal) ((c.tc : Thread nD τ).loc main_v21_4))
    (h : ∀ (R : Fin 32768) (d : Fin 256), G (ix2 R d)
      = headOf m c R (2176 + d.val / 64 * 64) (by omega) ⟨d.val % 64, by omega⟩ * Ideal.ofBits .f32 0x3E000000#32) :
    (dats (F := Ideal) m 0 c).arrAt 11 cfg0.N = G := by
  refine (dats m 0 c).arrAt_eq_of_covers 11 _ (by decide +kernel) fun t hf y => ?_
  blk_simp
  have ey : y = (ix2 (y 0) (y 1) : S512x256.Idx) := by
    funext a; fin_cases a <;> rfl
  have ht := (pointQi m c t (y 0) (y 1)).trans (h (rowAt t (y 0)) (y 1)).symm
  rw [← ey] at ht
  refine ht.trans ?_
  congr 1
  blk_ext [idxs t]
theorem outKd_eq (G : Buf (Elt Ideal) ((c.tc : Thread nD τ).loc main_v21_5))
    (h : ∀ (R : Fin 32768) (d : Fin 128), G (ix2 R d)
      = headOf m c R 2048 (by omega) ⟨d.val % 64, by omega⟩) :
    (dats (F := Ideal) m 0 c).arrAt 12 cfg0.N = G := by
  refine (dats m 0 c).arrAt_eq_of_covers 12 _ (by decide +kernel) fun t hf y => ?_
  blk_simp
  have ey : y = (ix2 (y 0) (y 1) : S512x128.Idx) := by
    funext a; fin_cases a <;> rfl
  have ht := (pointKd m c t (y 0) (y 1)).trans (h (rowAt t (y 0)) (y 1)).symm
  rw [← ey] at ht
  refine ht.trans ?_
  congr 1
  blk_ext [idxs t]
theorem outKi_eq (G : Buf (Elt Ideal) ((c.tc : Thread nD τ).loc main_v21_6))
    (h : ∀ (R : Fin 32768) (d : Fin 128), G (ix2 R d)
      = headOf m c R 2432 (by omega) ⟨d.val % 64, by omega⟩) :
    (dats (F := Ideal) m 0 c).arrAt 13 cfg0.N = G := by
  refine (dats m 0 c).arrAt_eq_of_covers 13 _ (by decide +kernel) fun t hf y => ?_
  blk_simp
  have ey : y = (ix2 (y 0) (y 1) : S512x128.Idx) := by
    funext a; fin_cases a <;> rfl
  have ht := (pointKi m c t (y 0) (y 1)).trans (h (rowAt t (y 0)) (y 1)).symm
  rw [← ey] at ht
  refine ht.trans ?_
  congr 1
  blk_ext [idxs t]
theorem outVs_eq (G : Buf (Elt Ideal) ((c.tc : Thread nD τ).loc main_v21_7))
    (h : ∀ (n : Fin 4) (e : Fin 128) (R : Fin 32768), G (ix3 n e R)
      = times (inRow m c R) (wts m c) ⟨1024 + (n.val * 128 + e.val), by omega⟩) :
    (dats (F := Ideal) m 0 c).arrAt 14 cfg0.N = G := by
  refine (dats m 0 c).arrAt_eq_of_covers 14 _ (by decide +kernel) fun t hf y => ?_
  blk_simp
  have ey : y = (ix3 (y 0) (y 1) (y 2) : S4x128x512.Idx) := by
    funext a; fin_cases a <;> rfl
  have ht := (pointVs m c t (y 2) (y 0) (y 1)).trans (h (y 0) (y 1) (rowAt t (y 2))).symm
  rw [← ey] at ht
  refine ht.trans ?_
  congr 1
  blk_ext [idxs t]
theorem outVd_eq (G : Buf (Elt Ideal) ((c.tc : Thread nD τ).loc main_v21_8))
    (h : ∀ (e : Fin 80) (R : Fin 32768), G (ix3 0 e R)
      = if h : e.val < 64 then times (inRow m c R) (wts m c) ⟨2112 + e.val, by omega⟩ else 1) :
    (dats (F := Ideal) m 0 c).arrAt 15 cfg0.N = G := by
  refine (dats m 0 c).arrAt_eq_of_covers 15 _ (by decide +kernel) fun t hf y => ?_
  blk_simp
  have ey : y = (ix3 0 (y 1) (y 2) : S1x80x512.Idx) := by
    funext a; fin_cases a
    · exact Subsingleton.elim (α := Fin 1) _ _
    all_goals rfl
  have ht := (pointVd m c t (y 2) (y 1)).trans (h (y 1) (rowAt t (y 2))).symm
  rw [← ey] at ht
  refine ht.trans ?_
  congr 1
  blk_ext [idxs t]
end

end Cert.InEvenIdeal.Hand

end
-- ==== Proof.InEvenRef.lean ====
/-
  The reference of the even layer's attention inputs, read at an index: its nine results.
-/
module

public import proofs.«01_k».proof.Proof.Heads
public import proofs.«01_k».proof.Proof.Gen.ReferenceInEvenIdeal.Run
public import Idealize.ShloMosaic.Lib.Pointwise

@[expose] public section

set_option maxRecDepth 16384

noncomputable section

namespace Cert.ReferenceInEvenIdeal.Hand

open Idealize Idealize.ShloMosaic Idealize.ShloMosaic.TcCoe Cert.ReferenceInEvenIdeal Cert.ReferenceInEvenIdeal.Gen Cert.ReferenceInEvenIdeal.Value Cert.Post Cert.In

/-- A position's head turned by its angles, where the two halves are given apart. -/
theorem halves_eq (c s : Fin 32 → EReal) (p : Fin 64 → EReal) (l : Fin 64) :
    (if h : l.val < 32 then p ⟨l.val, by omega⟩ * c ⟨l.val, h⟩ - p ⟨32 + l.val, by omega⟩ * s ⟨l.val, h⟩
      else p ⟨32 + (l.val - 32), by omega⟩ * c ⟨l.val - 32, by omega⟩ + p ⟨l.val - 32, by omega⟩ * s ⟨l.val - 32, by omega⟩)
      = roped c s p l := by
  unfold roped
  by_cases h : l.val < 32
  · rw [dif_pos h, dif_pos h]
    congr 3
    exact Fin.ext (Nat.add_comm _ _)
  · rw [dif_neg h, dif_neg h]
    congr 3
    exact Fin.ext (by show 32 + (l.val - 32) = l.val; omega)

/-- Eight heads turned by the angles' cosines and sines. -/
def turned8 (x : FVec Ideal S2x16384x8x64 .f32) (cs sn : FVec Ideal S2x16384x1x32 .f32) : FVec Ideal S2x16384x8x64 .f32 :=
  fn_main_v38 (F := Ideal)
    (subf (mulf (extractStridedSlice S2x16384x8x32 ![0, 0, 0, 0] x slices_S2x16384x8x64_S2x16384x8x32_0_0_0_0) (broadcastInDim S2x16384x8x32 ![0, 1, 2, 3] bcast_S2x16384x1x32_S2x16384x8x32_0_1_2_3 cs))
      (mulf (extractStridedSlice S2x16384x8x32 ![0, 0, 0, 32] x slices_S2x16384x8x64_S2x16384x8x32_0_0_0_32) (broadcastInDim S2x16384x8x32 ![0, 1, 2, 3] bcast_S2x16384x1x32_S2x16384x8x32_0_1_2_3 sn)))
    (addf (mulf (extractStridedSlice S2x16384x8x32 ![0, 0, 0, 32] x slices_S2x16384x8x64_S2x16384x8x32_0_0_0_32) (broadcastInDim S2x16384x8x32 ![0, 1, 2, 3] bcast_S2x16384x1x32_S2x16384x8x32_0_1_2_3 cs))
      (mulf (extractStridedSlice S2x16384x8x32 ![0, 0, 0, 0] x slices_S2x16384x8x64_S2x16384x8x32_0_0_0_0) (broadcastInDim S2x16384x8x32 ![0, 1, 2, 3] bcast_S2x16384x1x32_S2x16384x8x32_0_1_2_3 sn)))

theorem turned8_at (x : FVec Ideal S2x16384x8x64 .f32) (cs sn : FVec Ideal S2x16384x1x32 .f32) (b : Fin 2) (s : Fin 16384) (n : Fin 8) (l : Fin 64) :
    turned8 x cs sn (ix4 b s n l) = roped (fun j => cs (ix4 b s 0 j)) (fun j => sn (ix4 b s 0 j)) (fun l => x (ix4 b s n l)) l := by
  pointwise [turned8, fn_main_v38]
  exact halves_eq (fun j => cs (ix4 b s 0 j)) (fun j => sn (ix4 b s 0 j)) (fun l => x (ix4 b s n l)) l

/-- Four heads turned by the angles' cosines and sines. -/
def turned4 (x : FVec Ideal S2x16384x4x64 .f32) (cs sn : FVec Ideal S2x16384x1x32 .f32) : FVec Ideal S2x16384x4x64 .f32 :=
  fn_main_v54 (F := Ideal)
    (subf (mulf (extractStridedSlice S2x16384x4x32 ![0, 0, 0, 0] x slices_S2x16384x4x64_S2x16384x4x32_0_0_0_0) (broadcastInDim S2x16384x4x32 ![0, 1, 2, 3] bcast_S2x16384x1x32_S2x16384x4x32_0_1_2_3 cs))
      (mulf (extractStridedSlice S2x16384x4x32 ![0, 0, 0, 32] x slices_S2x16384x4x64_S2x16384x4x32_0_0_0_32) (broadcastInDim S2x16384x4x32 ![0, 1, 2, 3] bcast_S2x16384x1x32_S2x16384x4x32_0_1_2_3 sn)))
    (addf (mulf (extractStridedSlice S2x16384x4x32 ![0, 0, 0, 32] x slices_S2x16384x4x64_S2x16384x4x32_0_0_0_32) (broadcastInDim S2x16384x4x32 ![0, 1, 2, 3] bcast_S2x16384x1x32_S2x16384x4x32_0_1_2_3 cs))
      (mulf (extractStridedSlice S2x16384x4x32 ![0, 0, 0, 0] x slices_S2x16384x4x64_S2x16384x4x32_0_0_0_0) (broadcastInDim S2x16384x4x32 ![0, 1, 2, 3] bcast_S2x16384x1x32_S2x16384x4x32_0_1_2_3 sn)))

theorem turned4_at (x : FVec Ideal S2x16384x4x64 .f32) (cs sn : FVec Ideal S2x16384x1x32 .f32) (b : Fin 2) (s : Fin 16384) (n : Fin 4) (l : Fin 64) :
    turned4 x cs sn (ix4 b s n l) = roped (fun j => cs (ix4 b s 0 j)) (fun j => sn (ix4 b s 0 j)) (fun l => x (ix4 b s n l)) l := by
  pointwise [turned4, fn_main_v54]
  exact halves_eq (fun j => cs (ix4 b s 0 j)) (fun j => sn (ix4 b s 0 j)) (fun l => x (ix4 b s n l)) l

/-- One head turned by the angles' cosines and sines. -/
def turned1 (x : FVec Ideal S2x16384x1x64 .f32) (cs sn : FVec Ideal S2x16384x1x32 .f32) : FVec Ideal S2x16384x1x64 .f32 :=
  fn_main_v66 (F := Ideal)
    (subf (mulf (extractStridedSlice S2x16384x1x32 ![0, 0, 0, 0] x slices_S2x16384x1x64_S2x16384x1x32_0_0_0_0) cs)
      (mulf (extractStridedSlice S2x16384x1x32 ![0, 0, 0, 32] x slices_S2x16384x1x64_S2x16384x1x32_0_0_0_32) sn))
    (addf (mulf (extractStridedSlice S2x16384x1x32 ![0, 0, 0, 32] x slices_S2x16384x1x64_S2x16384x1x32_0_0_0_32) cs)
      (mulf (extractStridedSlice S2x16384x1x32 ![0, 0, 0, 0] x slices_S2x16384x1x64_S2x16384x1x32_0_0_0_0) sn))

theorem turned1_at (x : FVec Ideal S2x16384x1x64 .f32) (cs sn : FVec Ideal S2x16384x1x32 .f32) (b : Fin 2) (s : Fin 16384) (l : Fin 64) :
    turned1 x cs sn (ix4 b s 0 l) = roped (fun j => cs (ix4 b s 0 j)) (fun j => sn (ix4 b s 0 j)) (fun l => x (ix4 b s 0 l)) l := by
  pointwise [turned1, fn_main_v66]
  exact halves_eq (fun j => cs (ix4 b s 0 j)) (fun j => sn (ix4 b s 0 j)) (fun l => x (ix4 b s 0 l)) l

variable (m : (ℓ : Loc nD τ sig) → Buf (Elt Ideal) ℓ) (c : Dev nD)

/-- Rows scaled and shifted. -/
def rowsOf (x : FVec Ideal S32768x1024 .f32) (md : FVec Ideal S2x6x1024 .f32) : FVec Ideal S2x16384x1024 .f32 :=
  addf (mulf (shapeCast _ x shapeCasts_S32768x1024_S2x16384x1024)
      (broadcastInDim S2x16384x1024 ![0, 1, 2] bcast_S2x1x1024_S2x16384x1024_0_1_2
        (addf (broadcastInDim S2x1x1024 ![] bcast_S_S2x1x1024 (constant S_ .f32 0x3F800000#32))
          (broadcastInDim S2x1x1024 ![0, 2] bcast_S2x1024_S2x1x1024_0_2
            (shapeCast _ (extractStridedSlice S2x1x1024 ![0, 1, 0] md slices_S2x6x1024_S2x1x1024_0_1_0)
              shapeCasts_S2x1x1024_S2x1024)))))
      (broadcastInDim S2x16384x1024 ![0, 1, 2] bcast_S2x1x1024_S2x16384x1024_0_1_2
        (broadcastInDim S2x1x1024 ![0, 2] bcast_S2x1024_S2x1x1024_0_2
          (shapeCast _ (extractStridedSlice S2x1x1024 ![0, 0, 0] md slices_S2x6x1024_S2x1x1024_0_0_0)
            shapeCasts_S2x1x1024_S2x1024)))

theorem rowsOf_at (x : FVec Ideal S32768x1024 .f32) (md : FVec Ideal S2x6x1024 .f32) (b : Fin 2) (s : Fin 16384) (j : Fin 1024) :
    rowsOf x md (ix3 b s j) = shifted (fun j => x (ix2 ⟨b.val * 16384 + s.val, by omega⟩ j)) (fun j => md (ix3 b 1 j)) (fun j => md (ix3 b 0 j)) j := by
  unfold shifted
  pointwise [rowsOf]

/-- The modulated rows. -/
def modulated : FVec Ideal S2x16384x1024 .f32 :=
  rowsOf (m ((c.tc : Thread nD τ).loc main_arg0)) (m ((c.tc : Thread nD τ).loc main_arg1))

/-- The modulated rows times the weights. -/
def proj : FVec Ideal S2x16384x2500 .f32 :=
  Host.dotGeneral (φ₁ := .f32) (φ₂ := .f32) dot_S2x16384x1024_S1024x2500_S2x16384x2500_2_0_01_1_n_n none
    (modulated m c)
    (m ((c.tc : Thread nD τ).loc main_arg4) : FVec Ideal S1024x2500 .f32)

/-- The angles' tables, by sequence and position. -/
abbrev tab (a : FVec Ideal S32768x32 .f32) : FVec Ideal S2x16384x1x32 .f32 := shapeCast _ a shapeCasts_S32768x32_S2x16384x1x32
abbrev cosTab : FVec Ideal S2x16384x1x32 .f32 := tab (m ((c.tc : Thread nD τ).loc main_arg2))
abbrev sinTab : FVec Ideal S2x16384x1x32 .f32 := tab (m ((c.tc : Thread nD τ).loc main_arg3))

def resultQs : FVec Ideal S32768x512 .bf16 :=
  truncf .bf16 (shapeCast _ (mulf (extractStridedSlice S2x16384x512 ![0, 0, 0] (proj m c) slices_S2x16384x2500_S2x16384x512_0_0_0)
    (broadcastInDim S2x16384x512 ![] bcast_S_S2x16384x512 (constant S_ .f32 0x3E000000#32))) shapeCasts_S2x16384x512_S32768x512) bitsLt_bf16_f32
def resultKs : FVec Ideal S32768x512 .bf16 :=
  truncf .bf16 (shapeCast _ (extractStridedSlice S2x16384x512 ![0, 0, 512] (proj m c) slices_S2x16384x2500_S2x16384x512_0_0_512)
    shapeCasts_S2x16384x512_S32768x512) bitsLt_bf16_f32
def resultWi : FVec Ideal S32768x128 .f32 :=
  pad S32768x128 ![0, 0] ![0, 124] ![0, 0] (mulf (shapeCast _ (extractStridedSlice S2x16384x4 ![0, 0, 2496] (proj m c) slices_S2x16384x2500_S2x16384x4_0_0_2496)
      shapeCasts_S2x16384x4_S32768x4) (broadcastInDim S32768x4 ![] bcast_S_S32768x4 (constant S_ .f32 0x3F000000#32)))
    (sitofp .f32 (constantI S_ 32 0#32)) pads_S32768x4_S32768x128_000_01240 h_S_
def resultQd : FVec Ideal S32768x512 .bf16 :=
  truncf .bf16 (shapeCast _ (mulf (turned8 (shapeCast _ (extractStridedSlice S2x16384x512 ![0, 0, 1536] (proj m c) slices_S2x16384x2500_S2x16384x512_0_0_1536)
      shapeCasts_S2x16384x512_S2x16384x8x64) (cosTab m c) (sinTab m c))
    (broadcastInDim S2x16384x8x64 ![] bcast_S_S2x16384x8x64 (constant S_ .f32 0x3E000000#32))) shapeCasts_S2x16384x8x64_S32768x512) bitsLt_bf16_f32
def resultQi : FVec Ideal S32768x256 .bf16 :=
  truncf .bf16 (shapeCast _ (mulf (turned4 (shapeCast _ (extractStridedSlice S2x16384x256 ![0, 0, 2176] (proj m c) slices_S2x16384x2500_S2x16384x256_0_0_2176)
      shapeCasts_S2x16384x256_S2x16384x4x64) (cosTab m c) (sinTab m c))
    (broadcastInDim S2x16384x4x64 ![] bcast_S_S2x16384x4x64 (constant S_ .f32 0x3E000000#32))) shapeCasts_S2x16384x4x64_S32768x256) bitsLt_bf16_f32

/-- A single key's head turned, and written twice. -/
def single (x : FVec Ideal S2x16384x64 .f32) : FVec Ideal S2x16384x1x64 .f32 :=
  turned1 (broadcastInDim S2x16384x1x64 ![0, 1, 3] bcast_S2x16384x64_S2x16384x1x64_0_1_3 x) (cosTab m c) (sinTab m c)
def twice (x : FVec Ideal S2x16384x64 .f32) : FVec Ideal S32768x128 .bf16 :=
  truncf .bf16 (shapeCast _ (fn_main_v98 (F := Ideal) (single m c x) (single m c x)) shapeCasts_S2x16384x2x64_S32768x128) bitsLt_bf16_f32
def resultKd : FVec Ideal S32768x128 .bf16 :=
  twice m c (extractStridedSlice S2x16384x64 ![0, 0, 2048] (proj m c) slices_S2x16384x2500_S2x16384x64_0_0_2048)
def resultKi : FVec Ideal S32768x128 .bf16 :=
  twice m c (extractStridedSlice S2x16384x64 ![0, 0, 2432] (proj m c) slices_S2x16384x2500_S2x16384x64_0_0_2432)
def resultVs : FVec Ideal S4x128x32768 .bf16 :=
  truncf .bf16 (transpose S4x128x32768 [1, 2, 0] (shapeCast _ (extractStridedSlice S2x16384x512 ![0, 0, 1024] (proj m c)
    slices_S2x16384x2500_S2x16384x512_0_0_1024) shapeCasts_S2x16384x512_S32768x4x128) transposes_S32768x4x128_S4x128x32768_1_2_0) bitsLt_bf16_f32
def resultVd : FVec Ideal S1x80x32768 .bf16 :=
  truncf .bf16 (fn_main_v87 (F := Ideal) (transpose S1x64x32768 [0, 2, 1] (shapeCast _ (extractStridedSlice S2x16384x64 ![0, 0, 2112] (proj m c)
      slices_S2x16384x2500_S2x16384x64_0_0_2112) shapeCasts_S2x16384x64_S1x32768x64) transposes_S1x32768x64_S1x64x32768_0_2_1)
    (broadcastInDim S1x16x32768 ![] bcast_S_S1x16x32768 (constant (F := Ideal) S_ .f32 0x3F800000#32) : FVec Ideal S1x16x32768 .f32)) bitsLt_bf16_f32

theorem resultQd_eq : res_main_v95 (F := Ideal) m c = resultQd m c := rfl
theorem resultQi_eq : res_main_v97 (F := Ideal) m c = resultQi m c := rfl
theorem resultKd_eq : res_main_v100 (F := Ideal) m c = resultKd m c := rfl
theorem resultKi_eq : res_main_v103 (F := Ideal) m c = resultKi m c := rfl

/-- The modulated row. -/
abbrev inRow (R : Fin 32768) : Fin 1024 → EReal :=
  shifted (fun j => m ((c.tc : Thread nD τ).loc main_arg0) (ix2 R j))
    (fun j => m ((c.tc : Thread nD τ).loc main_arg1) (ix3 ⟨R.val / 16384, by omega⟩ 1 j))
    (fun j => m ((c.tc : Thread nD τ).loc main_arg1) (ix3 ⟨R.val / 16384, by omega⟩ 0 j))
abbrev wts (e : Fin 1024) (f : Fin 2500) : EReal := m ((c.tc : Thread nD τ).loc main_arg4) (ix2 e f)
abbrev cosRow (R : Fin 32768) (j : Fin 32) : EReal := m ((c.tc : Thread nD τ).loc main_arg2) (ix2 R j)
abbrev sinRow (R : Fin 32768) (j : Fin 32) : EReal := m ((c.tc : Thread nD τ).loc main_arg3) (ix2 R j)

/-- The row of the arrays at a position of a sequence. -/
abbrev pos (b : Fin 2) (s : Fin 16384) : Fin 32768 := ⟨b.val * 16384 + s.val, by omega⟩
theorem pos_div (b : Fin 2) (s : Fin 16384) (p) : (⟨(pos b s).val / 16384, p⟩ : Fin 2) = b := Fin.ext (by show (b.val * 16384 + s.val) / 16384 = b.val; omega)
theorem pos_mod (b : Fin 2) (s : Fin 16384) (p) : (⟨(pos b s).val % 16384, p⟩ : Fin 16384) = s := Fin.ext (by show (b.val * 16384 + s.val) % 16384 = s.val; omega)
theorem pos_eta (R : Fin 32768) (p q) : pos ⟨R.val / 16384, p⟩ ⟨R.val % 16384, q⟩ = R :=
  Fin.ext (by show R.val / 16384 * 16384 + R.val % 16384 = R.val; omega)

theorem modulated_at (b : Fin 2) (s : Fin 16384) (j : Fin 1024) : modulated m c (ix3 b s j) = inRow m c (pos b s) j := by
  refine (rowsOf_at _ _ b s j).trans ?_
  unfold inRow
  rw [pos_div]

theorem proj_at (b : Fin 2) (s : Fin 16384) (f : Fin 2500) : proj m c (ix3 b s f) = times (inRow m c (pos b s)) (wts m c) f := by
  unfold times
  pointwise [proj, modulated_at]

/-- Head of the row at columns from `o` on. -/
abbrev headOf (R : Fin 32768) (o : ℕ) (ho : o + 64 ≤ 2500) : Fin 64 → EReal :=
  headRow (inRow m c R) (wts m c) (cosRow m c R) (sinRow m c R) o ho

theorem cosTab_at (b : Fin 2) (s : Fin 16384) (j : Fin 32) : cosTab m c (ix4 b s 0 j) = cosRow m c (pos b s) j := by
  pointwise []
theorem sinTab_at (b : Fin 2) (s : Fin 16384) (j : Fin 32) : sinTab m c (ix4 b s 0 j) = sinRow m c (pos b s) j := by
  pointwise []
theorem turned8_pos (x : FVec Ideal S2x16384x8x64 .f32) (b : Fin 2) (s : Fin 16384) (n : Fin 8) (l : Fin 64) :
    turned8 x (cosTab m c) (sinTab m c) (ix4 b s n l)
      = roped (cosRow m c (pos b s)) (sinRow m c (pos b s)) (fun l => x (ix4 b s n l)) l := by
  rw [turned8_at, funext (cosTab_at m c b s), funext (sinTab_at m c b s)]
theorem turned4_pos (x : FVec Ideal S2x16384x4x64 .f32) (b : Fin 2) (s : Fin 16384) (n : Fin 4) (l : Fin 64) :
    turned4 x (cosTab m c) (sinTab m c) (ix4 b s n l)
      = roped (cosRow m c (pos b s)) (sinRow m c (pos b s)) (fun l => x (ix4 b s n l)) l := by
  rw [turned4_at, funext (cosTab_at m c b s), funext (sinTab_at m c b s)]
theorem single_at (x : FVec Ideal S2x16384x64 .f32) (b : Fin 2) (s : Fin 16384) (n : Fin 1) (l : Fin 64) :
    single m c x (ix4 b s n l) = roped (cosRow m c (pos b s)) (sinRow m c (pos b s)) (fun l => x (ix3 b s l)) l := by
  obtain rfl : n = 0 := Subsingleton.elim _ _
  unfold single
  rw [turned1_at, funext (cosTab_at m c b s), funext (sinTab_at m c b s)]
  congr 1
  funext j
  pointwise []

theorem resultQs_at (R : Fin 32768) (d : Fin 512) : resultQs m c (ix2 R d)
    = times (inRow m c R) (wts m c) ⟨d.val, by omega⟩ * Ideal.ofBits .f32 0x3E000000#32 := by
  pointwise [resultQs, proj_at, pos_eta]
theorem resultKs_at (R : Fin 32768) (d : Fin 512) : resultKs m c (ix2 R d) = times (inRow m c R) (wts m c) ⟨512 + d.val, by omega⟩ := by
  pointwise [resultKs, proj_at, pos_eta]
theorem zero_int : FloatOps.sitofp (F := Ideal) .f32 (0#32) = (0 : EReal) := by
  show (((0#32 : BitVec 32).toInt : ℝ) : EReal) = 0
  simp
theorem resultWi_at (R : Fin 32768) (d : Fin 128) : resultWi m c (ix2 R d)
    = if h : d.val < 4 then times (inRow m c R) (wts m c) ⟨2496 + d.val, by omega⟩ * Ideal.ofBits .f32 0x3F000000#32 else 0 := by
  pointwise [resultWi, proj_at, pos_eta, zero_int]
theorem resultQd_at (R : Fin 32768) (d : Fin 512) : resultQd m c (ix2 R d)
    = headOf m c R (1536 + d.val / 64 * 64) (by omega) ⟨d.val % 64, by omega⟩ * Ideal.ofBits .f32 0x3E000000#32 := by
  pointwise [resultQd, turned8_pos, proj_at, pos_eta, headRow, Nat.add_assoc]
theorem resultQi_at (R : Fin 32768) (d : Fin 256) : resultQi m c (ix2 R d)
    = headOf m c R (2176 + d.val / 64 * 64) (by omega) ⟨d.val % 64, by omega⟩ * Ideal.ofBits .f32 0x3E000000#32 := by
  pointwise [resultQi, turned4_pos, proj_at, pos_eta, headRow, Nat.add_assoc]
theorem twice_at (x : FVec Ideal S2x16384x64 .f32) (R : Fin 32768) (d : Fin 128) : twice m c x (ix2 R d)
    = roped (cosRow m c R) (sinRow m c R) (fun l => x (ix3 ⟨R.val / 16384, by omega⟩ ⟨R.val % 16384, by omega⟩ l)) ⟨d.val % 64, by omega⟩ := by
  pointwise [twice, fn_main_v98, single_at, pos_eta]
  split_ifs <;> rfl
theorem resultKd_at (R : Fin 32768) (d : Fin 128) : resultKd m c (ix2 R d) = headOf m c R 2048 (by omega) ⟨d.val % 64, by omega⟩ := by
  unfold resultKd
  rw [twice_at]
  pointwise [proj_at, pos_eta, headRow]
theorem resultKi_at (R : Fin 32768) (d : Fin 128) : resultKi m c (ix2 R d) = headOf m c R 2432 (by omega) ⟨d.val % 64, by omega⟩ := by
  unfold resultKi
  rw [twice_at]
  pointwise [proj_at, pos_eta, headRow]
theorem resultVs_at (n : Fin 4) (e : Fin 128) (R : Fin 32768) : resultVs m c (ix3 n e R)
    = times (inRow m c R) (wts m c) ⟨1024 + (n.val * 128 + e.val), by omega⟩ := by
  pointwise [resultVs, proj_at, pos_eta]
theorem resultVd_at (e : Fin 80) (R : Fin 32768) : resultVd m c (ix3 0 e R)
    = if h : e.val < 64 then times (inRow m c R) (wts m c) ⟨2112 + e.val, by omega⟩ else 1 := by
  pointwise [resultVd, fn_main_v87, proj_at, pos_eta]

end Cert.ReferenceInEvenIdeal.Hand

end
-- ==== Proof.InEvenClaim.lean ====
/-
  The claims about the even layer's attention inputs: the call and its reference run, and from equal arguments leave nine
  equal arrays.
-/
module

public import proofs.«01_k».proof.Defs
public import proofs.«01_k».proof.Proof.InEvenRow
public import proofs.«01_k».proof.Proof.InEvenRef
public import proofs.«01_k».proof.Proof.Gen.InEven.Frame
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The even layer's attention inputs run without a fault, leave their arguments as they were and every counter at zero. -/
theorem frame_inEven : Cert.quiescent_InEven (hInEven := Cert.InEven.Gen.facts) := fun m ρ _ =>
  Cert.InEven.Gen.frame (F := Bits) m ρ

/-- The same of their idealization. -/
theorem frame_inEvenIdeal : Cert.quiescent_InEvenIdeal (hInEvenIdeal := Cert.InEvenIdeal.Gen.facts) := fun m ρ _ =>
  Cert.InEvenIdeal.Gen.frame (F := Ideal) m ρ

/-- The same of their reference, which has no semaphore at all. -/
theorem frame_referenceInEven : Cert.quiescent_ReferenceInEvenIdeal (hReferenceInEvenIdeal := Cert.ReferenceInEvenIdeal.Gen.facts) := fun m ρ _ =>
  (θ_run Cert.ReferenceInEvenIdeal.defs _ _).mono
    (fun r h => ⟨fun c => (h c).2.2.2.2.2.2.2.2.2, Idealize.ShloMosaic.sem_eq_zero_of_no_sems (by decide) r.2⟩)
    (Cert.ReferenceInEvenIdeal.Value.run (F := Ideal) m ρ)

section
variable (m : (ℓ : Loc Cert.InEvenIdeal.nD Cert.InEvenIdeal.τ Cert.InEvenIdeal.sig) → Buf (Elt Ideal) ℓ)
  (m' : (ℓ : Loc Cert.ReferenceInEvenIdeal.nD Cert.ReferenceInEvenIdeal.τ Cert.ReferenceInEvenIdeal.sig) → Buf (Elt Ideal) ℓ)
  (c : Dev Cert.InEvenIdeal.nD)

/-- The two programs' arguments agree. -/
def InEvenArgs : Prop :=
  m' ((c.tc : Thread Cert.ReferenceInEvenIdeal.nD Cert.ReferenceInEvenIdeal.τ).loc Cert.ReferenceInEvenIdeal.main_arg0) = m ((c.tc : Thread Cert.InEvenIdeal.nD Cert.InEvenIdeal.τ).loc Cert.InEvenIdeal.main_arg0)
    ∧ m' ((c.tc : Thread Cert.ReferenceInEvenIdeal.nD Cert.ReferenceInEvenIdeal.τ).loc Cert.ReferenceInEvenIdeal.main_arg1) = m ((c.tc : Thread Cert.InEvenIdeal.nD Cert.InEvenIdeal.τ).loc Cert.InEvenIdeal.main_arg1)
    ∧ m' ((c.tc : Thread Cert.ReferenceInEvenIdeal.nD Cert.ReferenceInEvenIdeal.τ).loc Cert.ReferenceInEvenIdeal.main_arg2) = m ((c.tc : Thread Cert.InEvenIdeal.nD Cert.InEvenIdeal.τ).loc Cert.InEvenIdeal.main_arg2)
    ∧ m' ((c.tc : Thread Cert.ReferenceInEvenIdeal.nD Cert.ReferenceInEvenIdeal.τ).loc Cert.ReferenceInEvenIdeal.main_arg3) = m ((c.tc : Thread Cert.InEvenIdeal.nD Cert.InEvenIdeal.τ).loc Cert.InEvenIdeal.main_arg3)
    ∧ m' ((c.tc : Thread Cert.ReferenceInEvenIdeal.nD Cert.ReferenceInEvenIdeal.τ).loc Cert.ReferenceInEvenIdeal.main_arg4) = m ((c.tc : Thread Cert.InEvenIdeal.nD Cert.InEvenIdeal.τ).loc Cert.InEvenIdeal.main_arg4)

variable {m m' c} (ha : InEvenArgs m m' c)
include ha

theorem inEven_row : Cert.ReferenceInEvenIdeal.Hand.inRow m' c = Cert.InEvenIdeal.Hand.inRow m c := by
  unfold Cert.ReferenceInEvenIdeal.Hand.inRow Cert.InEvenIdeal.Hand.inRow
  rw [ha.1, ha.2.1]
theorem inEven_wts : Cert.ReferenceInEvenIdeal.Hand.wts m' c = Cert.InEvenIdeal.Hand.wts m c := by
  unfold Cert.ReferenceInEvenIdeal.Hand.wts Cert.InEvenIdeal.Hand.wts
  rw [ha.2.2.2.2]
theorem inEven_cos : Cert.ReferenceInEvenIdeal.Hand.cosRow m' c = Cert.InEvenIdeal.Hand.cosRow m c := by
  unfold Cert.ReferenceInEvenIdeal.Hand.cosRow Cert.InEvenIdeal.Hand.cosRow
  rw [ha.2.2.1]
theorem inEven_sin : Cert.ReferenceInEvenIdeal.Hand.sinRow m' c = Cert.InEvenIdeal.Hand.sinRow m c := by
  unfold Cert.ReferenceInEvenIdeal.Hand.sinRow Cert.InEvenIdeal.Hand.sinRow
  rw [ha.2.2.2.1]

theorem inEven_head (R : Fin 32768) : @Eq (∀ o : ℕ, o + 64 ≤ 2500 → Fin 64 → EReal) (Cert.ReferenceInEvenIdeal.Hand.headOf m' c R)
    (Cert.InEvenIdeal.Hand.headOf m c R) := by
  unfold Cert.ReferenceInEvenIdeal.Hand.headOf Cert.InEvenIdeal.Hand.headOf
  rw [inEven_row ha, inEven_wts ha, inEven_cos ha, inEven_sin ha]

/-- From equal arguments the call leaves the nine arrays that the reference computes. -/
theorem inEvenQs : (Cert.InEvenIdeal.Gen.dats (F := Ideal) m 0 c).arrAt 7 Cert.InEvenIdeal.cfg0.N = Cert.ReferenceInEvenIdeal.Hand.resultQs m' c := by
  refine Cert.InEvenIdeal.Hand.outQs_eq m c _ fun R d => (Cert.ReferenceInEvenIdeal.Hand.resultQs_at m' c R d).trans ?_
  rw [inEven_row ha, inEven_wts ha]
theorem inEvenKs : (Cert.InEvenIdeal.Gen.dats (F := Ideal) m 0 c).arrAt 8 Cert.InEvenIdeal.cfg0.N = Cert.ReferenceInEvenIdeal.Hand.resultKs m' c := by
  refine Cert.InEvenIdeal.Hand.outKs_eq m c _ fun R d => (Cert.ReferenceInEvenIdeal.Hand.resultKs_at m' c R d).trans ?_
  rw [inEven_row ha, inEven_wts ha]
theorem inEvenWi : (Cert.InEvenIdeal.Gen.dats (F := Ideal) m 0 c).arrAt 9 Cert.InEvenIdeal.cfg0.N = Cert.ReferenceInEvenIdeal.Hand.resultWi m' c := by
  refine Cert.InEvenIdeal.Hand.outWi_eq m c _ fun R d => (Cert.ReferenceInEvenIdeal.Hand.resultWi_at m' c R d).trans ?_
  rw [inEven_row ha, inEven_wts ha]
theorem inEvenQd : (Cert.InEvenIdeal.Gen.dats (F := Ideal) m 0 c).arrAt 10 Cert.InEvenIdeal.cfg0.N = Cert.ReferenceInEvenIdeal.Hand.resultQd m' c := by
  refine Cert.InEvenIdeal.Hand.outQd_eq m c _ fun R d => (Cert.ReferenceInEvenIdeal.Hand.resultQd_at m' c R d).trans ?_
  rw [inEven_head ha]
theorem inEvenQi : (Cert.InEvenIdeal.Gen.dats (F := Ideal) m 0 c).arrAt 11 Cert.InEvenIdeal.cfg0.N = Cert.ReferenceInEvenIdeal.Hand.resultQi m' c := by
  refine Cert.InEvenIdeal.Hand.outQi_eq m c _ fun R d => (Cert.ReferenceInEvenIdeal.Hand.resultQi_at m' c R d).trans ?_
  rw [inEven_head ha]
theorem inEvenKd : (Cert.InEvenIdeal.Gen.dats (F := Ideal) m 0 c).arrAt 12 Cert.InEvenIdeal.cfg0.N = Cert.ReferenceInEvenIdeal.Hand.resultKd m' c := by
  refine Cert.InEvenIdeal.Hand.outKd_eq m c _ fun R d => (Cert.ReferenceInEvenIdeal.Hand.resultKd_at m' c R d).trans ?_
  rw [inEven_head ha]
theorem inEvenKi : (Cert.InEvenIdeal.Gen.dats (F := Ideal) m 0 c).arrAt 13 Cert.InEvenIdeal.cfg0.N = Cert.ReferenceInEvenIdeal.Hand.resultKi m' c := by
  refine Cert.InEvenIdeal.Hand.outKi_eq m c _ fun R d => (Cert.ReferenceInEvenIdeal.Hand.resultKi_at m' c R d).trans ?_
  rw [inEven_head ha]
theorem inEvenVs : (Cert.InEvenIdeal.Gen.dats (F := Ideal) m 0 c).arrAt 14 Cert.InEvenIdeal.cfg0.N = Cert.ReferenceInEvenIdeal.Hand.resultVs m' c := by
  refine Cert.InEvenIdeal.Hand.outVs_eq m c _ fun n e R => (Cert.ReferenceInEvenIdeal.Hand.resultVs_at m' c n e R).trans ?_
  rw [inEven_row ha, inEven_wts ha]
theorem inEvenVd : (Cert.InEvenIdeal.Gen.dats (F := Ideal) m 0 c).arrAt 15 Cert.InEvenIdeal.cfg0.N = Cert.ReferenceInEvenIdeal.Hand.resultVd m' c := by
  refine Cert.InEvenIdeal.Hand.outVd_eq m c _ fun e R => (Cert.ReferenceInEvenIdeal.Hand.resultVd_at m' c e R).trans ?_
  rw [inEven_row ha, inEven_wts ha]
end

/-- The even layer's attention inputs are what their reference gives. -/
theorem algebraic_inEven : Cert.algebraic_InEvenIdeal_ReferenceInEvenIdeal (hInEvenIdeal := Cert.InEvenIdeal.Gen.facts)
    (hReferenceInEvenIdeal := Cert.ReferenceInEvenIdeal.Gen.facts) := fun m ρ m' ρ' _ ha =>
  ⟨Cert.ReferenceInEvenIdeal.Hand.resultQs m', Cert.ReferenceInEvenIdeal.Hand.resultKs m', Cert.ReferenceInEvenIdeal.Hand.resultWi m', Cert.ReferenceInEvenIdeal.Hand.resultQd m', Cert.ReferenceInEvenIdeal.Hand.resultQi m', Cert.ReferenceInEvenIdeal.Hand.resultKd m', Cert.ReferenceInEvenIdeal.Hand.resultKi m', Cert.ReferenceInEvenIdeal.Hand.resultVs m', Cert.ReferenceInEvenIdeal.Hand.resultVd m',
    (θ_run Cert.InEvenIdeal.defs _ _).mono (fun _ h c => ⟨((h.2.1 c).1 7).trans (inEvenQs (ha c)),
        ((h.2.1 c).1 8).trans (inEvenKs (ha c)),
        ((h.2.1 c).1 9).trans (inEvenWi (ha c)),
        ((h.2.1 c).1 10).trans (inEvenQd (ha c)),
        ((h.2.1 c).1 11).trans (inEvenQi (ha c)),
        ((h.2.1 c).1 12).trans (inEvenKd (ha c)),
        ((h.2.1 c).1 13).trans (inEvenKi (ha c)),
        ((h.2.1 c).1 14).trans (inEvenVs (ha c)),
        ((h.2.1 c).1 15).trans (inEvenVd (ha c)), h.1 c⟩)
      (θ_run_and (Cert.InEvenIdeal.Gen.unchanged (F := Ideal) m ρ) (Cert.InEvenIdeal.Gen.run_main_quiescent (F := Ideal) m ρ)),
    (θ_run Cert.ReferenceInEvenIdeal.defs _ _).mono (fun _ h c => ⟨(h c).1.trans rfl,
        (h c).2.1.trans rfl,
        (h c).2.2.1.trans rfl,
        (h c).2.2.2.1.trans (Cert.ReferenceInEvenIdeal.Hand.resultQd_eq m' c),
        (h c).2.2.2.2.1.trans (Cert.ReferenceInEvenIdeal.Hand.resultQi_eq m' c),
        (h c).2.2.2.2.2.1.trans (Cert.ReferenceInEvenIdeal.Hand.resultKd_eq m' c),
        (h c).2.2.2.2.2.2.1.trans (Cert.ReferenceInEvenIdeal.Hand.resultKi_eq m' c),
        (h c).2.2.2.2.2.2.2.1.trans rfl,
        (h c).2.2.2.2.2.2.2.2.1.trans rfl, (h c).2.2.2.2.2.2.2.2.2⟩)
      (Cert.ReferenceInEvenIdeal.Value.run (F := Ideal) m' ρ')⟩

end Cert.Proof

end
-- ==== Proof.ModRow.lean ====
/-
  The modulation call, read at an index: what the body leaves in its output block, the blocks it reads off the argument
  arrays, the output array, and its reference.
-/
module

public import proofs.«01_k».proof.Proof.Rows
public import proofs.«01_k».proof.Proof.Gen.ModIdeal.Frame
public import proofs.«01_k».proof.Proof.Gen.ReferenceModIdeal.Run
public import Idealize.ShloMosaic.Lib.Pointwise
public import Idealize.ShloMosaic.Lib.Pipeline.ValueKit

@[expose] public section

set_option maxRecDepth 16384

noncomputable section

namespace Cert.ModIdeal.Hand

open Idealize Idealize.ShloMosaic Idealize.ShloMosaic.TcCoe Cert.ModIdeal Cert.ModIdeal.Gen Cert.Post

/-- A conditioning vector times its own logistic. -/
def gated (x : Fin 1024 → EReal) (e : Fin 1024) : EReal := x e * Ideal.logistic (x e)

/-- What the body leaves in its output block. -/
theorem out_row (x0 : Vec Ideal S2x1024 .f32) (x1 : Vec Ideal S1x1024x1536 .bf16) (x2 : Vec Ideal S1x1x1536 .f32) (b : Fin 2) (d : Fin 1536) :
    out0_3 (F := Ideal) x0 x1 x2 (ix3 0 b d)
      = times (gated fun j => x0 (ix2 b j)) (fun e f => x1 (ix3 0 e f)) d + x2 (ix3 0 0 d) := by
  have e : (ix3 0 b d : S1x2x1536.Idx) = r0_3.emb (ix3 0 b d) := by funext a; apply Fin.ext; fin_cases a <;> simp [Rect.emb, r0_3, Rect.unit]
  unfold out0_3
  conv_lhs => rw [e]
  refine (View.canon_cons_emb _ _ _ _).trans ?_
  unfold times gated
  pointwise [k0_pay1]

theorem idxs : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem point_lt (t : Fin cfg0.N) : t.val < 8 := t.isLt

/-- The layer a grid point works for. -/
abbrev layerAt (t : Fin cfg0.N) : Fin 2 := ⟨t.val / 4, by have := point_lt t; omega⟩
/-- The column of the arrays that column `d` of a block is. -/
abbrev colAt (t : Fin cfg0.N) (d : Fin 1536) : Fin 6144 := ⟨1536 * (t.val % 4) + d.val, by omega⟩

section
variable (m : (ℓ : Loc nD τ sig) → Buf (Elt Ideal) ℓ) (c : Dev nD) (t : Fin cfg0.N)

theorem blk0 (b : Fin 2) (j : Fin 1024) :
    iblk (F := Ideal) m c 0 t (ix2 b j) = m ((c.tc : Thread nD τ).loc main_arg0) (ix2 b j) := by
  blk_ext! [iblk, V, idxs t]
theorem blk1 (e : Fin 1024) (d : Fin 1536) :
    iblk (F := Ideal) m c 1 t (ix3 0 e d) = m ((c.tc : Thread nD τ).loc main_arg1) (ix3 (layerAt t) e (colAt t d)) := by
  blk_ext! [iblk, V, idxs t]
theorem blk2 (d : Fin 1536) :
    iblk (F := Ideal) m c 2 t (ix3 0 0 d) = m ((c.tc : Thread nD τ).loc main_arg2) (ix2 (layerAt t) (colAt t d)) := by
  blk_ext! [iblk, V, idxs t]

/-- The modulation of layer `l` for conditioning vector `b`, from the arguments. -/
def modOf (l b : Fin 2) (d : Fin 6144) : EReal :=
  times (gated fun j => m ((c.tc : Thread nD τ).loc main_arg0) (ix2 b j)) (fun e f => m ((c.tc : Thread nD τ).loc main_arg1) (ix3 l e f)) d
    + m ((c.tc : Thread nD τ).loc main_arg2) (ix2 l d)

/-- The body's output block at a grid point. -/
theorem point (b : Fin 2) (d : Fin 1536) :
    (dats (F := Ideal) m 0 c).after 3 t (ix3 0 b d) = modOf m c (layerAt t) b (colAt t d) := by
  rw [after0_3]
  refine (out_row _ _ _ b d).trans ?_
  simp only [blk0, blk1, blk2]
  unfold modOf
  rfl

/-- The output array from its entries. -/
theorem out_eq (G : Buf (Elt Ideal) ((c.tc : Thread nD τ).loc main_v2))
    (h : ∀ (l b : Fin 2) (d : Fin 6144), G (ix3 l b d) = modOf m c l b d) :
    (dats (F := Ideal) m 0 c).arrAt 3 cfg0.N = G := by
  refine (dats m 0 c).arrAt_eq_of_covers 3 _ (by decide +kernel) fun t hf y => ?_
  blk_simp
  obtain ⟨b, d, ey⟩ : ∃ (b : Fin 2) (d : Fin 1536), y = (ix3 0 b d : S1x2x1536.Idx) := by
    refine ⟨y 1, y 2, ?_⟩
    funext a; fin_cases a
    · exact Fin.ext (Nat.lt_one_iff.1 (y 0).isLt)
    · rfl
    · rfl
  rw [ey]
  refine ((point m c t b d).trans (h (layerAt t) b (colAt t d)).symm).trans ?_
  congr 1
  blk_ext [idxs t]

end

end Cert.ModIdeal.Hand

namespace Cert.ReferenceModIdeal.Hand

open Idealize Idealize.ShloMosaic Idealize.ShloMosaic.TcCoe Cert.ReferenceModIdeal Cert.ReferenceModIdeal.Gen Cert.Post Cert.ModIdeal.Hand

/-- The reference's product with the weights, transposed, and the bias added. -/
def added (w : FVec Ideal S2x1024x6144 .f32) (a : FVec Ideal S2x1024 .f32) (v : FVec Ideal S2x6144 .f32) : FVec Ideal S2x2x6144 .f32 :=
  addf (transpose S2x2x6144 [0, 2, 1] (Host.dotGeneral dot_S2x1024x6144_S2x1024_S2x6144x2_1_1_02_0_n_n none w a) transposes_S2x6144x2_S2x2x6144_0_2_1)
    (broadcastInDim S2x2x6144 ![0, 1, 2] bcast_S2x1x6144_S2x2x6144_0_1_2 (broadcastInDim S2x1x6144 ![0, 2] bcast_S2x6144_S2x1x6144_0_2 v))

/-- The reference's activation of the conditioning vectors. -/
def active (x : FVec Ideal S2x1024 .f32) : FVec Ideal S2x1024 .f32 :=
  mulf x (Host.divf (broadcastInDim S2x1024 ![] bcast_S_S2x1024 (constant (F := Ideal) S_ .f32 0x3F800000#32))
    (addf (broadcastInDim S2x1024 ![] bcast_S_S2x1024 (constant (F := Ideal) S_ .f32 0x3F800000#32)) (Host.exp (Host.negf x))))

theorem active_at (x : FVec Ideal S2x1024 .f32) (b : Fin 2) (e : Fin 1024) : active x (ix2 b e) = gated (fun j => x (ix2 b j)) e := by
  unfold gated Ideal.logistic
  pointwise [active]

theorem added_at (w : FVec Ideal S2x1024x6144 .f32) (a : FVec Ideal S2x1024 .f32) (v : FVec Ideal S2x6144 .f32) (l b : Fin 2) (d : Fin 6144) :
    added w a v (ix3 l b d) = times (fun j => a (ix2 b j)) (fun e f => w (ix3 l e f)) d + v (ix2 l d) := by
  have e : added w a v (ix3 l b d) = (∑ j, w (ix3 l j d) * a (ix2 b j) : EReal) + v (ix2 l d) := by
    pointwise [added]
  rw [e]
  unfold times
  exact congrArg (· + _) (Finset.sum_congr rfl fun j _ => mul_comm _ _)

/-- The reference's result at an index. -/
theorem result_at (x : FVec Ideal S2x1024 .f32) (w : FVec Ideal S2x1024x6144 .f32) (v : FVec Ideal S2x6144 .f32) (l b : Fin 2) (d : Fin 6144) :
    added w (active x) v (ix3 l b d) = times (gated fun j => x (ix2 b j)) (fun e f => w (ix3 l e f)) d + v (ix2 l d) := by
  rw [added_at]
  simp only [active_at]

end Cert.ReferenceModIdeal.Hand

end
-- ==== Proof.ModClaim.lean ====
/-
  The claims about the modulation call.
-/
module

public import proofs.«01_k».proof.Defs
public import proofs.«01_k».proof.Proof.ModRow
public import proofs.«01_k».proof.Proof.Gen.Mod.Frame
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The modulation runs without a fault, leaves its arguments as they were and every counter at zero. -/
theorem frame_mod : Cert.quiescent_Mod (hMod := Cert.Mod.Gen.facts) := fun m ρ _ =>
  Cert.Mod.Gen.frame (F := Bits) m ρ

/-- The same of its idealization. -/
theorem frame_modIdeal : Cert.quiescent_ModIdeal (hModIdeal := Cert.ModIdeal.Gen.facts) := fun m ρ _ =>
  Cert.ModIdeal.Gen.frame (F := Ideal) m ρ

/-- The same of its reference, which has no semaphore at all. -/
theorem frame_referenceMod : Cert.quiescent_ReferenceModIdeal (hReferenceModIdeal := Cert.ReferenceModIdeal.Gen.facts) := fun m ρ _ =>
  (θ_run Cert.ReferenceModIdeal.defs _ _).mono
    (fun r h => ⟨fun c => (h c).2, Idealize.ShloMosaic.sem_eq_zero_of_no_sems (by decide) r.2⟩)
    (Cert.ReferenceModIdeal.Value.run (F := Ideal) m ρ)

/-- The reference's array, from the modulation call's arguments. -/
def modTarget (m : (ℓ : Loc Cert.ModIdeal.nD Cert.ModIdeal.τ Cert.ModIdeal.sig) → Buf (Elt Ideal) ℓ) (c : Dev Cert.ModIdeal.nD) :
    Buf (Elt Ideal) ((c.tc : Thread Cert.ModIdeal.nD Cert.ModIdeal.τ).loc Cert.ModIdeal.main_v2) :=
  Cert.ReferenceModIdeal.Hand.added (m ((c.tc : Thread Cert.ModIdeal.nD Cert.ModIdeal.τ).loc Cert.ModIdeal.main_arg1))
    (Cert.ReferenceModIdeal.Hand.active (m ((c.tc : Thread Cert.ModIdeal.nD Cert.ModIdeal.τ).loc Cert.ModIdeal.main_arg0)))
    (m ((c.tc : Thread Cert.ModIdeal.nD Cert.ModIdeal.τ).loc Cert.ModIdeal.main_arg2))

/-- The modulation call leaves that array. -/
theorem output_mod (m : (ℓ : Loc Cert.ModIdeal.nD Cert.ModIdeal.τ Cert.ModIdeal.sig) → Buf (Elt Ideal) ℓ) (c : Dev Cert.ModIdeal.nD) :
    (Cert.ModIdeal.Gen.dats (F := Ideal) m 0 c).arrAt 3 Cert.ModIdeal.cfg0.N = modTarget m c :=
  Cert.ModIdeal.Hand.out_eq m c _ fun l b d => Cert.ReferenceModIdeal.Hand.result_at _ _ _ l b d

/-- The modulation is what its reference gives. -/
theorem algebraic_mod : Cert.algebraic_ModIdeal_ReferenceModIdeal (hModIdeal := Cert.ModIdeal.Gen.facts)
    (hReferenceModIdeal := Cert.ReferenceModIdeal.Gen.facts) := fun m ρ m' ρ' _ ha =>
  ⟨modTarget m,
    (θ_run Cert.ModIdeal.defs _ _).mono (fun _ h c => ⟨((h.2.1 c).1 3).trans (output_mod m c), h.1 c⟩)
      (θ_run_and (Cert.ModIdeal.Gen.unchanged (F := Ideal) m ρ) (Cert.ModIdeal.Gen.run_main_quiescent (F := Ideal) m ρ)),
    (θ_run Cert.ReferenceModIdeal.defs _ _).mono
      (fun _ h c => ⟨(h c).1.trans (by
        obtain ⟨h0, h1, h2⟩ := ha c
        rw [h0, h1, h2]
        rfl), (h c).2⟩)
      (Cert.ReferenceModIdeal.Value.run (F := Ideal) m' ρ')⟩

end Cert.Proof

end
-- ==== Proof.SbPays.lean ====
/-
  The stick-breaking kernel's arithmetic, read at an index. A column of the scores is one head's query: column `C`
  is row `C % 256` of the query block for head `C / 256`.
-/
module

public import proofs.«01_k».proof.Proof.Online
public import proofs.«01_k».proof.Proof.Gen.SbIdeal.Skeleton
public import Idealize.ShloMosaic.Lib.Pointwise
public import Idealize.ShloMosaic.Lib.WordCmp
public import Idealize.ShloMosaic.PureOps.IdealRules

@[expose] public section

set_option maxRecDepth 16384

noncomputable section

namespace Cert.SbIdeal.Hand

open Idealize Idealize.ShloMosaic Cert.SbIdeal Cert.SbIdeal.Gen

theorem floor_top : Named.named (F := Ideal) (φ := .f32) κ "floor" 0x42D20000#32 = (⊤ : EReal) :=
  IdealRules.named_const.ideal_named_scalar κ "floor" _ _ rfl

theorem rate_eq : Named.named (F := Ideal) (φ := .f32) κ "rate" 0xBFB8AA3B#32 = ((-((Real.log 2)⁻¹) : ℝ) : EReal) :=
  IdealRules.named_const.ideal_named_scalar κ "rate" _ _ rfl

theorem one_bits : Ideal.ofBits .f32 0x3F800000#32 = (1 : EReal) := by
  simp [Ideal.ofBits, Ideal.ieee]
  rw [← EReal.coe_mul, ← EReal.coe_one, EReal.coe_eq_coe_iff]
  norm_num

/-- Softplus, as the kernel and the reference both compute it. -/
def soft (z : EReal) : EReal := max z 0 + Ideal.log (1 + Ideal.exp (-(max z (-z))))

theorem exp_bot : Ideal.exp (⊥ : EReal) = 0 := rfl

theorem log_one_add (r : ℝ) : Ideal.log (1 + ((Real.exp r : ℝ) : EReal)) = ((Real.log (1 + Real.exp r) : ℝ) : EReal) := by
  have e : (1 + ((Real.exp r : ℝ) : EReal)) = ((1 + Real.exp r : ℝ) : EReal) := by push_cast; rfl
  rw [e]
  show (if 1 + Real.exp r ≤ 0 then (⊥ : EReal) else ((Real.log (1 + Real.exp r) : ℝ) : EReal)) = _
  rw [if_neg (by have := Real.exp_pos r; linarith)]

theorem log_one : Ideal.log (1 + 0) = 0 := by
  rw [add_zero]
  show (if (1 : ℝ) ≤ 0 then (⊥ : EReal) else ((Real.log 1 : ℝ) : EReal)) = 0
  rw [if_neg (by norm_num), Real.log_one]; rfl

theorem abs_coe (z : ℝ) : max (z : EReal) (-(z : EReal)) = ((|z| : ℝ) : EReal) := by
  rw [← EReal.coe_neg]
  exact (EReal.coe_strictMono.monotone.map_max (a := z) (b := -z)).symm

theorem soft_coe (z : ℝ) : soft (z : EReal) = ((max z 0 + Real.log (1 + Real.exp (-|z|)) : ℝ) : EReal) := by
  have e : Ideal.exp (-((|z| : ℝ) : EReal)) = ((Real.exp (-|z|) : ℝ) : EReal) := rfl
  rw [soft, abs_coe, e, log_one_add, EReal.coe_add, EReal.coe_strictMono.monotone.map_max (a := z) (b := 0)]
  rfl

theorem soft_top : soft ⊤ = ⊤ := by
  rw [soft, EReal.neg_top, max_eq_left bot_le, max_eq_left le_top, EReal.neg_top, exp_bot, log_one, add_zero]

theorem soft_bot : soft ⊥ = 0 := by
  rw [soft, EReal.neg_bot, max_eq_right bot_le, max_eq_right le_top, EReal.neg_top, exp_bot, log_one, add_zero]

theorem soft_nonneg (z : EReal) : 0 ≤ soft z := by
  induction z using EReal.rec with
  | bot => rw [soft_bot]
  | top => rw [soft_top]; exact le_top
  | coe z =>
    rw [soft_coe]
    refine EReal.coe_nonneg.2 (add_nonneg (le_max_right _ _) (Real.log_nonneg ?_))
    have := Real.exp_pos (-|z|)
    linarith

theorem exp2_rate (z : ℝ) : Ideal.exp2 (((z : ℝ) : EReal) * ((-((Real.log 2)⁻¹) : ℝ) : EReal)) = Ideal.exp (-(z : EReal)) := by
  rw [← EReal.coe_mul]
  show ((Real.rpow 2 (z * -((Real.log 2)⁻¹)) : ℝ) : EReal) = ((Real.exp (-z) : ℝ) : EReal)
  congr 1
  show (2 : ℝ) ^ (z * -((Real.log 2)⁻¹)) = _
  rw [Real.rpow_def_of_pos (by norm_num)]
  congr 1
  have : Real.log 2 ≠ 0 := (Real.log_pos (by norm_num)).ne'
  field_simp

theorem exp2_rate_top : Ideal.exp2 ((⊤ : EReal) * ((-((Real.log 2)⁻¹) : ℝ) : EReal)) = Ideal.exp (-⊤) := by
  have : 0 < Real.log 2 := Real.log_pos (by norm_num)
  rw [EReal.top_mul_coe_of_neg (by rw [neg_lt_zero]; positivity), EReal.neg_top]
  rfl

/-- The kernel's softplus. -/
theorem soft_kernel (z : EReal) :
    max z 0 + Ideal.log (1 + Ideal.exp2 (max z (-z) * ((-((Real.log 2)⁻¹) : ℝ) : EReal))) = soft z := by
  have e : Ideal.exp2 (max z (-z) * ((-((Real.log 2)⁻¹) : ℝ) : EReal)) = Ideal.exp (-(max z (-z))) := by
    induction z using EReal.rec with
    | bot => rw [EReal.neg_bot, max_eq_right le_top, exp2_rate_top]
    | top => rw [max_eq_left le_top, exp2_rate_top]
    | coe z => rw [abs_coe, exp2_rate]
  rw [e, soft]

theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb, WordCmp.select_ofBool]; simp only [decide_eq_true_eq]

theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb, WordCmp.select_ofBool]; simp only [decide_eq_true_eq]

/-- The part of a concatenation of four parts of 512 columns that a column falls in. -/
theorem four {α : Type} (n : ℕ) (hn : n < 2048) (f : Fin 4 → Fin 512 → α) :
    (if h : n < 512 then f 0 ⟨n, h⟩ else if h1 : n - 512 < 512 then f 1 ⟨n - 512, h1⟩
      else if h2 : n - 512 - 512 < 512 then f 2 ⟨n - 512 - 512, h2⟩ else f 3 ⟨n - 512 - 512 - 512, by omega⟩)
      = f ⟨n / 512, by omega⟩ ⟨n % 512, by omega⟩ := by
  by_cases h : n < 512
  · rw [dif_pos h]
    exact congrArg₂ f (Fin.ext (by show 0 = n / 512; omega)) (Fin.ext (by show n = n % 512; omega))
  rw [dif_neg h]
  by_cases h1 : n - 512 < 512
  · rw [dif_pos h1]
    exact congrArg₂ f (Fin.ext (by show 1 = n / 512; omega)) (Fin.ext (by show n - 512 = n % 512; omega))
  rw [dif_neg h1]
  by_cases h2 : n - 512 - 512 < 512
  · rw [dif_pos h2]
    exact congrArg₂ f (Fin.ext (by show 2 = n / 512; omega)) (Fin.ext (by show n - 512 - 512 = n % 512; omega))
  · rw [dif_neg h2]
    exact congrArg₂ f (Fin.ext (by show 3 = n / 512; omega)) (Fin.ext (by show n - 512 - 512 - 512 = n % 512; omega))

/-- The rows a pair of heads' query operand takes from the block: the first 256 for one head, the next for the other. -/
theorem two {α : Type} (x : Fin 512) (d : Fin 128) (q : Fin 256 → α) (z : α) :
    (if h : x.val < 256 then Scalar.select (IntOp.cmpi .slt (BitVec.ofNat 32 d.val) 64#32) (q ⟨x.val, h⟩) z
      else Scalar.select (IntOp.cmpi .sge (BitVec.ofNat 32 d.val) 64#32) (q ⟨x.val - 256, by omega⟩) z)
      = if d.val / 64 = x.val / 256 then q ⟨x.val % 256, by omega⟩ else z := by
  by_cases h : x.val < 256
  · rw [dif_pos h]
    refine (select_slt _ 64 (by omega) (by omega) _ _).trans ?_
    have e : (⟨x.val, h⟩ : Fin 256) = ⟨x.val % 256, by omega⟩ := Fin.ext (Nat.mod_eq_of_lt h).symm
    rw [e]
    exact if_congr (by omega) rfl rfl
  · rw [dif_neg h]
    refine (select_sge _ 64 (by omega) (by omega) _ _).trans ?_
    have e : (⟨x.val - 256, by omega⟩ : Fin 256) = ⟨x.val % 256, by omega⟩ := Fin.ext (by show x.val - 256 = x.val % 256; omega)
    rw [e]
    exact if_congr (by omega) rfl rfl

theorem pay6_apply (s : FVec Ideal S1x2048 .f32) (z t : FVec Ideal S256x2048 .f32) (C : Fin 2048) :
    k0_pay6 s z t (ix2 0 C) = s (ix2 0 C) + t (ix2 0 C) + z (ix2 0 C) := by
  pointwise [k0_pay6]

theorem pay18_apply (j i : Fin 256) : k0_pay18 (F := Ideal) (ix2 j i) = if j.val < i.val then 1 else 0 := by
  pointwise [k0_pay18]
  rw [WordCmp.cmpi_sgt_ofNat (by omega) (by omega)]
  by_cases h : j.val < i.val
  · rw [if_pos h, decide_eq_true h]
    have e : (BitVec.setWidth 32 (BitVec.ofBool true)).toInt = 1 := by decide
    show (((BitVec.setWidth 32 (BitVec.ofBool true)).toInt : ℝ) : EReal) = 1
    rw [e]; simp
  · rw [if_neg h, decide_eq_false h]
    have e : (BitVec.setWidth 32 (BitVec.ofBool false)).toInt = 0 := by decide
    show (((BitVec.setWidth 32 (BitVec.ofBool false)).toInt : ℝ) : EReal) = 0
    rw [e]; simp

/-- The pair of heads of a column, and the row of the pair's query operand. -/
def pr (C : Fin 2048) : Fin 4 := ⟨C.val / 512, by omega⟩
def rw' (C : Fin 2048) : Fin 512 := ⟨C.val % 512, by omega⟩

theorem pay29_apply (q0 q1 q2 q3 : FVec Ideal S512x128 .bf16) (k0 k1 k2 k3 : FVec Ideal S1x256x128 .bf16) (j : Fin 256) (C : Fin 2048) :
    k0_pay29 q0 q1 q2 q3 k0 k1 k2 k3 (ix2 j C)
      = ∑ d : Fin 128, (![k0, k1, k2, k3] (pr C)) (ix3 0 j d) * (![q0, q1, q2, q3] (pr C)) (ix2 (rw' C) d) := by
  pointwise [k0_pay29]
  exact four C.val C.isLt fun g x => ∑ d : Fin 128, (![k0, k1, k2, k3] g) (ix3 0 j d) * (![q0, q1, q2, q3] g) (ix2 x d)

theorem pay30_apply (q0 q1 q2 q3 : FVec Ideal S512x128 .bf16) (k0 k1 k2 k3 : FVec Ideal S1x256x128 .bf16) (j : Fin 256) (C : Fin 2048)
    (z : EReal) (hz : k0_pay29 q0 q1 q2 q3 k0 k1 k2 k3 (ix2 j C) = z) : k0_pay30 q0 q1 q2 q3 k0 k1 k2 k3 (ix2 j C) = soft z := by
  rw [← soft_kernel, ← hz, ← rate_eq]
  pointwise [k0_pay30]
  rfl

theorem pay31_apply (q0 q1 q2 q3 : FVec Ideal S512x128 .bf16) (l : FVec Ideal S256x256 .bf16) (k0 k1 k2 k3 : FVec Ideal S1x256x128 .bf16) (j : Fin 256) (C : Fin 2048) :
    k0_pay31 q0 q1 q2 q3 l k0 k1 k2 k3 (ix2 j C) = ∑ i : Fin 256, l (ix2 j i) * k0_pay30 q0 q1 q2 q3 k0 k1 k2 k3 (ix2 i C) := by
  pointwise [k0_pay31]

theorem pay32_apply (q0 q1 q2 q3 : FVec Ideal S512x128 .bf16) (l : FVec Ideal S256x256 .bf16) (s : FVec Ideal S1x2048 .f32)
    (k0 k1 k2 k3 : FVec Ideal S1x256x128 .bf16) (j : Fin 256) (C : Fin 2048) :
    k0_pay32 q0 q1 q2 q3 l s k0 k1 k2 k3 (ix2 j C)
      = Ideal.exp (k0_pay29 q0 q1 q2 q3 k0 k1 k2 k3 (ix2 j C) - k0_pay30 q0 q1 q2 q3 k0 k1 k2 k3 (ix2 j C)
        - k0_pay31 q0 q1 q2 q3 l k0 k1 k2 k3 (ix2 j C) - s (ix2 0 C)) := by
  pointwise [k0_pay32]

theorem pay33_apply (v : FVec Ideal S1x128x256 .bf16) (e : Fin 128) (j : Fin 256) : k0_pay33 v (ix2 e j) = v (ix3 0 e j) := by
  pointwise [k0_pay33]

/-- The part of a concatenation whose columns are taken at their old place. -/
theorem four' {α : Type} (C : Fin 2048) (f : Fin 4 → Fin 2048 → α) :
    (if h : C.val < 512 then f 0 C else if h1 : C.val - 512 < 512 then f 1 ⟨512 + (C.val - 512), by omega⟩
      else if h2 : C.val - 512 - 512 < 512 then f 2 ⟨1024 + (C.val - 512 - 512), by omega⟩ else f 3 ⟨1536 + (C.val - 512 - 512 - 512), by omega⟩)
      = f (pr C) C := by
  have e : C.val < 2048 := C.isLt
  by_cases h : C.val < 512
  · rw [dif_pos h]
    exact congrArg₂ f (Fin.ext (by show 0 = C.val / 512; omega)) rfl
  rw [dif_neg h]
  by_cases h1 : C.val - 512 < 512
  · rw [dif_pos h1]
    exact congrArg₂ f (Fin.ext (by show 1 = C.val / 512; omega)) (Fin.ext (by show 512 + (C.val - 512) = C.val; omega))
  rw [dif_neg h1]
  by_cases h2 : C.val - 512 - 512 < 512
  · rw [dif_pos h2]
    exact congrArg₂ f (Fin.ext (by show 2 = C.val / 512; omega)) (Fin.ext (by show 1024 + (C.val - 512 - 512) = C.val; omega))
  · rw [dif_neg h2]
    exact congrArg₂ f (Fin.ext (by show 3 = C.val / 512; omega)) (Fin.ext (by show 1536 + (C.val - 512 - 512 - 512) = C.val; omega))

theorem pay7_apply (a : FVec Ideal S128x2048 .f32) (w : FVec Ideal S256x2048 .bf16) (v0 v1 v2 v3 : FVec Ideal S1x128x256 .bf16)
    (e : Fin 128) (C : Fin 2048) :
    k0_pay7 a w (k0_pay33 v0) v1 v2 v3 (ix2 e C)
      = a (ix2 e C) + ∑ j : Fin 256, (![v0, v1, v2, v3] (pr C)) (ix3 0 e j) * w (ix2 j C) := by
  pointwise [k0_pay7, k0_pay33]
  refine congrArg (a (ix2 e C) + ·) ?_
  exact four' C fun g c => ∑ j : Fin 256, (![v0, v1, v2, v3] g) (ix3 0 e j) * w (ix2 j c)

theorem pay11_apply (q : FVec Ideal S1x256x128 .bf16) (x : Fin 512) (d : Fin 128) :
    k0_pay11 q (ix2 x d) = if d.val / 64 = x.val / 256 then q (ix3 0 ⟨x.val % 256, by omega⟩ d) else 0 := by
  pointwise [k0_pay11, k0_pay9, k0_pay10]
  exact two x d (fun r => q (ix3 0 r d)) 0

theorem pay12_apply (q : FVec Ideal S1x256x128 .bf16) (x : Fin 512) (d : Fin 128) :
    k0_pay12 q (ix2 x d) = if d.val / 64 = x.val / 256 then q (ix3 0 ⟨x.val % 256, by omega⟩ d) else 0 := by
  pointwise [k0_pay12, k0_pay9, k0_pay10]
  exact two x d (fun r => q (ix3 0 r d)) 0

theorem pay13_apply (q : FVec Ideal S1x256x128 .bf16) (x : Fin 512) (d : Fin 128) :
    k0_pay13 q (ix2 x d) = if d.val / 64 = x.val / 256 then q (ix3 0 ⟨x.val % 256, by omega⟩ d) else 0 := by
  pointwise [k0_pay13, k0_pay9, k0_pay10]
  exact two x d (fun r => q (ix3 0 r d)) 0

theorem pay17_apply (q : FVec Ideal S1x256x128 .bf16) (x : Fin 512) (d : Fin 128) :
    k0_pay17 k0_pay10 (k0_pay14 q) k0_pay15 k0_pay16 (ix2 x d)
      = if d.val / 64 = x.val / 256 then q (ix3 0 ⟨x.val % 256, by omega⟩ d) else 0 := by
  pointwise [k0_pay17, k0_pay16, k0_pay15, k0_pay14, k0_pay9, k0_pay10]
  exact two x d (fun r => q (ix3 0 r d)) 0

theorem eight {α : Type} (n : ℕ) (hn : n < 2048) (f : ℕ → α) :
    (if h : n < 256 then f n else if h : n - 256 < 256 then f (n - 256) else if h : n - 256 - 256 < 256 then f (n - 256 - 256)
      else if h : n - 256 - 256 - 256 < 256 then f (n - 256 - 256 - 256)
      else if h : n - 256 - 256 - 256 - 256 < 256 then f (n - 256 - 256 - 256 - 256)
      else if h : n - 256 - 256 - 256 - 256 - 256 < 256 then f (n - 256 - 256 - 256 - 256 - 256)
      else if h : n - 256 - 256 - 256 - 256 - 256 - 256 < 256 then f (n - 256 - 256 - 256 - 256 - 256 - 256)
      else f (n - 256 - 256 - 256 - 256 - 256 - 256 - 256)) = f (n % 256) := by
  split_ifs <;> (congr 1; omega)

theorem pay24_apply (j : Fin 256) (C : Fin 2048) :
    k0_pay24 (ix2 j C) = BitVec.ofBool (decide (j.val < C.val % 256)) := by
  pointwise [k0_pay24]
  rw [← WordCmp.cmpi_slt_ofNat (w := 32) (a := j.val) (b := C.val % 256) (by omega) (by omega)]
  exact eight C.val C.isLt fun n => IntOp.cmpi .slt (BitVec.ofNat 32 j.val) (BitVec.ofNat 32 n)

/-- The rows of the output's strip, back in the accumulated values of their pair of heads. -/
theorem strip {α : Type} (r : Fin 256) (e : Fin 128) (n : ℕ) (hn : n + 512 ≤ 2048) (f : Fin 128 → Fin 2048 → α) :
    (if h : e.val < 64 then f e ⟨n + r.val, by omega⟩ else f ⟨64 + (e.val - 64), by omega⟩ ⟨n + 256 + r.val, by omega⟩)
      = f e ⟨n + (e.val / 64 * 256 + r.val), by omega⟩ := by
  have he : e.val < 128 := e.isLt
  by_cases h : e.val < 64
  · rw [dif_pos h]
    exact congrArg₂ f rfl (Fin.ext (by show n + r.val = n + (e.val / 64 * 256 + r.val); omega))
  · rw [dif_neg h]
    exact congrArg₂ f (Fin.ext (by show 64 + (e.val - 64) = e.val; omega)) (Fin.ext (by show n + 256 + r.val = n + (e.val / 64 * 256 + r.val); omega))

theorem pay2_apply (a : FVec Ideal S128x2048 .f32) (r : Fin 256) (e : Fin 128) :
    k0_pay2 a (ix3 0 r e) = a (ix2 e ⟨0 + (e.val / 64 * 256 + r.val), by omega⟩) := by
  rw [← strip r e 0 (by omega) fun e c => a (ix2 e c)]
  pointwise [k0_pay2]

theorem pay3_apply (a : FVec Ideal S128x2048 .f32) (r : Fin 256) (e : Fin 128) :
    k0_pay3 a (ix3 0 r e) = a (ix2 e ⟨512 + (e.val / 64 * 256 + r.val), by omega⟩) := by
  rw [← strip r e 512 (by omega) fun e c => a (ix2 e c)]
  pointwise [k0_pay3]

theorem pay4_apply (a : FVec Ideal S128x2048 .f32) (r : Fin 256) (e : Fin 128) :
    k0_pay4 a (ix3 0 r e) = a (ix2 e ⟨1024 + (e.val / 64 * 256 + r.val), by omega⟩) := by
  rw [← strip r e 1024 (by omega) fun e c => a (ix2 e c)]
  pointwise [k0_pay4]

theorem pay5_apply (a : FVec Ideal S128x2048 .f32) (r : Fin 256) (e : Fin 128) :
    k0_pay5 a (ix3 0 r e) = a (ix2 e ⟨1536 + (e.val / 64 * 256 + r.val), by omega⟩) := by
  rw [← strip r e 1536 (by omega) fun e c => a (ix2 e c)]
  pointwise [k0_pay5]

section
variable (q0 q1 q2 : FVec Ideal S512x128 .bf16) (q3 : FVec Ideal S1x256x128 .bf16) (k0 k1 k2 k3 : FVec Ideal S1x256x128 .bf16)

/-- The diagonal block's logits are the other blocks'. -/
theorem pay21_eq : k0_pay21 k0_pay10 q0 q1 q2 (k0_pay14 q3) k0_pay15 k0_pay16 k0 k1 k2 k3
    = k0_pay29 q0 q1 q2 (k0_pay17 k0_pay10 (k0_pay14 q3) k0_pay15 k0_pay16) k0 k1 k2 k3 := rfl

/-- So are the two parts of their softplus. -/
theorem pay30_eq (x : S256x2048.Idx) : k0_pay30 q0 q1 q2 (k0_pay17 k0_pay10 (k0_pay14 q3) k0_pay15 k0_pay16) k0 k1 k2 k3 x
    = (k0_pay22 k0_pay10 q0 q1 q2 (k0_pay14 q3) k0_pay15 k0_pay16 k0 k1 k2 k3 x
      + k0_pay23 k0_pay10 q0 q1 q2 (k0_pay14 q3) k0_pay15 k0_pay16 k0 k1 k2 k3 x : EReal) := rfl

end

section
variable (l : FVec Ideal S256x256 .bf16) (s : FVec Ideal S1x2048 .f32) (z a b : FVec Ideal S256x2048 .f32)

theorem pay25_apply (j : Fin 256) (C : Fin 2048) :
    k0_pay25 a b (ix2 j C) = if j.val < C.val % 256 then a (ix2 j C) + b (ix2 j C) else 0 := by
  pointwise [k0_pay25]
  rw [pay24_apply, WordCmp.select_ofBool]
  simp only [decide_eq_true_eq]

theorem pay26_apply (j : Fin 256) (C : Fin 2048) :
    k0_pay26 l a b (ix2 j C) = ∑ i : Fin 256, l (ix2 j i) * k0_pay25 a b (ix2 i C) := by
  pointwise [k0_pay26]

theorem pay27_apply (C : Fin 2048) :
    k0_pay27 l s a b (ix2 0 C) = s (ix2 0 C) + k0_pay26 l a b (ix2 0 C) + k0_pay25 a b (ix2 0 C) := by
  pointwise [k0_pay27]

/-- The diagonal block's weights. -/
def diagW : FVec Ideal S256x2048 .bf16 :=
  truncf .bf16 (select k0_pay24 (exp (subf (subf (subf z (k0_pay25 a b)) (k0_pay26 l a b)) (broadcastTo S256x2048 s broadcasts_S1x2048_S256x2048)))
    (broadcast S256x2048 (Scalar.ofBits .f32 0x00000000#32))) bitsLt_bf16_f32

theorem diagW_apply (j : Fin 256) (C : Fin 2048) :
    diagW l s z a b (ix2 j C) = if j.val < C.val % 256 then
      Ideal.exp (z (ix2 j C) - k0_pay25 a b (ix2 j C) - k0_pay26 l a b (ix2 j C) - s (ix2 0 C)) else 0 := by
  pointwise [diagW]
  rw [pay24_apply, WordCmp.select_ofBool]
  simp only [decide_eq_true_eq]

theorem pay28_eq (u : FVec Ideal S128x2048 .f32) (v0 v1 v2 v3 : FVec Ideal S1x128x256 .bf16) :
    k0_pay28 l s u z a b v0 v1 v2 v3 = k0_pay7 u (diagW l s z a b) (k0_pay33 v0) v1 v2 v3 := rfl

end

theorem pay19_apply (C : Fin 2048) : k0_pay19 (F := Ideal) (ix2 0 C) = 0 := by
  pointwise [k0_pay19]

theorem pay20_apply (e : Fin 128) (C : Fin 2048) : k0_pay20 (F := Ideal) (ix2 e C) = 0 := by
  pointwise [k0_pay20]

end Cert.SbIdeal.Hand
-- ==== Proof.SbRunI.lean ====
/-
  The body of the stick-breaking kernel at one grid point. The loop over the earlier key blocks is answered by a
  specification at the number of blocks still to visit, met by induction on that number; what it returns is the
  function `walk`, one `visit` per block for as long as the loop's test passes.
-/
module

public import proofs.«01_k».proof.Proof.Gen.SbIdeal.Launch
public import proofs.«01_k».proof.Proof.Gen.SbIdeal.Points
public import proofs.«01_k».proof.Proof.Gen.SbIdeal.Skeleton
public import Idealize.ShloMosaic.Lib.Pipeline.Frame
public import Idealize.ShloMosaic.Lib.Pipeline.FrameBody
public import Idealize.ShloMosaic.Lib.Pipeline.Sound
public import Idealize.ShloMosaic.Lib.Ring
public import Idealize.ShloMosaic.Lib.WordCmp
public import Idealize.ShloMosaic.Lib.Tactic

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The memref `M`'s buffer on core `c` held whole at the contents `f`. -/
abbrev held (c : Dev nD) {sp : Space} {S : Shape} {e : EltTy} (M : Memref sig .tc sp S e)
    (f : BufTy.Contents (Elt F) M.view.ty) : sProp 𝕄 :=
  M.view.loc (c : Thread nD τ) ↦[M.view.set]{fullShare} f

/-- The number of the next key block when `k` are still to visit. -/
def ctr (k : ℕ) : BitVec 32 := Scalar.subi (BitVec.ofNat 32 k) 1#32

theorem ctr_zero : ¬ Scalar.cmpi .sge (ctr 0) 0#32 = 1#1 := by decide
theorem ctr_pos : ∀ k < 64, Scalar.cmpi .sge (ctr (k + 1)) 0#32 = 1#1 := by decide
theorem ctr_succ : ∀ k < 64, Scalar.subi (ctr (k + 1)) 1#32 = ctr k := by decide
theorem ctr_chk : ∀ k < 64, k0_chk1 (ctr (k + 1)) := by decide

/-- The loop's state: the next block's number, the least running sum, the running sums, the accumulated values. -/
abbrev St (F : FTy → Type) := BitVec 32 × F .f32 × FVec F S1x2048 .f32 × FVec F S128x2048 .f32

section
variable (c : Dev nD) (i : grid0.Coords) (arg4 : Memref sig .tc .vmem S1x16384x512 .bf16) (harg4 : arg4.IsWhole)
  (arg5 : Memref sig .tc .vmem S4x128x16384 .bf16) (harg5 : arg5.IsWhole)
  (X4 : BufTy.Contents (Elt F) arg4.view.ty) (X5 : BufTy.Contents (Elt F) arg5.view.ty)
  (v14 v24 v34 v44 : FVec F S512x128 .bf16) (v50 : FVec F S256x256 .bf16)

/-- One key block's rows, of one pair of heads. -/
abbrev keyAt (off : Fin 3 → Nat) (h : ∀ a, off a + S1x256x128.size a ≤ S1x16384x512.size a) : Vec F S1x256x128 .bf16 :=
  arg4.view.readAt (Elt F) (Rect.unit (s := S1x16384x512) off S1x256x128.size h).toLoadRect X4
/-- One key block's values, of one pair of heads. -/
abbrev valAt (off : Fin 3 → Nat) (h : ∀ a, off a + S1x128x256.size a ≤ S4x128x16384.size a) : Vec F S1x128x256 .bf16 :=
  arg5.view.readAt (Elt F) (Rect.unit (s := S4x128x16384) off S1x128x256.size h).toLoadRect X5

/-- One block's softplus sums over the later keys of the block, and -/
def visZ (w : BitVec 32) (h : k0_chk1 w) : FVec F S256x2048 .f32 :=
  k0_pay30 v14 v24 v34 v44 (keyAt arg4 X4 (k0_off9 w) (k0_off9_inb w h)) (keyAt arg4 X4 (k0_off10 w) (k0_off10_inb w h))
    (keyAt arg4 X4 (k0_off11 w) (k0_off11_inb w h)) (keyAt arg4 X4 (k0_off12 w) (k0_off12_inb w h))
def visT (w : BitVec 32) (h : k0_chk1 w) : FVec F S256x2048 .f32 :=
  k0_pay31 v14 v24 v34 v44 v50 (keyAt arg4 X4 (k0_off9 w) (k0_off9_inb w h)) (keyAt arg4 X4 (k0_off10 w) (k0_off10_inb w h))
    (keyAt arg4 X4 (k0_off11 w) (k0_off11_inb w h)) (keyAt arg4 X4 (k0_off12 w) (k0_off12_inb w h))
def visW (w : BitVec 32) (h : k0_chk1 w) (s : FVec F S1x2048 .f32) : FVec F S256x2048 .bf16 :=
  k0_pay32 v14 v24 v34 v44 v50 s (keyAt arg4 X4 (k0_off9 w) (k0_off9_inb w h)) (keyAt arg4 X4 (k0_off10 w) (k0_off10_inb w h))
    (keyAt arg4 X4 (k0_off11 w) (k0_off11_inb w h)) (keyAt arg4 X4 (k0_off12 w) (k0_off12_inb w h))

/-- The state after block `w`. -/
def visit (w : BitVec 32) (h : k0_chk1 w) (s : FVec F S1x2048 .f32) (a : FVec F S128x2048 .f32) :
    F .f32 × FVec F S1x2048 .f32 × FVec F S128x2048 .f32 :=
  (k0_pay8 s (visZ arg4 X4 v14 v24 v34 v44 w h) (visT arg4 X4 v14 v24 v34 v44 v50 w h),
   k0_pay6 s (visZ arg4 X4 v14 v24 v34 v44 w h) (visT arg4 X4 v14 v24 v34 v44 v50 w h),
   k0_pay7 a (visW arg4 X4 v14 v24 v34 v44 v50 w h s) (k0_pay33 (valAt arg5 X5 (k0_off13 w) (k0_off13_inb w h)))
     (valAt arg5 X5 (k0_off14 w) (k0_off14_inb w h)) (valAt arg5 X5 (k0_off15 w) (k0_off15_inb w h))
     (valAt arg5 X5 (k0_off16 w) (k0_off16_inb w h)))

/-- The loop with `k` blocks to visit. -/
def walk : ∀ k : ℕ, k ≤ 64 → F .f32 → FVec F S1x2048 .f32 → FVec F S128x2048 .f32 → St F
  | 0, _, m, s, a => (ctr 0, m, s, a)
  | k + 1, h, m, s, a =>
    if Scalar.cmpf .ole m (Named.named κ "floor" 0x42D20000#32) = 1#1 then
      walk k (by omega) (visit arg4 arg5 X4 X5 v14 v24 v34 v44 v50 (ctr (k + 1)) (ctr_chk k h) s a).1
        (visit arg4 arg5 X4 X5 v14 v24 v34 v44 v50 (ctr (k + 1)) (ctr_chk k h) s a).2.1
        (visit arg4 arg5 X4 X5 v14 v24 v34 v44 v50 (ctr (k + 1)) (ctr_chk k h) s a).2.2
    else (ctr (k + 1), m, s, a)

/-- The loop's specification: it reads the keys and the values, leaves them, and returns `r`. -/
def spec (r : St F) : sWPT 𝕄 (St F) := do
  sWPT.consume iprop(held c arg4 X4 ∗ held c arg5 X5)
  sWPT.produce iprop(held c arg4 X4 ∗ held c arg5 X5)
  pure r

theorem spec_apply (r : St F) (K : St F → sProp 𝕄) :
    spec c arg4 arg5 X4 X5 r K
      = iprop((held c arg4 X4 ∗ held c arg5 X5) ∗ ((held c arg4 X4 ∗ held c arg5 X5) -∗ K r)) := rfl

set_option maxHeartbeats 4000000 in
/-- The loop meets it. -/
theorem spec_le (E : Set ℕ) : ∀ (k : ℕ) (hk : k ≤ 64) (m : F .f32) (s : FVec F S1x2048 .f32) (a : FVec F S128x2048 .f32)
    (K : St F → sProp 𝕄), spec c arg4 arg5 X4 X5 (walk arg4 arg5 X4 X5 v14 v24 v34 v44 v50 k hk m s a) K
      ⊢ wp frame (wpE (defs₀ (F := F)) Variants.nat (c : Thread nD τ) (some k)) E
          (defs₀ (F := F) .tc 1 ⟨i, arg4, harg4, v14, v24, v34, v44, v50, arg5, harg5, ctr k, m, s, a⟩) K := by
  intro k
  induction k with
  | zero =>
    intro hk m s a K
    rw [spec_apply]
    show _ ⊢ wp frame (wpE (defs₀ (F := F)) Variants.nat (c : Thread nD τ) (some 0)) E
      (cc0_while1 i arg4 harg4 v14 v24 v34 v44 v50 arg5 harg5 (ctr 0) m s a) K
    simp only [cc0_while1_eq_skeleton]; unfold cc0_while1_skel
    have ht : ∀ b : BitVec 1, ¬ Scalar.andi (Scalar.cmpi .sge (ctr 0) 0#32) b = 1#1 := by decide
    simp only [ht, ↓reduceIte, Prog.pure_eq_ret]
    iintro ⟨⟨H4, H5⟩, Hk⟩
    rw [wp_ret, walk]; imodintro
    iapply Hk
    isplitl [H4]; · iexact H4
    iexact H5
  | succ k ih =>
    intro hk m s a K
    rw [spec_apply]
    show _ ⊢ wp frame (wpE (defs₀ (F := F)) Variants.nat (c : Thread nD τ) (some (k + 1))) E
      (cc0_while1 i arg4 harg4 v14 v24 v34 v44 v50 arg5 harg5 (ctr (k + 1)) m s a) K
    simp only [cc0_while1_eq_skeleton]; unfold cc0_while1_skel
    by_cases hm : Scalar.cmpf .ole m (Named.named κ "floor" 0x42D20000#32) = 1#1
    · have ht : Scalar.andi (Scalar.cmpi .sge (ctr (k + 1)) 0#32) (Scalar.cmpf .ole m (Named.named κ "floor" 0x42D20000#32)) = 1#1 := by
        rw [hm, ctr_pos k hk]; decide
      simp only [ht, ↓reduceIte, k0_part4_eq_skeleton]; unfold k0_part4_skel
      simp only [Prog.lift, Prog.bind_op, Prog.bind_ret, Prog.pure_eq_ret, ctr_succ k hk]
      iintro ⟨⟨H4, H5⟩, Hk⟩
      iapply (wp_assume Variants.nat (c : Thread nD τ) (some (k + 1)) E (ctr_chk k hk))
      iapply (wp_load Variants.nat (c : Thread nD τ) (some (k + 1)) E (m := arg4) (View.setOn_subset_set _ _)) $$ H4; iintro H4
      iapply (wp_load Variants.nat (c : Thread nD τ) (some (k + 1)) E (m := arg4) (View.setOn_subset_set _ _)) $$ H4; iintro H4
      iapply (wp_load Variants.nat (c : Thread nD τ) (some (k + 1)) E (m := arg4) (View.setOn_subset_set _ _)) $$ H4; iintro H4
      iapply (wp_load Variants.nat (c : Thread nD τ) (some (k + 1)) E (m := arg4) (View.setOn_subset_set _ _)) $$ H4; iintro H4
      iapply (wp_load Variants.nat (c : Thread nD τ) (some (k + 1)) E (m := arg5) (View.setOn_subset_set _ _)) $$ H5; iintro H5
      iapply (wp_load Variants.nat (c : Thread nD τ) (some (k + 1)) E (m := arg5) (View.setOn_subset_set _ _)) $$ H5; iintro H5
      iapply (wp_load Variants.nat (c : Thread nD τ) (some (k + 1)) E (m := arg5) (View.setOn_subset_set _ _)) $$ H5; iintro H5
      iapply (wp_load Variants.nat (c : Thread nD τ) (some (k + 1)) E (m := arg5) (View.setOn_subset_set _ _)) $$ H5; iintro H5
      iapply (wp_call_spec Variants.nat (c : Thread nD τ) (some (k + 1)) E
        (spec c arg4 arg5 X4 X5 (walk arg4 arg5 X4 X5 v14 v24 v34 v44 v50 (k + 1) hk m s a)) k
        (fun u hu => by cases hu; exact Nat.lt_succ_self k)
        (fun K' => by rw [walk, if_pos hm]; exact ih (by omega) _ _ _ K'))
      rw [spec_apply]
      isplitl [H4 H5]
      · isplitl [H4]; · iexact H4
        iexact H5
      iintro ⟨H4, H5⟩
      rw [wp_ret]; imodintro
      iapply Hk
      isplitl [H4]; · iexact H4
      iexact H5
    · have ht : ¬ Scalar.andi (Scalar.cmpi .sge (ctr (k + 1)) 0#32) (Scalar.cmpf .ole m (Named.named κ "floor" 0x42D20000#32)) = 1#1 := by
        intro h; rw [ctr_pos k hk] at h; apply hm
        revert h; generalize Scalar.cmpf .ole m (Named.named κ "floor" 0x42D20000#32) = b; revert b; decide
      simp only [ht, ↓reduceIte, Prog.pure_eq_ret]
      iintro ⟨⟨H4, H5⟩, Hk⟩
      rw [wp_ret, walk, if_neg hm]; imodintro
      iapply Hk
      isplitl [H4]; · iexact H4
      iexact H5

end

section
variable (c : Dev nD) (i : grid0.Coords) (arg3 : Memref sig .tc .vmem S1x256x512 .bf16) (harg3 : arg3.IsWhole)
  (arg4 : Memref sig .tc .vmem S1x16384x512 .bf16) (harg4 : arg4.IsWhole)
  (arg5 : Memref sig .tc .vmem S4x128x16384 .bf16) (harg5 : arg5.IsWhole)
  (arg6 : Memref sig .tc .vmem S1x256x512 .bf16) (harg6 : arg6.IsWhole)
  (X3 : BufTy.Contents (Elt F) arg3.view.ty)
  (X4 : BufTy.Contents (Elt F) arg4.view.ty) (X5 : BufTy.Contents (Elt F) arg5.view.ty)

/-- One pair of heads' queries in the query block. -/
abbrev qryAt (off : Fin 3 → Nat) (h : ∀ a, off a + S1x256x128.size a ≤ S1x256x512.size a) : Vec F S1x256x128 .bf16 :=
  arg3.view.readAt (Elt F) (Rect.unit (s := S1x256x512) off S1x256x128.size h).toLoadRect X3

/-- The four pairs' queries, each head's with the other's half zero. -/
def qry0 : FVec F S512x128 .bf16 := k0_pay11 (qryAt arg3 X3 ![0, 0, 0] inb_S1x256x512_S1x256x128_0_0_0)
def qry1 : FVec F S512x128 .bf16 := k0_pay12 (qryAt arg3 X3 ![0, 0, 128] inb_S1x256x512_S1x256x128_0_0_128)
def qry2 : FVec F S512x128 .bf16 := k0_pay13 (qryAt arg3 X3 ![0, 0, 256] inb_S1x256x512_S1x256x128_0_0_256)
def low3 : FVec F S256x128 .bf16 := k0_pay14 (qryAt arg3 X3 ![0, 0, 384] inb_S1x256x512_S1x256x128_0_0_384)
def qry3 : FVec F S512x128 .bf16 := k0_pay17 k0_pay10 (low3 arg3 X3) (k0_pay15 (F := F)) k0_pay16

/-- The diagonal block: the logits, the masked softplus, and what is taken of them. -/
def diagZ : FVec F S256x2048 .f32 :=
  k0_pay21 k0_pay10 (qry0 arg3 X3) (qry1 arg3 X3) (qry2 arg3 X3) (low3 arg3 X3) (k0_pay15 (F := F)) k0_pay16
    (keyAt arg4 X4 (k0_off1 i) (k0_off1_inb i)) (keyAt arg4 X4 (k0_off2 i) (k0_off2_inb i))
    (keyAt arg4 X4 (k0_off3 i) (k0_off3_inb i)) (keyAt arg4 X4 (k0_off4 i) (k0_off4_inb i))
def diagM : FVec F S256x2048 .f32 :=
  k0_pay22 k0_pay10 (qry0 arg3 X3) (qry1 arg3 X3) (qry2 arg3 X3) (low3 arg3 X3) (k0_pay15 (F := F)) k0_pay16
    (keyAt arg4 X4 (k0_off1 i) (k0_off1_inb i)) (keyAt arg4 X4 (k0_off2 i) (k0_off2_inb i))
    (keyAt arg4 X4 (k0_off3 i) (k0_off3_inb i)) (keyAt arg4 X4 (k0_off4 i) (k0_off4_inb i))
def diagE : FVec F S256x2048 .f32 :=
  k0_pay23 k0_pay10 (qry0 arg3 X3) (qry1 arg3 X3) (qry2 arg3 X3) (low3 arg3 X3) (k0_pay15 (F := F)) k0_pay16
    (keyAt arg4 X4 (k0_off1 i) (k0_off1_inb i)) (keyAt arg4 X4 (k0_off2 i) (k0_off2_inb i))
    (keyAt arg4 X4 (k0_off3 i) (k0_off3_inb i)) (keyAt arg4 X4 (k0_off4 i) (k0_off4_inb i))

/-- The running sums and the accumulated values after the diagonal block. -/
def sums0 : FVec F S1x2048 .f32 := k0_pay27 (k0_pay18 (F := F)) (k0_pay19 (F := F)) (diagM i arg3 arg4 X3 X4) (diagE i arg3 arg4 X3 X4)
def acc0 : FVec F S128x2048 .f32 :=
  k0_pay28 (k0_pay18 (F := F)) (k0_pay19 (F := F)) (k0_pay20 (F := F)) (diagZ i arg3 arg4 X3 X4) (diagM i arg3 arg4 X3 X4) (diagE i arg3 arg4 X3 X4)
    (valAt arg5 X5 (k0_off5 i) (k0_off5_inb i)) (valAt arg5 X5 (k0_off6 i) (k0_off6_inb i))
    (valAt arg5 X5 (k0_off7 i) (k0_off7_inb i)) (valAt arg5 X5 (k0_off8 i) (k0_off8_inb i))

theorem coord_le (i : grid0.Coords) : (i 2).val ≤ 64 := (i 2).isLt.le

/-- The state the loop leaves. -/
def final : St F :=
  walk arg4 arg5 X4 X5 (qry0 arg3 X3) (qry1 arg3 X3) (qry2 arg3 X3) (qry3 arg3 X3) (k0_pay18 (F := F)) (i 2).val (coord_le i)
    (k0_pay1 (sums0 i arg3 arg4 X3 X4)) (sums0 i arg3 arg4 X3 X4) (acc0 i arg3 arg4 arg5 X3 X4 X5)

/-- The pieces the body stores in the output block: one per pair of heads, the last stored first. -/
def outL : List (View.Piece (Elt F) S1x256x512 .bf16) :=
  [⟨Rect.unit (s := S1x256x512) ![0, 0, 384] S1x256x128.size inb_S1x256x512_S1x256x128_0_0_384, k0_pay5 (final i arg3 arg4 arg5 X3 X4 X5).2.2.2⟩,
   ⟨Rect.unit (s := S1x256x512) ![0, 0, 256] S1x256x128.size inb_S1x256x512_S1x256x128_0_0_256, k0_pay4 (final i arg3 arg4 arg5 X3 X4 X5).2.2.2⟩,
   ⟨Rect.unit (s := S1x256x512) ![0, 0, 128] S1x256x128.size inb_S1x256x512_S1x256x128_0_0_128, k0_pay3 (final i arg3 arg4 arg5 X3 X4 X5).2.2.2⟩,
   ⟨Rect.unit (s := S1x256x512) ![0, 0, 0] S1x256x128.size inb_S1x256x512_S1x256x128_0_0_0, k0_pay2 (final i arg3 arg4 arg5 X3 X4 X5).2.2.2⟩]

set_option maxHeartbeats 4000000 in
/-- The body's run. -/
theorem outL_run (f6 : BufTy.Contents (Elt F) arg6.view.ty) (K : PUnit → sProp 𝕄) :
      iprop(held c arg3 X3 ∗ held c arg4 X4 ∗ held c arg5 X5 ∗ held c arg6 f6
          ∗ (iprop(held c arg3 X3 ∗ held c arg4 X4 ∗ held c arg5 X5
              ∗ held c arg6 (arg6.view.writes (Elt F) f6 (outL i arg3 arg4 arg5 X3 X4 X5))) -∗ K ⟨⟩))
        ⊢ wp frame (wpE (defs₀ (F := F)) Variants.nat (c : Thread nD τ) none) Set.univ
            (cc0_sb_attention (F := F) i arg3 harg3 arg4 harg4 arg5 harg5 arg6 harg6) K := by
  simp only [cc0_sb_attention_eq_skeleton]; unfold cc0_sb_attention_skel
  simp only [k0_part1_eq_skeleton, k0_part2_eq_skeleton, k0_part3_eq_skeleton]
  unfold k0_part1_skel k0_part2_skel k0_part3_skel
  simp only [Prog.lift, Prog.bind_op, Prog.bind_ret, Prog.pure_eq_ret]
  iintro ⟨H3, H4, H5, H6, Hk⟩
  iapply (wp_load Variants.nat (c : Thread nD τ) none Set.univ (m := arg3) (View.setOn_subset_set _ _)) $$ H3; iintro H3
  iapply (wp_load Variants.nat (c : Thread nD τ) none Set.univ (m := arg3) (View.setOn_subset_set _ _)) $$ H3; iintro H3
  iapply (wp_load Variants.nat (c : Thread nD τ) none Set.univ (m := arg3) (View.setOn_subset_set _ _)) $$ H3; iintro H3
  iapply (wp_load Variants.nat (c : Thread nD τ) none Set.univ (m := arg3) (View.setOn_subset_set _ _)) $$ H3; iintro H3
  iapply (wp_load Variants.nat (c : Thread nD τ) none Set.univ (m := arg4) (View.setOn_subset_set _ _)) $$ H4; iintro H4
  iapply (wp_load Variants.nat (c : Thread nD τ) none Set.univ (m := arg4) (View.setOn_subset_set _ _)) $$ H4; iintro H4
  iapply (wp_load Variants.nat (c : Thread nD τ) none Set.univ (m := arg4) (View.setOn_subset_set _ _)) $$ H4; iintro H4
  iapply (wp_load Variants.nat (c : Thread nD τ) none Set.univ (m := arg4) (View.setOn_subset_set _ _)) $$ H4; iintro H4
  iapply (wp_load Variants.nat (c : Thread nD τ) none Set.univ (m := arg5) (View.setOn_subset_set _ _)) $$ H5; iintro H5
  iapply (wp_load Variants.nat (c : Thread nD τ) none Set.univ (m := arg5) (View.setOn_subset_set _ _)) $$ H5; iintro H5
  iapply (wp_load Variants.nat (c : Thread nD τ) none Set.univ (m := arg5) (View.setOn_subset_set _ _)) $$ H5; iintro H5
  iapply (wp_load Variants.nat (c : Thread nD τ) none Set.univ (m := arg5) (View.setOn_subset_set _ _)) $$ H5; iintro H5
  iapply (wp_call_spec Variants.nat (c : Thread nD τ) none Set.univ
    (spec c arg4 arg5 X4 X5 (final i arg3 arg4 arg5 X3 X4 X5)) (i 2).val (fun u hu => nomatch hu)
    (fun K' => spec_le c i arg4 harg4 arg5 harg5 X4 X5 (qry0 arg3 X3) (qry1 arg3 X3) (qry2 arg3 X3) (qry3 arg3 X3) (k0_pay18 (F := F))
      Set.univ (i 2).val (coord_le i) (k0_pay1 (sums0 i arg3 arg4 X3 X4)) (sums0 i arg3 arg4 X3 X4) (acc0 i arg3 arg4 arg5 X3 X4 X5) K'))
  rw [spec_apply]
  isplitl [H4 H5]
  · isplitl [H4]; · iexact H4
    iexact H5
  iintro ⟨H4, H5⟩
  iapply (wp_load Variants.nat (c : Thread nD τ) none Set.univ (m := arg6) (View.setOn_subset_set _ _)) $$ H6; iintro H6
  iapply (wp_store Variants.nat (c : Thread nD τ) none Set.univ (m := arg6) (Mk := Finset.univ) (r := Rect.unit (s := S1x256x512) ![0, 0, 0] S1x256x128.size inb_S1x256x512_S1x256x128_0_0_0) ((View.setOn_subset_set _ _).trans (View.set_slice_subset _ _))) $$ H6; iintro H6
  iapply (wp_load Variants.nat (c : Thread nD τ) none Set.univ (m := arg6) (View.setOn_subset_set _ _)) $$ H6; iintro H6
  iapply (wp_store Variants.nat (c : Thread nD τ) none Set.univ (m := arg6) (Mk := Finset.univ) (r := Rect.unit (s := S1x256x512) ![0, 0, 128] S1x256x128.size inb_S1x256x512_S1x256x128_0_0_128) ((View.setOn_subset_set _ _).trans (View.set_slice_subset _ _))) $$ H6; iintro H6
  iapply (wp_load Variants.nat (c : Thread nD τ) none Set.univ (m := arg6) (View.setOn_subset_set _ _)) $$ H6; iintro H6
  iapply (wp_store Variants.nat (c : Thread nD τ) none Set.univ (m := arg6) (Mk := Finset.univ) (r := Rect.unit (s := S1x256x512) ![0, 0, 256] S1x256x128.size inb_S1x256x512_S1x256x128_0_0_256) ((View.setOn_subset_set _ _).trans (View.set_slice_subset _ _))) $$ H6; iintro H6
  iapply (wp_load Variants.nat (c : Thread nD τ) none Set.univ (m := arg6) (View.setOn_subset_set _ _)) $$ H6; iintro H6
  iapply (wp_store Variants.nat (c : Thread nD τ) none Set.univ (m := arg6) (Mk := Finset.univ) (r := Rect.unit (s := S1x256x512) ![0, 0, 384] S1x256x128.size inb_S1x256x512_S1x256x128_0_0_384) ((View.setOn_subset_set _ _).trans (View.set_slice_subset _ _))) $$ H6; iintro H6
  rw [wp_ret]; imodintro
  iapply Hk
  isplitl [H3]; · iexact H3
  isplitl [H4]; · iexact H4
  isplitl [H5]; · iexact H5
  iexact H6

end

end Cert.SbIdeal.Hand

end
-- ==== Proof.SbStep.lean ====
/-
  The stick-breaking kernel's loop, column by column. With the key blocks from block `k` on visited, the running sum of
  a column is the sum of the softplus of its query's scores against the keys from `256 k` on, and its accumulated values
  are those keys' values, each times its weight.
-/
module

public import proofs.«01_k».proof.Proof.SbPays
public import proofs.«01_k».proof.Proof.SbRunI

@[expose] public section

set_option maxRecDepth 16384

noncomputable section

namespace Cert.SbIdeal.Hand

open Cert.KernelIdeal.Hand Idealize Idealize.ShloMosaic Cert.SbIdeal Cert.SbIdeal.Gen

section
variable (Z : ℕ → EReal) (T : ℕ)

/-- The softplus of a score, nothing from the query on. -/
def sp (n : ℕ) : EReal := if n < T then soft (Z n) else 0

/-- The weight of a key, nothing from the query on. -/
def wt (n : ℕ) : EReal :=
  if n < T then Ideal.exp (Z n - soft (Z n) - ∑ i ∈ Finset.Ico (n + 1) T, soft (Z i)) else 0

theorem sum_sp (a M : ℕ) (h : T ≤ M) : ∑ i ∈ Finset.Ico a M, sp Z T i = ∑ i ∈ Finset.Ico a T, soft (Z i) := by
  have e : ∑ i ∈ Finset.Ico a T, soft (Z i) = ∑ i ∈ Finset.Ico a T, sp Z T i :=
    Finset.sum_congr rfl fun i hi => (if_pos (Finset.mem_Ico.1 hi).2).symm
  rw [e]
  symm
  refine Finset.sum_subset (Finset.Ico_subset_Ico_right h) fun i hi hn => if_neg fun hlt => hn ?_
  exact Finset.mem_Ico.2 ⟨(Finset.mem_Ico.1 hi).1, hlt⟩

theorem sp_nonneg (n : ℕ) : 0 ≤ sp Z T n := by
  unfold sp
  split_ifs
  · exact soft_nonneg _
  · exact le_rfl

/-- Taking away two sums one after the other is taking away both. -/
theorem sub_sub' (a : EReal) {x y : EReal} (hx : 0 ≤ x) (hy : 0 ≤ y) : a - x - y = a - (x + y) := by
  have bx : x ≠ ⊥ := fun h => absurd hx (by rw [h]; decide)
  have bY : y ≠ ⊥ := fun h => absurd hy (by rw [h]; decide)
  rw [sub_eq_add_neg, sub_eq_add_neg, sub_eq_add_neg, EReal.neg_add (Or.inl bx) (Or.inr bY), sub_eq_add_neg, add_assoc]

/-- Against the mask of the later rows, a block's terms sum to those after the row. -/
theorem tail_sum (f : ℕ → EReal) (b : ℕ) (j : Fin 256) :
    ∑ i : Fin 256, (if j.val < i.val then (1 : EReal) else 0) * f (b + i.val) = ∑ n ∈ Finset.Ico (b + j.val + 1) (b + 256), f n := by
  have e : ∀ i : Fin 256, (if j.val < i.val then (1 : EReal) else 0) * f (b + i.val)
      = (fun i : ℕ => if j.val < i then f (b + i) else 0) i.val := fun i => by
    show _ = if j.val < i.val then f (b + i.val) else 0
    split_ifs
    · rw [one_mul]
    · rw [zero_mul]
  rw [Finset.sum_congr rfl fun i _ => e i, Fin.sum_univ_eq_sum_range (fun i : ℕ => if j.val < i then f (b + i) else 0) 256, ← Finset.sum_filter]
  refine Finset.sum_nbij' (fun i => b + i) (fun n => n - b) ?_ ?_ ?_ ?_ fun i _ => rfl
  · intro i hi
    rw [Finset.mem_filter, Finset.mem_range] at hi
    rw [Finset.mem_Ico]; omega
  · intro i hi
    rw [Finset.mem_Ico] at hi
    rw [Finset.mem_filter, Finset.mem_range]; omega
  · intro i hi; exact Nat.add_sub_cancel_left _ _
  · intro i hi
    rw [Finset.mem_Ico] at hi
    omega

/-- A block's terms, by their places in the sequence. -/
theorem block_sum (g : ℕ → EReal) (b : ℕ) : ∑ j : Fin 256, g (b + j.val) = ∑ n ∈ Finset.Ico b (b + 256), g n := by
  rw [Finset.sum_Ico_eq_sum_range, Nat.add_sub_cancel_left, Fin.sum_univ_eq_sum_range (fun i => g (b + i)) 256]

/-- The kernel's weight of a key in the block at `b`. -/
theorem wt_step (b M j : ℕ) (hM : T ≤ M) (hb : b + 256 ≤ M) (hj : b + j < T) (h256 : j < 256) :
    Ideal.exp (Z (b + j) - soft (Z (b + j)) - ∑ n ∈ Finset.Ico (b + j + 1) (b + 256), sp Z T n
      - ∑ n ∈ Finset.Ico (b + 256) M, sp Z T n) = wt Z T (b + j) := by
  rw [sub_sub' _ (Finset.sum_nonneg fun n _ => sp_nonneg Z T n) (Finset.sum_nonneg fun n _ => sp_nonneg Z T n), wt, if_pos hj,
    ← sum_sp Z T (b + j + 1) M hM, ← Finset.sum_Ico_consecutive (sp Z T) (show b + j + 1 ≤ b + 256 by omega) hb]

end

section
variable (q0 q1 q2 q3 : FVec Ideal S512x128 .bf16) (k0 k1 k2 k3 : FVec Ideal S1x256x128 .bf16) (v0 v1 v2 v3 : FVec Ideal S1x128x256 .bf16)
  (Z : ℕ → EReal) (V : ℕ → EReal) (T b M : ℕ) (e : Fin 128) (C : Fin 2048)
  (hz : ∀ j : Fin 256, k0_pay29 q0 q1 q2 q3 k0 k1 k2 k3 (ix2 j C) = Z (b + j.val))
  (hv : ∀ j : Fin 256, (![v0, v1, v2, v3] (pr C)) (ix3 0 e j) = V (b + j.val))

include hz

theorem later_soft (hT : b + 256 ≤ T) (j : Fin 256) : k0_pay31 q0 q1 q2 q3 (k0_pay18 (F := Ideal)) k0 k1 k2 k3 (ix2 j C)
    = ∑ n ∈ Finset.Ico (b + j.val + 1) (b + 256), sp Z T n := by
  rw [pay31_apply, ← tail_sum]
  refine Finset.sum_congr rfl fun i _ => ?_
  rw [pay18_apply, pay30_apply _ _ _ _ _ _ _ _ _ _ _ (hz i), sp, if_pos (show b + i.val < T by omega)]

/-- The running sum after an earlier block. -/
theorem sums_step (hT : b + 256 ≤ T) (hM : T ≤ M) (s : FVec Ideal S1x2048 .f32)
    (hs : s (ix2 0 C) = ∑ n ∈ Finset.Ico (b + 256) M, sp Z T n) :
    k0_pay6 s (k0_pay30 q0 q1 q2 q3 k0 k1 k2 k3) (k0_pay31 q0 q1 q2 q3 (k0_pay18 (F := Ideal)) k0 k1 k2 k3) (ix2 0 C)
      = ∑ n ∈ Finset.Ico b M, sp Z T n := by
  rw [pay6_apply, hs, later_soft q0 q1 q2 q3 k0 k1 k2 k3 Z T b C hz hT, pay30_apply _ _ _ _ _ _ _ _ _ _ _ (hz 0)]
  show _ + ∑ n ∈ Finset.Ico (b + 1) (b + 256), sp Z T n + soft (Z b) = _
  have e0 : soft (Z b) = sp Z T b := (if_pos (by omega)).symm
  rw [e0, ← Finset.sum_Ico_consecutive (sp Z T) (show b ≤ b + 256 by omega) (by omega : b + 256 ≤ M),
    Finset.sum_eq_sum_Ico_succ_bot (show b < b + 256 by omega)]
  abel

include hv

/-- The accumulated values after an earlier block. -/
theorem acc_step (hT : b + 256 ≤ T) (hM : T ≤ M) (s : FVec Ideal S1x2048 .f32) (a : FVec Ideal S128x2048 .f32)
    (hs : s (ix2 0 C) = ∑ n ∈ Finset.Ico (b + 256) M, sp Z T n)
    (ha : a (ix2 e C) = ∑ n ∈ Finset.Ico (b + 256) M, V n * wt Z T n) :
    k0_pay7 a (k0_pay32 q0 q1 q2 q3 (k0_pay18 (F := Ideal)) s k0 k1 k2 k3) (k0_pay33 v0) v1 v2 v3 (ix2 e C)
      = ∑ n ∈ Finset.Ico b M, V n * wt Z T n := by
  rw [pay7_apply, ha, ← Finset.sum_Ico_consecutive (fun n => V n * wt Z T n) (show b ≤ b + 256 by omega) (by omega : b + 256 ≤ M), add_comm]
  congr 1
  rw [← block_sum]
  refine Finset.sum_congr rfl fun j _ => ?_
  rw [hv, pay32_apply, hs, later_soft q0 q1 q2 q3 k0 k1 k2 k3 Z T b C hz hT, pay30_apply _ _ _ _ _ _ _ _ _ _ _ (hz j), hz,
    wt_step Z T b M j.val hM (by omega) (by omega) j.isLt]

end

section
variable (z p q : FVec Ideal S256x2048 .f32) (v0 v1 v2 v3 : FVec Ideal S1x128x256 .bf16)
  (Z : ℕ → EReal) (V : ℕ → EReal) (b : ℕ) (e : Fin 128) (C : Fin 2048)
  (hz : ∀ j : Fin 256, z (ix2 j C) = Z (b + j.val))
  (hp : ∀ j : Fin 256, p (ix2 j C) + q (ix2 j C) = soft (Z (b + j.val)))
  (hv : ∀ j : Fin 256, (![v0, v1, v2, v3] (pr C)) (ix3 0 e j) = V (b + j.val))

include hp

theorem diag_soft (j : Fin 256) : k0_pay25 p q (ix2 j C) = sp Z (b + C.val % 256) (b + j.val) := by
  rw [pay25_apply, hp, sp]
  by_cases h : j.val < C.val % 256
  · rw [if_pos h, if_pos (by omega)]
  · rw [if_neg h, if_neg (by omega)]

theorem diag_later (j : Fin 256) : k0_pay26 (k0_pay18 (F := Ideal)) p q (ix2 j C)
    = ∑ n ∈ Finset.Ico (b + j.val + 1) (b + 256), sp Z (b + C.val % 256) n := by
  rw [pay26_apply, ← tail_sum]
  refine Finset.sum_congr rfl fun i _ => ?_
  rw [pay18_apply, diag_soft p q Z b C hp]

/-- The running sum after the diagonal block. -/
theorem sums_diag : k0_pay27 (k0_pay18 (F := Ideal)) (k0_pay19 (F := Ideal)) p q (ix2 0 C)
    = ∑ n ∈ Finset.Ico b (b + 256), sp Z (b + C.val % 256) n := by
  rw [pay27_apply, pay19_apply, zero_add, diag_later p q Z b C hp, diag_soft p q Z b C hp]
  rw [Finset.sum_eq_sum_Ico_succ_bot (show b < b + 256 by omega), add_comm]
  rfl

include hz hv

/-- The accumulated values after the diagonal block. -/
theorem acc_diag : k0_pay28 (k0_pay18 (F := Ideal)) (k0_pay19 (F := Ideal)) (k0_pay20 (F := Ideal)) z p q v0 v1 v2 v3 (ix2 e C)
    = ∑ n ∈ Finset.Ico b (b + 256), V n * wt Z (b + C.val % 256) n := by
  rw [pay28_eq, pay7_apply, pay20_apply, zero_add, ← block_sum]
  refine Finset.sum_congr rfl fun j _ => ?_
  have hC : C.val % 256 < 256 := Nat.mod_lt _ (by norm_num)
  rw [hv, diagW_apply]
  by_cases h : j.val < C.val % 256
  · have e0 : (0 : EReal) = ∑ n ∈ Finset.Ico (b + 256) (b + 256), sp Z (b + C.val % 256) n := by
      rw [Finset.Ico_self, Finset.sum_empty]
    have e1 : sp Z (b + C.val % 256) (b + j.val) = soft (Z (b + j.val)) := if_pos (by omega)
    rw [if_pos h, hz, diag_soft p q Z b C hp, diag_later p q Z b C hp, pay19_apply, e0, e1,
      wt_step Z (b + C.val % 256) b (b + 256) j.val (by omega) le_rfl (by omega) j.isLt]
  · rw [if_neg h, wt, if_neg (by omega)]

end

section
variable (arg4 : Memref sig .tc .vmem S1x16384x512 .bf16) (arg5 : Memref sig .tc .vmem S4x128x16384 .bf16)
  (X4 : BufTy.Contents (Elt Ideal) arg4.view.ty) (X5 : BufTy.Contents (Elt Ideal) arg5.view.ty)
  (q0 q1 q2 q3 : FVec Ideal S512x128 .bf16) (Z : ℕ → EReal) (V : ℕ → EReal) (T M K : ℕ) (e : Fin 128) (C : Fin 2048)

theorem goes_on (x : Ideal .f32) : Scalar.cmpf .ole x (Named.named (F := Ideal) κ "floor" 0x42D20000#32) = 1#1 := by
  rw [floor_top]
  show Ideal.cmp .ole x ⊤ = 1#1
  simp [Ideal.cmp]

/-- The loop, from the state that the blocks from block `k` on leave. -/
theorem walk_apply (hT : 256 * K ≤ T) (hM : T ≤ M)
    (hz : ∀ (k : ℕ) (hk : k < 64), k < K → ∀ j : Fin 256, k0_pay29 q0 q1 q2 q3
      (keyAt arg4 X4 (k0_off9 (ctr (k + 1))) (k0_off9_inb _ (ctr_chk k hk))) (keyAt arg4 X4 (k0_off10 (ctr (k + 1))) (k0_off10_inb _ (ctr_chk k hk)))
      (keyAt arg4 X4 (k0_off11 (ctr (k + 1))) (k0_off11_inb _ (ctr_chk k hk))) (keyAt arg4 X4 (k0_off12 (ctr (k + 1))) (k0_off12_inb _ (ctr_chk k hk)))
      (ix2 j C) = Z (256 * k + j.val))
    (hv : ∀ (k : ℕ) (hk : k < 64), k < K → ∀ j : Fin 256, (![valAt arg5 X5 (k0_off13 (ctr (k + 1))) (k0_off13_inb _ (ctr_chk k hk)),
      valAt arg5 X5 (k0_off14 (ctr (k + 1))) (k0_off14_inb _ (ctr_chk k hk)), valAt arg5 X5 (k0_off15 (ctr (k + 1))) (k0_off15_inb _ (ctr_chk k hk)),
      valAt arg5 X5 (k0_off16 (ctr (k + 1))) (k0_off16_inb _ (ctr_chk k hk))] (pr C)) (ix3 0 e j) = V (256 * k + j.val)) :
    ∀ (k : ℕ) (hk : k ≤ 64) (x : Ideal .f32) (s : FVec Ideal S1x2048 .f32) (a : FVec Ideal S128x2048 .f32), k ≤ K →
      s (ix2 0 C) = ∑ n ∈ Finset.Ico (256 * k) M, sp Z T n →
      a (ix2 e C) = ∑ n ∈ Finset.Ico (256 * k) M, V n * wt Z T n →
      (walk arg4 arg5 X4 X5 q0 q1 q2 q3 (k0_pay18 (F := Ideal)) k hk x s a).2.2.2 (ix2 e C) = ∑ n ∈ Finset.Ico 0 M, V n * wt Z T n := by
  intro k
  induction k with
  | zero => intro hk x s a _ _ ha; exact ha
  | succ k ih =>
    intro hk x s a hK hs ha
    rw [walk, if_pos (goes_on x)]
    have e1 : 256 * (k + 1) = 256 * k + 256 := by ring
    rw [e1] at hs ha
    refine ih (by omega) _ _ _ (by omega) ?_ ?_
    · exact sums_step q0 q1 q2 q3 _ _ _ _ Z T (256 * k) M C (hz k hk (by omega)) (by omega) hM s hs
    · exact acc_step q0 q1 q2 q3 _ _ _ _ _ _ _ _ Z V T (256 * k) M e C (hz k hk (by omega)) (hv k hk (by omega)) (by omega) hM s a hs ha

end

end Cert.SbIdeal.Hand

end
-- ==== Proof.SbFrameI.lean ====
/-
  The stick-breaking call's launch. From the run of the body: what the body leaves in the output block at every grid
  point, the data of the pipeline, the body's obligation at a generic point, and the run of the whole program.
-/
module

public import proofs.«01_k».proof.Proof.SbRunI
public import Idealize.ShloMosaic.Lib.Pipeline.Value

@[expose] public section

set_option maxRecDepth 16384

noncomputable section

namespace Cert.SbIdeal.Hand

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section
variable (c : Dev nD) (i : grid0.Coords) (arg3 : Memref sig .tc .vmem S1x256x512 .bf16) (harg3 : arg3.IsWhole)
  (arg4 : Memref sig .tc .vmem S1x16384x512 .bf16) (harg4 : arg4.IsWhole)
  (arg5 : Memref sig .tc .vmem S4x128x16384 .bf16) (harg5 : arg5.IsWhole)
  (arg6 : Memref sig .tc .vmem S1x256x512 .bf16) (harg6 : arg6.IsWhole)
  (X3 : S1x256x512.Idx → Elt F .bf16) (X4 : S1x16384x512.Idx → Elt F .bf16) (X5 : S4x128x16384.Idx → Elt F .bf16)

/-- The pieces the body stores, from what the input blocks read as. -/
abbrev pieces : List (View.Piece (Elt F) S1x256x512 .bf16) :=
  outL i arg3 arg4 arg5 (harg3.unread X3) (harg4.unread X4) (harg5.unread X5)

/-- A lane is in the strip of 128 lanes that starts at or below it. -/
theorem mem_strip (n : ℕ) (h : ∀ a, (![0, 0, n] : Fin 3 → ℕ) a + S1x256x128.size a ≤ S1x256x512.size a) (y : S1x256x512.Idx)
    (h0 : n ≤ (y 2).val) (h1 : (y 2).val < n + 128) : y ∈ (Rect.unit (s := S1x256x512) ![0, 0, n] S1x256x128.size h).set := by
  have e0 : (y 0).val < 1 := (y 0).isLt
  have e1 : (y 1).val < 256 := (y 1).isLt
  rw [Rect.mem_set_unit]
  intro a
  fin_cases a
  · exact ⟨Nat.zero_le _, by show (y 0).val < 0 + 1; omega⟩
  · exact ⟨Nat.zero_le _, by show (y 1).val < 0 + 256; omega⟩
  · exact ⟨h0, h1⟩

/-- They cover the block: four strips of 128 lanes. -/
theorem pieces_cover (y : S1x256x512.Idx) : ∃ p ∈ pieces i arg3 harg3 arg4 harg4 arg5 harg5 X3 X4 X5, y ∈ p.1.set := by
  have e : (y 2).val < 512 := (y 2).isLt
  unfold pieces outL
  by_cases h3 : 384 ≤ (y 2).val
  · exact ⟨_, List.mem_cons_self, mem_strip 384 (by decide) y h3 (by omega)⟩
  by_cases h2 : 256 ≤ (y 2).val
  · exact ⟨_, List.mem_cons_of_mem _ List.mem_cons_self, mem_strip 256 (by decide) y h2 (by omega)⟩
  by_cases h1 : 128 ≤ (y 2).val
  · exact ⟨_, List.mem_cons_of_mem _ (List.mem_cons_of_mem _ List.mem_cons_self), mem_strip 128 (by decide) y h1 (by omega)⟩
  · exact ⟨_, List.mem_cons_of_mem _ (List.mem_cons_of_mem _ (List.mem_cons_of_mem _ List.mem_cons_self)),
      mem_strip 0 (by decide) y (Nat.zero_le _) (by omega)⟩

/-- What the body leaves in the output block. -/
def outV : S1x256x512.Idx → Elt F .bf16 := View.canon (pieces i arg3 harg3 arg4 harg4 arg5 harg5 X3 X4 X5)

set_option maxHeartbeats 1000000 in
/-- The body, run at input blocks whose contents read as given. -/
theorem sound_kernel (K : PUnit → sProp 𝕄) :
    iprop(owns c arg3 fullShare X3 ∗ owns c arg4 fullShare X4 ∗ owns c arg5 fullShare X5 ∗ (∃ d, owns c arg6 fullShare d)
        ∗ (iprop(owns c arg3 fullShare X3 ∗ owns c arg4 fullShare X4 ∗ owns c arg5 fullShare X5
            ∗ owns c arg6 fullShare (outV i arg3 harg3 arg4 harg4 arg5 harg5 X3 X4 X5)) -∗ K ⟨⟩))
      ⊢ wp frame (wpE (defs₀ (F := F)) Variants.nat (c : Thread nD τ) none) Set.univ
          (cc0_sb_attention (F := F) i arg3 harg3 arg4 harg4 arg5 harg5 arg6 harg6) K := by
  unfold owns
  iintro ⟨⟨%f3, %h3, H3⟩, ⟨%f4, %h4, H4⟩, ⟨%f5, %h5, H5⟩, ⟨%d6, %f6, %h6, H6⟩, Hk⟩
  obtain rfl := harg3.eq_unread h3; obtain rfl := harg4.eq_unread h4; obtain rfl := harg5.eq_unread h5
  iapply (outL_run c i arg3 harg3 arg4 harg4 arg5 harg5 arg6 harg6 (harg3.unread X3) (harg4.unread X4) (harg5.unread X5) f6 K)
  isplitl [H3]; · iexact H3
  isplitl [H4]; · iexact H4
  isplitl [H5]; · iexact H5
  isplitl [H6]; · iexact H6
  iintro ⟨H3, H4, H5, H6⟩
  iapply Hk
  isplitl [H3]
  · iexists _
    isplitr
    · ipureintro; exact h3
    · iexact H3
  isplitl [H4]
  · iexists _
    isplitr
    · ipureintro; exact h4
    · iexact H4
  isplitl [H5]
  · iexists _
    isplitr
    · ipureintro; exact h5
    · iexact H5
  iexists (arg6.view.writes (Elt F) f6 (pieces i arg3 harg3 arg4 harg4 arg5 harg5 X3 X4 X5))
  isplitr
  · ipureintro; exact View.read_writes_eq_canon _ _ _ (pieces_cover i arg3 harg3 arg4 harg4 arg5 harg5 X3 X4 X5)
  · iexact H6

end

variable (m : (ℓ : Loc nD τ sig) → Buf (Elt F) ℓ) (ρ : Dev nD → PrngReg)

/-- The arrays as the region finds them: as launched. -/
abbrev V (c : Dev nD) (b : Ref sig .tc) : Buf (Elt F) ((c : Thread nD τ).loc b) := m ((c.tc : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body leaves in the output block at point `t`. -/
@[irreducible] def outAt (c : Dev nD) (t : Fin (cfg0 (F := F)).N) : S1x256x512.Idx → Elt F .bf16 :=
  outV (grid0.coords t) (st0_0 (F := F) t) (hstage0_0 (((cfg0 (F := F)).slots t 0).cast nbuf0_0)) (st0_1 (F := F) t) (hstage0_1 (((cfg0 (F := F)).slots t 1).cast nbuf0_1))
    (st0_2 (F := F) t) (hstage0_2 (((cfg0 (F := F)).slots t 2).cast nbuf0_2)) (iblk m c 0 t) (iblk m c 1 t) (iblk m c 2 t)

/-- The data of the pipeline: every input's buffer at its block, the output's at `outAt`; the generator register
    untouched; nothing owed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨n + 4, hn⟩ => absurd hn (Nat.not_lt.mpr (Nat.le_add_left 4 n))
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = outAt m c t := rfl

/-- An input's buffer holds its block at every point. -/
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- What the body is called with at point `t`, window by window, -/
def bodyPre (c : Dev nD) (t : Fin (cfg0 (F := F)).N) : sProp 𝕄 :=
  iprop((dats m 0 c).Φ t.castSucc ∗ (dats m 0 c).owesAt () t.castSucc
    ∗ (∃ d, owns c (st0_0 t) fullShare ((dats m 0 c).before 0 t d))
    ∗ (∃ d, owns c (st0_1 t) fullShare ((dats m 0 c).before 1 t d))
    ∗ (∃ d, owns c (st0_2 t) fullShare ((dats m 0 c).before 2 t d))
    ∗ (∃ d, owns c (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns c (st0_0 t) fullShare ((dats m 0 c).after 0 t)
    ∗ owns c (st0_1 t) fullShare ((dats m 0 c).after 1 t)
    ∗ owns c (st0_2 t) fullShare ((dats m 0 c).after 2 t)
    ∗ owns c (st0_3 t) fullShare ((dats m 0 c).after 3 t))

set_option maxHeartbeats 1000000 in
/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outAt
  iintro ⟨Hr, Ho, ⟨%d0, H0⟩, ⟨%d1, H1⟩, ⟨%d2, H2⟩, ⟨%d3, H3⟩⟩
  iapply (sound_kernel c (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [Hr]; · iexact Hr
  isplitl [Ho]; · iexact Ho
  isplitl [H0]; · iexact H0
  isplitl [H1]; · iexact H1
  isplitl [H2]; · iexact H2
  iexact H3

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The obligation the launch asks of the body. -/
theorem body_obligation (c : Dev nD) : BodyObligation (dats (F := F) m 0 c) defs₀ Variants.nat () Set.univ := fun t => by
  rw [bigSep_W0, bigSep_W0, defs₀_row]
  exact triple_restated (sound_body m c t) rfl .rfl fun _ => .rfl

set_option backward.isDefEq.respectTransparency.types false in
set_option maxHeartbeats 4000000 in
/-- From any memory with zero counters every weakly fair run of the program ends, with every array of the pipeline
    at what the data say, every other buffer as the region found it and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

variable {m ρ}

/-- After the run every argument array holds what it held at launch. -/
theorem final_args {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2))⟩

end Cert.SbIdeal.Hand

end
-- ==== Proof.SbOut.lean ====
/-
  The output block of the stick-breaking kernel, from the blocks it reads, at the ideal instance.
-/
module

public import proofs.«01_k».proof.Proof.SbStep
public import proofs.«01_k».proof.Proof.SbFrameI
public import proofs.«01_k».proof.Proof.Soft

@[expose] public section

set_option maxRecDepth 16384

noncomputable section

namespace Cert.SbIdeal.Hand

open Idealize Idealize.ShloMosaic Cert.SbIdeal Cert.SbIdeal.Gen

/-- The query block of a grid point. -/
def qb (t : Fin grid0.N) : ℕ := (grid0.coords t 2).val

theorem qb_lt (t : Fin grid0.N) : qb t < 64 := (grid0.coords t 2).isLt

theorem off1 : ∀ t : Fin grid0.N, k0_off1 (grid0.coords t) = ![0, 256 * qb t, 0] := by decide +kernel
theorem off2 : ∀ t : Fin grid0.N, k0_off2 (grid0.coords t) = ![0, 256 * qb t, 128] := by decide +kernel
theorem off3 : ∀ t : Fin grid0.N, k0_off3 (grid0.coords t) = ![0, 256 * qb t, 256] := by decide +kernel
theorem off4 : ∀ t : Fin grid0.N, k0_off4 (grid0.coords t) = ![0, 256 * qb t, 384] := by decide +kernel
theorem off5 : ∀ t : Fin grid0.N, k0_off5 (grid0.coords t) = ![0, 0, 256 * qb t] := by decide +kernel
theorem off6 : ∀ t : Fin grid0.N, k0_off6 (grid0.coords t) = ![1, 0, 256 * qb t] := by decide +kernel
theorem off7 : ∀ t : Fin grid0.N, k0_off7 (grid0.coords t) = ![2, 0, 256 * qb t] := by decide +kernel
theorem off8 : ∀ t : Fin grid0.N, k0_off8 (grid0.coords t) = ![3, 0, 256 * qb t] := by decide +kernel
theorem off9 : ∀ k < 64, k0_off9 (ctr (k + 1)) = ![0, 256 * k, 0] := by decide +kernel
theorem off10 : ∀ k < 64, k0_off10 (ctr (k + 1)) = ![0, 256 * k, 128] := by decide +kernel
theorem off11 : ∀ k < 64, k0_off11 (ctr (k + 1)) = ![0, 256 * k, 256] := by decide +kernel
theorem off12 : ∀ k < 64, k0_off12 (ctr (k + 1)) = ![0, 256 * k, 384] := by decide +kernel
theorem off13 : ∀ k < 64, k0_off13 (ctr (k + 1)) = ![0, 0, 256 * k] := by decide +kernel
theorem off14 : ∀ k < 64, k0_off14 (ctr (k + 1)) = ![1, 0, 256 * k] := by decide +kernel
theorem off15 : ∀ k < 64, k0_off15 (ctr (k + 1)) = ![2, 0, 256 * k] := by decide +kernel
theorem off16 : ∀ k < 64, k0_off16 (ctr (k + 1)) = ![3, 0, 256 * k] := by decide +kernel

/-- A load from a whole block held at `X`: the entry at the load's offset. -/
theorem entry_at {s : Shape} {e : EltTy} {m : Memref sig .tc .vmem s e} (h : m.IsWhole) (X : s.Idx → Elt Ideal e)
    (off sz : Fin s.rank → ℕ) (inb : ∀ a, off a + sz a ≤ s.size a) (x : (Rect.unit (s := s) off sz inb).toLoadRect.shape.Idx)
    (y : s.Idx) (off' : Fin s.rank → ℕ) (ho : off = off') (hy : ∀ a, (y a).val = off' a + (x a).val) :
    View.readAt (Elt Ideal) m.view (Rect.unit (s := s) off sz inb).toLoadRect (h.unread X) x = X y := by
  subst ho
  rw [Memref.IsWhole.readAt_unread]
  refine congrArg X (funext fun a => Fin.ext ?_)
  show off a + 1 * (x a).val = (y a).val
  rw [hy a, one_mul]

/-- A head's lane. -/
def lane (C : Fin 2048) (d : Fin 64) : Fin 512 := ⟨C.val / 256 * 64 + d.val, by omega⟩
/-- A lane of a pair of heads. -/
def plane (C : Fin 2048) (d : Fin 128) : Fin 512 := ⟨C.val / 512 * 128 + d.val, by omega⟩
/-- A column's query. -/
def row (C : Fin 2048) : Fin 256 := ⟨C.val % 256, by omega⟩

/-- The score of a column's query against a key. -/
def colZ (x3 : S1x256x512.Idx → EReal) (x4 : S1x16384x512.Idx → EReal) (C : Fin 2048) (n : ℕ) : EReal :=
  if h : n < 16384 then ∑ d : Fin 64, x4 (ix3 0 ⟨n, h⟩ (lane C d)) * x3 (ix3 0 (row C) (lane C d)) else 0

/-- A key's value. -/
def colV (X5 : S4x128x16384.Idx → EReal) (e : Fin 128) (C : Fin 2048) (n : ℕ) : EReal :=
  if h : n < 16384 then X5 (ix3 (pr C) e ⟨n, h⟩) else 0

section
variable (t : Fin grid0.N) (arg3 : Memref sig .tc .vmem S1x256x512 .bf16) (harg3 : arg3.IsWhole)
  (arg4 : Memref sig .tc .vmem S1x16384x512 .bf16) (harg4 : arg4.IsWhole) (arg5 : Memref sig .tc .vmem S4x128x16384 .bf16) (harg5 : arg5.IsWhole)
  (X3 : S1x256x512.Idx → Elt Ideal .bf16) (X4 : S1x16384x512.Idx → Elt Ideal .bf16) (X5 : S4x128x16384.Idx → Elt Ideal .bf16)
  (e : Fin 128) (C : Fin 2048)

/-- The pairs' query operands. -/
theorem query_apply (d : Fin 128) :
    (![qry0 arg3 (harg3.unread X3), qry1 arg3 (harg3.unread X3), qry2 arg3 (harg3.unread X3), qry3 arg3 (harg3.unread X3)] (pr C)) (ix2 (rw' C) d)
      = if d.val / 64 = C.val % 512 / 256 then X3 (ix3 0 (row C) (plane C d)) else 0 := by
  have hC : C.val < 2048 := C.isLt
  have key : ∀ g : Fin 4, g.val = C.val / 512 → (![qry0 arg3 (harg3.unread X3), qry1 arg3 (harg3.unread X3), qry2 arg3 (harg3.unread X3), qry3 arg3 (harg3.unread X3)] g) (ix2 (rw' C) d)
      = if d.val / 64 = C.val % 512 / 256 then X3 (ix3 0 (row C) (plane C d)) else 0 := by
    have hr : (row C).val = C.val % 512 % 256 := by show C.val % 256 = _; omega
    intro g hg
    fin_cases g
    · have h := pay11_apply (qryAt arg3 (harg3.unread X3) ![0, 0, 0] inb_S1x256x512_S1x256x128_0_0_0) (rw' C) d
      refine h.trans (if_congr Iff.rfl ?_ rfl)
      refine entry_at harg3 X3 _ _ _ _ _ _ rfl fun a => ?_
      fin_cases a
      · rfl
      · show (row C).val = 0 + C.val % 512 % 256; omega
      · show C.val / 512 * 128 + d.val = 0 + d.val; rw [← hg]; simp
    · have h := pay12_apply (qryAt arg3 (harg3.unread X3) ![0, 0, 128] inb_S1x256x512_S1x256x128_0_0_128) (rw' C) d
      refine h.trans (if_congr Iff.rfl ?_ rfl)
      refine entry_at harg3 X3 _ _ _ _ _ _ rfl fun a => ?_
      fin_cases a
      · rfl
      · show (row C).val = 0 + C.val % 512 % 256; omega
      · show C.val / 512 * 128 + d.val = 128 + d.val; rw [← hg]; rfl
    · have h := pay13_apply (qryAt arg3 (harg3.unread X3) ![0, 0, 256] inb_S1x256x512_S1x256x128_0_0_256) (rw' C) d
      refine h.trans (if_congr Iff.rfl ?_ rfl)
      refine entry_at harg3 X3 _ _ _ _ _ _ rfl fun a => ?_
      fin_cases a
      · rfl
      · show (row C).val = 0 + C.val % 512 % 256; omega
      · show C.val / 512 * 128 + d.val = 256 + d.val; rw [← hg]; rfl
    · have h := pay17_apply (qryAt arg3 (harg3.unread X3) ![0, 0, 384] inb_S1x256x512_S1x256x128_0_0_384) (rw' C) d
      refine h.trans (if_congr Iff.rfl ?_ rfl)
      refine entry_at harg3 X3 _ _ _ _ _ _ rfl fun a => ?_
      fin_cases a
      · rfl
      · show (row C).val = 0 + C.val % 512 % 256; omega
      · show C.val / 512 * 128 + d.val = 384 + d.val; rw [← hg]; rfl
  exact key (pr C) rfl

/-- Four loads of a key block, one per pair of heads. -/
theorem key_apply (b : ℕ) (f0 f1 f2 f3 : Fin 3 → ℕ) (i0 i1 i2 i3) (e0 : f0 = ![0, b, 0]) (e1 : f1 = ![0, b, 128]) (e2 : f2 = ![0, b, 256])
    (e3 : f3 = ![0, b, 384]) (j : Fin 256) (d : Fin 128) (hb : b + j.val < 16384) :
    (![keyAt arg4 (harg4.unread X4) f0 i0, keyAt arg4 (harg4.unread X4) f1 i1, keyAt arg4 (harg4.unread X4) f2 i2, keyAt arg4 (harg4.unread X4) f3 i3] (pr C))
      (ix3 0 j d) = X4 (ix3 0 ⟨b + j.val, hb⟩ (plane C d)) := by
  have key : ∀ g : Fin 4, g.val = C.val / 512 →
      (![keyAt arg4 (harg4.unread X4) f0 i0, keyAt arg4 (harg4.unread X4) f1 i1, keyAt arg4 (harg4.unread X4) f2 i2, keyAt arg4 (harg4.unread X4) f3 i3] g)
        (ix3 0 j d) = X4 (ix3 0 ⟨b + j.val, hb⟩ (plane C d)) := by
    intro g hg
    fin_cases g
    · refine entry_at harg4 X4 _ _ _ _ _ _ e0 fun a => ?_
      fin_cases a
      · rfl
      · rfl
      · show C.val / 512 * 128 + d.val = 0 + d.val; rw [← hg]; simp
    · refine entry_at harg4 X4 _ _ _ _ _ _ e1 fun a => ?_
      fin_cases a
      · rfl
      · rfl
      · show C.val / 512 * 128 + d.val = 128 + d.val; rw [← hg]; rfl
    · refine entry_at harg4 X4 _ _ _ _ _ _ e2 fun a => ?_
      fin_cases a
      · rfl
      · rfl
      · show C.val / 512 * 128 + d.val = 256 + d.val; rw [← hg]; rfl
    · refine entry_at harg4 X4 _ _ _ _ _ _ e3 fun a => ?_
      fin_cases a
      · rfl
      · rfl
      · show C.val / 512 * 128 + d.val = 384 + d.val; rw [← hg]; rfl
  exact key (pr C) rfl

/-- Four loads of a block of values, one per pair of heads. -/
theorem val_apply (b : ℕ) (f0 f1 f2 f3 : Fin 3 → ℕ) (i0 i1 i2 i3) (e0 : f0 = ![0, 0, b]) (e1 : f1 = ![1, 0, b]) (e2 : f2 = ![2, 0, b])
    (e3 : f3 = ![3, 0, b]) (j : Fin 256) (hb : b + j.val < 16384) :
    (![valAt arg5 (harg5.unread X5) f0 i0, valAt arg5 (harg5.unread X5) f1 i1, valAt arg5 (harg5.unread X5) f2 i2, valAt arg5 (harg5.unread X5) f3 i3] (pr C))
      (ix3 0 e j) = colV X5 e C (b + j.val) := by
  rw [colV, dif_pos hb]
  have key : ∀ g : Fin 4,
      (![valAt arg5 (harg5.unread X5) f0 i0, valAt arg5 (harg5.unread X5) f1 i1, valAt arg5 (harg5.unread X5) f2 i2, valAt arg5 (harg5.unread X5) f3 i3] g)
        (ix3 0 e j) = X5 (ix3 g e ⟨b + j.val, hb⟩) := by
    have hj : e.val = 0 + e.val := (Nat.zero_add _).symm
    intro g
    fin_cases g
    · refine entry_at harg5 X5 _ _ _ _ _ _ e0 fun a => ?_
      fin_cases a
      · rfl
      · exact hj
      · rfl
    · refine entry_at harg5 X5 _ _ _ _ _ _ e1 fun a => ?_
      fin_cases a
      · rfl
      · exact hj
      · rfl
    · refine entry_at harg5 X5 _ _ _ _ _ _ e2 fun a => ?_
      fin_cases a
      · rfl
      · exact hj
      · rfl
    · refine entry_at harg5 X5 _ _ _ _ _ _ e3 fun a => ?_
      fin_cases a
      · rfl
      · exact hj
      · rfl
  exact key (pr C)

/-- A block's scores. -/
theorem score_apply (b : ℕ) (f0 f1 f2 f3 : Fin 3 → ℕ) (i0 i1 i2 i3) (e0 : f0 = ![0, b, 0]) (e1 : f1 = ![0, b, 128]) (e2 : f2 = ![0, b, 256])
    (e3 : f3 = ![0, b, 384]) (j : Fin 256) (hb : b + j.val < 16384) :
    k0_pay29 (qry0 arg3 (harg3.unread X3)) (qry1 arg3 (harg3.unread X3)) (qry2 arg3 (harg3.unread X3)) (qry3 arg3 (harg3.unread X3))
      (keyAt arg4 (harg4.unread X4) f0 i0) (keyAt arg4 (harg4.unread X4) f1 i1) (keyAt arg4 (harg4.unread X4) f2 i2) (keyAt arg4 (harg4.unread X4) f3 i3)
      (ix2 j C) = colZ X3 X4 C (b + j.val) := by
  have hC : C.val < 2048 := C.isLt
  rw [pay29_apply, colZ, dif_pos hb]
  have hd : ∀ d : Fin 128, (![keyAt arg4 (harg4.unread X4) f0 i0, keyAt arg4 (harg4.unread X4) f1 i1, keyAt arg4 (harg4.unread X4) f2 i2, keyAt arg4 (harg4.unread X4) f3 i3] (pr C)) (ix3 0 j d)
      * (![qry0 arg3 (harg3.unread X3), qry1 arg3 (harg3.unread X3), qry2 arg3 (harg3.unread X3), qry3 arg3 (harg3.unread X3)] (pr C)) (ix2 (rw' C) d)
      = if d.val / 64 = C.val % 512 / 256 then X4 (ix3 0 ⟨b + j.val, hb⟩ (plane C d)) * X3 (ix3 0 (row C) (plane C d)) else 0 := fun d => by
    rw [key_apply arg4 harg4 X4 C b f0 f1 f2 f3 i0 i1 i2 i3 e0 e1 e2 e3 j d hb, query_apply arg3 harg3 X3 C d]
    split_ifs
    · rfl
    · exact mul_zero _
  rw [Finset.sum_congr rfl fun d _ => hd d]
  refine (Cert.KernelIdeal.Hand.half_terms (R := EReal) ⟨C.val % 512 / 256, by omega⟩ (fun d => X4 (ix3 0 ⟨b + j.val, hb⟩ (plane C d)) * X3 (ix3 0 (row C) (plane C d)))).trans ?_
  refine Finset.sum_congr rfl fun d _ => ?_
  have el : plane C ⟨C.val % 512 / 256 * 64 + d.val, by omega⟩ = lane C d :=
    Fin.ext (by show C.val / 512 * 128 + (C.val % 512 / 256 * 64 + d.val) = C.val / 256 * 64 + d.val; omega)
  show X4 (ix3 0 ⟨b + j.val, hb⟩ (plane C ⟨C.val % 512 / 256 * 64 + d.val, _⟩)) * X3 (ix3 0 (row C) (plane C ⟨C.val % 512 / 256 * 64 + d.val, _⟩)) = _
  rw [el]

/-- The weighted values of a column's query. -/
def colSum (qb : ℕ) : EReal :=
  ∑ n ∈ Finset.Ico 0 (256 * qb + 256), colV X5 e C n * wt (colZ X3 X4 C) (256 * qb + C.val % 256) n

theorem final_apply :
    (final (F := Ideal) (grid0.coords t) arg3 arg4 arg5 (harg3.unread X3) (harg4.unread X4) (harg5.unread X5)).2.2.2 (ix2 e C)
      = colSum X3 X4 X5 e C (qb t) := by
  have hq := qb_lt t
  have hz0 : ∀ j : Fin 256, diagZ (grid0.coords t) arg3 arg4 (harg3.unread X3) (harg4.unread X4) (ix2 j C)
      = colZ X3 X4 C (256 * qb t + j.val) := fun j =>
    score_apply arg3 harg3 arg4 harg4 X3 X4 C (256 * qb t) _ _ _ _ _ _ _ _ (off1 t) (off2 t) (off3 t) (off4 t) j (by omega)
  have hp0 : ∀ j : Fin 256, diagM (grid0.coords t) arg3 arg4 (harg3.unread X3) (harg4.unread X4) (ix2 j C)
      + diagE (grid0.coords t) arg3 arg4 (harg3.unread X3) (harg4.unread X4) (ix2 j C)
      = soft (colZ X3 X4 C (256 * qb t + j.val)) := fun j =>
    pay30_apply _ _ _ _ _ _ _ _ j C _ (hz0 j)
  have hv0 := fun j : Fin 256 => val_apply arg5 harg5 X5 e C (256 * qb t) _ _ _ _ (k0_off5_inb (grid0.coords t)) (k0_off6_inb (grid0.coords t))
    (k0_off7_inb (grid0.coords t)) (k0_off8_inb (grid0.coords t)) (off5 t) (off6 t) (off7 t) (off8 t) j (by omega)
  refine walk_apply arg4 arg5 _ _ _ _ _ _ (colZ X3 X4 C) (colV X5 e C) (256 * qb t + C.val % 256) (256 * qb t + 256) (qb t) e C (by omega) (by omega)
    (fun k hk _ j => score_apply arg3 harg3 arg4 harg4 X3 X4 C (256 * k) _ _ _ _ _ _ _ _ (off9 k hk) (off10 k hk) (off11 k hk) (off12 k hk) j (by omega))
    (fun k hk _ j => val_apply arg5 harg5 X5 e C (256 * k) _ _ _ _ _ _ _ _ (off13 k hk) (off14 k hk) (off15 k hk) (off16 k hk) j (by omega))
    (qb t) _ _ _ _ le_rfl ?_ ?_
  · exact sums_diag _ _ (colZ X3 X4 C) (256 * qb t) C hp0
  · exact acc_diag _ _ _ _ _ _ _ (colZ X3 X4 C) (colV X5 e C) (256 * qb t) e C hz0 hp0 hv0

/-- The output block, entry by entry. -/
theorem outV_apply (r : Fin 256) (L : Fin 512) :
    outV (F := Ideal) (grid0.coords t) arg3 harg3 arg4 harg4 arg5 harg5 X3 X4 X5 (ix3 0 r L)
      = colSum X3 X4 X5 ⟨L.val % 128, by omega⟩ ⟨L.val / 64 * 256 + r.val, by omega⟩ (qb t) := by
  let G : S1x256x512.Idx → EReal := fun y =>
    colSum X3 X4 X5 ⟨(y 2).val % 128, by omega⟩ ⟨(y 2).val / 64 * 256 + (y 1).val, by
      have h1 : (y 1).val < 256 := (y 1).isLt
      have h2 : (y 2).val < 512 := (y 2).isLt
      omega⟩ (qb t)
  have hG : ∀ (n : ℕ) (hn : n + 128 ≤ 512) (hd : n % 128 = 0) (inb) (r : Fin 256) (e : Fin 128),
      G ((Rect.unit (s := S1x256x512) ![0, 0, n] S1x256x128.size inb).emb (ix3 0 r e))
        = colSum X3 X4 X5 e ⟨n * 4 + (e.val / 64 * 256 + r.val), by omega⟩ (qb t) := by
    intro n hn hd inb r e
    have e1 : (((Rect.unit (s := S1x256x512) ![0, 0, n] S1x256x128.size inb).emb (ix3 0 r e)) 1).val = r.val := by
      simp [Rect.emb_apply, ix3]
    have e2 : (((Rect.unit (s := S1x256x512) ![0, 0, n] S1x256x128.size inb).emb (ix3 0 r e)) 2).val = n + e.val := by
      simp [Rect.emb_apply, ix3]
    have he : e.val < 128 := e.isLt
    refine congrArg₂ (fun a b => colSum X3 X4 X5 a b (qb t)) (Fin.ext ?_) (Fin.ext ?_)
    · show _ % 128 = e.val
      rw [e2]; omega
    · show _ / 64 * 256 + _ = n * 4 + (e.val / 64 * 256 + r.val)
      rw [e1, e2]; omega
  have hx : ∀ x : S1x256x128.Idx, x = ix3 0 (x 1) (x 2) := fun x => by
    funext a; fin_cases a
    · exact Subsingleton.elim (α := Fin 1) _ _
    · rfl
    · rfl
  have hF := final_apply t arg3 harg3 arg4 harg4 arg5 harg5 X3 X4 X5
  refine (View.canon_apply_of_pieces (Val := Elt Ideal) (e := .bf16) G _ ?_ _ (pieces_cover (grid0.coords t) arg3 harg3 arg4 harg4 arg5 harg5 X3 X4 X5 (ix3 0 r L))).trans rfl
  unfold pieces outL
  simp only [List.forall_mem_cons]
  refine ⟨fun x => ?_, fun x => ?_, fun x => ?_, fun x => ?_, fun p hp => absurd hp List.not_mem_nil⟩
  · rw [hx x]
    exact (pay5_apply _ _ _).trans ((hF _ _).trans (hG 384 (by norm_num) (by norm_num) _ (x 1) (x 2)).symm)
  · rw [hx x]
    exact (pay4_apply _ _ _).trans ((hF _ _).trans (hG 256 (by norm_num) (by norm_num) _ (x 1) (x 2)).symm)
  · rw [hx x]
    exact (pay3_apply _ _ _).trans ((hF _ _).trans (hG 128 (by norm_num) (by norm_num) _ (x 1) (x 2)).symm)
  · rw [hx x]
    exact (pay2_apply _ _ _).trans ((hF _ _).trans (hG 0 (by norm_num) (by norm_num) _ (x 1) (x 2)).symm)

end

end Cert.SbIdeal.Hand

end
-- ==== Proof.SbRef.lean ====
/-
  The stick-breaking reference, in stages: the scores, the logarithm of the sigmoid, the logarithms of what is kept,
  their suffix sums, the weights, and the weighted values. The term that the run of the reference states is the
  composition of the stages; each stage is read at an index.
-/
module

public import proofs.«01_k».proof.Proof.SbPays
public import proofs.«01_k».proof.Proof.Gen.ReferenceSbIdeal.Run

@[expose] public section

set_option maxRecDepth 16384

noncomputable section

namespace Cert.ReferenceSbIdeal.Hand

open Cert.SbIdeal.Hand Cert.KernelIdeal.Hand Idealize Idealize.ShloMosaic Cert.ReferenceSbIdeal Cert.ReferenceSbIdeal.Gen Idealize.ShloMosaic.TcCoe

abbrev Sc : Type := FVec Ideal S2x8x16384x16384 .f32

/-- The scores of every query against every key. -/
def scores (q k : FVec Ideal S2x16384x512 .bf16) : Sc :=
  Host.dotGeneral dot_S2x16384x8x64_S2x16384x8x64_S2x8x16384x16384_3_3_1_1_02_02 none
    (shapeCast _ q shapeCasts_S2x16384x512_S2x16384x8x64) (shapeCast _ k shapeCasts_S2x16384x512_S2x16384x8x64)

/-- Whether a key comes before a query. -/
def past : IVec S2x8x16384x16384 1 :=
  broadcastInDim S2x8x16384x16384 ![2, 3] bcast_S16384x16384_S2x8x16384x16384_2_3
    (cmpi .slt (broadcastInDim S16384x16384 ![0, 1] bcast_S1x16384_S16384x16384_0_1
        (broadcastInDim S1x16384 ![1] bcast_S16384_S1x16384_1 (iotaInDim S16384 32 0)))
      (broadcastInDim S16384x16384 ![0, 1] bcast_S16384x1_S16384x16384_0_1
        (broadcastInDim S16384x1 ![0] bcast_S16384_S16384x1_0 (iotaInDim S16384 32 0))))

def nought : Sc := broadcastInDim S2x8x16384x16384 ![] bcast_S_S2x8x16384x16384 (constant S_ .f32 0x00000000#32)

/-- The logarithm of the sigmoid. -/
def logsig (y : Sc) : Sc :=
  Host.negf (select (cmpf .une (subf (Host.negf y) nought) (subf (Host.negf y) nought)) (addf (Host.negf y) nought)
    (addf (maximumf (Host.negf y) nought) (Host.log1p (Host.exp (Host.negf (Host.absf (subf (Host.negf y) nought)))))))

/-- The logarithm of what a key leaves to the keys before it. -/
def keep (z : Sc) : Sc := select past (logsig (Host.negf z)) nought

/-- The sums of these from a key on. -/
def sums (x : Sc) : Sc :=
  Host.reduceWindowAdd ![1, 1, 1, 16384] ![1, 1, 1, 1] ![0, 0, 0, 0] ![0, 0, 0, 16383] x
    (broadcastInDim S_ ![] bcast_S_S_ (constant S_ .f32 0x00000000#32))
    reduceWindows_S2x8x16384x16384_S2x8x16384x16384_w1s1p0_0_w1s1p0_0_w1s1p0_0_w16384s1p0_16383 h_S_

/-- The weights. -/
def weights (z x : Sc) : Sc := select past (Host.exp (addf (logsig z) (subf (sums x) x))) nought

/-- The weighted values. -/
def mixed (w : Sc) (v : FVec Ideal S4x128x32768 .bf16) : FVec Ideal S2x16384x512 .bf16 :=
  shapeCast _ (truncf .bf16 (transpose S2x16384x8x64 [0, 3, 1, 2]
    ((Host.dotGeneral dot_S8x64x2x16384_S2x8x16384x16384_S2x8x64x16384_3_3_1_2_20_01 none
      (shapeCast _ v shapeCasts_S4x128x32768_S8x64x2x16384) (truncf .bf16 w bitsLt_bf16_f32) : FVec Ideal S2x8x64x16384 .f32))
    transposes_S2x8x64x16384_S2x16384x8x64_0_3_1_2) bitsLt_bf16_f32) shapeCasts_S2x16384x8x64_S2x16384x512

/-- The reference's function of its arguments. -/
def result (q k : FVec Ideal S2x16384x512 .bf16) (v : FVec Ideal S4x128x32768 .bf16) : FVec Ideal S2x16384x512 .bf16 :=
  mixed (weights (scores q k) (keep (scores q k))) v

theorem result_eq (m : (ℓ : Loc nD τ sig) → Buf (Elt Ideal) ℓ) (c : Dev nD) :
    Cert.ReferenceSbIdeal.Value.res_main_v23 m c = result (m ((c.tc : Thread nD τ).loc main_arg0)) (m ((c.tc : Thread nD τ).loc main_arg1))
      (m ((c.tc : Thread nD τ).loc main_arg2)) := rfl

theorem scores_apply (q k : FVec Ideal S2x16384x512 .bf16) (b : Fin 2) (h : Fin 8) (t n : Fin 16384) :
    scores q k (ix4 b h t n) = ∑ d : Fin 64, q (ix3 b t ⟨h.val * 64 + d.val, by omega⟩) * k (ix3 b n ⟨h.val * 64 + d.val, by omega⟩) := by
  pointwise [scores]

theorem past_select (b : Fin 2) (h : Fin 8) (t n : Fin 16384) (x y : EReal) :
    Scalar.select (past (ix4 b h t n)) x y = if n.val < t.val then x else y := by
  rw [← select_slt n.val t.val (by omega) (by omega)]
  refine congrArg (fun w => Scalar.select w x y) ?_
  pointwise [past]

theorem logsig_apply (y : Sc) (i : S2x8x16384x16384.Idx) : logsig y i = (-soft (-(y i : EReal)) : EReal) := by
  have e0 : Ideal.ofBits .f32 0x00000000#32 = (0 : EReal) := by simp [Ideal.ofBits, Ideal.ieee]
  have e : logsig y i = -(Scalar.select (Ideal.cmp .une (-(y i : EReal) - Ideal.ofBits .f32 0x00000000#32) (-(y i : EReal) - Ideal.ofBits .f32 0x00000000#32))
      (-(y i : EReal) + Ideal.ofBits .f32 0x00000000#32)
      (max (-(y i : EReal)) (Ideal.ofBits .f32 0x00000000#32) + Ideal.log (1 + Ideal.exp (-(max (-(y i : EReal) - Ideal.ofBits .f32 0x00000000#32)
        (-(-(y i : EReal) - Ideal.ofBits .f32 0x00000000#32)))))) : EReal) := rfl
  rw [e, e0]
  simp only [sub_zero]
  have ec : Ideal.cmp .une (-(y i : EReal)) (-(y i : EReal)) = 0#1 := by simp [Ideal.cmp]
  rw [ec]
  rfl

/-- Adding the terms of a list one by one is adding their sum. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A sum over the windows, position by position of the window. -/
theorem window_sum {s t : Shape} (window strides lo hi : Fin s.rank → ℕ) (x : s.Idx → EReal) (v : EReal)
    (h : s.ReduceWindows window strides lo hi t) (j : t.Idx) :
    Ideal.hostReduceWindowAdd window strides lo hi h x v j = v + ∑ w : (⟨s.rank, window⟩ : Shape).Idx,
      (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else v) := by
  unfold Ideal.hostReduceWindowAdd Host.reduceWindow
  dsimp only
  rw [foldl_add, ← Fin.sum_univ_def, ← Equiv.sum_comp (⟨s.rank, window⟩ : Shape).rowMajor.symm]
  refine congrArg (v + ·) (Finset.sum_congr rfl fun n _ => ?_)
  congr 1

theorem sums_apply (x : Sc) (b : Fin 2) (h : Fin 8) (t n : Fin 16384) :
    sums x (ix4 b h t n) = ∑ k : Fin 16384, if hk : n.val + k.val < 16384 then x (ix4 b h t ⟨n.val + k.val, hk⟩) else 0 := by
  have e0 : Ideal.ofBits .f32 0x00000000#32 = (0 : EReal) := by simp [Ideal.ofBits, Ideal.ieee]
  have ei : (broadcastInDim S_ ![] bcast_S_S_ (constant (F := Ideal) S_ .f32 0x00000000#32)) (Shape.Idx.first h_S_) = (0 : EReal) := e0
  unfold sums Host.reduceWindowAdd
  rw [Ideal.hostReduceWindowAdd_def, window_sum, ei, zero_add]
  let W : Shape := ⟨4, ![1, 1, 1, 16384]⟩
  let E : W.Idx ≃ Fin 16384 := ⟨fun w => w 3, fun k => ix4 0 0 0 k, fun w => by
    funext a; fin_cases a
    · exact Subsingleton.elim (α := Fin 1) _ _
    · exact Subsingleton.elim (α := Fin 1) _ _
    · exact Subsingleton.elim (α := Fin 1) _ _
    · rfl, fun k => rfl⟩
  refine Fintype.sum_equiv E _ _ fun w => ?_
  have w0 : (w 0).val = 0 := Nat.lt_one_iff.1 (w 0).isLt
  have w1 : (w 1).val = 0 := Nat.lt_one_iff.1 (w 1).isLt
  have w2 : (w 2).val = 0 := Nat.lt_one_iff.1 (w 2).isLt
  show _ = if hk : n.val + (w 3).val < 16384 then x (ix4 b h t ⟨n.val + (w 3).val, hk⟩) else 0
  by_cases hk : n.val + (w 3).val < 16384
  · rw [dif_pos hk, dif_pos]
    · congr 1
      funext a
      apply Fin.ext
      fin_cases a
      · show b.val * 1 + (w 0).val - 0 = b.val; omega
      · show h.val * 1 + (w 1).val - 0 = h.val; omega
      · show t.val * 1 + (w 2).val - 0 = t.val; omega
      · show n.val * 1 + (w 3).val - 0 = n.val + (w 3).val; omega
    · intro a
      fin_cases a
      · exact ⟨Nat.zero_le _, by show b.val * 1 + (w 0).val - 0 < 2; omega⟩
      · exact ⟨Nat.zero_le _, by show h.val * 1 + (w 1).val - 0 < 8; omega⟩
      · exact ⟨Nat.zero_le _, by show t.val * 1 + (w 2).val - 0 < 16384; omega⟩
      · exact ⟨Nat.zero_le _, by show n.val * 1 + (w 3).val - 0 < 16384; omega⟩
  · rw [dif_neg hk, dif_neg fun hin => hk (by
      have := (hin 3).2
      change n.val * 1 + (w 3).val - 0 < 16384 at this
      omega)]

theorem keep_apply (z : Sc) (b : Fin 2) (h : Fin 8) (t n : Fin 16384) :
    keep z (ix4 b h t n) = (-(if n.val < t.val then soft (z (ix4 b h t n)) else 0) : EReal) := by
  have e0 : Ideal.ofBits .f32 0x00000000#32 = (0 : EReal) := by simp [Ideal.ofBits, Ideal.ieee]
  have e : keep z (ix4 b h t n) = Scalar.select (past (ix4 b h t n)) (logsig (Host.negf z) (ix4 b h t n)) (Ideal.ofBits .f32 0x00000000#32) := rfl
  have hn : (-(Host.negf z (ix4 b h t n) : EReal) : EReal) = z (ix4 b h t n) := neg_neg (z (ix4 b h t n) : EReal)
  rw [e, past_select, logsig_apply, hn, e0]
  split_ifs
  · rfl
  · exact neg_zero.symm

theorem mixed_apply (w : Sc) (v : FVec Ideal S4x128x32768 .bf16) (b : Fin 2) (t : Fin 16384) (h : Fin 8) (d : Fin 64) :
    mixed w v (ix3 b t ⟨h.val * 64 + d.val, by omega⟩)
      = ∑ n : Fin 16384, v (ix3 ⟨h.val / 2, by omega⟩ ⟨h.val % 2 * 64 + d.val, by omega⟩ ⟨b.val * 16384 + n.val, by omega⟩) * w (ix4 b h t n) := by
  pointwise [mixed]

end Cert.ReferenceSbIdeal.Hand

end
-- ==== Proof.SbBlocks.lean ====
/-
  The stick-breaking kernel's output array is the reference's function of the arguments: the blocks off the argument
  arrays, the reference's weights, and the two brought together.
-/
module

public import proofs.«01_k».proof.Proof.SbOut
public import proofs.«01_k».proof.Proof.SbRef
public import Idealize.ShloMosaic.Lib.Pipeline.ValueKit

@[expose] public section

set_option maxRecDepth 16384

noncomputable section

namespace Cert.ReferenceSbIdeal.Hand

open Cert.SbIdeal.Hand Cert.KernelIdeal.Hand Idealize Idealize.ShloMosaic Cert.ReferenceSbIdeal Cert.ReferenceSbIdeal.Gen Idealize.ShloMosaic.TcCoe

theorem sum_neg (s : Finset ℕ) (f : ℕ → EReal) (hf : ∀ n, 0 ≤ f n) : ∑ n ∈ s, -f n = -∑ n ∈ s, f n := by
  induction s using Finset.induction_on with
  | empty => simp
  | insert a s ha ih =>
    have b0 : f a ≠ ⊥ := fun h => absurd (hf a) (by rw [h]; decide)
    have b1 : ∑ n ∈ s, f n ≠ ⊥ := fun h => absurd (Finset.sum_nonneg fun n _ => hf n) (by rw [h]; decide)
    rw [Finset.sum_insert ha, Finset.sum_insert ha, ih, EReal.neg_add (Or.inl b0) (Or.inr b1), sub_eq_add_neg]

/-- The two ways of writing a weight's exponent. -/
theorem exponent (z S : EReal) (hS : 0 ≤ S) : Ideal.exp (-soft (-z) + (-(soft z + S) - -soft z)) = Ideal.exp (z - soft z - S) := by
  induction z using EReal.rec with
  | bot =>
    rw [EReal.neg_bot, soft_top, soft_bot, EReal.neg_top, EReal.bot_add, sub_zero, sub_eq_add_neg, EReal.bot_add]
  | top =>
    have b : S ≠ ⊥ := fun h => absurd hS (by rw [h]; decide)
    rw [EReal.neg_top, soft_top, soft_bot, EReal.top_add_of_ne_bot b, EReal.neg_top, sub_eq_add_neg, EReal.bot_add, EReal.add_bot, EReal.sub_top, sub_eq_add_neg, EReal.bot_add]
  | coe z =>
    have e : max (-z) 0 + Real.log (1 + Real.exp (-|(-z)|)) = (max z 0 + Real.log (1 + Real.exp (-|z|))) - z := by
      rw [abs_neg]
      rcases le_total 0 z with hz | hz
      · rw [max_eq_left hz, max_eq_right (by linarith)]; ring
      · rw [max_eq_right hz, max_eq_left (by linarith)]; ring
    rw [← EReal.coe_neg z, soft_coe, soft_coe, e]
    generalize max z 0 + Real.log (1 + Real.exp (-|z|)) = w
    congr 1
    induction S using EReal.rec with
    | bot => exact absurd hS (by decide)
    | top =>
      rw [EReal.coe_add_top, EReal.neg_top, EReal.bot_sub, EReal.add_bot, EReal.sub_top]
    | coe S =>
      rw [← EReal.coe_add, ← EReal.coe_neg, ← EReal.coe_neg, ← EReal.coe_neg, ← EReal.coe_sub, ← EReal.coe_add, ← EReal.coe_sub, ← EReal.coe_sub]
      congr 1
      ring

/-- The reference's weight of a key. -/
theorem weights_apply (z : Sc) (b : Fin 2) (h : Fin 8) (t n : Fin 16384) (Z : ℕ → EReal) (hz : ∀ n : Fin 16384, z (ix4 b h t n) = Z n.val) :
    weights z (keep z) (ix4 b h t n) = Cert.SbIdeal.Hand.wt Z t.val n.val := by
  have e0 : Ideal.ofBits .f32 0x00000000#32 = (0 : EReal) := by simp [Ideal.ofBits, Ideal.ieee]
  have e : weights z (keep z) (ix4 b h t n) = Scalar.select (past (ix4 b h t n))
      (Ideal.exp (logsig z (ix4 b h t n) + (sums (keep z) (ix4 b h t n) - keep z (ix4 b h t n)))) (Ideal.ofBits .f32 0x00000000#32) := rfl
  rw [e, past_select, e0, Cert.SbIdeal.Hand.wt]
  by_cases hn : n.val < t.val
  swap
  · rw [if_neg hn, if_neg hn]
  have ht : t.val < 16384 := t.isLt
  rw [if_pos hn, if_pos hn, sums_apply, logsig_apply, keep_apply, if_pos hn, hz]
  have hk : ∀ k : Fin 16384, (if hk : n.val + k.val < 16384 then keep z (ix4 b h t ⟨n.val + k.val, hk⟩) else (0 : EReal))
      = (fun i : ℕ => -sp Z t.val (n.val + i)) k.val := fun k => by
    show _ = -sp Z t.val (n.val + k.val)
    unfold sp
    by_cases hk : n.val + k.val < 16384
    · rw [dif_pos hk, keep_apply, hz]
    · rw [dif_neg hk, if_neg (by omega), neg_zero]
  have e1 : ∑ i ∈ Finset.range 16384, -sp Z t.val (n.val + i) = -∑ i ∈ Finset.Ico n.val (n.val + 16384), sp Z t.val i := by
    rw [sum_neg _ (fun i => sp Z t.val (n.val + i)) fun i => sp_nonneg _ _ _, Finset.sum_Ico_eq_sum_range, Nat.add_sub_cancel_left]
  rw [Finset.sum_congr rfl fun k _ => hk k, Fin.sum_univ_eq_sum_range (fun i : ℕ => -sp Z t.val (n.val + i)) 16384, e1,
    Finset.sum_eq_sum_Ico_succ_bot (show n.val < n.val + 16384 by omega), sum_sp Z t.val (n.val + 1) (n.val + 16384) (by omega), sp, if_pos hn]
  exact exponent _ _ (Finset.sum_nonneg fun i _ => soft_nonneg _)

end Cert.ReferenceSbIdeal.Hand

namespace Cert.SbIdeal.Hand

open Idealize Idealize.ShloMosaic Idealize.ShloMosaic.TcCoe Cert.SbIdeal Cert.SbIdeal.Gen

/-- The batch of a grid point. -/
def bt (t : Fin grid0.N) : ℕ := (grid0.coords t 0).val

theorem idx0 : ∀ t : Fin (cfg0 (F := Ideal)).N, win0_0.index t = ![bt t, qb t, 0] := (by decide +kernel : ∀ t : Fin grid0.N, _)
theorem idx1 : ∀ t : Fin (cfg0 (F := Ideal)).N, win0_1.index t = ![bt t, 0, 0] := (by decide +kernel : ∀ t : Fin grid0.N, _)
theorem idx2 : ∀ t : Fin (cfg0 (F := Ideal)).N, win0_2.index t = ![0, 0, bt t] := (by decide +kernel : ∀ t : Fin grid0.N, _)
theorem idx3 : ∀ t : Fin (cfg0 (F := Ideal)).N, win0_3.index t = ![bt t, qb t, 0] := (by decide +kernel : ∀ t : Fin grid0.N, _)

theorem bt_lt (t : Fin grid0.N) : bt t < 2 := (grid0.coords t 0).isLt

variable (m : (ℓ : Loc nD τ sig) → Buf (Elt Ideal) ℓ) (c : Dev nD) (t : Fin (cfg0 (F := Ideal)).N)

theorem blk0 (r : Fin 256) (L : Fin 512) :
    iblk (F := Ideal) m c 0 t (ix3 0 r L) = m ((c.tc : Thread nD τ).loc main_arg0) (ix3 ⟨bt t, bt_lt t⟩ ⟨256 * qb t + r.val, by have := qb_lt t; omega⟩ L) := by
  blk_ext! [iblk, V, idx0 t]

theorem blk1 (n : Fin 16384) (L : Fin 512) :
    iblk (F := Ideal) m c 1 t (ix3 0 n L) = m ((c.tc : Thread nD τ).loc main_arg1) (ix3 ⟨bt t, bt_lt t⟩ n L) := by
  blk_ext! [iblk, V, idx1 t]

theorem blk2 (g : Fin 4) (e : Fin 128) (n : Fin 16384) :
    iblk (F := Ideal) m c 2 t (ix3 g e n) = m ((c.tc : Thread nD τ).loc main_arg2) (ix3 g e ⟨bt t * 16384 + n.val, by have := bt_lt t; omega⟩) := by
  blk_ext! [iblk, V, idx2 t]

/-- The output array is `G` if every point's block is. -/
theorem out_eq (G : Buf (Elt Ideal) ((c.tc : Thread nD τ).loc main_v0))
    (h : ∀ (t : Fin (cfg0 (F := Ideal)).N) (r : Fin 256) (L : Fin 512), outAt (F := Ideal) m c t (ix3 0 r L)
      = G (ix3 ⟨bt t, bt_lt t⟩ ⟨256 * qb t + r.val, by have := qb_lt t; omega⟩ L)) :
    (dats (F := Ideal) m 0 c).arrAt 3 (cfg0 (F := Ideal)).N = G := by
  refine (dats m 0 c).arrAt_eq_of_covers 3 _ (by decide +kernel) fun t hf y => ?_
  blk_simp
  rw [after0_3]
  have ey : y = (ix3 0 (y 1) (y 2) : S1x256x512.Idx) := by
    funext a; fin_cases a
    · exact Subsingleton.elim (α := Fin 1) _ _
    · rfl
    · rfl
  have ht := h t (y 1) (y 2)
  rw [← ey] at ht
  refine ht.trans ?_
  congr 1
  blk_ext [idx3 t]

/-- The reference's function of three arrays. -/
def target (q k : FVec Ideal S2x16384x512 .bf16) (v : FVec Ideal S4x128x32768 .bf16) : FVec Ideal S2x16384x512 .bf16 :=
  Cert.ReferenceSbIdeal.Hand.result q k v

open Cert.ReferenceSbIdeal.Hand in
/-- The output block at a grid point is the target's. -/
theorem outAt_target (q k : FVec Ideal S2x16384x512 .bf16) (v : FVec Ideal S4x128x32768 .bf16)
    (eq : m ((c.tc : Thread nD τ).loc main_arg0) = q) (ek : m ((c.tc : Thread nD τ).loc main_arg1) = k) (ev : m ((c.tc : Thread nD τ).loc main_arg2) = v) (r : Fin 256) (L : Fin 512) :
    outAt (F := Ideal) m c t (ix3 0 r L) = target q k v (ix3 ⟨bt t, bt_lt t⟩ ⟨256 * qb t + r.val, by have := qb_lt t; omega⟩ L) := by
  have hqb := qb_lt t
  have hbt := bt_lt t
  unfold outAt
  rw [outV_apply t _ _ _ _ _ _ _ _ _ r L]
  let h : Fin 8 := ⟨L.val / 64, by omega⟩
  let d : Fin 64 := ⟨L.val % 64, by omega⟩
  let C : Fin 2048 := ⟨L.val / 64 * 256 + r.val, by omega⟩
  let Z : ℕ → EReal := colZ (iblk (F := Ideal) m c 0 t) (iblk (F := Ideal) m c 1 t) C
  have eL : L = ⟨h.val * 64 + d.val, by omega⟩ := Fin.ext (by show L.val = L.val / 64 * 64 + L.val % 64; omega)
  have hC : C.val % 256 = r.val := by show (L.val / 64 * 256 + r.val) % 256 = r.val; omega
  have hlane : ∀ d : Fin 64, lane C d = ⟨h.val * 64 + d.val, by omega⟩ := fun d =>
    Fin.ext (by show (L.val / 64 * 256 + r.val) / 256 * 64 + d.val = L.val / 64 * 64 + d.val; omega)
  have hrow : row C = r := Fin.ext hC
  have hZ : ∀ n : Fin 16384, scores q k (ix4 ⟨bt t, hbt⟩ h ⟨256 * qb t + r.val, by omega⟩ n) = Z n.val := fun n => by
    rw [scores_apply]
    show _ = colZ (iblk (F := Ideal) m c 0 t) (iblk (F := Ideal) m c 1 t) C n.val
    rw [colZ, dif_pos n.isLt]
    refine Finset.sum_congr rfl fun d _ => ?_
    rw [hlane, hrow, blk0, blk1, eq, ek, mul_comm]
  have hT : target q k v (ix3 ⟨bt t, hbt⟩ ⟨256 * qb t + r.val, by omega⟩ L)
      = ∑ n : Fin 16384, (fun n : ℕ => colV (iblk (F := Ideal) m c 2 t) ⟨L.val % 128, by omega⟩ C n * wt Z (256 * qb t + r.val) n) n.val := by
    refine (congrArg (fun L => target q k v (ix3 ⟨bt t, hbt⟩ ⟨256 * qb t + r.val, by omega⟩ L)) eL).trans ?_
    refine (mixed_apply _ v ⟨bt t, hbt⟩ ⟨256 * qb t + r.val, by omega⟩ h d).trans ?_
    refine Finset.sum_congr rfl fun n _ => ?_
    rw [weights_apply _ _ _ _ n Z hZ]
    show _ = colV (iblk (F := Ideal) m c 2 t) ⟨L.val % 128, by omega⟩ C n.val * wt Z (256 * qb t + r.val) n.val
    rw [colV, dif_pos n.isLt, blk2, ev]
    congr 2
    refine congrArg₂ (fun a b => (ix3 a b ⟨bt t * 16384 + n.val, by omega⟩ : S4x128x32768.Idx)) (Fin.ext ?_) (Fin.ext ?_)
    · show L.val / 64 / 2 = (L.val / 64 * 256 + r.val) / 512; omega
    · show L.val / 64 % 2 * 64 + L.val % 64 = L.val % 128; omega
  rw [hT, Fin.sum_univ_eq_sum_range (fun n : ℕ => colV (iblk (F := Ideal) m c 2 t) ⟨L.val % 128, by omega⟩ C n * wt Z (256 * qb t + r.val) n) 16384,
    Finset.range_eq_Ico]
  show ∑ n ∈ Finset.Ico 0 (256 * qb t + 256), colV (iblk (F := Ideal) m c 2 t) ⟨L.val % 128, _⟩ C n * wt Z (256 * qb t + C.val % 256) n = _
  rw [hC]
  refine Finset.sum_subset (Finset.Ico_subset_Ico_right (by omega)) fun n hn hn' => ?_
  rw [wt, if_neg (fun hlt => hn' (Finset.mem_Ico.2 ⟨Nat.zero_le _, by omega⟩)), mul_zero]

end Cert.SbIdeal.Hand

end
-- ==== Proof.lean ====
/-
  The proof of this directory's certificate about the differential-attention call, about the two layers' calls that
  project the attentions' outputs and run the feed-forward, about the two layers' calls that make the attentions' inputs, and
  about the stick-breaking attention call.
-/
module

public import proofs.«01_k».proof.Defs
public import proofs.«01_k».proof.Proof.FrameI
public import proofs.«01_k».proof.Proof.FrameK
public import proofs.«01_k».proof.Proof.Pre
public import proofs.«01_k».proof.Proof.RowOdd
public import proofs.«01_k».proof.Proof.RowEven
public import proofs.«01_k».proof.Proof.RefOdd
public import proofs.«01_k».proof.Proof.RefEven
public import proofs.«01_k».proof.Proof.InOddClaim
public import proofs.«01_k».proof.Proof.InEvenClaim
public import proofs.«01_k».proof.Proof.ModClaim
public import proofs.«01_k».proof.Proof.SbFrameK
public import proofs.«01_k».proof.Proof.SbBlocks
public import proofs.«01_k».proof.Proof.Gen.ReferenceSbIdeal.Run
public import proofs.«01_k».proof.Proof.Gen.PostOdd.Frame
public import proofs.«01_k».proof.Proof.Gen.PostEven.Frame
public import proofs.«01_k».proof.Proof.Gen.ReferenceIdeal.Run
public import proofs.«01_k».proof.Proof.Gen.Pre_finite_ones
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The printed kernel runs without a fault, leaves its arguments as they were and every counter at zero. -/
theorem frame_kernel : Cert.quiescent_Kernel (hKernel := Cert.Kernel.Gen.facts) := fun m ρ _ =>
  (θ_run Cert.Kernel.defs _ _).mono (fun _ h => ⟨fun c => Cert.Kernel.Hand.final_args h.1 c, h.2⟩)
    (Cert.Kernel.Hand.run_main (F := Bits) m ρ)

/-- The same of its idealization. -/
theorem frame_kernelIdeal : Cert.quiescent_KernelIdeal (hKernelIdeal := Cert.KernelIdeal.Gen.facts) := fun m ρ _ =>
  (θ_run Cert.KernelIdeal.defs _ _).mono (fun _ h => ⟨fun c => Cert.KernelIdeal.Hand.final_args h.1 c, h.2⟩)
    (Cert.KernelIdeal.Hand.run_main (F := Ideal) m ρ)

/-- The reference runs, leaves its arguments as they were, and has no semaphore at all. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealization runs the same when the precondition is assumed. -/
theorem frame_kernelIdeal_pre : Cert.quiescent_KernelIdeal_pre_finite_ones (hKernelIdeal := Cert.KernelIdeal.Gen.facts)
    (hPre_finite_ones := Cert.Pre_finite_ones.Gen.facts) := fun m ρ _ => frame_kernelIdeal m ρ trivial

/-- So does the reference. -/
theorem frame_reference_pre : Cert.quiescent_ReferenceIdeal_pre_finite_ones (hReferenceIdeal := Cert.ReferenceIdeal.Gen.facts)
    (hPre_finite_ones := Cert.Pre_finite_ones.Gen.facts) := fun m ρ _ => frame_reference m ρ trivial

/-- Under the precondition the call's output array is the reference's function of the arguments. -/
theorem output (m : (ℓ : Loc Cert.KernelIdeal.nD Cert.KernelIdeal.τ Cert.KernelIdeal.sig) → Buf (Elt Ideal) ℓ)
    (hp : Cert.Pre_KernelIdeal_finite_ones (hPre_finite_ones := Cert.Pre_finite_ones.Gen.facts) m) (c : Dev Cert.KernelIdeal.nD) :
    (Cert.KernelIdeal.Hand.dats (F := Ideal) m 0 c).arrAt 5 Cert.KernelIdeal.cfg0.N
      = Cert.KernelIdeal.Hand.target (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  obtain ⟨hq, hk, hv, hl, ho⟩ := Cert.Pre_finite_ones.Hand.parts _ _ _ _ _ (hp c)
  exact Cert.KernelIdeal.Hand.out_eq m c _ (Cert.KernelIdeal.Hand.outAt_real m c _ _ _ _ hq hk hv hl
    fun h n => (congrArg EReal.toReal (ho h n)).trans EReal.toReal_one)

/-- The idealized kernel and the reference give the same array. -/
theorem algebraic : Cert.algebraic_KernelIdeal_ReferenceIdeal_pre_finite_ones (hKernelIdeal := Cert.KernelIdeal.Gen.facts)
    (hReferenceIdeal := Cert.ReferenceIdeal.Gen.facts) (hPre_finite_ones := Cert.Pre_finite_ones.Gen.facts) := fun m ρ m' ρ' hp ha =>
  ⟨fun c => Cert.KernelIdeal.Hand.target (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run Cert.KernelIdeal.defs _ _).mono
      (fun _ h c => ⟨((h.1 c).1 5).trans (output m hp c), Cert.KernelIdeal.Hand.final_args h.1 c⟩)
      (Cert.KernelIdeal.Hand.run_main (F := Ideal) m ρ),
    (θ_run Cert.ReferenceIdeal.defs _ _).mono
      (fun _ h c => ⟨(h c).1.trans ((Cert.ReferenceIdeal.Hand.result_eq m' c).trans (by
        obtain ⟨h0, h1, h2, h3, h4⟩ := ha c
        rw [h0, h1, h2, h3, h4])), (h c).2⟩)
      (Cert.ReferenceIdeal.Value.run (F := Ideal) m' ρ')⟩

/-- The odd layer's projection and feed-forward run without a fault, leave their arguments as they were and every counter at zero. -/
theorem frame_postOdd : Cert.quiescent_PostOdd (hPostOdd := Cert.PostOdd.Gen.facts) := fun m ρ _ =>
  Cert.PostOdd.Gen.frame (F := Bits) m ρ

/-- The same of their idealization. -/
theorem frame_postOddIdeal : Cert.quiescent_PostOddIdeal (hPostOddIdeal := Cert.PostOddIdeal.Gen.facts) := fun m ρ _ =>
  Cert.PostOddIdeal.Gen.frame (F := Ideal) m ρ

/-- The same of the odd layer's reference, which has no semaphore at all. -/
theorem frame_referenceOdd : Cert.quiescent_ReferenceOddIdeal (hReferenceOddIdeal := Cert.ReferenceOddIdeal.Gen.facts) := fun m ρ _ =>
  (θ_run Cert.ReferenceOddIdeal.defs _ _).mono
    (fun r h => ⟨fun c => (h c).2, Idealize.ShloMosaic.sem_eq_zero_of_no_sems (by decide) r.2⟩)
    (Cert.ReferenceOddIdeal.Value.run (F := Ideal) m ρ)

/-- From equal arguments the odd layer's projection and feed-forward leave the array their reference computes. -/
theorem output_postOdd (m : (ℓ : Loc Cert.PostOddIdeal.nD Cert.PostOddIdeal.τ Cert.PostOddIdeal.sig) → Buf (Elt Ideal) ℓ)
    (m' : (ℓ : Loc Cert.ReferenceOddIdeal.nD Cert.ReferenceOddIdeal.τ Cert.ReferenceOddIdeal.sig) → Buf (Elt Ideal) ℓ) (c : Dev Cert.PostOddIdeal.nD)
    (ha : m' ((c.tc : Thread Cert.ReferenceOddIdeal.nD Cert.ReferenceOddIdeal.τ).loc Cert.ReferenceOddIdeal.main_arg0) = m ((c.tc : Thread Cert.PostOddIdeal.nD Cert.PostOddIdeal.τ).loc Cert.PostOddIdeal.main_arg0)
      ∧ m' ((c.tc : Thread Cert.ReferenceOddIdeal.nD Cert.ReferenceOddIdeal.τ).loc Cert.ReferenceOddIdeal.main_arg1) = m ((c.tc : Thread Cert.PostOddIdeal.nD Cert.PostOddIdeal.τ).loc Cert.PostOddIdeal.main_arg1)
      ∧ m' ((c.tc : Thread Cert.ReferenceOddIdeal.nD Cert.ReferenceOddIdeal.τ).loc Cert.ReferenceOddIdeal.main_arg2) = m ((c.tc : Thread Cert.PostOddIdeal.nD Cert.PostOddIdeal.τ).loc Cert.PostOddIdeal.main_arg2)
      ∧ m' ((c.tc : Thread Cert.ReferenceOddIdeal.nD Cert.ReferenceOddIdeal.τ).loc Cert.ReferenceOddIdeal.main_arg3) = m ((c.tc : Thread Cert.PostOddIdeal.nD Cert.PostOddIdeal.τ).loc Cert.PostOddIdeal.main_arg3)
      ∧ m' ((c.tc : Thread Cert.ReferenceOddIdeal.nD Cert.ReferenceOddIdeal.τ).loc Cert.ReferenceOddIdeal.main_arg4) = m ((c.tc : Thread Cert.PostOddIdeal.nD Cert.PostOddIdeal.τ).loc Cert.PostOddIdeal.main_arg4)
      ∧ m' ((c.tc : Thread Cert.ReferenceOddIdeal.nD Cert.ReferenceOddIdeal.τ).loc Cert.ReferenceOddIdeal.main_arg5) = m ((c.tc : Thread Cert.PostOddIdeal.nD Cert.PostOddIdeal.τ).loc Cert.PostOddIdeal.main_arg5)
      ∧ m' ((c.tc : Thread Cert.ReferenceOddIdeal.nD Cert.ReferenceOddIdeal.τ).loc Cert.ReferenceOddIdeal.main_arg6) = m ((c.tc : Thread Cert.PostOddIdeal.nD Cert.PostOddIdeal.τ).loc Cert.PostOddIdeal.main_arg6)
      ∧ m' ((c.tc : Thread Cert.ReferenceOddIdeal.nD Cert.ReferenceOddIdeal.τ).loc Cert.ReferenceOddIdeal.main_arg7) = m ((c.tc : Thread Cert.PostOddIdeal.nD Cert.PostOddIdeal.τ).loc Cert.PostOddIdeal.main_arg7)
      ∧ m' ((c.tc : Thread Cert.ReferenceOddIdeal.nD Cert.ReferenceOddIdeal.τ).loc Cert.ReferenceOddIdeal.main_arg8) = m ((c.tc : Thread Cert.PostOddIdeal.nD Cert.PostOddIdeal.τ).loc Cert.PostOddIdeal.main_arg8)
      ∧ m' ((c.tc : Thread Cert.ReferenceOddIdeal.nD Cert.ReferenceOddIdeal.τ).loc Cert.ReferenceOddIdeal.main_arg9) = m ((c.tc : Thread Cert.PostOddIdeal.nD Cert.PostOddIdeal.τ).loc Cert.PostOddIdeal.main_arg9)
      ∧ m' ((c.tc : Thread Cert.ReferenceOddIdeal.nD Cert.ReferenceOddIdeal.τ).loc Cert.ReferenceOddIdeal.main_arg10) = m ((c.tc : Thread Cert.PostOddIdeal.nD Cert.PostOddIdeal.τ).loc Cert.PostOddIdeal.main_arg10)) :
    (Cert.PostOddIdeal.Gen.dats (F := Ideal) m 0 c).arrAt 11 Cert.PostOddIdeal.cfg0.N = Cert.ReferenceOddIdeal.Hand.result (StableHlo.launchContents m' c) := by
  obtain ⟨h0, h1, h2, h3, h4, h5, h6, h7, h8, h9, h10⟩ := ha
  refine Cert.PostOddIdeal.Hand.out_eq m c _ fun R d => (Cert.ReferenceOddIdeal.Hand.result_row _ R d).trans ?_
  unfold Cert.PostOddIdeal.Hand.rowOf
  rw [← h0, ← h1, ← h2, ← h3, ← h4, ← h5, ← h6, ← h7, ← h8, ← h9, ← h10]

/-- The odd layer's projection and feed-forward give the array their reference gives. -/
theorem algebraic_postOdd : Cert.algebraic_PostOddIdeal_ReferenceOddIdeal (hPostOddIdeal := Cert.PostOddIdeal.Gen.facts)
    (hReferenceOddIdeal := Cert.ReferenceOddIdeal.Gen.facts) := fun m ρ m' ρ' _ ha =>
  ⟨fun c => Cert.ReferenceOddIdeal.Hand.result (StableHlo.launchContents m' c),
    (θ_run Cert.PostOddIdeal.defs _ _).mono (fun _ h c => ⟨((h.2.1 c).1 11).trans (output_postOdd m m' c (ha c)), h.1 c⟩)
      (θ_run_and (Cert.PostOddIdeal.Gen.unchanged (F := Ideal) m ρ) (Cert.PostOddIdeal.Gen.run_main_quiescent (F := Ideal) m ρ)),
    Cert.ReferenceOddIdeal.Value.run (F := Ideal) m' ρ'⟩

/-- The even layer's projection and feed-forward run without a fault, leave their arguments as they were and every counter at zero. -/
theorem frame_postEven : Cert.quiescent_PostEven (hPostEven := Cert.PostEven.Gen.facts) := fun m ρ _ =>
  Cert.PostEven.Gen.frame (F := Bits) m ρ

/-- The same of their idealization. -/
theorem frame_postEvenIdeal : Cert.quiescent_PostEvenIdeal (hPostEvenIdeal := Cert.PostEvenIdeal.Gen.facts) := fun m ρ _ =>
  Cert.PostEvenIdeal.Gen.frame (F := Ideal) m ρ

/-- The same of the even layer's reference, which has no semaphore at all. -/
theorem frame_referenceEven : Cert.quiescent_ReferenceEvenIdeal (hReferenceEvenIdeal := Cert.ReferenceEvenIdeal.Gen.facts) := fun m ρ _ =>
  (θ_run Cert.ReferenceEvenIdeal.defs _ _).mono
    (fun r h => ⟨fun c => (h c).2, Idealize.ShloMosaic.sem_eq_zero_of_no_sems (by decide) r.2⟩)
    (Cert.ReferenceEvenIdeal.Value.run (F := Ideal) m ρ)

/-- From equal arguments the even layer's projection and feed-forward leave the array their reference computes. -/
theorem output_postEven (m : (ℓ : Loc Cert.PostEvenIdeal.nD Cert.PostEvenIdeal.τ Cert.PostEvenIdeal.sig) → Buf (Elt Ideal) ℓ)
    (m' : (ℓ : Loc Cert.ReferenceEvenIdeal.nD Cert.ReferenceEvenIdeal.τ Cert.ReferenceEvenIdeal.sig) → Buf (Elt Ideal) ℓ) (c : Dev Cert.PostEvenIdeal.nD)
    (ha : m' ((c.tc : Thread Cert.ReferenceEvenIdeal.nD Cert.ReferenceEvenIdeal.τ).loc Cert.ReferenceEvenIdeal.main_arg0) = m ((c.tc : Thread Cert.PostEvenIdeal.nD Cert.PostEvenIdeal.τ).loc Cert.PostEvenIdeal.main_arg0)
      ∧ m' ((c.tc : Thread Cert.ReferenceEvenIdeal.nD Cert.ReferenceEvenIdeal.τ).loc Cert.ReferenceEvenIdeal.main_arg1) = m ((c.tc : Thread Cert.PostEvenIdeal.nD Cert.PostEvenIdeal.τ).loc Cert.PostEvenIdeal.main_arg1)
      ∧ m' ((c.tc : Thread Cert.ReferenceEvenIdeal.nD Cert.ReferenceEvenIdeal.τ).loc Cert.ReferenceEvenIdeal.main_arg2) = m ((c.tc : Thread Cert.PostEvenIdeal.nD Cert.PostEvenIdeal.τ).loc Cert.PostEvenIdeal.main_arg2)
      ∧ m' ((c.tc : Thread Cert.ReferenceEvenIdeal.nD Cert.ReferenceEvenIdeal.τ).loc Cert.ReferenceEvenIdeal.main_arg3) = m ((c.tc : Thread Cert.PostEvenIdeal.nD Cert.PostEvenIdeal.τ).loc Cert.PostEvenIdeal.main_arg3)
      ∧ m' ((c.tc : Thread Cert.ReferenceEvenIdeal.nD Cert.ReferenceEvenIdeal.τ).loc Cert.ReferenceEvenIdeal.main_arg4) = m ((c.tc : Thread Cert.PostEvenIdeal.nD Cert.PostEvenIdeal.τ).loc Cert.PostEvenIdeal.main_arg4)
      ∧ m' ((c.tc : Thread Cert.ReferenceEvenIdeal.nD Cert.ReferenceEvenIdeal.τ).loc Cert.ReferenceEvenIdeal.main_arg5) = m ((c.tc : Thread Cert.PostEvenIdeal.nD Cert.PostEvenIdeal.τ).loc Cert.PostEvenIdeal.main_arg5)
      ∧ m' ((c.tc : Thread Cert.ReferenceEvenIdeal.nD Cert.ReferenceEvenIdeal.τ).loc Cert.ReferenceEvenIdeal.main_arg6) = m ((c.tc : Thread Cert.PostEvenIdeal.nD Cert.PostEvenIdeal.τ).loc Cert.PostEvenIdeal.main_arg6)
      ∧ m' ((c.tc : Thread Cert.ReferenceEvenIdeal.nD Cert.ReferenceEvenIdeal.τ).loc Cert.ReferenceEvenIdeal.main_arg7) = m ((c.tc : Thread Cert.PostEvenIdeal.nD Cert.PostEvenIdeal.τ).loc Cert.PostEvenIdeal.main_arg7)
      ∧ m' ((c.tc : Thread Cert.ReferenceEvenIdeal.nD Cert.ReferenceEvenIdeal.τ).loc Cert.ReferenceEvenIdeal.main_arg8) = m ((c.tc : Thread Cert.PostEvenIdeal.nD Cert.PostEvenIdeal.τ).loc Cert.PostEvenIdeal.main_arg8)
      ∧ m' ((c.tc : Thread Cert.ReferenceEvenIdeal.nD Cert.ReferenceEvenIdeal.τ).loc Cert.ReferenceEvenIdeal.main_arg9) = m ((c.tc : Thread Cert.PostEvenIdeal.nD Cert.PostEvenIdeal.τ).loc Cert.PostEvenIdeal.main_arg9)
      ∧ m' ((c.tc : Thread Cert.ReferenceEvenIdeal.nD Cert.ReferenceEvenIdeal.τ).loc Cert.ReferenceEvenIdeal.main_arg10) = m ((c.tc : Thread Cert.PostEvenIdeal.nD Cert.PostEvenIdeal.τ).loc Cert.PostEvenIdeal.main_arg10)
      ∧ m' ((c.tc : Thread Cert.ReferenceEvenIdeal.nD Cert.ReferenceEvenIdeal.τ).loc Cert.ReferenceEvenIdeal.main_arg11) = m ((c.tc : Thread Cert.PostEvenIdeal.nD Cert.PostEvenIdeal.τ).loc Cert.PostEvenIdeal.main_arg11)) :
    (Cert.PostEvenIdeal.Gen.dats (F := Ideal) m 0 c).arrAt 13 Cert.PostEvenIdeal.cfg0.N = Cert.ReferenceEvenIdeal.Hand.result (StableHlo.launchContents m' c) := by
  obtain ⟨h0, h1, h2, h3, h4, h5, h6, h7, h8, h9, h10, h11⟩ := ha
  refine Cert.PostEvenIdeal.Hand.out_eq m c _ fun R d => (Cert.ReferenceEvenIdeal.Hand.result_row _ R d).trans ?_
  unfold Cert.PostEvenIdeal.Hand.rowOf
  rw [← h0, ← h1, ← h2, ← h3, ← h4, ← h5, ← h6, ← h7, ← h8, ← h9, ← h10, ← h11]

/-- The even layer's projection and feed-forward give the array their reference gives. -/
theorem algebraic_postEven : Cert.algebraic_PostEvenIdeal_ReferenceEvenIdeal (hPostEvenIdeal := Cert.PostEvenIdeal.Gen.facts)
    (hReferenceEvenIdeal := Cert.ReferenceEvenIdeal.Gen.facts) := fun m ρ m' ρ' _ ha =>
  ⟨fun c => Cert.ReferenceEvenIdeal.Hand.result (StableHlo.launchContents m' c),
    (θ_run Cert.PostEvenIdeal.defs _ _).mono (fun _ h c => ⟨((h.2.1 c).1 13).trans (output_postEven m m' c (ha c)), h.1 c⟩)
      (θ_run_and (Cert.PostEvenIdeal.Gen.unchanged (F := Ideal) m ρ) (Cert.PostEvenIdeal.Gen.run_main_quiescent (F := Ideal) m ρ)),
    Cert.ReferenceEvenIdeal.Value.run (F := Ideal) m' ρ'⟩

/-- The stick-breaking kernel runs without a fault, leaves its arguments as they were and every counter at zero. -/
theorem frame_sb : Cert.quiescent_Sb (hSb := Cert.Sb.Gen.facts) := fun m ρ _ =>
  (θ_run Cert.Sb.defs _ _).mono (fun _ h => ⟨fun c => Cert.Sb.Hand.final_args h.1 c, h.2⟩) (Cert.Sb.Hand.run_main (F := Bits) m ρ)

/-- The same of its idealization. -/
theorem frame_sbIdeal : Cert.quiescent_SbIdeal (hSbIdeal := Cert.SbIdeal.Gen.facts) := fun m ρ _ =>
  (θ_run Cert.SbIdeal.defs _ _).mono (fun _ h => ⟨fun c => Cert.SbIdeal.Hand.final_args h.1 c, h.2⟩)
    (Cert.SbIdeal.Hand.run_main (F := Ideal) m ρ)

/-- Its reference runs, leaves its arguments as they were, and has no semaphore at all. -/
theorem frame_referenceSb : Cert.quiescent_ReferenceSbIdeal (hReferenceSbIdeal := Cert.ReferenceSbIdeal.Gen.facts) := fun m ρ _ =>
  (θ_run Cert.ReferenceSbIdeal.defs _ _).mono
    (fun r h => ⟨fun c => (h c).2, Idealize.ShloMosaic.sem_eq_zero_of_no_sems (by decide) r.2⟩)
    (Cert.ReferenceSbIdeal.Value.run (F := Ideal) m ρ)

/-- The stick-breaking call's output array is the reference's function of the arguments. -/
theorem output_sb (m : (ℓ : Loc Cert.SbIdeal.nD Cert.SbIdeal.τ Cert.SbIdeal.sig) → Buf (Elt Ideal) ℓ) (c : Dev Cert.SbIdeal.nD) :
    (Cert.SbIdeal.Hand.dats (F := Ideal) m 0 c).arrAt 3 (Cert.SbIdeal.cfg0 (F := Ideal)).N
      = Cert.SbIdeal.Hand.target (m ((c.tc : Thread Cert.SbIdeal.nD Cert.SbIdeal.τ).loc Cert.SbIdeal.main_arg0))
          (m ((c.tc : Thread Cert.SbIdeal.nD Cert.SbIdeal.τ).loc Cert.SbIdeal.main_arg1))
          (m ((c.tc : Thread Cert.SbIdeal.nD Cert.SbIdeal.τ).loc Cert.SbIdeal.main_arg2)) :=
  Cert.SbIdeal.Hand.out_eq m c _ fun t r L => Cert.SbIdeal.Hand.outAt_target m c t _ _ _ rfl rfl rfl r L

/-- The idealized stick-breaking kernel and its reference give the same array. -/
theorem algebraic_sb : Cert.algebraic_SbIdeal_ReferenceSbIdeal (hSbIdeal := Cert.SbIdeal.Gen.facts)
    (hReferenceSbIdeal := Cert.ReferenceSbIdeal.Gen.facts) := fun m ρ m' ρ' _ ha =>
  ⟨fun c => Cert.SbIdeal.Hand.target (m ((c.tc : Thread Cert.SbIdeal.nD Cert.SbIdeal.τ).loc Cert.SbIdeal.main_arg0))
      (m ((c.tc : Thread Cert.SbIdeal.nD Cert.SbIdeal.τ).loc Cert.SbIdeal.main_arg1))
      (m ((c.tc : Thread Cert.SbIdeal.nD Cert.SbIdeal.τ).loc Cert.SbIdeal.main_arg2)),
    (θ_run Cert.SbIdeal.defs _ _).mono (fun _ h c => ⟨((h.1 c).1 3).trans (output_sb m c), Cert.SbIdeal.Hand.final_args h.1 c⟩)
      (Cert.SbIdeal.Hand.run_main (F := Ideal) m ρ),
    (θ_run Cert.ReferenceSbIdeal.defs _ _).mono
      (fun _ h c => ⟨(h c).1.trans ((Cert.ReferenceSbIdeal.Hand.result_eq m' c).trans (by
        obtain ⟨h0, h1, h2⟩ := ha c
        rw [h0, h1, h2]
        rfl)), (h c).2⟩)
      (Cert.ReferenceSbIdeal.Value.run (F := Ideal) m' ρ')⟩

theorem claim : Cert.Claim := ⟨Cert.Kernel.Gen.facts, Cert.KernelIdeal.Gen.facts, Cert.ReferenceIdeal.Gen.facts,
  Cert.PostOdd.Gen.facts, Cert.PostOddIdeal.Gen.facts, Cert.ReferenceOddIdeal.Gen.facts,
  Cert.PostEven.Gen.facts, Cert.PostEvenIdeal.Gen.facts, Cert.ReferenceEvenIdeal.Gen.facts,
  Cert.InOdd.Gen.facts, Cert.InOddIdeal.Gen.facts, Cert.ReferenceInOddIdeal.Gen.facts,
  Cert.InEven.Gen.facts, Cert.InEvenIdeal.Gen.facts, Cert.ReferenceInEvenIdeal.Gen.facts,
  Cert.Sb.Gen.facts, Cert.SbIdeal.Gen.facts, Cert.ReferenceSbIdeal.Gen.facts,
  Cert.Mod.Gen.facts, Cert.ModIdeal.Gen.facts, Cert.ReferenceModIdeal.Gen.facts,
  Cert.Pre_finite_ones.Gen.facts, frame_kernel, frame_kernelIdeal, frame_kernelIdeal_pre, frame_reference, frame_reference_pre,
  frame_postOdd, frame_postOddIdeal, frame_referenceOdd, frame_postEven, frame_postEvenIdeal, frame_referenceEven,
  frame_inOdd, frame_inOddIdeal, frame_referenceInOdd, frame_inEven, frame_inEvenIdeal, frame_referenceInEven,
  frame_sb, frame_sbIdeal, frame_referenceSb, frame_mod, frame_modIdeal, frame_referenceMod,
  IdealRules.named_const.statement _ _ _ _ _ rfl, algebraic, trivial, algebraic_postOdd, trivial, algebraic_postEven,
  trivial, algebraic_inOdd, trivial, algebraic_inEven,
  ⟨IdealRules.named_const.statement _ _ _ _ _ rfl, IdealRules.named_const.statement _ _ _ _ _ rfl⟩, algebraic_sb,
  trivial, algebraic_mod⟩

end Cert.Proof

end
